-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Seq (m : (ℓ : Loc Cert.Seq.nD Cert.Seq.τ Cert.Seq.sig) → Buf (Elt Bits) ℓ) : Prop :=
  True

def Pre_SeqIdeal (m : (ℓ : Loc Cert.SeqIdeal.nD Cert.SeqIdeal.τ Cert.SeqIdeal.sig) → Buf (Elt Ideal) ℓ) : Prop :=
  True

def Pre_SeqRefIdeal (m : (ℓ : Loc Cert.SeqRefIdeal.nD Cert.SeqRefIdeal.τ Cert.SeqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5))
      ∧ r.2.sem = fun _ => 0)

def quiescent_Seq [hSeq : Cert.Seq.Facts] : Prop :=
  ∀ (m : (ℓ : Loc Cert.Seq.nD Cert.Seq.τ Cert.Seq.sig) → Buf (Elt Bits) ℓ) (g : Dev Cert.Seq.nD → PrngReg), Pre_Seq m →
    θ_run (Cert.Seq.defs (F := Bits)) (onTc (τ := Cert.Seq.τ) (Cert.Seq.main (F := Bits))) ⟨m, fun _ => 0, g⟩ (fun r => (∀ c : Dev Cert.Seq.nD,
      r.2.mem ((c.tc : Thread Cert.Seq.nD Cert.Seq.τ).loc Cert.Seq.main_arg0) = m ((c.tc : Thread Cert.Seq.nD Cert.Seq.τ).loc Cert.Seq.main_arg0)
      ∧ r.2.mem ((c.tc : Thread Cert.Seq.nD Cert.Seq.τ).loc Cert.Seq.main_arg1) = m ((c.tc : Thread Cert.Seq.nD Cert.Seq.τ).loc Cert.Seq.main_arg1)
      ∧ r.2.mem ((c.tc : Thread Cert.Seq.nD Cert.Seq.τ).loc Cert.Seq.main_arg2) = m ((c.tc : Thread Cert.Seq.nD Cert.Seq.τ).loc Cert.Seq.main_arg2)
      ∧ r.2.mem ((c.tc : Thread Cert.Seq.nD Cert.Seq.τ).loc Cert.Seq.main_arg3) = m ((c.tc : Thread Cert.Seq.nD Cert.Seq.τ).loc Cert.Seq.main_arg3)
      ∧ r.2.mem ((c.tc : Thread Cert.Seq.nD Cert.Seq.τ).loc Cert.Seq.main_arg4) = m ((c.tc : Thread Cert.Seq.nD Cert.Seq.τ).loc Cert.Seq.main_arg4)
      ∧ r.2.mem ((c.tc : Thread Cert.Seq.nD Cert.Seq.τ).loc Cert.Seq.main_arg5) = m ((c.tc : Thread Cert.Seq.nD Cert.Seq.τ).loc Cert.Seq.main_arg5))
      ∧ r.2.sem = fun _ => 0)

def quiescent_SeqIdeal [hSeqIdeal : Cert.SeqIdeal.Facts] : Prop :=
  ∀ (m : (ℓ : Loc Cert.SeqIdeal.nD Cert.SeqIdeal.τ Cert.SeqIdeal.sig) → Buf (Elt Ideal) ℓ) (g : Dev Cert.SeqIdeal.nD → PrngReg), Pre_SeqIdeal m →
    θ_run (Cert.SeqIdeal.defs (F := Ideal)) (onTc (τ := Cert.SeqIdeal.τ) (Cert.SeqIdeal.main (F := Ideal))) ⟨m, fun _ => 0, g⟩ (fun r => (∀ c : Dev Cert.SeqIdeal.nD,
      r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
      ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
      ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
      ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
      ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
      ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5))
      ∧ r.2.sem = fun _ => 0)

def quiescent_SeqRefIdeal [hSeqRefIdeal : Cert.SeqRefIdeal.Facts] : Prop :=
  ∀ (m : (ℓ : Loc Cert.SeqRefIdeal.nD Cert.SeqRefIdeal.τ Cert.SeqRefIdeal.sig) → Buf (Elt Ideal) ℓ) (g : Dev Cert.SeqRefIdeal.nD → PrngReg), Pre_SeqRefIdeal m →
    θ_run (Cert.SeqRefIdeal.defs (F := Ideal)) (onTc (τ := Cert.SeqRefIdeal.τ) (Cert.SeqRefIdeal.main (F := Ideal))) ⟨m, fun _ => 0, g⟩ (fun r => (∀ c : Dev Cert.SeqRefIdeal.nD,
      r.2.mem ((c.tc : Thread Cert.SeqRefIdeal.nD Cert.SeqRefIdeal.τ).loc Cert.SeqRefIdeal.main_arg0) = m ((c.tc : Thread Cert.SeqRefIdeal.nD Cert.SeqRefIdeal.τ).loc Cert.SeqRefIdeal.main_arg0)
      ∧ r.2.mem ((c.tc : Thread Cert.SeqRefIdeal.nD Cert.SeqRefIdeal.τ).loc Cert.SeqRefIdeal.main_arg1) = m ((c.tc : Thread Cert.SeqRefIdeal.nD Cert.SeqRefIdeal.τ).loc Cert.SeqRefIdeal.main_arg1)
      ∧ r.2.mem ((c.tc : Thread Cert.SeqRefIdeal.nD Cert.SeqRefIdeal.τ).loc Cert.SeqRefIdeal.main_arg2) = m ((c.tc : Thread Cert.SeqRefIdeal.nD Cert.SeqRefIdeal.τ).loc Cert.SeqRefIdeal.main_arg2)
      ∧ r.2.mem ((c.tc : Thread Cert.SeqRefIdeal.nD Cert.SeqRefIdeal.τ).loc Cert.SeqRefIdeal.main_arg3) = m ((c.tc : Thread Cert.SeqRefIdeal.nD Cert.SeqRefIdeal.τ).loc Cert.SeqRefIdeal.main_arg3)
      ∧ r.2.mem ((c.tc : Thread Cert.SeqRefIdeal.nD Cert.SeqRefIdeal.τ).loc Cert.SeqRefIdeal.main_arg4) = m ((c.tc : Thread Cert.SeqRefIdeal.nD Cert.SeqRefIdeal.τ).loc Cert.SeqRefIdeal.main_arg4)
      ∧ r.2.mem ((c.tc : Thread Cert.SeqRefIdeal.nD Cert.SeqRefIdeal.τ).loc Cert.SeqRefIdeal.main_arg5) = m ((c.tc : Thread Cert.SeqRefIdeal.nD Cert.SeqRefIdeal.τ).loc Cert.SeqRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v350) = v1 c
          ∧ r.2.mem ((c.tc : Thread Cert.ReferenceIdeal.nD Cert.ReferenceIdeal.τ).loc Cert.ReferenceIdeal.main_v351) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_v54) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v39) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)) →
    ∃ (v0 : (c : Dev Cert.PromptIdeal.nD) → Buf (Elt Ideal) ((c.tc : Thread Cert.PromptIdeal.nD Cert.PromptIdeal.τ).loc Cert.PromptIdeal.main_v8)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v8) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v39) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5))

def preserves_Seq_SeqIdeal : Prop :=
  True

def algebraic_SeqIdeal_SeqRefIdeal [hSeqIdeal : Cert.SeqIdeal.Facts] [hSeqRefIdeal : Cert.SeqRefIdeal.Facts] : Prop :=
  ∀ (m : (ℓ : Loc Cert.SeqIdeal.nD Cert.SeqIdeal.τ Cert.SeqIdeal.sig) → Buf (Elt Ideal) ℓ) (g : Dev Cert.SeqIdeal.nD → PrngReg)
    (m' : (ℓ : Loc Cert.SeqRefIdeal.nD Cert.SeqRefIdeal.τ Cert.SeqRefIdeal.sig) → Buf (Elt Ideal) ℓ) (g' : Dev Cert.SeqRefIdeal.nD → PrngReg), Pre_SeqIdeal m →
    (∀ c : Dev Cert.SeqIdeal.nD,
      m' ((c.tc : Thread Cert.SeqRefIdeal.nD Cert.SeqRefIdeal.τ).loc Cert.SeqRefIdeal.main_arg0) = m ((c.tc : Thread Cert.SeqIdeal.nD Cert.SeqIdeal.τ).loc Cert.SeqIdeal.main_arg0)
      ∧ m' ((c.tc : Thread Cert.SeqRefIdeal.nD Cert.SeqRefIdeal.τ).loc Cert.SeqRefIdeal.main_arg1) = m ((c.tc : Thread Cert.SeqIdeal.nD Cert.SeqIdeal.τ).loc Cert.SeqIdeal.main_arg1)
      ∧ m' ((c.tc : Thread Cert.SeqRefIdeal.nD Cert.SeqRefIdeal.τ).loc Cert.SeqRefIdeal.main_arg2) = m ((c.tc : Thread Cert.SeqIdeal.nD Cert.SeqIdeal.τ).loc Cert.SeqIdeal.main_arg2)
      ∧ m' ((c.tc : Thread Cert.SeqRefIdeal.nD Cert.SeqRefIdeal.τ).loc Cert.SeqRefIdeal.main_arg3) = m ((c.tc : Thread Cert.SeqIdeal.nD Cert.SeqIdeal.τ).loc Cert.SeqIdeal.main_arg3)
      ∧ m' ((c.tc : Thread Cert.SeqRefIdeal.nD Cert.SeqRefIdeal.τ).loc Cert.SeqRefIdeal.main_arg4) = m ((c.tc : Thread Cert.SeqIdeal.nD Cert.SeqIdeal.τ).loc Cert.SeqIdeal.main_arg4)
      ∧ m' ((c.tc : Thread Cert.SeqRefIdeal.nD Cert.SeqRefIdeal.τ).loc Cert.SeqRefIdeal.main_arg5) = m ((c.tc : Thread Cert.SeqIdeal.nD Cert.SeqIdeal.τ).loc Cert.SeqIdeal.main_arg5)) →
    ∃ (v0 : (c : Dev Cert.SeqIdeal.nD) → Buf (Elt Ideal) ((c.tc : Thread Cert.SeqIdeal.nD Cert.SeqIdeal.τ).loc Cert.SeqIdeal.main_v9_0)) (v1 : (c : Dev Cert.SeqIdeal.nD) → Buf (Elt Ideal) ((c.tc : Thread Cert.SeqIdeal.nD Cert.SeqIdeal.τ).loc Cert.SeqIdeal.main_v9_1)) (v2 : (c : Dev Cert.SeqIdeal.nD) → Buf (Elt Ideal) ((c.tc : Thread Cert.SeqIdeal.nD Cert.SeqIdeal.τ).loc Cert.SeqIdeal.main_v9_2)),
      θ_run (Cert.SeqIdeal.defs (F := Ideal)) (onTc (τ := Cert.SeqIdeal.τ) (Cert.SeqIdeal.main (F := Ideal))) ⟨m, fun _ => 0, g⟩ (fun r => ∀ c : Dev Cert.SeqIdeal.nD,
          r.2.mem ((c.tc : Thread Cert.SeqIdeal.nD Cert.SeqIdeal.τ).loc Cert.SeqIdeal.main_v9_0) = v0 c
          ∧ r.2.mem ((c.tc : Thread Cert.SeqIdeal.nD Cert.SeqIdeal.τ).loc Cert.SeqIdeal.main_v9_1) = v1 c
          ∧ r.2.mem ((c.tc : Thread Cert.SeqIdeal.nD Cert.SeqIdeal.τ).loc Cert.SeqIdeal.main_v9_2) = v2 c
          ∧ r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
          ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
          ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
          ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
          ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
          ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5))
      ∧ θ_run (Cert.SeqRefIdeal.defs (F := Ideal)) (onTc (τ := Cert.SeqRefIdeal.τ) (Cert.SeqRefIdeal.main (F := Ideal))) ⟨m', fun _ => 0, g'⟩ (fun r => ∀ c : Dev Cert.SeqRefIdeal.nD,
          r.2.mem ((c.tc : Thread Cert.SeqRefIdeal.nD Cert.SeqRefIdeal.τ).loc Cert.SeqRefIdeal.main_v53) = v0 c
          ∧ r.2.mem ((c.tc : Thread Cert.SeqRefIdeal.nD Cert.SeqRefIdeal.τ).loc Cert.SeqRefIdeal.main_v54) = v1 c
          ∧ r.2.mem ((c.tc : Thread Cert.SeqRefIdeal.nD Cert.SeqRefIdeal.τ).loc Cert.SeqRefIdeal.main_v55) = v2 c
          ∧ r.2.mem ((c.tc : Thread Cert.SeqRefIdeal.nD Cert.SeqRefIdeal.τ).loc Cert.SeqRefIdeal.main_arg0) = m' ((c.tc : Thread Cert.SeqRefIdeal.nD Cert.SeqRefIdeal.τ).loc Cert.SeqRefIdeal.main_arg0)
          ∧ r.2.mem ((c.tc : Thread Cert.SeqRefIdeal.nD Cert.SeqRefIdeal.τ).loc Cert.SeqRefIdeal.main_arg1) = m' ((c.tc : Thread Cert.SeqRefIdeal.nD Cert.SeqRefIdeal.τ).loc Cert.SeqRefIdeal.main_arg1)
          ∧ r.2.mem ((c.tc : Thread Cert.SeqRefIdeal.nD Cert.SeqRefIdeal.τ).loc Cert.SeqRefIdeal.main_arg2) = m' ((c.tc : Thread Cert.SeqRefIdeal.nD Cert.SeqRefIdeal.τ).loc Cert.SeqRefIdeal.main_arg2)
          ∧ r.2.mem ((c.tc : Thread Cert.SeqRefIdeal.nD Cert.SeqRefIdeal.τ).loc Cert.SeqRefIdeal.main_arg3) = m' ((c.tc : Thread Cert.SeqRefIdeal.nD Cert.SeqRefIdeal.τ).loc Cert.SeqRefIdeal.main_arg3)
          ∧ r.2.mem ((c.tc : Thread Cert.SeqRefIdeal.nD Cert.SeqRefIdeal.τ).loc Cert.SeqRefIdeal.main_arg4) = m' ((c.tc : Thread Cert.SeqRefIdeal.nD Cert.SeqRefIdeal.τ).loc Cert.SeqRefIdeal.main_arg4)
          ∧ r.2.mem ((c.tc : Thread Cert.SeqRefIdeal.nD Cert.SeqRefIdeal.τ).loc Cert.SeqRefIdeal.main_arg5) = m' ((c.tc : Thread Cert.SeqRefIdeal.nD Cert.SeqRefIdeal.τ).loc Cert.SeqRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hPrompt : Cert.Prompt.Facts) (hPromptIdeal : Cert.PromptIdeal.Facts) (hPromptRefIdeal : Cert.PromptRefIdeal.Facts) (hSeq : Cert.Seq.Facts) (hSeqIdeal : Cert.SeqIdeal.Facts) (hSeqRefIdeal : Cert.SeqRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Seq (hSeq := hSeq)
    ∧ quiescent_SeqIdeal (hSeqIdeal := hSeqIdeal)
    ∧ quiescent_SeqRefIdeal (hSeqRefIdeal := hSeqRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Prompt_PromptIdeal
    ∧ algebraic_PromptIdeal_PromptRefIdeal (hPromptIdeal := hPromptIdeal) (hPromptRefIdeal := hPromptRefIdeal)
    ∧ preserves_Seq_SeqIdeal
    ∧ algebraic_SeqIdeal_SeqRefIdeal (hSeqIdeal := hSeqIdeal) (hSeqRefIdeal := hSeqRefIdeal)
-- ==== Kernel.lean ====
abbrev S128x8x2048 : Shape := ⟨3, ![128, 8, 2048]⟩
abbrev S1x128x30x1024 : Shape := ⟨4, ![1, 128, 30, 1024]⟩
abbrev S1x2048 : Shape := ⟨2, ![1, 2048]⟩
abbrev S1x2048x4096 : Shape := ⟨3, ![1, 2048, 4096]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S31x1024 : Shape := ⟨2, ![31, 1024]⟩
abbrev S_ : Shape := ⟨0, ![]⟩
abbrev S32x1024 : Shape := ⟨2, ![32, 1024]⟩
abbrev S2048 : Shape := ⟨1, ![2048]⟩
abbrev S2048x4096 : Shape := ⟨2, ![2048, 4096]⟩
abbrev S1024 : Shape := ⟨1, ![1024]⟩
abbrev S2048x2048 : Shape := ⟨2, ![2048, 2048]⟩
abbrev S1024x2048 : Shape := ⟨2, ![1024, 2048]⟩
abbrev S128x30x1024 : Shape := ⟨3, ![128, 30, 1024]⟩
abbrev S8x128x128 : Shape := ⟨3, ![8, 128, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S8x128 : Shape := ⟨2, ![8, 128]⟩
abbrev S8x8 : Shape := ⟨2, ![8, 8]⟩
abbrev S1x8x1x8 : Shape := ⟨4, ![1, 8, 1, 8]⟩
abbrev S1x8x16x8 : Shape := ⟨4, ![1, 8, 16, 8]⟩
abbrev S128x8 : Shape := ⟨2, ![128, 8]⟩
abbrev S128x8x128 : Shape := ⟨3, ![128, 8, 128]⟩
abbrev S128x1024 : Shape := ⟨2, ![128, 1024]⟩
abbrev S1024x1024 : Shape := ⟨2, ![1024, 1024]⟩
abbrev S256x2048 : Shape := ⟨2, ![256, 2048]⟩
abbrev S32x30x1024 : Shape := ⟨3, ![32, 30, 1024]⟩
abbrev S256x1024 : Shape := ⟨2, ![256, 1024]⟩
abbrev S256x4096 : Shape := ⟨2, ![256, 4096]⟩
abbrev S16x1024 : Shape := ⟨2, ![16, 1024]⟩
abbrev S32x2048 : Shape := ⟨2, ![32, 2048]⟩
abbrev S32 : Shape := ⟨1, ![32]⟩
abbrev S32x1 : Shape := ⟨2, ![32, 1]⟩
abbrev S128x128 : Shape := ⟨2, ![128, 128]⟩
abbrev S1x128x128 : Shape := ⟨3, ![1, 128, 128]⟩
abbrev S1x8x1024 : Shape := ⟨3, ![1, 8, 1024]⟩
abbrev S8x1024 : Shape := ⟨2, ![8, 1024]⟩
abbrev S32x128 : Shape := ⟨2, ![32, 128]⟩

abbrev nBuf : Space → Nat
  | .hbm => 51
  | .vmem => 29
  | .smem => 0
  | _ => 0

abbrev bufTy : (tb : Table) → Fin (tcTables nBuf tb) → BufTy
  | .hbm, ⟨0, _⟩ => ⟨S128x8x2048, .f32⟩
  | .hbm, ⟨1, _⟩ => ⟨S1x128x30x1024, .f32⟩
  | .hbm, ⟨2, _⟩ => ⟨S1x2048, .f32⟩
  | .hbm, ⟨3, _⟩ => ⟨S1x2048x4096, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x8x128x128, .f32⟩
  | .hbm, ⟨11, _⟩ => ⟨S1x8x128, .f32⟩
  | .hbm, ⟨12, _⟩ => ⟨S1x2048x2048, .f32⟩
  | .hbm, ⟨13, _⟩ => ⟨S31x1024, .f32⟩
  | .hbm, ⟨14, _⟩ => ⟨S_, .i32⟩
  | .hbm, ⟨15, _⟩ => ⟨S_, .f32⟩
  | .hbm, ⟨16, _⟩ => ⟨S32x1024, .f32⟩
  | .hbm, ⟨17, _⟩ => ⟨S2048, .f32⟩
  | .hbm, ⟨18, _⟩ => ⟨S1x2048, .f32⟩
  | .hbm, ⟨19, _⟩ => ⟨S2048x4096, .f32⟩
  | .hbm, ⟨20, _⟩ => ⟨S2048x4096, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x2048, .f32⟩
  | .hbm, ⟨32, _⟩ => ⟨S2048x2048, .bf16⟩
  | .hbm, ⟨33, _⟩ => ⟨S1024x2048, .f32⟩
  | .hbm, ⟨34, _⟩ => ⟨S128x30x1024, .f32⟩
  | .hbm, ⟨35, _⟩ => ⟨S8x128x128, .f32⟩
  | .hbm, ⟨36, _⟩ => ⟨S8x8x8, .f32⟩
  | .hbm, ⟨37, _⟩ => ⟨S1x8x1x8x1x8, .f32⟩
  | .hbm, ⟨38, _⟩ => ⟨S1x8x16x8x16x8, .f32⟩
  | .hbm, ⟨39, _⟩ => ⟨S8x128x128, .f32⟩
  | .hbm, ⟨40, _⟩ => ⟨S8x128, .f32⟩
  | .hbm, ⟨41, _⟩ => ⟨S8x8, .f32⟩
  | .hbm, ⟨42, _⟩ => ⟨S1x8x1x8, .f32⟩
  | .hbm, ⟨43, _⟩ => ⟨S1x8x16x8, .f32⟩
  | .hbm, ⟨44, _⟩ => ⟨S8x128, .f32⟩
  | .hbm, ⟨45, _⟩ => ⟨S128x8, .f32⟩
  | .hbm, ⟨46, _⟩ => ⟨S128x8x128, .f32⟩
  | .hbm, ⟨47, _⟩ => ⟨S128x1024, .f32⟩
  | .hbm, ⟨48, _⟩ => ⟨S1024x2048, .f32⟩
  | .hbm, ⟨49, _⟩ => ⟨S1024x1024, .f32⟩
  | .hbm, ⟨50, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S32x30x1024, .f32⟩
  | .local _ .vmem, ⟨3, _⟩ => ⟨S32x30x1024, .f32⟩
  | .local _ .vmem, ⟨4, _⟩ => ⟨S1x2048, .f32⟩
  | .local _ .vmem, ⟨5, _⟩ => ⟨S2048x4096, .bf16⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x1024, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x4096, .f32⟩
  | .local _ .vmem, ⟨23, _⟩ => ⟨S256x2048, .bf16⟩
  | .local _ .vmem, ⟨24, _⟩ => ⟨S256x1024, .f32⟩
  | .local _ .vmem, ⟨25, _⟩ => ⟨S256x1024, .f32⟩
  | .local _ .vmem, ⟨26, _⟩ => ⟨S16x1024, .f32⟩
  | .local _ .vmem, ⟨27, _⟩ => ⟨S128x1024, .bf16⟩
  | .local _ .vmem, ⟨28, _⟩ => ⟨S8x128x128, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v33_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg25 : BitVec 32 := Scf.iv c0_i32 c1_i32 k0_t1
  let c32_i32 : BitVec 32 := 32#32
  let v166 : BitVec 32 := Scalar.muli arg25 c32_i32
  v166
def k0_off1 (k0_t1 : Fin k0_t1_loop.trips) : Fin 2 → Nat :=
  let c0_i32 : BitVec 32 := 0#32
  let c1_i32 : BitVec 32 := 1#32
  let arg25 : BitVec 32 := Scf.iv c0_i32 c1_i32 k0_t1
  let c32_i32 : BitVec 32 := 32#32
  let v166 : BitVec 32 := Scalar.muli arg25 c32_i32
  let v167 : BitVec 32 := v166
  let v168 : Index := Scalar.indexCast v167
  let c0_93 : Index := 0#32
  ![v168.toNat, 0]
@[reducible] def k0_t2_loop : Scf.Loop 32 :=
  let c0_i32_81 : BitVec 32 := 0#32
  let c2_i32 : BitVec 32 := 2#32
  let v157 : BitVec 32 := Scalar.addi c0_i32_81 c2_i32
  let c1_i32_82 : BitVec 32 := 1#32
  ⟨c0_i32_81, v157, c1_i32_82⟩
def k0_mult2 (k0_t2 : Fin k0_t2_loop.trips) : BitVec 32 :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  v166
@[reducible] def k0_t3_loop : Scf.Loop 32 :=
  let c0_i32_93 : BitVec 32 := 0#32
  let c4_i32 : BitVec 32 := 4#32
  let v168 : BitVec 32 := Scalar.addi c0_i32_93 c4_i32
  let c1_i32_94 : BitVec 32 := 1#32
  ⟨c0_i32_93, v168, c1_i32_94⟩
def k0_mult3 (k0_t3 : Fin k0_t3_loop.trips) : BitVec 32 :=
  let c0_i32_93 : BitVec 32 := 0#32
  let c1_i32_94 : BitVec 32 := 1#32
  let arg26 : BitVec 32 := Scf.iv c0_i32_93 c1_i32_94 k0_t3
  let c32_i32 : BitVec 32 := 32#32
  let v396 : BitVec 32 := Scalar.muli arg26 c32_i32
  v396
def k0_off2 (k0_t2 : Fin k0_t2_loop.trips) (k0_t3 : Fin k0_t3_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_93 : BitVec 32 := 0#32
  let c1_i32_94 : BitVec 32 := 1#32
  let arg26 : BitVec 32 := Scf.iv c0_i32_93 c1_i32_94 k0_t3
  let c32_i32 : BitVec 32 := 32#32
  let v396 : BitVec 32 := Scalar.muli arg26 c32_i32
  let v397 : BitVec 32 := v396
  let v398 : BitVec 32 := Scalar.addi v167 v397
  let v399 : Index := Scalar.indexCast v398
  let c0_196 : Index := 0#32
  ![v399.toNat, 0]
def k0_off3 (k0_t2 : Fin k0_t2_loop.trips) (k0_t3 : Fin k0_t3_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_93 : BitVec 32 := 0#32
  let c1_i32_94 : BitVec 32 := 1#32
  let arg26 : BitVec 32 := Scf.iv c0_i32_93 c1_i32_94 k0_t3
  let c32_i32 : BitVec 32 := 32#32
  let v396 : BitVec 32 := Scalar.muli arg26 c32_i32
  let v397 : BitVec 32 := v396
  let v401 : BitVec 32 := Scalar.addi v167 v397
  let v402 : Index := Scalar.indexCast v401
  let c1024_197 : Index := 1024#32
  ![v402.toNat, 1024]
def k0_off4 (k0_t2 : Fin k0_t2_loop.trips) (k0_t3 : Fin k0_t3_loop.trips) : Fin 2 → Nat :=
  let c0_i32_198 : BitVec 32 := 0#32
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v406 : BitVec 32 := Scalar.addi c0_i32_198 v167
  let c0_i32_93 : BitVec 32 := 0#32
  let c1_i32_94 : BitVec 32 := 1#32
  let arg26 : BitVec 32 := Scf.iv c0_i32_93 c1_i32_94 k0_t3
  let c32_i32 : BitVec 32 := 32#32
  let v396 : BitVec 32 := Scalar.muli arg26 c32_i32
  let v397 : BitVec 32 := v396
  let v407 : BitVec 32 := Scalar.addi v406 v397
  let v408 : Index := Scalar.indexCast v407
  let c0_199 : Index := 0#32
  ![v408.toNat, 0]
def k0_off5 (k0_t2 : Fin k0_t2_loop.trips) (k0_t3 : Fin k0_t3_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_93 : BitVec 32 := 0#32
  let c1_i32_94 : BitVec 32 := 1#32
  let arg26 : BitVec 32 := Scf.iv c0_i32_93 c1_i32_94 k0_t3
  let c32_i32 : BitVec 32 := 32#32
  let v396 : BitVec 32 := Scalar.muli arg26 c32_i32
  let v397 : BitVec 32 := v396
  let v412 : BitVec 32 := Scalar.addi v167 v397
  let v413 : Index := Scalar.indexCast v412
  let c0_200 : Index := 0#32
  ![v413.toNat, 0]
@[reducible] def k0_t4_loop : Scf.Loop 32 :=
  let c0_i32_96 : BitVec 32 := 0#32
  let c16_i32 : BitVec 32 := 16#32
  let v169 : BitVec 32 := Scalar.addi c0_i32_96 c16_i32
  let c1_i32_97 : BitVec 32 := 1#32
  ⟨c0_i32_96, v169, c1_i32_97⟩
def k0_mult4 (k0_t2 : Fin k0_t2_loop.trips) (k0_t4 : Fin k0_t4_loop.trips) : BitVec 32 :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_96 : BitVec 32 := 0#32
  let c1_i32_97 : BitVec 32 := 1#32
  let arg26 : BitVec 32 := Scf.iv c0_i32_96 c1_i32_97 k0_t4
  let c8_i32_196 : BitVec 32 := 8#32
  let v396 : BitVec 32 := Scalar.muli arg26 c8_i32_196
  let v397 : BitVec 32 := Scalar.addi v167 v396
  v397
def k0_off6 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v401 : Index := Scalar.indexCast v400
  let c22 : Index := 22#32
  let c0_198 : Index := 0#32
  ![v401.toNat, 22, 0]
def k0_off7 (k0_t2 : Fin k0_t2_loop.trips) (k0_t4 : Fin k0_t4_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_96 : BitVec 32 := 0#32
  let c1_i32_97 : BitVec 32 := 1#32
  let arg26 : BitVec 32 := Scf.iv c0_i32_96 c1_i32_97 k0_t4
  let c8_i32_196 : BitVec 32 := 8#32
  let v396 : BitVec 32 := Scalar.muli arg26 c8_i32_196
  let v397 : BitVec 32 := Scalar.addi v167 v396
  let v398 : BitVec 32 := v397
  let v407 : Index := Scalar.indexCast v398
  let c0_201 : Index := 0#32
  ![v407.toNat, 0]
def k0_off8 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v416 : Index := Scalar.indexCast v400
  let c0_205 : Index := 0#32
  let c0_206 : Index := 0#32
  ![v416.toNat, 0, 0]
def k0_off9 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v424 : Index := Scalar.indexCast v400
  let c1_209 : Index := 1#32
  let c0_210 : Index := 0#32
  ![v424.toNat, 1, 0]
def k0_off10 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v432 : Index := Scalar.indexCast v400
  let c2_213 : Index := 2#32
  let c0_214 : Index := 0#32
  ![v432.toNat, 2, 0]
def k0_off11 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v440 : Index := Scalar.indexCast v400
  let c3_217 : Index := 3#32
  let c0_218 : Index := 0#32
  ![v440.toNat, 3, 0]
def k0_off12 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v448 : Index := Scalar.indexCast v400
  let c4_221 : Index := 4#32
  let c0_222 : Index := 0#32
  ![v448.toNat, 4, 0]
def k0_off13 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v456 : Index := Scalar.indexCast v400
  let c5_225 : Index := 5#32
  let c0_226 : Index := 0#32
  ![v456.toNat, 5, 0]
def k0_off14 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v464 : Index := Scalar.indexCast v400
  let c6_229 : Index := 6#32
  let c0_230 : Index := 0#32
  ![v464.toNat, 6, 0]
def k0_off15 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v472 : Index := Scalar.indexCast v400
  let c7_233 : Index := 7#32
  let c0_234 : Index := 0#32
  ![v472.toNat, 7, 0]
def k0_off16 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v480 : Index := Scalar.indexCast v400
  let c8_237 : Index := 8#32
  let c0_238 : Index := 0#32
  ![v480.toNat, 8, 0]
def k0_off17 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v488 : Index := Scalar.indexCast v400
  let c9 : Index := 9#32
  let c0_241 : Index := 0#32
  ![v488.toNat, 9, 0]
def k0_off18 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v496 : Index := Scalar.indexCast v400
  let c10 : Index := 10#32
  let c0_244 : Index := 0#32
  ![v496.toNat, 10, 0]
def k0_off19 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v504 : Index := Scalar.indexCast v400
  let c11 : Index := 11#32
  let c0_247 : Index := 0#32
  ![v504.toNat, 11, 0]
def k0_off20 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v512 : Index := Scalar.indexCast v400
  let c12 : Index := 12#32
  let c0_250 : Index := 0#32
  ![v512.toNat, 12, 0]
def k0_off21 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v520 : Index := Scalar.indexCast v400
  let c13 : Index := 13#32
  let c0_253 : Index := 0#32
  ![v520.toNat, 13, 0]
def k0_off22 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v528 : Index := Scalar.indexCast v400
  let c14 : Index := 14#32
  let c0_256 : Index := 0#32
  ![v528.toNat, 14, 0]
def k0_off23 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v536 : Index := Scalar.indexCast v400
  let c15 : Index := 15#32
  let c0_259 : Index := 0#32
  ![v536.toNat, 15, 0]
def k0_off24 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v544 : Index := Scalar.indexCast v400
  let c16 : Index := 16#32
  let c0_262 : Index := 0#32
  ![v544.toNat, 16, 0]
def k0_off25 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v552 : Index := Scalar.indexCast v400
  let c17 : Index := 17#32
  let c0_265 : Index := 0#32
  ![v552.toNat, 17, 0]
def k0_off26 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v560 : Index := Scalar.indexCast v400
  let c18 : Index := 18#32
  let c0_268 : Index := 0#32
  ![v560.toNat, 18, 0]
def k0_off27 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v568 : Index := Scalar.indexCast v400
  let c19 : Index := 19#32
  let c0_271 : Index := 0#32
  ![v568.toNat, 19, 0]
def k0_off28 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v576 : Index := Scalar.indexCast v400
  let c20 : Index := 20#32
  let c0_274 : Index := 0#32
  ![v576.toNat, 20, 0]
def k0_off29 (k0_t2 : Fin k0_t2_loop.trips) (k0_t4 : Fin k0_t4_loop.trips) : Fin 3 → Nat :=
  let c0_i32_81 : BitVec 32 := 0#32
  let c1_i32_82 : BitVec 32 := 1#32
  let arg25 : BitVec 32 := Scf.iv c0_i32_81 c1_i32_82 k0_t2
  let c16_i32_197 : BitVec 32 := 16#32
  let v399 : BitVec 32 := Scalar.muli arg25 c16_i32_197
  let c0_i32_96 : BitVec 32 := 0#32
  let c1_i32_97 : BitVec 32 := 1#32
  let arg26 : BitVec 32 := Scf.iv c0_i32_96 c1_i32_97 k0_t4
  let v400 : BitVec 32 := Scalar.addi v399 arg26
  let v584 : Index := Scalar.indexCast v400
  let c21 : Index := 21#32
  let c0_277 : Index := 0#32
  ![v584.toNat, 21, 0]
@[reducible] def k0_t5_loop : Scf.Loop 32 :=
  let c0_i32_99 : BitVec 32 := 0#32
  let c4_i32_100 : BitVec 32 := 4#32
  let v170 : BitVec 32 := Scalar.addi c0_i32_99 c4_i32_100
  let c1_i32_101 : BitVec 32 := 1#32
  ⟨c0_i32_99, v170, c1_i32_101⟩
def k0_mult5 (k0_t5 : Fin k0_t5_loop.trips) : BitVec 32 :=
  let c0_i32_99 : BitVec 32 := 0#32
  let c1_i32_101 : BitVec 32 := 1#32
  let arg26 : BitVec 32 := Scf.iv c0_i32_99 c1_i32_101 k0_t5
  let c32_i32 : BitVec 32 := 32#32
  let v396 : BitVec 32 := Scalar.muli arg26 c32_i32
  v396
def k0_off30 (k0_t2 : Fin k0_t2_loop.trips) (k0_t5 : Fin k0_t5_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_99 : BitVec 32 := 0#32
  let c1_i32_101 : BitVec 32 := 1#32
  let arg26 : BitVec 32 := Scf.iv c0_i32_99 c1_i32_101 k0_t5
  let c32_i32 : BitVec 32 := 32#32
  let v396 : BitVec 32 := Scalar.muli arg26 c32_i32
  let v397 : BitVec 32 := v396
  let v398 : BitVec 32 := Scalar.addi v167 v397
  let v399 : Index := Scalar.indexCast v398
  let c0_196 : Index := 0#32
  ![v399.toNat, 0]
def k0_off31 (k0_t2 : Fin k0_t2_loop.trips) (k0_t5 : Fin k0_t5_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_99 : BitVec 32 := 0#32
  let c1_i32_101 : BitVec 32 := 1#32
  let arg26 : BitVec 32 := Scf.iv c0_i32_99 c1_i32_101 k0_t5
  let c32_i32 : BitVec 32 := 32#32
  let v396 : BitVec 32 := Scalar.muli arg26 c32_i32
  let v397 : BitVec 32 := v396
  let v549 : BitVec 32 := Scalar.addi v167 v397
  let v550 : Index := Scalar.indexCast v549
  let c0_241 : Index := 0#32
  ![v550.toNat, 0]
@[reducible] def k0_t6_loop : Scf.Loop 32 :=
  let c0_i32_103 : BitVec 32 := 0#32
  let c4_i32_104 : BitVec 32 := 4#32
  let v171 : BitVec 32 := Scalar.addi c0_i32_103 c4_i32_104
  let c1_i32_105 : BitVec 32 := 1#32
  ⟨c0_i32_103, v171, c1_i32_105⟩
def k0_mult6 (k0_t6 : Fin k0_t6_loop.trips) : BitVec 32 :=
  let c0_i32_103 : BitVec 32 := 0#32
  let c1_i32_105 : BitVec 32 := 1#32
  let arg26 : BitVec 32 := Scf.iv c0_i32_103 c1_i32_105 k0_t6
  let c32_i32 : BitVec 32 := 32#32
  let v396 : BitVec 32 := Scalar.muli arg26 c32_i32
  v396
def k0_off32 (k0_t2 : Fin k0_t2_loop.trips) (k0_t6 : Fin k0_t6_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_103 : BitVec 32 := 0#32
  let c1_i32_105 : BitVec 32 := 1#32
  let arg26 : BitVec 32 := Scf.iv c0_i32_103 c1_i32_105 k0_t6
  let c32_i32 : BitVec 32 := 32#32
  let v396 : BitVec 32 := Scalar.muli arg26 c32_i32
  let v397 : BitVec 32 := v396
  let v398 : BitVec 32 := Scalar.addi v167 v397
  let v399 : Index := Scalar.indexCast v398
  let c3072 : Index := 3072#32
  ![v399.toNat, 3072]
def k0_off33 (k0_t6 : Fin k0_t6_loop.trips) : Fin 2 → Nat :=
  let c0_i32_103 : BitVec 32 := 0#32
  let c1_i32_105 : BitVec 32 := 1#32
  let arg26 : BitVec 32 := Scf.iv c0_i32_103 c1_i32_105 k0_t6
  let c32_i32 : BitVec 32 := 32#32
  let v396 : BitVec 32 := Scalar.muli arg26 c32_i32
  let v397 : BitVec 32 := v396
  let v560 : Index := Scalar.indexCast v397
  let c0_244 : Index := 0#32
  ![v560.toNat, 0]
def k0_off34 (k0_t2 : Fin k0_t2_loop.trips) (k0_t6 : Fin k0_t6_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let c0_i32_103 : BitVec 32 := 0#32
  let c1_i32_105 : BitVec 32 := 1#32
  let arg26 : BitVec 32 := Scf.iv c0_i32_103 c1_i32_105 k0_t6
  let c32_i32 : BitVec 32 := 32#32
  let v396 : BitVec 32 := Scalar.muli arg26 c32_i32
  let v397 : BitVec 32 := v396
  let v564 : BitVec 32 := Scalar.addi v167 v397
  let v565 : Index := Scalar.indexCast v564
  let c0_245 : Index := 0#32
  ![v565.toNat, 0]
def k0_off35 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v179 : Index := Scalar.indexCast v167
  let c2048 : Index := 2048#32
  ![v179.toNat, 2048]
def k0_off36 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v196 : Index := Scalar.indexCast v167
  let c1024 : Index := 1024#32
  ![v196.toNat, 1024]
def k0_off37 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v207 : Index := Scalar.indexCast v167
  let c2176 : Index := 2176#32
  ![v207.toNat, 2176]
def k0_off38 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v224 : Index := Scalar.indexCast v167
  let c1152 : Index := 1152#32
  ![v224.toNat, 1152]
def k0_off39 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v235 : Index := Scalar.indexCast v167
  let c2304 : Index := 2304#32
  ![v235.toNat, 2304]
def k0_off40 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v252 : Index := Scalar.indexCast v167
  let c1280 : Index := 1280#32
  ![v252.toNat, 1280]
def k0_off41 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v263 : Index := Scalar.indexCast v167
  let c2432 : Index := 2432#32
  ![v263.toNat, 2432]
def k0_off42 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v280 : Index := Scalar.indexCast v167
  let c1408 : Index := 1408#32
  ![v280.toNat, 1408]
def k0_off43 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v291 : Index := Scalar.indexCast v167
  let c2560 : Index := 2560#32
  ![v291.toNat, 2560]
def k0_off44 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v308 : Index := Scalar.indexCast v167
  let c1536 : Index := 1536#32
  ![v308.toNat, 1536]
def k0_off45 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v319 : Index := Scalar.indexCast v167
  let c2688 : Index := 2688#32
  ![v319.toNat, 2688]
def k0_off46 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v336 : Index := Scalar.indexCast v167
  let c1664 : Index := 1664#32
  ![v336.toNat, 1664]
def k0_off47 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v347 : Index := Scalar.indexCast v167
  let c2816 : Index := 2816#32
  ![v347.toNat, 2816]
def k0_off48 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v364 : Index := Scalar.indexCast v167
  let c1792 : Index := 1792#32
  ![v364.toNat, 1792]
def k0_off49 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v375 : Index := Scalar.indexCast v167
  let c2944 : Index := 2944#32
  ![v375.toNat, 2944]
def k0_off50 (k0_t2 : Fin k0_t2_loop.trips) : Fin 2 → Nat :=
  let c0_i32_81 : BitVec 32 := 0#32
  let c1_i32_82 : BitVec 32 := 1#32
  let arg25 : BitVec 32 := Scf.iv c0_i32_81 c1_i32_82 k0_t2
  let c128_i32 : BitVec 32 := 128#32
  let v166 : BitVec 32 := Scalar.muli arg25 c128_i32
  let v167 : BitVec 32 := v166
  let v392 : Index := Scalar.indexCast v167
  let c1920 : Index := 1920#32
  ![v392.toNat, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S128x8x2048 : Shape := ⟨3, ![128, 8, 2048]⟩
abbrev S1x128x30x1024 : Shape := ⟨4, ![1, 128, 30, 1024]⟩
abbrev S1x2048 : Shape := ⟨2, ![1, 2048]⟩
abbrev S1x2048x4096 : Shape := ⟨3, ![1, 2048, 4096]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S128x30x1024 : Shape := ⟨3, ![128, 30, 1024]⟩
abbrev S8x128x128 : Shape := ⟨3, ![8, 128, 128]⟩
abbrev S8x128 : Shape := ⟨2, ![8, 128]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x4096 : Shape := ⟨2, ![2048, 4096]⟩
abbrev S128x8x4096 : Shape := ⟨3, ![128, 8, 4096]⟩
abbrev S128x8x1024 : Shape := ⟨3, ![128, 8, 1024]⟩
abbrev S128x38x1024 : Shape := ⟨3, ![128, 38, 1024]⟩
abbrev S31x1024 : Shape := ⟨2, ![31, 1024]⟩
abbrev S1024 : Shape := ⟨1, ![1024]⟩
abbrev S1x1x1024 : Shape := ⟨3, ![1, 1, 1024]⟩
abbrev S128x8x8x128 : Shape := ⟨4, ![128, 8, 8, 128]⟩
abbrev S128x8x8 : Shape := ⟨3, ![128, 8, 8]⟩
abbrev S128x8x8x1 : Shape := ⟨4, ![128, 8, 8, 1]⟩
abbrev S128x1x8x8x128 : Shape := ⟨5, ![128, 1, 8, 8, 128]⟩
abbrev S8x8 : Shape := ⟨2, ![8, 8]⟩
abbrev S8x8x8 : Shape := ⟨3, ![8, 8, 8]⟩
abbrev S8x128x1x128x8 : Shape := ⟨5, ![8, 128, 1, 128, 8]⟩
abbrev S1x1x8x8x1 : Shape := ⟨5, ![1, 1, 8, 8, 1]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 409
  | .vmem => 0
  | .smem => 0
  | _ => 0

abbrev hbmTy0_0 (i : Nat) : BufTy := match i % 128 with
  | 0 => ⟨S128x8x2048, .f32⟩
  | 1 => ⟨S1x128x30x1024, .f32⟩
  | 2 => ⟨S1x2048, .f32⟩
  | 3 => ⟨S1x2048x4096, .f32⟩
  | 4 => ⟨S1x31x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x8x128x128, .f32⟩
  | 11 => ⟨S1x8x128, .f32⟩
  | 12 => ⟨S1x2048x2048, .f32⟩
  | 13 => ⟨S128x30x1024, .f32⟩
  | 14 => ⟨S8x128x128, .f32⟩
  | 15 => ⟨S8x128, .f32⟩
  | 16 => ⟨S2048, .f32⟩
  | 17 => ⟨S128x8x2048, .f32⟩
  | 18 => ⟨S_, .f32⟩
  | 19 => ⟨S128x8, .f32⟩
  | 20 => ⟨S128x8x1, .f32⟩
  | 21 => ⟨S_, .f32⟩
  | 22 => ⟨S128x8x1, .f32⟩
  | 23 => ⟨S128x8x1, .f32⟩
  | 24 => ⟨S_, .f32⟩
  | 25 => ⟨S128x8x1, .f32⟩
  | 26 => ⟨S128x8x1, .f32⟩
  | 27 => ⟨S128x8x1, .f32⟩
  | 28 => ⟨S128x8x2048, .f32⟩
  | 29 => ⟨S128x8x2048, .f32⟩
  | 30 => ⟨S1x1x2048, .f32⟩
  | 31 => ⟨S128x8x2048, .f32⟩
  | 32 => ⟨S128x8x2048, .f32⟩
  | 33 => ⟨S2048x4096, .f32⟩
  | 34 => ⟨S128x8x4096, .f32⟩
  | 35 => ⟨S128x8x1024, .f32⟩
  | 36 => ⟨S128x8x1024, .f32⟩
  | 37 => ⟨S128x8x1024, .f32⟩
  | 38 => ⟨S128x8x1024, .f32⟩
  | 39 => ⟨S128x8x1024, .f32⟩
  | 40 => ⟨S128x8x1024, .f32⟩
  | 41 => ⟨S_, .f32⟩
  | 42 => ⟨S128x8x1024, .f32⟩
  | 43 => ⟨S128x8x1024, .f32⟩
  | 44 => ⟨S_, .f32⟩
  | 45 => ⟨S128x8x1024, .f32⟩
  | 46 => ⟨S128x8x1024, .f32⟩
  | 47 => ⟨S128x8x1024, .f32⟩
  | 48 => ⟨S128x38x1024, .f32⟩
  | 49 => ⟨S31x1024, .f32⟩
  | 50 => ⟨S1024, .f32⟩
  | 51 => ⟨S128x8x1024, .f32⟩
  | 52 => ⟨S1x1024, .f32⟩
  | 53 => ⟨S1024, .f32⟩
  | 54 => ⟨S1x1x1024, .f32⟩
  | 55 => ⟨S128x8x1024, .f32⟩
  | 56 => ⟨S128x8x1024, .f32⟩
  | 57 => ⟨S128x8x1024, .f32⟩
  | 58 => ⟨S1x1024, .f32⟩
  | 59 => ⟨S1024, .f32⟩
  | 60 => ⟨S1x1x1024, .f32⟩
  | 61 => ⟨S128x8x1024, .f32⟩
  | 62 => ⟨S128x8x1024, .f32⟩
  | 63 => ⟨S128x8x1024, .f32⟩
  | 64 => ⟨S128x8x1024, .f32⟩
  | 65 => ⟨S1x1024, .f32⟩
  | 66 => ⟨S1024, .f32⟩
  | 67 => ⟨S1x1x1024, .f32⟩
  | 68 => ⟨S128x8x1024, .f32⟩
  | 69 => ⟨S128x8x1024, .f32⟩
  | 70 => ⟨S128x8x1024, .f32⟩
  | 71 => ⟨S128x8x1024, .f32⟩
  | 72 => ⟨S1x1024, .f32⟩
  | 73 => ⟨S1024, .f32⟩
  | 74 => ⟨S1x1x1024, .f32⟩
  | 75 => ⟨S128x8x1024, .f32⟩
  | 76 => ⟨S128x8x1024, .f32⟩
  | 77 => ⟨S128x8x1024, .f32⟩
  | 78 => ⟨S128x8x1024, .f32⟩
  | 79 => ⟨S1x1024, .f32⟩
  | 80 => ⟨S1024, .f32⟩
  | 81 => ⟨S1x1x1024, .f32⟩
  | 82 => ⟨S128x8x1024, .f32⟩
  | 83 => ⟨S128x8x1024, .f32⟩
  | 84 => ⟨S128x8x1024, .f32⟩
  | 85 => ⟨S128x8x1024, .f32⟩
  | 86 => ⟨S1x1024, .f32⟩
  | 87 => ⟨S1024, .f32⟩
  | 88 => ⟨S1x1x1024, .f32⟩
  | 89 => ⟨S128x8x1024, .f32⟩
  | 90 => ⟨S128x8x1024, .f32⟩
  | 91 => ⟨S128x8x1024, .f32⟩
  | 92 => ⟨S128x8x1024, .f32⟩
  | 93 => ⟨S1x1024, .f32⟩
  | 94 => ⟨S1024, .f32⟩
  | 95 => ⟨S1x1x1024, .f32⟩
  | 96 => ⟨S128x8x1024, .f32⟩
  | 97 => ⟨S128x8x1024, .f32⟩
  | 98 => ⟨S128x8x1024, .f32⟩
  | 99 => ⟨S128x8x1024, .f32⟩
  | 100 => ⟨S1x1024, .f32⟩
  | 101 => ⟨S1024, .f32⟩
  | 102 => ⟨S1x1x1024, .f32⟩
  | 103 => ⟨S128x8x1024, .f32⟩
  | 104 => ⟨S128x8x1024, .f32⟩
  | 105 => ⟨S128x8x1024, .f32⟩
  | 106 => ⟨S128x8x1024, .f32⟩
  | 107 => ⟨S1x1024, .f32⟩
  | 108 => ⟨S1024, .f32⟩
  | 109 => ⟨S1x1x1024, .f32⟩
  | 110 => ⟨S128x8x1024, .f32⟩
  | 111 => ⟨S128x8x1024, .f32⟩
  | 112 => ⟨S128x8x1024, .f32⟩
  | 113 => ⟨S128x8x1024, .f32⟩
  | 114 => ⟨S1x1024, .f32⟩
  | 115 => ⟨S1024, .f32⟩
  | 116 => ⟨S1x1x1024, .f32⟩
  | 117 => ⟨S128x8x1024, .f32⟩
  | 118 => ⟨S128x8x1024, .f32⟩
  | 119 => ⟨S128x8x1024, .f32⟩
  | 120 => ⟨S128x8x1024, .f32⟩
  | 121 => ⟨S1x1024, .f32⟩
  | 122 => ⟨S1024, .f32⟩
  | 123 => ⟨S1x1x1024, .f32⟩
  | 124 => ⟨S128x8x1024, .f32⟩
  | 125 => ⟨S128x8x1024, .f32⟩
  | 126 => ⟨S128x8x1024, .f32⟩
  | 127 => ⟨S128x8x1024, .f32⟩
  | _ => ⟨S128x8x2048, .f32⟩

abbrev hbmTy0_1 (i : Nat) : BufTy := match i % 128 with
  | 0 => ⟨S1x1024, .f32⟩
  | 1 => ⟨S1024, .f32⟩
  | 2 => ⟨S1x1x1024, .f32⟩
  | 3 => ⟨S128x8x1024, .f32⟩
  | 4 => ⟨S128x8x1024, .f32⟩
  | 5 => ⟨S128x8x1024, .f32⟩
  | 6 => ⟨S128x8x1024, .f32⟩
  | 7 => ⟨S1x1024, .f32⟩
  | 8 => ⟨S1024, .f32⟩
  | 9 => ⟨S1x1x1024, .f32⟩
  | 10 => ⟨S128x8x1024, .f32⟩
  | 11 => ⟨S128x8x1024, .f32⟩
  | 12 => ⟨S128x8x1024, .f32⟩
  | 13 => ⟨S128x8x1024, .f32⟩
  | 14 => ⟨S1x1024, .f32⟩
  | 15 => ⟨S1024, .f32⟩
  | 16 => ⟨S1x1x1024, .f32⟩
  | 17 => ⟨S128x8x1024, .f32⟩
  | 18 => ⟨S128x8x1024, .f32⟩
  | 19 => ⟨S128x8x1024, .f32⟩
  | 20 => ⟨S128x8x1024, .f32⟩
  | 21 => ⟨S1x1024, .f32⟩
  | 22 => ⟨S1024, .f32⟩
  | 23 => ⟨S1x1x1024, .f32⟩
  | 24 => ⟨S128x8x1024, .f32⟩
  | 25 => ⟨S128x8x1024, .f32⟩
  | 26 => ⟨S128x8x1024, .f32⟩
  | 27 => ⟨S128x8x1024, .f32⟩
  | 28 => ⟨S1x1024, .f32⟩
  | 29 => ⟨S1024, .f32⟩
  | 30 => ⟨S1x1x1024, .f32⟩
  | 31 => ⟨S128x8x1024, .f32⟩
  | 32 => ⟨S128x8x1024, .f32⟩
  | 33 => ⟨S128x8x1024, .f32⟩
  | 34 => ⟨S128x8x1024, .f32⟩
  | 35 => ⟨S1x1024, .f32⟩
  | 36 => ⟨S1024, .f32⟩
  | 37 => ⟨S1x1x1024, .f32⟩
  | 38 => ⟨S128x8x1024, .f32⟩
  | 39 => ⟨S128x8x1024, .f32⟩
  | 40 => ⟨S128x8x1024, .f32⟩
  | 41 => ⟨S128x8x1024, .f32⟩
  | 42 => ⟨S1x1024, .f32⟩
  | 43 => ⟨S1024, .f32⟩
  | 44 => ⟨S1x1x1024, .f32⟩
  | 45 => ⟨S128x8x1024, .f32⟩
  | 46 => ⟨S128x8x1024, .f32⟩
  | 47 => ⟨S128x8x1024, .f32⟩
  | 48 => ⟨S128x8x1024, .f32⟩
  | 49 => ⟨S1x1024, .f32⟩
  | 50 => ⟨S1024, .f32⟩
  | 51 => ⟨S1x1x1024, .f32⟩
  | 52 => ⟨S128x8x1024, .f32⟩
  | 53 => ⟨S128x8x1024, .f32⟩
  | 54 => ⟨S128x8x1024, .f32⟩
  | 55 => ⟨S128x8x1024, .f32⟩
  | 56 => ⟨S1x1024, .f32⟩
  | 57 => ⟨S1024, .f32⟩
  | 58 => ⟨S1x1x1024, .f32⟩
  | 59 => ⟨S128x8x1024, .f32⟩
  | 60 => ⟨S128x8x1024, .f32⟩
  | 61 => ⟨S128x8x1024, .f32⟩
  | 62 => ⟨S128x8x1024, .f32⟩
  | 63 => ⟨S1x1024, .f32⟩
  | 64 => ⟨S1024, .f32⟩
  | 65 => ⟨S1x1x1024, .f32⟩
  | 66 => ⟨S128x8x1024, .f32⟩
  | 67 => ⟨S128x8x1024, .f32⟩
  | 68 => ⟨S128x8x1024, .f32⟩
  | 69 => ⟨S128x8x1024, .f32⟩
  | 70 => ⟨S1x1024, .f32⟩
  | 71 => ⟨S1024, .f32⟩
  | 72 => ⟨S1x1x1024, .f32⟩
  | 73 => ⟨S128x8x1024, .f32⟩
  | 74 => ⟨S128x8x1024, .f32⟩
  | 75 => ⟨S128x8x1024, .f32⟩
  | 76 => ⟨S128x8x1024, .f32⟩
  | 77 => ⟨S1x1024, .f32⟩
  | 78 => ⟨S1024, .f32⟩
  | 79 => ⟨S1x1x1024, .f32⟩
  | 80 => ⟨S128x8x1024, .f32⟩
  | 81 => ⟨S128x8x1024, .f32⟩
  | 82 => ⟨S128x8x1024, .f32⟩
  | 83 => ⟨S128x8x1024, .f32⟩
  | 84 => ⟨S1x1024, .f32⟩
  | 85 => ⟨S1024, .f32⟩
  | 86 => ⟨S1x1x1024, .f32⟩
  | 87 => ⟨S128x8x1024, .f32⟩
  | 88 => ⟨S128x8x1024, .f32⟩
  | 89 => ⟨S128x8x1024, .f32⟩
  | 90 => ⟨S128x8x1024, .f32⟩
  | 91 => ⟨S1x1024, .f32⟩
  | 92 => ⟨S1024, .f32⟩
  | 93 => ⟨S1x1x1024, .f32⟩
  | 94 => ⟨S128x8x1024, .f32⟩
  | 95 => ⟨S128x8x1024, .f32⟩
  | 96 => ⟨S128x8x1024, .f32⟩
  | 97 => ⟨S128x8x1024, .f32⟩
  | 98 => ⟨S1x1024, .f32⟩
  | 99 => ⟨S1024, .f32⟩
  | 100 => ⟨S1x1x1024, .f32⟩
  | 101 => ⟨S128x8x1024, .f32⟩
  | 102 => ⟨S128x8x1024, .f32⟩
  | 103 => ⟨S128x8x1024, .f32⟩
  | 104 => ⟨S128x8x1024, .f32⟩
  | 105 => ⟨S1x1024, .f32⟩
  | 106 => ⟨S1024, .f32⟩
  | 107 => ⟨S1x1x1024, .f32⟩
  | 108 => ⟨S128x8x1024, .f32⟩
  | 109 => ⟨S128x8x1024, .f32⟩
  | 110 => ⟨S128x8x1024, .f32⟩
  | 111 => ⟨S128x8x1024, .f32⟩
  | 112 => ⟨S1x1024, .f32⟩
  | 113 => ⟨S1024, .f32⟩
  | 114 => ⟨S1x1x1024, .f32⟩
  | 115 => ⟨S128x8x1024, .f32⟩
  | 116 => ⟨S128x8x1024, .f32⟩
  | 117 => ⟨S128x8x1024, .f32⟩
  | 118 => ⟨S128x8x1024, .f32⟩
  | 119 => ⟨S1x1024, .f32⟩
  | 120 => ⟨S1024, .f32⟩
  | 121 => ⟨S1x1x1024, .f32⟩
  | 122 => ⟨S128x8x1024, .f32⟩
  | 123 => ⟨S128x8x1024, .f32⟩
  | 124 => ⟨S128x8x1024, .f32⟩
  | 125 => ⟨S128x8x1024, .f32⟩
  | 126 => ⟨S1x1024, .f32⟩
  | 127 => ⟨S1024, .f32⟩
  | _ => ⟨S128x8x2048, .f32⟩

abbrev hbmTy0_2 (i : Nat) : BufTy := match i % 128 with
  | 0 => ⟨S1x1x1024, .f32⟩
  | 1 => ⟨S128x8x1024, .f32⟩
  | 2 => ⟨S128x8x1024, .f32⟩
  | 3 => ⟨S128x8x1024, .f32⟩
  | 4 => ⟨S128x8x1024, .f32⟩
  | 5 => ⟨S1x1024, .f32⟩
  | 6 => ⟨S1024, .f32⟩
  | 7 => ⟨S1x1x1024, .f32⟩
  | 8 => ⟨S128x8x1024, .f32⟩
  | 9 => ⟨S128x8x1024, .f32⟩
  | 10 => ⟨S128x8x1024, .f32⟩
  | 11 => ⟨S1x1x1024, .f32⟩
  | 12 => ⟨S128x8x1024, .f32⟩
  | 13 => ⟨S128x8x1024, .f32⟩
  | 14 => ⟨S1024, .f32⟩
  | 15 => ⟨S1024, .f32⟩
  | 16 => ⟨S128x8x8x128, .f32⟩
  | 17 => ⟨S_, .f32⟩
  | 18 => ⟨S128x8x8, .f32⟩
  | 19 => ⟨S128x8x8x1, .f32⟩
  | 20 => ⟨S_, .f32⟩
  | 21 => ⟨S128x8x8x1, .f32⟩
  | 22 => ⟨S128x8x8x1, .f32⟩
  | 23 => ⟨S128x8x8x128, .f32⟩
  | 24 => ⟨S128x8x8x128, .f32⟩
  | 25 => ⟨S128x8x8x128, .f32⟩
  | 26 => ⟨S_, .f32⟩
  | 27 => ⟨S128x8x8, .f32⟩
  | 28 => ⟨S128x8x8x1, .f32⟩
  | 29 => ⟨S_, .f32⟩
  | 30 => ⟨S128x8x8x1, .f32⟩
  | 31 => ⟨S128x8x8x1, .f32⟩
  | 32 => ⟨S_, .f32⟩
  | 33 => ⟨S128x8x8x1, .f32⟩
  | 34 => ⟨S128x8x8x1, .f32⟩
  | 35 => ⟨S128x8x8x1, .f32⟩
  | 36 => ⟨S128x8x8x128, .f32⟩
  | 37 => ⟨S128x8x8x128, .f32⟩
  | 38 => ⟨S128x8x1024, .f32⟩
  | 39 => ⟨S1x1x1024, .f32⟩
  | 40 => ⟨S128x8x1024, .f32⟩
  | 41 => ⟨S128x8x1024, .f32⟩
  | 42 => ⟨S1x1x1024, .f32⟩
  | 43 => ⟨S128x8x1024, .f32⟩
  | 44 => ⟨S128x8x1024, .f32⟩
  | 45 => ⟨S128x8x1024, .f32⟩
  | 46 => ⟨S128x8x1024, .f32⟩
  | 47 => ⟨S_, .f32⟩
  | 48 => ⟨S128x8x1024, .f32⟩
  | 49 => ⟨S128x8x1024, .f32⟩
  | 50 => ⟨S_, .f32⟩
  | 51 => ⟨S128x8x1024, .f32⟩
  | 52 => ⟨S128x8x1024, .f32⟩
  | 53 => ⟨S128x8x1024, .f32⟩
  | 54 => ⟨S128x8x1024, .f32⟩
  | 55 => ⟨S128x8x1024, .f32⟩
  | 56 => ⟨S_, .f32⟩
  | 57 => ⟨S128x8x1024, .f32⟩
  | 58 => ⟨S128x8x1024, .f32⟩
  | 59 => ⟨S128x8x1024, .f32⟩
  | 60 => ⟨S_, .f32⟩
  | 61 => ⟨S128x8x1024, .f32⟩
  | 62 => ⟨S128x8x1024, .f32⟩
  | 63 => ⟨S128x8x1024, .f32⟩
  | 64 => ⟨S_, .f32⟩
  | 65 => ⟨S128x8x1024, .f32⟩
  | 66 => ⟨S128x8x1024, .f32⟩
  | 67 => ⟨S_, .f32⟩
  | 68 => ⟨S128x8x1024, .f32⟩
  | 69 => ⟨S128x8x1024, .f32⟩
  | 70 => ⟨S128x8x1024, .f32⟩
  | 71 => ⟨S128x8x1024, .f32⟩
  | 72 => ⟨S128x8x1024, .f32⟩
  | 73 => ⟨S_, .f32⟩
  | 74 => ⟨S128x8x1024, .f32⟩
  | 75 => ⟨S128x8x1024, .f32⟩
  | 76 => ⟨S128x8x1024, .f32⟩
  | 77 => ⟨S_, .f32⟩
  | 78 => ⟨S128x8x1024, .f32⟩
  | 79 => ⟨S128x8x1024, .f32⟩
  | 80 => ⟨S128x8x1024, .f32⟩
  | 81 => ⟨S_, .f32⟩
  | 82 => ⟨S128x8x1024, .f32⟩
  | 83 => ⟨S128x8x1024, .f32⟩
  | 84 => ⟨S_, .f32⟩
  | 85 => ⟨S128x8x1024, .f32⟩
  | 86 => ⟨S128x8x1024, .f32⟩
  | 87 => ⟨S128x8x1024, .f32⟩
  | 88 => ⟨S1024, .f32⟩
  | 89 => ⟨S1024, .f32⟩
  | 90 => ⟨S128x8x8x128, .f32⟩
  | 91 => ⟨S_, .f32⟩
  | 92 => ⟨S128x8x8, .f32⟩
  | 93 => ⟨S128x8x8x1, .f32⟩
  | 94 => ⟨S_, .f32⟩
  | 95 => ⟨S128x8x8x1, .f32⟩
  | 96 => ⟨S128x8x8x1, .f32⟩
  | 97 => ⟨S128x8x8x128, .f32⟩
  | 98 => ⟨S128x8x8x128, .f32⟩
  | 99 => ⟨S128x8x8x128, .f32⟩
  | 100 => ⟨S_, .f32⟩
  | 101 => ⟨S128x8x8, .f32⟩
  | 102 => ⟨S128x8x8x1, .f32⟩
  | 103 => ⟨S_, .f32⟩
  | 104 => ⟨S128x8x8x1, .f32⟩
  | 105 => ⟨S128x8x8x1, .f32⟩
  | 106 => ⟨S_, .f32⟩
  | 107 => ⟨S128x8x8x1, .f32⟩
  | 108 => ⟨S128x8x8x1, .f32⟩
  | 109 => ⟨S128x8x8x1, .f32⟩
  | 110 => ⟨S128x8x8x128, .f32⟩
  | 111 => ⟨S128x8x8x128, .f32⟩
  | 112 => ⟨S128x8x1024, .f32⟩
  | 113 => ⟨S1x1x1024, .f32⟩
  | 114 => ⟨S128x8x1024, .f32⟩
  | 115 => ⟨S128x8x1024, .f32⟩
  | 116 => ⟨S1x1x1024, .f32⟩
  | 117 => ⟨S128x8x1024, .f32⟩
  | 118 => ⟨S128x8x1024, .f32⟩
  | 119 => ⟨S128x1x8x8x128, .f32⟩
  | 120 => ⟨S_, .i1⟩
  | 121 => ⟨S8x8, .i1⟩
  | 122 => ⟨S8x8, .i32⟩
  | 123 => ⟨S_, .i32⟩
  | 124 => ⟨S8x8, .i32⟩
  | 125 => ⟨S8x8, .i32⟩
  | 126 => ⟨S8x8, .i32⟩
  | 127 => ⟨S8x8, .i1⟩
  | _ => ⟨S128x8x2048, .f32⟩

abbrev hbmTy0_3 (i : Nat) : BufTy := match i % 128 with
  | 0 => ⟨S_, .i1⟩
  | 1 => ⟨S8x8, .i1⟩
  | 2 => ⟨S8x8, .i1⟩
  | 3 => ⟨S8x8x8, .f32⟩
  | 4 => ⟨S_, .i32⟩
  | 5 => ⟨S_, .f32⟩
  | 6 => ⟨S8x8x8, .i1⟩
  | 7 => ⟨S8x8x8, .f32⟩
  | 8 => ⟨S8x8x8, .f32⟩
  | 9 => ⟨S8x128x1x128x8, .f32⟩
  | 10 => ⟨S128x1x8x8x128, .f32⟩
  | 11 => ⟨S8x8, .f32⟩
  | 12 => ⟨S8x8, .f32⟩
  | 13 => ⟨S1x1x8x8x1, .f32⟩
  | 14 => ⟨S128x1x8x8x128, .f32⟩
  | 15 => ⟨S128x1x8x8x128, .f32⟩
  | 16 => ⟨S128x8x1024, .f32⟩
  | 17 => ⟨S128x8x1024, .f32⟩
  | 18 => ⟨S128x8x2048, .f32⟩
  | 19 => ⟨S2048x2048, .f32⟩
  | 20 => ⟨S128x8x2048, .f32⟩
  | 21 => ⟨S128x8x2048, .f32⟩
  | 22 => ⟨S1024x2048, .f32⟩
  | 23 => ⟨S1024x1024, .f32⟩
  | 24 => ⟨S1024x1024, .f32⟩
  | _ => ⟨S128x8x2048, .f32⟩

abbrev hbmTy (i : Nat) : BufTy := match i / 128 with
  | 0 => hbmTy0_0 i
  | 1 => hbmTy0_1 i
  | 2 => hbmTy0_2 i
  | 3 => hbmTy0_3 i
  | _ => ⟨S128x8x2048, .f32⟩

abbrev bufTy : (tb : Table) → Fin (tcTables nBuf tb) → BufTy
  | .hbm, ⟨i, _⟩ => hbmTy i
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_4 : Ref sig .tc := ⟨.hbm, 273, rfl⟩
abbrev main_v255 : Ref sig .tc := ⟨.hbm, 274, rfl⟩
abbrev main_v256 : Ref sig .tc := ⟨.hbm, 275, rfl⟩
abbrev main_cst_5 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_cst_6 : Ref sig .tc := ⟨.hbm, 282, rfl⟩
abbrev main_v262 : Ref sig .tc := ⟨.hbm, 283, rfl⟩
abbrev main_v263 : Ref sig .tc := ⟨.hbm, 284, rfl⟩
abbrev main_cst_7 : Ref sig .tc := ⟨.hbm, 285, rfl⟩
abbrev main_v264 : Ref sig .tc := ⟨.hbm, 286, rfl⟩
abbrev main_v265 : Ref sig .tc := ⟨.hbm, 287, rfl⟩
abbrev main_cst_8 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_call0_v0 : Ref sig .tc := ⟨.hbm, 301, rfl⟩
abbrev main_call0_v1 : Ref sig .tc := ⟨.hbm, 302, rfl⟩
abbrev main_call0_cst : Ref sig .tc := ⟨.hbm, 303, rfl⟩
abbrev main_call0_v2 : Ref sig .tc := ⟨.hbm, 304, rfl⟩
abbrev main_call0_v3 : Ref sig .tc := ⟨.hbm, 305, rfl⟩
abbrev main_call0_cst_0 : Ref sig .tc := ⟨.hbm, 306, rfl⟩
abbrev main_call0_v4 : Ref sig .tc := ⟨.hbm, 307, rfl⟩
abbrev main_call0_v5 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_cst_9 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_cst_10 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_cst_11 : Ref sig .tc := ⟨.hbm, 320, rfl⟩
abbrev main_v287 : Ref sig .tc := ⟨.hbm, 321, rfl⟩
abbrev main_v288 : Ref sig .tc := ⟨.hbm, 322, rfl⟩
abbrev main_cst_12 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_cst_13 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_cst_14 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_cst_15 : Ref sig .tc := ⟨.hbm, 337, rfl⟩
abbrev main_v300 : Ref sig .tc := ⟨.hbm, 338, rfl⟩
abbrev main_v301 : Ref sig .tc := ⟨.hbm, 339, rfl⟩
abbrev main_cst_16 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_cst_17 : Ref sig .tc := ⟨.hbm, 347, rfl⟩
abbrev main_v308 : Ref sig .tc := ⟨.hbm, 348, rfl⟩
abbrev main_v309 : Ref sig .tc := ⟨.hbm, 349, rfl⟩
abbrev main_cst_18 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_cst_19 : Ref sig .tc := ⟨.hbm, 356, rfl⟩
abbrev main_v315 : Ref sig .tc := ⟨.hbm, 357, rfl⟩
abbrev main_v316 : Ref sig .tc := ⟨.hbm, 358, rfl⟩
abbrev main_cst_20 : Ref sig .tc := ⟨.hbm, 359, rfl⟩
abbrev main_v317 : Ref sig .tc := ⟨.hbm, 360, rfl⟩
abbrev main_v318 : Ref sig .tc := ⟨.hbm, 361, rfl⟩
abbrev main_cst_21 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_c : Ref sig .tc := ⟨.hbm, 376, rfl⟩
abbrev main_v332 : Ref sig .tc := ⟨.hbm, 377, rfl⟩
abbrev main_call1_v0 : Ref sig .tc := ⟨.hbm, 378, rfl⟩
abbrev main_call1_c : Ref sig .tc := ⟨.hbm, 379, rfl⟩
abbrev main_call1_v1 : Ref sig .tc := ⟨.hbm, 380, rfl⟩
abbrev main_call1_v2 : Ref sig .tc := ⟨.hbm, 381, rfl⟩
abbrev main_call1_v3 : Ref sig .tc := ⟨.hbm, 382, rfl⟩
abbrev main_call1_v4 : Ref sig .tc := ⟨.hbm, 383, rfl⟩
abbrev main_call1_c_0 : Ref sig .tc := ⟨.hbm, 384, rfl⟩
abbrev main_call1_v5 : Ref sig .tc := ⟨.hbm, 385, rfl⟩
abbrev main_v333 : Ref sig .tc := ⟨.hbm, 386, rfl⟩
abbrev main_v334 : Ref sig .tc := ⟨.hbm, 387, rfl⟩
abbrev main_c_22 : Ref sig .tc := ⟨.hbm, 388, rfl⟩
abbrev main_call2_v0 : Ref sig .tc := ⟨.hbm, 389, rfl⟩
abbrev main_call2_v1 : Ref sig .tc := ⟨.hbm, 390, rfl⟩
abbrev main_call2_v2 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩

abbrev nD : Nat := 1
abbrev τ : Topo := Topo.v7x

variable {F : FTy → Type} [FloatOps F]
-- ==== Ffn.lean ====
abbrev S1024x2048 : Shape := ⟨2, ![1024, 2048]⟩
abbrev S1x128x2x11264 : Shape := ⟨4, ![1, 128, 2, 11264]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S128x2x11264 : Shape := ⟨3, ![128, 2, 11264]⟩
abbrev S1024x5632 : Shape := ⟨2, ![1024, 5632]⟩
abbrev S512x2048 : Shape := ⟨2, ![512, 2048]⟩
abbrev S64x2x512 : Shape := ⟨3, ![64, 2, 512]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S520x512 : Shape := ⟨2, ![520, 512]⟩
abbrev S32x2048 : Shape := ⟨2, ![32, 2048]⟩
abbrev S32 : Shape := ⟨1, ![32]⟩
abbrev S32x1 : Shape := ⟨2, ![32, 1]⟩
abbrev S32x512 : Shape := ⟨2, ![32, 512]⟩
abbrev S4x8x512 : Shape := ⟨3, ![4, 8, 512]⟩
abbrev S4x1x512 : Shape := ⟨3, ![4, 1, 512]⟩
abbrev S1x1x512 : Shape := ⟨3, ![1, 1, 512]⟩

abbrev nBuf : Space → Nat
  | .hbm => 20
  | .vmem => 31
  | .smem => 0
  | _ => 0

abbrev bufTy : (tb : Table) → Fin (tcTables nBuf tb) → BufTy
  | .hbm, ⟨0, _⟩ => ⟨S1024x2048, .f32⟩
  | .hbm, ⟨1, _⟩ => ⟨S1x128x2x11264, .f32⟩
  | .hbm, ⟨2, _⟩ => ⟨S1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S2048, .f32⟩
  | .hbm, ⟨8, _⟩ => ⟨S1x2048, .f32⟩
  | .hbm, ⟨9, _⟩ => ⟨S2048x11264, .f32⟩
  | .hbm, ⟨10, _⟩ => ⟨S2048x11264, .bf16⟩
  | .hbm, ⟨11, _⟩ => ⟨S3x11264, .f32⟩
  | .hbm, ⟨12, _⟩ => ⟨S11264, .f32⟩
  | .hbm, ⟨13, _⟩ => ⟨S1x11264, .f32⟩
  | .hbm, ⟨14, _⟩ => ⟨S5632x2048, .f32⟩
  | .hbm, ⟨15, _⟩ => ⟨S5632x2048, .bf16⟩
  | .hbm, ⟨16, _⟩ => ⟨S128x2x11264, .f32⟩
  | .hbm, ⟨17, _⟩ => ⟨S1024x2048, .f32⟩
  | .hbm, ⟨18, _⟩ => ⟨S1024x5632, .f32⟩
  | .hbm, ⟨19, _⟩ => ⟨S1024x5632, .f32⟩
  | .local _ .vmem, ⟨0, _⟩ => ⟨S512x2048, .f32⟩
  | .local _ .vmem, ⟨1, _⟩ => ⟨S512x2048, .f32⟩
  | .local _ .vmem, ⟨2, _⟩ => ⟨S64x2x512, .f32⟩
  | .local _ .vmem, ⟨3, _⟩ => ⟨S64x2x512, .f32⟩
  | .local _ .vmem, ⟨4, _⟩ => ⟨S64x2x512, .f32⟩
  | .local _ .vmem, ⟨5, _⟩ => ⟨S64x2x512, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x2048, .bf16⟩
  | .local _ .vmem, ⟨20, _⟩ => ⟨S512x2048, .bf16⟩
  | .local _ .vmem, ⟨21, _⟩ => ⟨S512x2048, .f32⟩
  | .local _ .vmem, ⟨22, _⟩ => ⟨S512x2048, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x2048, .bf16⟩
  | .local _ .vmem, ⟨28, _⟩ => ⟨S520x512, .f32⟩
  | .local _ .vmem, ⟨29, _⟩ => ⟨S520x512, .f32⟩
  | .local _ .vmem, ⟨30, _⟩ => ⟨S512x512, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c16_i32_32 : BitVec 32 := 16#32
  let v30 : BitVec 32 := Scalar.addi c0_i32_31 c16_i32_32
  let c1_i32_33 : BitVec 32 := 1#32
  ⟨c0_i32_31, v30, c1_i32_33⟩
def k0_mult1 (k0_t1 : Fin k0_t1_loop.trips) : BitVec 32 :=
  let c0_i32_31 : BitVec 32 := 0#32
  let c1_i32_33 : BitVec 32 := 1#32
  let arg20 : BitVec 32 := Scf.iv c0_i32_31 c1_i32_33 k0_t1
  let c32_i32 : BitVec 32 := 32#32
  let v33 : BitVec 32 := Scalar.muli arg20 c32_i32
  v33
def k0_off1 (k0_t1 : Fin k0_t1_loop.trips) : Fin 2 → Nat :=
  let c0_i32_31 : BitVec 32 := 0#32
  let c1_i32_33 : BitVec 32 := 1#32
  let arg20 : BitVec 32 := Scf.iv c0_i32_31 c1_i32_33 k0_t1
  let c32_i32 : BitVec 32 := 32#32
  let v33 : BitVec 32 := Scalar.muli arg20 c32_i32
  let v34 : BitVec 32 := v33
  let v35 : Index := Scalar.indexCast v34
  let c0_39 : Index := 0#32
  ![v35.toNat, 0]
@[reducible] def k0_t2_loop : Scf.Loop 32 :=
  let c0_i32_20 : BitVec 32 := 0#32
  let c16_i32 : BitVec 32 := 16#32
  let v21 : BitVec 32 := Scalar.addi c0_i32_20 c16_i32
  let c1_i32 : BitVec 32 := 1#32
  ⟨c0_i32_20, v21, c1_i32⟩
def k0_mult2 (k0_t2 : Fin k0_t2_loop.trips) : BitVec 32 :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  v30
def k0_off2 (k0_t2 : Fin k0_t2_loop.trips) : Fin 2 → Nat :=
  let c8_i32 : BitVec 32 := 8#32
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let v38 : BitVec 32 := Scalar.addi c8_i32 v31
  let v39 : Index := Scalar.indexCast v38
  let c0_35 : Index := 0#32
  ![v39.toNat, 0]
def k0_mult3 (k0_t2 : Fin k0_t2_loop.trips) : BitVec 32 :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let c0_i32_37 : BitVec 32 := 0#32
  let v42 : BitVec 1 := Scalar.cmpi .sgt v31 c0_i32_37
  let v43 : BitVec 32 := Scalar.extui v42
  let c0_i32_38 : BitVec 32 := 0#32
  let v44 : BitVec 1 := Scalar.cmpi .slt v31 c0_i32_38
  let v45 : BitVec 32 := Scalar.extui v44
  let v46 : BitVec 32 := Scalar.subi v43 v45
  let c8_i32_36 : BitVec 32 := 8#32
  let c0_i32_39 : BitVec 32 := 0#32
  let v47 : BitVec 1 := Scalar.cmpi .sgt c8_i32_36 c0_i32_39
  let v48 : BitVec 32 := Scalar.extui v47
  let c0_i32_40 : BitVec 32 := 0#32
  let v49 : BitVec 1 := Scalar.cmpi .slt c8_i32_36 c0_i32_40
  let v50 : BitVec 32 := Scalar.extui v49
  let v51 : BitVec 32 := Scalar.subi v48 v50
  let v52 : BitVec 1 := Scalar.cmpi .ne v46 v51
  let v53 : BitVec 32 := Scalar.remsi v31 c8_i32_36
  let c0_i32_41 : BitVec 32 := 0#32
  let v54 : BitVec 1 := Scalar.cmpi .ne v53 c0_i32_41
  let v55 : BitVec 1 := Scalar.andi v52 v54
  let v41 : BitVec 32 := Scalar.divsi v31 c8_i32_36
  let c1_i32_42 : BitVec 32 := 1#32
  let v56 : BitVec 32 := Scalar.subi v41 c1_i32_42
  let v57 : BitVec 32 := Scalar.select v55 v56 v41
  v57
def k0_off3 (k0_t2 : Fin k0_t2_loop.trips) : Fin 3 → Nat :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let c0_i32_37 : BitVec 32 := 0#32
  let v42 : BitVec 1 := Scalar.cmpi .sgt v31 c0_i32_37
  let v43 : BitVec 32 := Scalar.extui v42
  let c0_i32_38 : BitVec 32 := 0#32
  let v44 : BitVec 1 := Scalar.cmpi .slt v31 c0_i32_38
  let v45 : BitVec 32 := Scalar.extui v44
  let v46 : BitVec 32 := Scalar.subi v43 v45
  let c8_i32_36 : BitVec 32 := 8#32
  let c0_i32_39 : BitVec 32 := 0#32
  let v47 : BitVec 1 := Scalar.cmpi .sgt c8_i32_36 c0_i32_39
  let v48 : BitVec 32 := Scalar.extui v47
  let c0_i32_40 : BitVec 32 := 0#32
  let v49 : BitVec 1 := Scalar.cmpi .slt c8_i32_36 c0_i32_40
  let v50 : BitVec 32 := Scalar.extui v49
  let v51 : BitVec 32 := Scalar.subi v48 v50
  let v52 : BitVec 1 := Scalar.cmpi .ne v46 v51
  let v53 : BitVec 32 := Scalar.remsi v31 c8_i32_36
  let c0_i32_41 : BitVec 32 := 0#32
  let v54 : BitVec 1 := Scalar.cmpi .ne v53 c0_i32_41
  let v55 : BitVec 1 := Scalar.andi v52 v54
  let v41 : BitVec 32 := Scalar.divsi v31 c8_i32_36
  let c1_i32_42 : BitVec 32 := 1#32
  let v56 : BitVec 32 := Scalar.subi v41 c1_i32_42
  let v57 : BitVec 32 := Scalar.select v55 v56 v41
  let v58 : BitVec 32 := v57
  let v61 : Index := Scalar.indexCast v58
  let c0_43 : Index := 0#32
  let c0_44 : Index := 0#32
  ![v61.toNat, 0, 0]
def k0_off4 (k0_t2 : Fin k0_t2_loop.trips) : Fin 3 → Nat :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let c0_i32_37 : BitVec 32 := 0#32
  let v42 : BitVec 1 := Scalar.cmpi .sgt v31 c0_i32_37
  let v43 : BitVec 32 := Scalar.extui v42
  let c0_i32_38 : BitVec 32 := 0#32
  let v44 : BitVec 1 := Scalar.cmpi .slt v31 c0_i32_38
  let v45 : BitVec 32 := Scalar.extui v44
  let v46 : BitVec 32 := Scalar.subi v43 v45
  let c8_i32_36 : BitVec 32 := 8#32
  let c0_i32_39 : BitVec 32 := 0#32
  let v47 : BitVec 1 := Scalar.cmpi .sgt c8_i32_36 c0_i32_39
  let v48 : BitVec 32 := Scalar.extui v47
  let c0_i32_40 : BitVec 32 := 0#32
  let v49 : BitVec 1 := Scalar.cmpi .slt c8_i32_36 c0_i32_40
  let v50 : BitVec 32 := Scalar.extui v49
  let v51 : BitVec 32 := Scalar.subi v48 v50
  let v52 : BitVec 1 := Scalar.cmpi .ne v46 v51
  let v53 : BitVec 32 := Scalar.remsi v31 c8_i32_36
  let c0_i32_41 : BitVec 32 := 0#32
  let v54 : BitVec 1 := Scalar.cmpi .ne v53 c0_i32_41
  let v55 : BitVec 1 := Scalar.andi v52 v54
  let v41 : BitVec 32 := Scalar.divsi v31 c8_i32_36
  let c1_i32_42 : BitVec 32 := 1#32
  let v56 : BitVec 32 := Scalar.subi v41 c1_i32_42
  let v57 : BitVec 32 := Scalar.select v55 v56 v41
  let v58 : BitVec 32 := v57
  let v64 : Index := Scalar.indexCast v58
  let c1_45 : Index := 1#32
  let c0_46 : Index := 0#32
  ![v64.toNat, 1, 0]
def k0_mult4 (k0_t2 : Fin k0_t2_loop.trips) : BitVec 32 :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let c0_i32_62 : BitVec 32 := 0#32
  let v111 : BitVec 1 := Scalar.cmpi .sgt v31 c0_i32_62
  let v112 : BitVec 32 := Scalar.extui v111
  let c0_i32_63 : BitVec 32 := 0#32
  let v113 : BitVec 1 := Scalar.cmpi .slt v31 c0_i32_63
  let v114 : BitVec 32 := Scalar.extui v113
  let v115 : BitVec 32 := Scalar.subi v112 v114
  let c8_i32_61 : BitVec 32 := 8#32
  let c0_i32_64 : BitVec 32 := 0#32
  let v116 : BitVec 1 := Scalar.cmpi .sgt c8_i32_61 c0_i32_64
  let v117 : BitVec 32 := Scalar.extui v116
  let c0_i32_65 : BitVec 32 := 0#32
  let v118 : BitVec 1 := Scalar.cmpi .slt c8_i32_61 c0_i32_65
  let v119 : BitVec 32 := Scalar.extui v118
  let v120 : BitVec 32 := Scalar.subi v117 v119
  let v121 : BitVec 1 := Scalar.cmpi .ne v115 v120
  let v122 : BitVec 32 := Scalar.remsi v31 c8_i32_61
  let c0_i32_66 : BitVec 32 := 0#32
  let v123 : BitVec 1 := Scalar.cmpi .ne v122 c0_i32_66
  let v124 : BitVec 1 := Scalar.andi v121 v123
  let v110 : BitVec 32 := Scalar.divsi v31 c8_i32_61
  let c1_i32_67 : BitVec 32 := 1#32
  let v125 : BitVec 32 := Scalar.subi v110 c1_i32_67
  let v126 : BitVec 32 := Scalar.select v124 v125 v110
  v126
def k0_off5 (k0_t2 : Fin k0_t2_loop.trips) : Fin 2 → Nat :=
  let c0_i32_20 : BitVec 32 := 0#32
  let c1_i32 : BitVec 32 := 1#32
  let arg20 : BitVec 32 := Scf.iv c0_i32_20 c1_i32 k0_t2
  let c32_i32 : BitVec 32 := 32#32
  let v30 : BitVec 32 := Scalar.muli arg20 c32_i32
  let v31 : BitVec 32 := v30
  let v174 : Index := Scalar.indexCast v31
  let c0_79 : Index := 0#32
  ![v174.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnRefIdeal.lean ====
abbrev S1024x2048 : Shape := ⟨2, ![1024, 2048]⟩
abbrev S1x128x2x11264 : Shape := ⟨4, ![1, 128, 2, 11264]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S128x8x2048 : Shape := ⟨3, ![128, 8, 2048]⟩
abbrev S128x2x11264 : Shape := ⟨3, ![128, 2, 11264]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x11264 : Shape := ⟨2, ![2048, 11264]⟩
abbrev S128x8x11264 : Shape := ⟨3, ![128, 8, 11264]⟩
abbrev S128x10x11264 : Shape := ⟨3, ![128, 10, 11264]⟩
abbrev S3x11264 : Shape := ⟨2, ![3, 11264]⟩
abbrev S11264 : Shape := ⟨1, ![11264]⟩
abbrev S1x1x11264 : Shape := ⟨3, ![1, 1, 11264]⟩
abbrev S128x8x5632 : Shape := ⟨3, ![128, 8, 5632]⟩
abbrev S5632x2048 : Shape := ⟨2, ![5632, 2048]⟩
abbrev S1024x11264 : Shape := ⟨2, ![1024, 11264]⟩
abbrev S1024x5632 : Shape := ⟨2, ![1024, 5632]⟩

abbrev nBuf : Space → Nat
  | .hbm => 73
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x128x2x11264, .f32⟩
  | .hbm, ⟨2, _⟩ => ⟨S1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S128x8x2048, .f32⟩
  | .hbm, ⟨8, _⟩ => ⟨S128x2x11264, .f32⟩
  | .hbm, ⟨9, _⟩ => ⟨S2048, .f32⟩
  | .hbm, ⟨10, _⟩ => ⟨S128x8x2048, .f32⟩
  | .hbm, ⟨11, _⟩ => ⟨S_, .f32⟩
  | .hbm, ⟨12, _⟩ => ⟨S128x8, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S128x8x1, .f32⟩
  | .hbm, ⟨21, _⟩ => ⟨S128x8x2048, .f32⟩
  | .hbm, ⟨22, _⟩ => ⟨S128x8x2048, .f32⟩
  | .hbm, ⟨23, _⟩ => ⟨S1x1x2048, .f32⟩
  | .hbm, ⟨24, _⟩ => ⟨S128x8x2048, .f32⟩
  | .hbm, ⟨25, _⟩ => ⟨S128x8x2048, .f32⟩
  | .hbm, ⟨26, _⟩ => ⟨S2048x11264, .f32⟩
  | .hbm, ⟨27, _⟩ => ⟨S128x8x11264, .f32⟩
  | .hbm, ⟨28, _⟩ => ⟨S128x10x11264, .f32⟩
  | .hbm, ⟨29, _⟩ => ⟨S3x11264, .f32⟩
  | .hbm, ⟨30, _⟩ => ⟨S11264, .f32⟩
  | .hbm, ⟨31, _⟩ => ⟨S128x8x11264, .f32⟩
  | .hbm, ⟨32, _⟩ => ⟨S1x11264, .f32⟩
  | .hbm, ⟨33, _⟩ => ⟨S11264, .f32⟩
  | .hbm, ⟨34, _⟩ => ⟨S1x1x11264, .f32⟩
  | .hbm, ⟨35, _⟩ => ⟨S128x8x11264, .f32⟩
  | .hbm, ⟨36, _⟩ => ⟨S128x8x11264, .f32⟩
  | .hbm, ⟨37, _⟩ => ⟨S128x8x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S128x8x11264, .f32⟩
  | .hbm, ⟨42, _⟩ => ⟨S128x8x11264, .f32⟩
  | .hbm, ⟨43, _⟩ => ⟨S128x8x11264, .f32⟩
  | .hbm, ⟨44, _⟩ => ⟨S128x8x11264, .f32⟩
  | .hbm, ⟨45, _⟩ => ⟨S1x11264, .f32⟩
  | .hbm, ⟨46, _⟩ => ⟨S11264, .f32⟩
  | .hbm, ⟨47, _⟩ => ⟨S1x1x11264, .f32⟩
  | .hbm, ⟨48, _⟩ => ⟨S128x8x11264, .f32⟩
  | .hbm, ⟨49, _⟩ => ⟨S128x8x11264, .f32⟩
  | .hbm, ⟨50, _⟩ => ⟨S128x8x11264, .f32⟩
  | .hbm, ⟨51, _⟩ => ⟨S1x1x11264, .f32⟩
  | .hbm, ⟨52, _⟩ => ⟨S128x8x11264, .f32⟩
  | .hbm, ⟨53, _⟩ => ⟨S128x8x11264, .f32⟩
  | .hbm, ⟨54, _⟩ => ⟨S128x8x5632, .f32⟩
  | .hbm, ⟨55, _⟩ => ⟨S128x8x5632, .f32⟩
  | .hbm, ⟨56, _⟩ => ⟨S128x8x5632, .f32⟩
  | .hbm, ⟨57, _⟩ => ⟨S_, .f32⟩
  | .hbm, ⟨58, _⟩ => ⟨S128x8x5632, .f32⟩
  | .hbm, ⟨59, _⟩ => ⟨S128x8x5632, .f32⟩
  | .hbm, ⟨60, _⟩ => ⟨S_, .f32⟩
  | .hbm, ⟨61, _⟩ => ⟨S128x8x5632, .f32⟩
  | .hbm, ⟨62, _⟩ => ⟨S128x8x5632, .f32⟩
  | .hbm, ⟨63, _⟩ => ⟨S128x8x5632, .f32⟩
  | .hbm, ⟨64, _⟩ => ⟨S128x8x5632, .f32⟩
  | .hbm, ⟨65, _⟩ => ⟨S128x8x5632, .f32⟩
  | .hbm, ⟨66, _⟩ => ⟨S5632x2048, .f32⟩
  | .hbm, ⟨67, _⟩ => ⟨S128x8x2048, .f32⟩
  | .hbm, ⟨68, _⟩ => ⟨S128x8x2048, .f32⟩
  | .hbm, ⟨69, _⟩ => ⟨S1024x11264, .f32⟩
  | .hbm, ⟨70, _⟩ => ⟨S1024x2048, .f32⟩
  | .hbm, ⟨71, _⟩ => ⟨S1024x5632, .f32⟩
  | .hbm, ⟨72, _⟩ => ⟨S1024x5632, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Ple.lean ====
abbrev S1024x2048 : Shape := ⟨2, ![1024, 2048]⟩
abbrev S1x1024x256 : Shape := ⟨3, ![1, 1024, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S2048x2048 : Shape := ⟨2, ![2048, 2048]⟩
abbrev S256x2048 : Shape := ⟨2, ![256, 2048]⟩
abbrev S1024x256 : Shape := ⟨2, ![1024, 256]⟩
abbrev S512x2048 : Shape := ⟨2, ![512, 2048]⟩
abbrev S512x256 : Shape := ⟨2, ![512, 256]⟩
abbrev S32x2048 : Shape := ⟨2, ![32, 2048]⟩
abbrev S32 : Shape := ⟨1, ![32]⟩
abbrev S32x1 : Shape := ⟨2, ![32, 1]⟩

abbrev nBuf : Space → Nat
  | .hbm => 15
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S1x1024x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S256x2048, .f32⟩
  | .hbm, ⟨11, _⟩ => ⟨S256x2048, .bf16⟩
  | .hbm, ⟨12, _⟩ => ⟨S1x2048, .f32⟩
  | .hbm, ⟨13, _⟩ => ⟨S1024x256, .f32⟩
  | .hbm, ⟨14, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v18 : BitVec 32 := Scalar.muli arg11 c32_i32
  v18
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v18 : BitVec 32 := Scalar.muli arg11 c32_i32
  let v19 : BitVec 32 := v18
  let v20 : Index := Scalar.indexCast v19
  let c0_17 : Index := 0#32
  ![v20.toNat, 0]
@[reducible] def k0_t2_loop : Scf.Loop 32 :=
  let c0_i32_13 : BitVec 32 := 0#32
  let c16_i32_14 : BitVec 32 := 16#32
  let v17 : BitVec 32 := Scalar.addi c0_i32_13 c16_i32_14
  let c1_i32_15 : BitVec 32 := 1#32
  ⟨c0_i32_13, v17, c1_i32_15⟩
def k0_mult2 (k0_t2 : Fin k0_t2_loop.trips) : BitVec 32 :=
  let c0_i32_13 : BitVec 32 := 0#32
  let c1_i32_15 : BitVec 32 := 1#32
  let arg11 : BitVec 32 := Scf.iv c0_i32_13 c1_i32_15 k0_t2
  let c32_i32 : BitVec 32 := 32#32
  let v18 : BitVec 32 := Scalar.muli arg11 c32_i32
  v18
def k0_off2 (k0_t2 : Fin k0_t2_loop.trips) : Fin 2 → Nat :=
  let c0_i32_13 : BitVec 32 := 0#32
  let c1_i32_15 : BitVec 32 := 1#32
  let arg11 : BitVec 32 := Scf.iv c0_i32_13 c1_i32_15 k0_t2
  let c32_i32 : BitVec 32 := 32#32
  let v18 : BitVec 32 := Scalar.muli arg11 c32_i32
  let v19 : BitVec 32 := v18
  let v20 : Index := Scalar.indexCast v19
  let c0_17 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S1024x2048 : Shape := ⟨2, ![1024, 2048]⟩
abbrev S1x1024x256 : Shape := ⟨3, ![1, 1024, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S2048x2048 : Shape := ⟨2, ![2048, 2048]⟩
abbrev S256x2048 : Shape := ⟨2, ![256, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x1024x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S1024x256, .f32⟩
  | .hbm, ⟨7, _⟩ => ⟨S2048, .f32⟩
  | .hbm, ⟨8, _⟩ => ⟨S1024x2048, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x2048, .f32⟩
  | .hbm, ⟨20, _⟩ => ⟨S1024x2048, .f32⟩
  | .hbm, ⟨21, _⟩ => ⟨S1x2048, .f32⟩
  | .hbm, ⟨22, _⟩ => ⟨S1024x2048, .f32⟩
  | .hbm, ⟨23, _⟩ => ⟨S1024x2048, .f32⟩
  | .hbm, ⟨24, _⟩ => ⟨S2048x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S256x2048, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S1024x1, .f32⟩
  | .hbm, ⟨49, _⟩ => ⟨S1024x2048, .f32⟩
  | .hbm, ⟨50, _⟩ => ⟨S1024x2048, .f32⟩
  | .hbm, ⟨51, _⟩ => ⟨S1x2048, .f32⟩
  | .hbm, ⟨52, _⟩ => ⟨S1024x2048, .f32⟩
  | .hbm, ⟨53, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Prompt.lean ====
abbrev S8192x2048 : Shape := ⟨2, ![8192, 2048]⟩
abbrev S1x8192x256 : Shape := ⟨3, ![1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S2048x2048 : Shape := ⟨2, ![2048, 2048]⟩
abbrev S256x2048 : Shape := ⟨2, ![256, 2048]⟩
abbrev S8192x256 : Shape := ⟨2, ![8192, 256]⟩
abbrev S512x2048 : Shape := ⟨2, ![512, 2048]⟩
abbrev S512x256 : Shape := ⟨2, ![512, 256]⟩
abbrev S32x2048 : Shape := ⟨2, ![32, 2048]⟩
abbrev S32 : Shape := ⟨1, ![32]⟩
abbrev S32x1 : Shape := ⟨2, ![32, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x8192x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S256x2048, .f32⟩
  | .hbm, ⟨11, _⟩ => ⟨S256x2048, .bf16⟩
  | .hbm, ⟨12, _⟩ => ⟨S1x2048, .f32⟩
  | .hbm, ⟨13, _⟩ => ⟨S8192x256, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v18 : BitVec 32 := Scalar.muli arg11 c32_i32
  v18
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v18 : BitVec 32 := Scalar.muli arg11 c32_i32
  let v19 : BitVec 32 := v18
  let v20 : Index := Scalar.indexCast v19
  let c0_17 : Index := 0#32
  ![v20.toNat, 0]
@[reducible] def k0_t2_loop : Scf.Loop 32 :=
  let c0_i32_13 : BitVec 32 := 0#32
  let c16_i32_14 : BitVec 32 := 16#32
  let v17 : BitVec 32 := Scalar.addi c0_i32_13 c16_i32_14
  let c1_i32_15 : BitVec 32 := 1#32
  ⟨c0_i32_13, v17, c1_i32_15⟩
def k0_mult2 (k0_t2 : Fin k0_t2_loop.trips) : BitVec 32 :=
  let c0_i32_13 : BitVec 32 := 0#32
  let c1_i32_15 : BitVec 32 := 1#32
  let arg11 : BitVec 32 := Scf.iv c0_i32_13 c1_i32_15 k0_t2
  let c32_i32 : BitVec 32 := 32#32
  let v18 : BitVec 32 := Scalar.muli arg11 c32_i32
  v18
def k0_off2 (k0_t2 : Fin k0_t2_loop.trips) : Fin 2 → Nat :=
  let c0_i32_13 : BitVec 32 := 0#32
  let c1_i32_15 : BitVec 32 := 1#32
  let arg11 : BitVec 32 := Scf.iv c0_i32_13 c1_i32_15 k0_t2
  let c32_i32 : BitVec 32 := 32#32
  let v18 : BitVec 32 := Scalar.muli arg11 c32_i32
  let v19 : BitVec 32 := v18
  let v20 : Index := Scalar.indexCast v19
  let c0_17 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PromptRefIdeal.lean ====
abbrev S8192x2048 : Shape := ⟨2, ![8192, 2048]⟩
abbrev S1x8192x256 : Shape := ⟨3, ![1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S256x2048 : Shape := ⟨2, ![256, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8192x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S8192x256, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S256x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Seq.lean ====
abbrev S8192x2048 : Shape := ⟨2, ![8192, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S520x512 : Shape := ⟨2, ![520, 512]⟩
abbrev S512x512 : Shape := ⟨2, ![512, 512]⟩
abbrev S11x2x8x512 : Shape := ⟨4, ![11, 2, 8, 512]⟩
abbrev S32x2048 : Shape := ⟨2, ![32, 2048]⟩
abbrev S32 : Shape := ⟨1, ![32]⟩
abbrev S32x1 : Shape := ⟨2, ![32, 1]⟩
abbrev S8x512 : Shape := ⟨2, ![8, 512]⟩
abbrev S1x1x8x512 : Shape := ⟨4, ![1, 1, 8, 512]⟩
abbrev S32x512 : Shape := ⟨2, ![32, 512]⟩
abbrev S40x512 : Shape := ⟨2, ![40, 512]⟩

abbrev nBuf : Space → Nat
  | .hbm => 18
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S3x11264, .f32⟩
  | .hbm, ⟨11, _⟩ => ⟨S11264, .f32⟩
  | .hbm, ⟨12, _⟩ => ⟨S1x11264, .f32⟩
  | .hbm, ⟨13, _⟩ => ⟨S5632x2048, .f32⟩
  | .hbm, ⟨14, _⟩ => ⟨S5632x2048, .bf16⟩
  | .hbm, ⟨15, _⟩ => ⟨S8192x2048, .f32⟩
  | .hbm, ⟨16, _⟩ => ⟨S16x8x5632, .f32⟩
  | .hbm, ⟨17, _⟩ => ⟨S16x8x5632, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .vmem, ⟨18, _⟩ => ⟨S512x2048, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S512x2048, .bf16⟩
  | .local _ .vmem, ⟨24, _⟩ => ⟨S520x512, .f32⟩
  | .local _ .vmem, ⟨25, _⟩ => ⟨S520x512, .f32⟩
  | .local _ .vmem, ⟨26, _⟩ => ⟨S512x512, .bf16⟩
  | .local _ .vmem, ⟨27, _⟩ => ⟨S11x2x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_45 : BitVec 32 := 0#32
  let c16_i32_46 : BitVec 32 := 16#32
  let v58 : BitVec 32 := Scalar.addi c0_i32_45 c16_i32_46
  let c1_i32_47 : BitVec 32 := 1#32
  ⟨c0_i32_45, v58, c1_i32_47⟩
def k0_mult1 (k0_t1 : Fin k0_t1_loop.trips) : BitVec 32 :=
  let c0_i32_45 : BitVec 32 := 0#32
  let c1_i32_47 : BitVec 32 := 1#32
  let arg19 : BitVec 32 := Scf.iv c0_i32_45 c1_i32_47 k0_t1
  let c32_i32 : BitVec 32 := 32#32
  let v61 : BitVec 32 := Scalar.muli arg19 c32_i32
  v61
def k0_off1 (k0_t1 : Fin k0_t1_loop.trips) : Fin 2 → Nat :=
  let c0_i32_45 : BitVec 32 := 0#32
  let c1_i32_47 : BitVec 32 := 1#32
  let arg19 : BitVec 32 := Scf.iv c0_i32_45 c1_i32_47 k0_t1
  let c32_i32 : BitVec 32 := 32#32
  let v61 : BitVec 32 := Scalar.muli arg19 c32_i32
  let v62 : BitVec 32 := v61
  let v63 : Index := Scalar.indexCast v62
  let c0_53 : Index := 0#32
  ![v63.toNat, 0]
def k0_cond3 (i : grid0.Coords) : BitVec 1 :=
  let arg0 : BitVec 32 := BitVec.ofNat 32 (i 0).val
  let c4_i32 : BitVec 32 := 4#32
  let c0_i32_12 : BitVec 32 := 0#32
  let v17 : BitVec 1 := Scalar.cmpi .eq c4_i32 c0_i32_12
  let c1_i32 : BitVec 32 := 1#32
  let v18 : BitVec 32 := Scalar.select v17 c1_i32 c4_i32
  let v19 : BitVec 32 := Scalar.remsi arg0 v18
  let c0_i32_14 : BitVec 32 := 0#32
  let v21 : BitVec 1 := Scalar.cmpi .slt v19 c0_i32_14
  let c0_i32_15 : BitVec 32 := 0#32
  let v22 : BitVec 1 := Scalar.cmpi .slt v18 c0_i32_15
  let v23 : BitVec 1 := Scalar.xori v21 v22
  let c0_i32_13 : BitVec 32 := 0#32
  let v20 : BitVec 1 := Scalar.cmpi .ne v19 c0_i32_13
  let v24 : BitVec 1 := Scalar.andi v23 v20
  let v25 : BitVec 32 := Scalar.addi v19 v18
  let v26 : BitVec 32 := Scalar.select v24 v25 v19
  let c0_i32_16 : BitVec 32 := 0#32
  let v27 : BitVec 1 := Scalar.cmpi .eq v26 c0_i32_16
  let v_true : BitVec 1 := 1#1
  let v30 : BitVec 1 := Scalar.xori v27 v_true
  let v31 : BitVec 32 := Scalar.extui v30
  let c0_i32_18 : BitVec 32 := 0#32
  let v32 : BitVec 1 := Scalar.cmpi .ne v31 c0_i32_18
  v32

def k0_off2 (i : grid0.Coords) : Fin 4 → Nat :=
  let arg1 : BitVec 32 := BitVec.ofNat 32 (i 1).val
  let v58 : Index := Scalar.indexCast arg1
  let c0_45 : Index := 0#32
  let c0_46 : Index := 0#32
  let c0_47 : Index := 0#32
  ![v58.toNat, 0, 0, 0]
def k0_off3 (i : grid0.Coords) : Fin 4 → Nat :=
  let arg1 : BitVec 32 := BitVec.ofNat 32 (i 1).val
  let v64 : Index := Scalar.indexCast arg1
  let c1_50 : Index := 1#32
  let c0_51 : Index := 0#32
  let c0_52 : Index := 0#32
  ![v64.toNat, 1, 0, 0]
def k0_off4 (i : grid0.Coords) : Fin 4 → Nat :=
  let arg1 : BitVec 32 := BitVec.ofNat 32 (i 1).val
  let v34 : Index := Scalar.indexCast arg1
  let c0_20 : Index := 0#32
  let c0_21 : Index := 0#32
  let c0_22 : Index := 0#32
  ![v34.toNat, 0, 0, 0]
def k0_off5 (i : grid0.Coords) : Fin 4 → Nat :=
  let arg1 : BitVec 32 := BitVec.ofNat 32 (i 1).val
  let v42 : Index := Scalar.indexCast arg1
  let c1 : Index := 1#32
  let c0_28 : Index := 0#32
  let c0_29 : Index := 0#32
  ![v42.toNat, 1, 0, 0]
@[reducible] def k0_t2_loop : Scf.Loop 32 :=
  let c0_i32_33 : BitVec 32 := 0#32
  let c16_i32 : BitVec 32 := 16#32
  let v49 : BitVec 32 := Scalar.addi c0_i32_33 c16_i32
  let c1_i32_34 : BitVec 32 := 1#32
  ⟨c0_i32_33, v49, c1_i32_34⟩
def k0_mult2 (k0_t2 : Fin k0_t2_loop.trips) : BitVec 32 :=
  let c0_i32_33 : BitVec 32 := 0#32
  let c1_i32_34 : BitVec 32 := 1#32
  let arg19 : BitVec 32 := Scf.iv c0_i32_33 c1_i32_34 k0_t2
  let c32_i32 : BitVec 32 := 32#32
  let v58 : BitVec 32 := Scalar.muli arg19 c32_i32
  v58
def k0_off6 (k0_t2 : Fin k0_t2_loop.trips) : Fin 2 → Nat :=
  let c8_i32 : BitVec 32 := 8#32
  let c0_i32_33 : BitVec 32 := 0#32
  let c1_i32_34 : BitVec 32 := 1#32
  let arg19 : BitVec 32 := Scf.iv c0_i32_33 c1_i32_34 k0_t2
  let c32_i32 : BitVec 32 := 32#32
  let v58 : BitVec 32 := Scalar.muli arg19 c32_i32
  let v59 : BitVec 32 := v58
  let v66 : BitVec 32 := Scalar.addi c8_i32 v59
  let v67 : Index := Scalar.indexCast v66
  let c0_50 : Index := 0#32
  ![v67.toNat, 0]
def k0_off7 (k0_t2 : Fin k0_t2_loop.trips) : Fin 2 → Nat :=
  let c0_i32_33 : BitVec 32 := 0#32
  let c1_i32_34 : BitVec 32 := 1#32
  let arg19 : BitVec 32 := Scf.iv c0_i32_33 c1_i32_34 k0_t2
  let c32_i32 : BitVec 32 := 32#32
  let v58 : BitVec 32 := Scalar.muli arg19 c32_i32
  let v59 : BitVec 32 := v58
  let v69 : Index := Scalar.indexCast v59
  let c0_51 : Index := 0#32
  ![v69.toNat, 0]
def k0_off8 (k0_t2 : Fin k0_t2_loop.trips) : Fin 2 → Nat :=
  let c0_i32_33 : BitVec 32 := 0#32
  let c1_i32_34 : BitVec 32 := 1#32
  let arg19 : BitVec 32 := Scf.iv c0_i32_33 c1_i32_34 k0_t2
  let c32_i32 : BitVec 32 := 32#32
  let v58 : BitVec 32 := Scalar.muli arg19 c32_i32
  let v59 : BitVec 32 := v58
  let v114 : Index := Scalar.indexCast v59
  let c0_65 : Index := 0#32
  ![v114.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SeqRefIdeal.lean ====
abbrev S8192x2048 : Shape := ⟨2, ![8192, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩
abbrev S4x2x11264 : Shape := ⟨3, ![4, 2, 11264]⟩
abbrev S4x2050x11264 : Shape := ⟨3, ![4, 2050, 11264]⟩
abbrev S3x11264 : Shape := ⟨2, ![3, 11264]⟩
abbrev S11264 : Shape := ⟨1, ![11264]⟩
abbrev S1x1x11264 : Shape := ⟨3, ![1, 1, 11264]⟩
abbrev S4x2048x5632 : Shape := ⟨3, ![4, 2048, 5632]⟩
abbrev S5632x2048 : Shape := ⟨2, ![5632, 2048]⟩
abbrev S16x512x11264 : Shape := ⟨3, ![16, 512, 11264]⟩
abbrev S16x8x11264 : Shape := ⟨3, ![16, 8, 11264]⟩
abbrev S16x8x5632 : Shape := ⟨3, ![16, 8, 5632]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S4x2048x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S2048x11264, .f32⟩
  | .hbm, ⟨25, _⟩ => ⟨S4x2048x11264, .f32⟩
  | .hbm, ⟨26, _⟩ => ⟨S_, .f32⟩
  | .hbm, ⟨27, _⟩ => ⟨S4x2x11264, .f32⟩
  | .hbm, ⟨28, _⟩ => ⟨S4x2050x11264, .f32⟩
  | .hbm, ⟨29, _⟩ => ⟨S3x11264, .f32⟩
  | .hbm, ⟨30, _⟩ => ⟨S11264, .f32⟩
  | .hbm, ⟨31, _⟩ => ⟨S4x2048x11264, .f32⟩
  | .hbm, ⟨32, _⟩ => ⟨S1x11264, .f32⟩
  | .hbm, ⟨33, _⟩ => ⟨S11264, .f32⟩
  | .hbm, ⟨34, _⟩ => ⟨S1x1x11264, .f32⟩
  | .hbm, ⟨35, _⟩ => ⟨S4x2048x11264, .f32⟩
  | .hbm, ⟨36, _⟩ => ⟨S4x2048x11264, .f32⟩
  | .hbm, ⟨37, _⟩ => ⟨S4x2048x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S4x2048x11264, .f32⟩
  | .hbm, ⟨42, _⟩ => ⟨S4x2048x11264, .f32⟩
  | .hbm, ⟨43, _⟩ => ⟨S4x2048x11264, .f32⟩
  | .hbm, ⟨44, _⟩ => ⟨S4x2048x11264, .f32⟩
  | .hbm, ⟨45, _⟩ => ⟨S1x11264, .f32⟩
  | .hbm, ⟨46, _⟩ => ⟨S11264, .f32⟩
  | .hbm, ⟨47, _⟩ => ⟨S1x1x11264, .f32⟩
  | .hbm, ⟨48, _⟩ => ⟨S4x2048x11264, .f32⟩
  | .hbm, ⟨49, _⟩ => ⟨S4x2048x11264, .f32⟩
  | .hbm, ⟨50, _⟩ => ⟨S4x2048x11264, .f32⟩
  | .hbm, ⟨51, _⟩ => ⟨S1x1x11264, .f32⟩
  | .hbm, ⟨52, _⟩ => ⟨S4x2048x11264, .f32⟩
  | .hbm, ⟨53, _⟩ => ⟨S4x2048x11264, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S_, .f32⟩
  | .hbm, ⟨58, _⟩ => ⟨S4x2048x5632, .f32⟩
  | .hbm, ⟨59, _⟩ => ⟨S4x2048x5632, .f32⟩
  | .hbm, ⟨60, _⟩ => ⟨S_, .f32⟩
  | .hbm, ⟨61, _⟩ => ⟨S4x2048x5632, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S5632x2048, .f32⟩
  | .hbm, ⟨67, _⟩ => ⟨S4x2048x2048, .f32⟩
  | .hbm, ⟨68, _⟩ => ⟨S4x2048x2048, .f32⟩
  | .hbm, ⟨69, _⟩ => ⟨S16x512x11264, .f32⟩
  | .hbm, ⟨70, _⟩ => ⟨S16x8x11264, .f32⟩
  | .hbm, ⟨71, _⟩ => ⟨S8192x2048, .f32⟩
  | .hbm, ⟨72, _⟩ => ⟨S16x8x5632, .f32⟩
  | .hbm, ⟨73, _⟩ => ⟨S16x8x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.MixFrame.lean ====
module

public import proofs.«01_k».proof.Proof.Gen.Kernel.Frame
public import proofs.«01_k».proof.Proof.Gen.Kernel.Skeleton
public import proofs.«01_k».proof.Defs
public import Idealize.ShloMosaic.Lib.Claim

/-! # The mixer as written runs to its end

The body reads its inputs and writes its outputs and its scratch; nothing is stated of what it writes.  One invariant
serves every loop: the inputs are held unchanged, the other buffers are held with some contents. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

local notation "𝕄" => MT nD τ sig Unit (Elt Bits) ℕ (UR sig nD τ) ℕ

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The inputs are held at their contents, every other buffer at some contents. -/
def Own (c : Dev nD) (arg1 : Memref sig .tc .vmem S256x2048 .f32) (w1 : arg1.IsWhole) (arg2 : Memref sig .tc .vmem S32x30x1024 .f32) (w2 : arg2.IsWhole) (arg3 : Memref sig .tc .vmem S1x2048 .f32) (w3 : arg3.IsWhole) (arg4 : Memref sig .tc .vmem S2048x4096 .bf16) (w4 : arg4.IsWhole) (arg5 : Memref sig .tc .vmem S32x1024 .f32) (w5 : arg5.IsWhole) (arg6 : Memref sig .tc .vmem S1x1024 .f32) (w6 : arg6.IsWhole) (arg7 : Memref sig .tc .vmem S1x1024 .f32) (w7 : arg7.IsWhole) (arg8 : Memref sig .tc .vmem S1x1024 .f32) (w8 : arg8.IsWhole) (arg9 : Memref sig .tc .vmem S1x1024 .f32) (w9 : arg9.IsWhole) (arg10 : Memref sig .tc .vmem S1x1024 .f32) (w10 : arg10.IsWhole) (arg11 : Memref sig .tc .vmem S8x128x128 .f32) (w11 : arg11.IsWhole) (arg12 : Memref sig .tc .vmem S128x1024 .f32) (w12 : arg12.IsWhole) (arg13 : Memref sig .tc .vmem S2048x2048 .bf16) (w13 : arg13.IsWhole) (arg14 : Memref sig .tc .vmem S256x2048 .f32) (w14 : arg14.IsWhole) (arg15 : Memref sig .tc .vmem S256x1024 .f32) (w15 : arg15.IsWhole) (arg16 : Memref sig .tc .vmem S256x1024 .f32) (w16 : arg16.IsWhole) (arg17 : Memref sig .tc .vmem S256x2048 .bf16) (w17 : arg17.IsWhole) (arg18 : Memref sig .tc .vmem S256x4096 .f32) (w18 : arg18.IsWhole) (arg19 : Memref sig .tc .vmem S256x2048 .bf16) (w19 : arg19.IsWhole) (arg20 : Memref sig .tc .vmem S256x1024 .f32) (w20 : arg20.IsWhole) (arg21 : Memref sig .tc .vmem S256x1024 .f32) (w21 : arg21.IsWhole) (arg22 : Memref sig .tc .vmem S16x1024 .f32) (w22 : arg22.IsWhole) (arg23 : Memref sig .tc .vmem S128x1024 .bf16) (w23 : arg23.IsWhole) (arg24 : Memref sig .tc .vmem S8x128x128 .bf16) (w24 : arg24.IsWhole) (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) : sProp 𝕄 :=
  iprop((arg1.view.loc (c : Thread nD τ) ↦[arg1.view.set]{fullShare} w1.unread x0)
    ∗ (arg2.view.loc (c : Thread nD τ) ↦[arg2.view.set]{fullShare} w2.unread x1)
    ∗ (arg3.view.loc (c : Thread nD τ) ↦[arg3.view.set]{fullShare} w3.unread x2)
    ∗ (arg4.view.loc (c : Thread nD τ) ↦[arg4.view.set]{fullShare} w4.unread x3)
    ∗ (arg5.view.loc (c : Thread nD τ) ↦[arg5.view.set]{fullShare} w5.unread x4)
    ∗ (arg6.view.loc (c : Thread nD τ) ↦[arg6.view.set]{fullShare} w6.unread x5)
    ∗ (arg7.view.loc (c : Thread nD τ) ↦[arg7.view.set]{fullShare} w7.unread x6)
    ∗ (arg8.view.loc (c : Thread nD τ) ↦[arg8.view.set]{fullShare} w8.unread x7)
    ∗ (arg9.view.loc (c : Thread nD τ) ↦[arg9.view.set]{fullShare} w9.unread x8)
    ∗ (arg10.view.loc (c : Thread nD τ) ↦[arg10.view.set]{fullShare} w10.unread x9)
    ∗ (arg11.view.loc (c : Thread nD τ) ↦[arg11.view.set]{fullShare} w11.unread x10)
    ∗ (arg12.view.loc (c : Thread nD τ) ↦[arg12.view.set]{fullShare} w12.unread x11)
    ∗ (arg13.view.loc (c : Thread nD τ) ↦[arg13.view.set]{fullShare} w13.unread x12)
    ∗ Any c arg14
    ∗ Any c arg15
    ∗ Any c arg16
    ∗ Any c arg17
    ∗ Any c arg18
    ∗ Any c arg19
    ∗ Any c arg20
    ∗ Any c arg21
    ∗ Any c arg22
    ∗ Any c arg23
    ∗ Any c arg24)

variable (c : Dev nD) (i : grid0.Coords) (arg1 : Memref sig .tc .vmem S256x2048 .f32) (w1 : arg1.IsWhole) (arg2 : Memref sig .tc .vmem S32x30x1024 .f32) (w2 : arg2.IsWhole) (arg3 : Memref sig .tc .vmem S1x2048 .f32) (w3 : arg3.IsWhole) (arg4 : Memref sig .tc .vmem S2048x4096 .bf16) (w4 : arg4.IsWhole) (arg5 : Memref sig .tc .vmem S32x1024 .f32) (w5 : arg5.IsWhole) (arg6 : Memref sig .tc .vmem S1x1024 .f32) (w6 : arg6.IsWhole) (arg7 : Memref sig .tc .vmem S1x1024 .f32) (w7 : arg7.IsWhole) (arg8 : Memref sig .tc .vmem S1x1024 .f32) (w8 : arg8.IsWhole) (arg9 : Memref sig .tc .vmem S1x1024 .f32) (w9 : arg9.IsWhole) (arg10 : Memref sig .tc .vmem S1x1024 .f32) (w10 : arg10.IsWhole) (arg11 : Memref sig .tc .vmem S8x128x128 .f32) (w11 : arg11.IsWhole) (arg12 : Memref sig .tc .vmem S128x1024 .f32) (w12 : arg12.IsWhole) (arg13 : Memref sig .tc .vmem S2048x2048 .bf16) (w13 : arg13.IsWhole) (arg14 : Memref sig .tc .vmem S256x2048 .f32) (w14 : arg14.IsWhole) (arg15 : Memref sig .tc .vmem S256x1024 .f32) (w15 : arg15.IsWhole) (arg16 : Memref sig .tc .vmem S256x1024 .f32) (w16 : arg16.IsWhole) (arg17 : Memref sig .tc .vmem S256x2048 .bf16) (w17 : arg17.IsWhole) (arg18 : Memref sig .tc .vmem S256x4096 .f32) (w18 : arg18.IsWhole) (arg19 : Memref sig .tc .vmem S256x2048 .bf16) (w19 : arg19.IsWhole) (arg20 : Memref sig .tc .vmem S256x1024 .f32) (w20 : arg20.IsWhole) (arg21 : Memref sig .tc .vmem S256x1024 .f32) (w21 : arg21.IsWhole) (arg22 : Memref sig .tc .vmem S16x1024 .f32) (w22 : arg22.IsWhole) (arg23 : Memref sig .tc .vmem S128x1024 .bf16) (w23 : arg23.IsWhole) (arg24 : Memref sig .tc .vmem S8x128x128 .bf16) (w24 : arg24.IsWhole)

/-- A trip of loop 1 keeps the invariant. -/
theorem step1 (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t1_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t1_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24  k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t1_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

/-- A trip of loop 3 keeps the invariant. -/
theorem step3 (v0 v1 : BitVec 32) (t2 : Fin k0_t2_loop.trips) (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t3_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t3_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 v0 v1 t2 k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t3_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

/-- A trip of loop 4 keeps the invariant. -/
theorem step4 (v0 v1 v2 v3 : BitVec 32) (t2 : Fin k0_t2_loop.trips) (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t4_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t4_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 v0 v1 t2 v2 v3 k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t4_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

/-- A trip of loop 5 keeps the invariant. -/
theorem step5 (v0 v1 v2 : BitVec 32) (t2 : Fin k0_t2_loop.trips) (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t5_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t5_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 v0 v1 t2 v2 k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t5_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

/-- A trip of loop 6 keeps the invariant. -/
theorem step6 (v0 v1 v2 : BitVec 32) (t2 : Fin k0_t2_loop.trips) (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t6_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t6_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 v0 v1 t2 v2 k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t6_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

/-- A trip of loop 2 keeps the invariant. -/
theorem step2 (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (k : Fin k0_t2_loop.trips) (acc : Unit) :
    Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12
      ⊢ wp frame (wpE (defs₀ (F := Bits)) Variants.none (c : Thread nD τ) none) E (k0_t2_body (F := Bits) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24  k acc) (fun _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) := by
  unfold Own Any k0_t2_body
  iintro ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step3 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 _ _ k x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc3 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step4 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 _ _ _ _ k x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc4 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step5 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 _ _ _ k x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc5 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step6 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 _ _ _ k x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc6 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iframe H1 H2 H3 H4 H5 H6 H7 H8 H9 H10 H11 H12 H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

set_option maxHeartbeats 4000000 in
/-- The body runs from inputs at their contents and gives them back; the other buffers are given back at some contents. -/
theorem run (x0 : Vec Bits S256x2048 .f32) (x1 : Vec Bits S32x30x1024 .f32) (x2 : Vec Bits S1x2048 .f32) (x3 : Vec Bits S2048x4096 .bf16) (x4 : Vec Bits S32x1024 .f32) (x5 : Vec Bits S1x1024 .f32) (x6 : Vec Bits S1x1024 .f32) (x7 : Vec Bits S1x1024 .f32) (x8 : Vec Bits S1x1024 .f32) (x9 : Vec Bits S1x1024 .f32) (x10 : Vec Bits S8x128x128 .f32) (x11 : Vec Bits S128x1024 .f32) (x12 : Vec Bits S2048x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := Bits)) Variants.none c none) E (cc0_mixer_sample i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24) K := by
  simp only [cc0_mixer_sample_eq_skeleton]; unfold cc0_mixer_sample_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8; obtain rfl := w9.eq_unread hf9; obtain rfl := w10.eq_unread hf10; obtain rfl := w11.eq_unread hf11; obtain rfl := w12.eq_unread hf12; obtain rfl := w13.eq_unread hf13
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step1 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24  x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc1 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_for (fun _ _ => Own c arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24 x0 x1 x2 x3 x4 x5 x6 x7 x8 x9 x10 x11 x12) $$ [H1 H2 H3 H4 H5 H6 H7 H8 H9 H10 H11 H12 H13 H14 H15 H16 H17 H18 H19 H20 H21 H22 H23 H24]
  case region =>
    intro k' acc
    exact step2 c i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg20 w20 arg21 w21 arg22 w22 arg23 w23 arg24 w24  x0 x1 x2 x3 x4 x5 x6 x7 x8 x9 x10 x11 x12 E k' acc
  · unfold Own Any
    iframe H1 H2 H3 H4 H5 H6 H7 H8 H9 H10 H11 H12 H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24
  iintro %acc2 HI
  unfold Own Any
  icases HI with ⟨H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_exec
  sl_step
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; · ipureintro; exact w8.read_unread _
    iexact H8
  isplitl [H9]
  · iexists _; isplitr; · ipureintro; exact w9.read_unread _
    iexact H9
  isplitl [H10]
  · iexists _; isplitr; · ipureintro; exact w10.read_unread _
    iexact H10
  isplitl [H11]
  · iexists _; isplitr; · ipureintro; exact w11.read_unread _
    iexact H11
  isplitl [H12]
  · iexists _; isplitr; · ipureintro; exact w12.read_unread _
    iexact H12
  isplitl [H13]
  · iexists _; isplitr; · ipureintro; exact w13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  · iexists _, _; isplitr; swap; · iexact H24
    ipureintro; rfl

variable (m : (ℓ : Loc nD τ sig) → Buf (Elt Bits) ℓ) (ρ : Dev nD → PrngReg)

/-- The windows nothing is stated of: the outputs. -/
def forgets0 : Fin 16 → Bool := fun w => w.val == 13 || w.val == 14 || w.val == 15

/-- The proof data: the inputs' buffers hold their blocks, the outputs' are unnamed. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd h (Nat.not_lt.mpr (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev ms0_14 (t : Fin cfg0.N) := win0_14.stage (cfg0.slots t 14)
abbrev ms0_15 (t : Fin cfg0.N) := win0_15.stage (cfg0.slots t 15)

abbrev scM0_0 : Memref sig .tc .vmem S256x2048 .bf16 := Memref.whole cc0_scratch0
abbrev scM0_1 : Memref sig .tc .vmem S256x4096 .f32 := Memref.whole cc0_scratch1
abbrev scM0_2 : Memref sig .tc .vmem S256x2048 .bf16 := Memref.whole cc0_scratch2
abbrev scM0_3 : Memref sig .tc .vmem S256x1024 .f32 := Memref.whole cc0_scratch3
abbrev scM0_4 : Memref sig .tc .vmem S256x1024 .f32 := Memref.whole cc0_scratch4
abbrev scM0_5 : Memref sig .tc .vmem S16x1024 .f32 := Memref.whole cc0_scratch5
abbrev scM0_6 : Memref sig .tc .vmem S128x1024 .bf16 := Memref.whole cc0_scratch6
abbrev scM0_7 : Memref sig .tc .vmem S8x128x128 .bf16 := Memref.whole cc0_scratch7

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 1600000 in
/-- The body at any grid point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  iframe H0 H1 H2 H3 H4 H5 H6 H7 H8 H9 H10 H11 H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  iframe H0 H1 H2 H3 H4 H5 H6 H7 H8 H9 H10 H11 H12 H13 H14
  iexact H15

theorem body_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets0 := fun t => by
  rw [bigSep_W0, bigSep_W0, body_row]
  exact triple_restated (sound_body m c t) rfl .rfl fun _ => .rfl

set_option backward.isDefEq.respectTransparency.types false in
/-- Every execution ends with the arguments unchanged and every counter at zero. -/
theorem run_quiescent : θ_run defs (onTc (τ := τ) (main (F := Bits))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Bits))) (s₀ m ρ) (Pipeline.RDat.FramePost (cfgs 0) (fun c => (dats m 0 c).toRForget forgets0) (V m)) :=
  (θ_run defs _ _).mono (fun _ h => h.1) (run_quiescent m ρ)

/-- The frame claim. -/
theorem quiescent : Cert.quiescent_Kernel := fun m ρ _ =>
  θ_run_and ((θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)) ((θ_run defs _ _).mono (fun _ h => h.2) (run_quiescent m ρ))

end Cert.Kernel.Body

end
-- ==== Proof.Layer.lean ====
module

public import Idealize.ShloMosaic.Lib.Pointwise

/-! The layer's mathematics on matrices of extended reals, row by row. -/

@[expose] public section

noncomputable section

namespace Layer

open Idealize.ShloMosaic Idealize.SL.Sem

/-- A rank-2 array as a matrix. -/
abbrev mat {N W : ℕ} (x : (⟨2, ![N, W]⟩ : Shape).Idx → EReal) : Fin N → Fin W → EReal := fun r l => x (ix2 r l)

/-- Root-mean-square normalisation of one row of 2048 entries, scaled by `g`. -/
def rms (x g : Fin 2048 → EReal) (l : Fin 2048) : EReal :=
  x l * Ideal.rsqrt (Ideal.div (∑ k, x k * x k) (Ideal.ofBits .f32 0x45000000#32) + Ideal.ofBits .f32 0x358637BD#32) * g l

/-- One row times a matrix. -/
def rowMul {K M : ℕ} (x : Fin K → EReal) (w : Fin K → Fin M → EReal) (l : Fin M) : EReal := ∑ k, x k * w k l

/-- One row of the last block of the layer before its final normalisation: the row plus the gated projection of its
    per-layer embedding. -/
def pleMix (x g : Fin 2048 → EReal) (wg : Fin 2048 → Fin 2048 → EReal) (p : Fin 256 → EReal) (wp : Fin 256 → Fin 2048 → EReal)
    (l : Fin 2048) : EReal :=
  x l + Ideal.logistic (rowMul (rms x g) wg l) * rowMul p wp l

/-- One row of the layer's result. -/
def ple (x g : Fin 2048 → EReal) (wg : Fin 2048 → Fin 2048 → EReal) (p : Fin 256 → EReal) (wp : Fin 256 → Fin 2048 → EReal)
    (gf : Fin 2048 → EReal) : Fin 2048 → EReal :=
  rms (pleMix x g wg p wp) gf

end Layer

end
-- ==== Proof.Mixer.lean ====
module

public import proofs.«01_k».proof.Proof.Layer

/-! The mixer's mathematics, row by row: the gated branch, its convolution over the sequence's history, the normalisation
    of each head, and the spatial gating. -/

@[expose] public section

noncomputable section

namespace Layer

open Idealize.ShloMosaic Idealize.SL.Sem

/-- One head's 128 entries, centred and scaled to unit variance. -/
def unitVar (v : Fin 128 → EReal) (j : Fin 128) : EReal :=
  (v j - Ideal.div (∑ k, v k) (Ideal.ofBits .f32 0x43000000#32))
    * Ideal.rsqrt (Ideal.div (∑ k, (v k - Ideal.div (∑ k, v k) (Ideal.ofBits .f32 0x43000000#32)) * (v k - Ideal.div (∑ k, v k) (Ideal.ofBits .f32 0x43000000#32)))
        (Ideal.ofBits .f32 0x43000000#32) + Ideal.ofBits .f32 0x358637BD#32)

/-- The entries of head `h` of a row of 1024. -/
def head (x : Fin 1024 → EReal) (h : Fin 8) (j : Fin 128) : EReal := x ⟨128 * h.val + j.val, by omega⟩

/-- Layer normalisation of every head of a row of 1024, scaled by `g` and shifted by `b`. -/
def headNorm (x g b : Fin 1024 → EReal) (l : Fin 1024) : EReal :=
  unitVar (head x ⟨l.val / 128, by omega⟩) ⟨l.val % 128, by omega⟩ * g l + b l

/-- `x` times its logistic. -/
def silu (x : EReal) : EReal := x * Ideal.logistic x

/-- The tanh form of the Gaussian error linear unit. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- The gated branch of a projected row. -/
def gated (z : Fin 4096 → EReal) (l : Fin 1024) : EReal := z ⟨l.val, by omega⟩ * Ideal.logistic (z ⟨1024 + l.val, by omega⟩)

/-- The normalised values of a projected row. -/
def values (z : Fin 4096 → EReal) (g b : Fin 1024 → EReal) : Fin 1024 → EReal :=
  headNorm (fun l => gelu (z ⟨3072 + l.val, by omega⟩)) g b

/-- A sequence's row `n` counted from the start of its history: the 30 rows kept, then the 8 new ones. -/
def hist (st : Fin 30 → Fin 1024 → EReal) (a : Fin 8 → Fin 1024 → EReal) (n : ℕ) (l : Fin 1024) : EReal :=
  if h : n < 30 then st ⟨n, h⟩ l else if h' : n - 30 < 8 then a ⟨n - 30, h'⟩ l else 0

/-- The causal convolution of width 31 of a sequence with its history, at new row `t`. -/
def conv (st : Fin 30 → Fin 1024 → EReal) (a : Fin 8 → Fin 1024 → EReal) (w : Fin 31 → Fin 1024 → EReal) (b : Fin 1024 → EReal)
    (t : ℕ) (l : Fin 1024) : EReal :=
  b l + ∑ k : Fin 31, w k l * hist st a (t + k.val) l

end Layer

end
-- ==== Proof.MixPay.lean ====
module

public import proofs.«01_k».proof.Proof.Gen.KernelIdeal.Skeleton
public import proofs.«01_k».proof.Proof.Mixer

/-! What the mixer's blocks compute, as functions of the blocks they read. -/

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen Layer

/-- Head `h` of 32 rows, centred and scaled to unit variance. -/
def headPay (v : FVec Ideal S32x1024 .f32) (h : Fin 8) : FVec Ideal S32x128 .f32 := fun y => unitVar (head (mat v (y 0)) h) (y 1)

/-- Eight blocks of 128 columns side by side. -/
theorem cat8 (p : Fin 8 → FVec Ideal S32x128 .f32) :
    concatenate S32x1024 1 [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩]
        concatenates_S32x128_S32x128_S32x128_S32x128_S32x128_S32x128_S32x128_S32x128_S32x1024_d1
      = fun y : S32x1024.Idx => p ⟨(y 1).val / 128, by have h : (y 1).val < 1024 := (y 1).isLt; omega⟩ (ix2 (y 0) ⟨(y 1).val % 128, by omega⟩) := by
  funext y
  obtain ⟨i, l, rfl⟩ : ∃ (i : Fin 32) (l : Fin 1024), y = ix2 i l := ⟨y 0, y 1, eq_ix2 y⟩
  have hl := l.isLt
  have hc : l.val / 128 = 0 ∨ l.val / 128 = 1 ∨ l.val / 128 = 2 ∨ l.val / 128 = 3 ∨ l.val / 128 = 4 ∨ l.val / 128 = 5 ∨ l.val / 128 = 6 ∨ l.val / 128 = 7 := by omega
  pointwise []
  have key : ∀ (a a' : Fin 8) (b b' : Fin 128), a.val = a'.val → b.val = b'.val → p a (ix2 i b) = p a' (ix2 i b') := by
    intro a a' b b' h h'
    rw [Fin.ext h, Fin.ext h']
  split_ifs <;> refine key _ _ _ _ ?_ ?_ <;> simp <;> omega

/-! The eight heads of the first branch, each as the kernel spells it. -/

theorem head15 (v : Vec Ideal S32x1024 .f32) : k0_pay15 v = headPay v 0 := by
  funext y
  obtain ⟨i, l, rfl⟩ : ∃ (i : Fin 32) (l : Fin 128), y = ix2 i l := ⟨y 0, y 1, eq_ix2 y⟩
  pointwise [k0_pay15, headPay]
  show unitVar (fun j => v (ix2 i (⟨j.val, by omega⟩ : Fin 1024))) l = _
  refine congrArg (unitVar · l) (funext fun j => congrArg (fun q => v (ix2 i q)) (Fin.ext ?_))
  simp

theorem head16 (v : Vec Ideal S32x1024 .f32) : k0_pay16 v = headPay v 1 := by
  funext y
  obtain ⟨i, l, rfl⟩ : ∃ (i : Fin 32) (l : Fin 128), y = ix2 i l := ⟨y 0, y 1, eq_ix2 y⟩
  pointwise [k0_pay16, headPay]
  rfl

theorem head17 (v : Vec Ideal S32x1024 .f32) : k0_pay17 v = headPay v 2 := by
  funext y
  obtain ⟨i, l, rfl⟩ : ∃ (i : Fin 32) (l : Fin 128), y = ix2 i l := ⟨y 0, y 1, eq_ix2 y⟩
  pointwise [k0_pay17, headPay]
  rfl

theorem head18 (v : Vec Ideal S32x1024 .f32) : k0_pay18 v = headPay v 3 := by
  funext y
  obtain ⟨i, l, rfl⟩ : ∃ (i : Fin 32) (l : Fin 128), y = ix2 i l := ⟨y 0, y 1, eq_ix2 y⟩
  pointwise [k0_pay18, headPay]
  rfl

theorem head21 (v : Vec Ideal S32x1024 .f32) : k0_pay21 (k0_pay19 v) (k0_pay20 v) = headPay v 4 := by
  funext y
  obtain ⟨i, l, rfl⟩ : ∃ (i : Fin 32) (l : Fin 128), y = ix2 i l := ⟨y 0, y 1, eq_ix2 y⟩
  pointwise [k0_pay19, k0_pay20, k0_pay21, headPay]
  rfl

theorem head22 (v : Vec Ideal S32x1024 .f32) : k0_pay22 v = headPay v 5 := by
  funext y
  obtain ⟨i, l, rfl⟩ : ∃ (i : Fin 32) (l : Fin 128), y = ix2 i l := ⟨y 0, y 1, eq_ix2 y⟩
  pointwise [k0_pay22, headPay]
  rfl

theorem head23 (v : Vec Ideal S32x1024 .f32) : k0_pay23 v = headPay v 6 := by
  funext y
  obtain ⟨i, l, rfl⟩ : ∃ (i : Fin 32) (l : Fin 128), y = ix2 i l := ⟨y 0, y 1, eq_ix2 y⟩
  pointwise [k0_pay23, headPay]
  rfl

theorem head24 (v : Vec Ideal S32x1024 .f32) (h : S32x1.Broadcasts S32x128) : mulf (k0_pay24 v) (broadcastTo S32x128 (rsqrt (addf (divf (shapeCast S32x1 (multiReduction .add [1] S32 (k0_pay25 v) 0x00000000#32 reduces_S32x128_S32 (.inl rfl) rfl) shapeCasts_S32_S32x1) (broadcast S32x1 (Scalar.ofBits .f32 0x43000000#32))) (broadcast S32x1 (Scalar.ofBits .f32 0x358637BD#32)))) h) = headPay v 7 := by
  funext y
  obtain ⟨i, l, rfl⟩ : ∃ (i : Fin 32) (l : Fin 128), y = ix2 i l := ⟨y 0, y 1, eq_ix2 y⟩
  pointwise [k0_pay24, k0_pay25, headPay]
  rfl

/-- The block of the first branch after its convolution: each head normalised, scaled and shifted, then `silu`. -/
theorem pay45 (v : Vec Ideal S32x1024 .f32) (g b : Vec Ideal S1x1024 .f32) (i : Fin 32) (l : Fin 1024) :
    k0_pay45 (k0_pay13 g) (k0_pay14 b) (k0_pay15 v) (k0_pay16 v) (k0_pay17 v) (k0_pay18 v) (k0_pay21 (k0_pay19 v) (k0_pay20 v)) (k0_pay22 v) (k0_pay23 v)
        (k0_pay24 v) (k0_pay25 v) (ix2 i l)
      = silu (headNorm (mat v i) (mat g 0) (mat b 0) l) := by
  rw [head15, head16, head17, head18, head21, head22, head23]
  simp only [k0_pay45]
  rw [head24, cat8 (headPay v)]
  pointwise [k0_pay13, k0_pay14]
  rfl

/-! The eight heads of the values, each as the kernel spells it. -/

theorem head29 (v : Vec Ideal S32x1024 .f32) : k0_pay29 v = headPay (k0_pay26 v) 0 := by
  funext y
  obtain ⟨i, l, rfl⟩ : ∃ (i : Fin 32) (l : Fin 128), y = ix2 i l := ⟨y 0, y 1, eq_ix2 y⟩
  simp only [k0_pay29]
  generalize k0_pay26 v = v
  pointwise [headPay]
  show unitVar (fun j => v (ix2 i (⟨j.val, by omega⟩ : Fin 1024))) l = _
  refine congrArg (unitVar · l) (funext fun j => congrArg (fun q => v (ix2 i q)) (Fin.ext ?_))
  simp

theorem head32 (v : Vec Ideal S32x1024 .f32) : k0_pay32 (k0_pay30 v) (k0_pay31 v) (Scalar.ofBits .f32 0x43000000#32) = headPay (k0_pay26 v) 1 := by
  funext y
  obtain ⟨i, l, rfl⟩ : ∃ (i : Fin 32) (l : Fin 128), y = ix2 i l := ⟨y 0, y 1, eq_ix2 y⟩
  simp only [k0_pay30, k0_pay31]
  generalize k0_pay26 v = v
  pointwise [k0_pay32, headPay]
  rfl

theorem head33 (v : FVec Ideal S32x1024 .f32) : k0_pay33 v = headPay v 2 := by
  funext y
  obtain ⟨i, l, rfl⟩ : ∃ (i : Fin 32) (l : Fin 128), y = ix2 i l := ⟨y 0, y 1, eq_ix2 y⟩
  pointwise [k0_pay33, headPay]
  rfl

theorem head36 (v : FVec Ideal S32x1024 .f32) : k0_pay36 (k0_pay34 v) (k0_pay35 v) = headPay v 3 := by
  funext y
  obtain ⟨i, l, rfl⟩ : ∃ (i : Fin 32) (l : Fin 128), y = ix2 i l := ⟨y 0, y 1, eq_ix2 y⟩
  pointwise [k0_pay34, k0_pay35, k0_pay36, headPay]
  rfl

theorem head37 (v : FVec Ideal S32x1024 .f32) : k0_pay37 v = headPay v 4 := by
  funext y
  obtain ⟨i, l, rfl⟩ : ∃ (i : Fin 32) (l : Fin 128), y = ix2 i l := ⟨y 0, y 1, eq_ix2 y⟩
  pointwise [k0_pay37, headPay]
  rfl

theorem head38 (v : FVec Ideal S32x1024 .f32) : k0_pay38 v = headPay v 5 := by
  funext y
  obtain ⟨i, l, rfl⟩ : ∃ (i : Fin 32) (l : Fin 128), y = ix2 i l := ⟨y 0, y 1, eq_ix2 y⟩
  pointwise [k0_pay38, headPay]
  rfl

/-- The block of values: `gelu`, then each head normalised, scaled and shifted. -/
theorem pay46 (v : Vec Ideal S32x1024 .f32) (g b : Vec Ideal S1x1024 .f32) (i : Fin 32) (l : Fin 1024) :
    k0_pay46 (k0_pay26 v) (k0_pay27 g) (k0_pay28 b) (k0_pay29 v) (k0_pay32 (k0_pay30 v) (k0_pay31 v) (Scalar.ofBits .f32 0x43000000#32)) (k0_pay33 (k0_pay26 v))
        (k0_pay36 (k0_pay34 (k0_pay26 v)) (k0_pay35 (k0_pay26 v))) (k0_pay37 (k0_pay26 v)) (k0_pay38 (k0_pay26 v)) (k0_pay39 (k0_pay26 v)) (k0_pay40 (k0_pay26 v)) k0_pay41 (ix2 i l)
      = headNorm (fun l => gelu (v (ix2 i l))) (mat g 0) (mat b 0) l := by
  have eg : ∀ l, k0_pay26 v (ix2 i l) = gelu (v (ix2 i l)) := by
    intro l
    pointwise [k0_pay26]
    rfl
  rw [head29, head32, head33, head36, head37, head38]
  rw [show (fun l => gelu (v (ix2 i l))) = mat (k0_pay26 v) i from funext fun l => (eg l).symm]
  generalize k0_pay26 v = w
  have e6 : ∀ h, mulf (k0_pay39 w) (broadcastTo S32x128 (rsqrt (addf (divf (k0_pay40 w) k0_pay41) (broadcast S32x1 (Scalar.ofBits .f32 0x358637BD#32)))) h) = headPay w 6 := by
    intro h
    funext y
    obtain ⟨i, l, rfl⟩ : ∃ (i : Fin 32) (l : Fin 128), y = ix2 i l := ⟨y 0, y 1, eq_ix2 y⟩
    pointwise [k0_pay39, k0_pay40, k0_pay41, headPay]
    rfl
  have e7 := head24 w broadcasts_S32x1_S32x128
  simp only [k0_pay24, k0_pay25] at e7
  simp only [k0_pay46]
  rw [e6, e7, cat8 (headPay w)]
  pointwise [k0_pay27, k0_pay28]
  rfl

/-- The same block in the half-width buffer. -/
theorem pay47 (v : Vec Ideal S32x1024 .f32) (g b : Vec Ideal S1x1024 .f32) (i : Fin 32) (l : Fin 1024) :
    k0_pay47 (k0_pay26 v) (k0_pay27 g) (k0_pay28 b) (k0_pay29 v) (k0_pay32 (k0_pay30 v) (k0_pay31 v) (Scalar.ofBits .f32 0x43000000#32)) (k0_pay33 (k0_pay26 v))
        (k0_pay36 (k0_pay34 (k0_pay26 v)) (k0_pay35 (k0_pay26 v))) (k0_pay37 (k0_pay26 v)) (k0_pay38 (k0_pay26 v)) (k0_pay39 (k0_pay26 v)) (k0_pay40 (k0_pay26 v)) k0_pay41 (ix2 i l)
      = headNorm (fun l => gelu (v (ix2 i l))) (mat g 0) (mat b 0) l := by
  refine Eq.trans ?_ (pay46 v g b i l)
  unfold k0_pay47
  generalize k0_pay46 (k0_pay26 v) (k0_pay27 g) (k0_pay28 b) (k0_pay29 v) (k0_pay32 (k0_pay30 v) (k0_pay31 v) (Scalar.ofBits .f32 0x43000000#32)) (k0_pay33 (k0_pay26 v))
        (k0_pay36 (k0_pay34 (k0_pay26 v)) (k0_pay35 (k0_pay26 v))) (k0_pay37 (k0_pay26 v)) (k0_pay38 (k0_pay26 v)) (k0_pay39 (k0_pay26 v)) (k0_pay40 (k0_pay26 v)) k0_pay41 = w
  pointwise []

end Cert.KernelIdeal.Body

end
-- ==== Proof.MixGate.lean ====
module

public import proofs.«01_k».proof.Proof.MixPay

/-! The spatial gates and the masked spatial weights, as the kernel spells them head by head. -/

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen Layer

/-- The spatial gate of one head: its activated input times the masked product plus its bias. -/
def gatePay (w : Vec Ideal S1x128x128 .bf16) (v : Vec Ideal S128x128 .bf16) (b u : Vec Ideal S128x128 .f32) (i j : Fin 128) : EReal :=
  gelu (u (ix2 i j)) * ((∑ q, w (ix3 0 i q) * v (ix2 q j)) + b (ix2 i j))

/-! The gates of the eight heads: the kernel spells one computation in several ways. -/

theorem gate51 (w : Vec Ideal S1x128x128 .bf16) (v : Vec Ideal S128x128 .bf16) (b u : Vec Ideal S128x128 .f32) (i j : Fin 128) :
    k0_pay51 w v b u (ix2 i j) = gatePay w v b u i j := by
  pointwise [k0_pay51]
  rfl

theorem gate50 (w : Vec Ideal S1x128x128 .bf16) (v : Vec Ideal S128x128 .bf16) (b u : Vec Ideal S128x128 .f32) (i j : Fin 128) :
    k0_pay50 (k0_pay48 w v b) u (k0_pay49 u) (Scalar.ofBits .f32 0x3F000000#32) (ix2 i j) = gatePay w v b u i j := by
  pointwise [k0_pay50, k0_pay49, k0_pay48]
  rfl

theorem gate53 (w : Vec Ideal S1x128x128 .bf16) (v : Vec Ideal S128x128 .bf16) (b u : Vec Ideal S128x128 .f32) (i j : Fin 128) :
    k0_pay53 (k0_pay52 w) v b u (ix2 i j) = gatePay w v b u i j := by
  pointwise [k0_pay53, k0_pay52]
  rfl

theorem gate56 (w : Vec Ideal S1x128x128 .bf16) (v : Vec Ideal S128x128 .bf16) (b u : Vec Ideal S128x128 .f32) (i j : Fin 128) :
    k0_pay56 (k0_pay54 w v b) u (k0_pay55 u) (ix2 i j) = gatePay w v b u i j := by
  pointwise [k0_pay56, k0_pay55, k0_pay54]
  rfl

theorem gate58 (w : Vec Ideal S1x128x128 .bf16) (v : Vec Ideal S128x128 .bf16) (b u : Vec Ideal S128x128 .f32) (i j : Fin 128) :
    k0_pay58 (k0_pay57 w v b u) (ix2 i j) = gatePay w v b u i j := by
  pointwise [k0_pay58, k0_pay57]
  rfl

theorem gate59 (w : Vec Ideal S1x128x128 .bf16) (v : Vec Ideal S128x128 .bf16) (b u : Vec Ideal S128x128 .f32) (i j : Fin 128) :
    k0_pay59 w v b u (ix2 i j) = gatePay w v b u i j := by
  pointwise [k0_pay59]
  rfl

theorem gate62 (w : Vec Ideal S1x128x128 .bf16) (v : Vec Ideal S128x128 .bf16) (b u : Vec Ideal S128x128 .f32) (i j : Fin 128) :
    k0_pay62 (k0_pay60 w v) (k0_pay61 b) u (ix2 i j) = gatePay w v b u i j := by
  pointwise [k0_pay62, k0_pay61, k0_pay60]
  rfl

theorem gate3 (w : Vec Ideal S1x128x128 .bf16) (v : Vec Ideal S128x128 .bf16) (b u : Vec Ideal S128x128 .f32) (i j : Fin 128) :
    k0_pay3 (k0_pay63 w v b) u (k0_pay64 u) (ix2 i j) = gatePay w v b u i j := by
  pointwise [k0_pay3, k0_pay64, k0_pay63]
  rfl

/-- The mask of the spatial weights. -/
def maskPay : IVec S128x128 1 :=
  k0_pay74 (k0_pay70 (iota .tc S128x128 32 [0] iota_S128x128_d0_w32) k0_pay67 8#32 k0_pay68 k0_pay69) (k0_pay71 (iota .tc S128x128 32 [1] iota_S128x128_d1_w32))
    (Scalar.select (Scalar.cmpi .eq 8#32 0#32) 1#32 8#32) (k0_pay72 (iota .tc S128x128 32 [0] iota_S128x128_d0_w32)) (k0_pay73 (iota .tc S128x128 32 [0] iota_S128x128_d0_w32)) 0#32

/-- The floor of a column or row number over 8, as the kernel spells it. -/
theorem floorDiv8 : ∀ j : Fin 128,
    Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 j.val) 8#32) 0#32))
          (IntOp.subi (IntOp.divsi ArithUnit.vector (BitVec.ofNat 32 j.val) 8#32) 1#32)
          (IntOp.divsi ArithUnit.vector (BitVec.ofNat 32 j.val) 8#32) = BitVec.ofNat 32 (j.val / 8) := by
  decide +kernel

/-- The remainder of a column or row number by 8, as the kernel spells it. -/
theorem floorMod8 : ∀ j : Fin 128,
    Scalar.select
          (IntOp.andi
            (IntOp.xori
              (IntOp.cmpi CmpIPredicate.slt
                (IntOp.remsi ArithUnit.vector (BitVec.ofNat 32 j.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (IntOp.cmpi CmpIPredicate.ne
              (IntOp.remsi ArithUnit.vector (BitVec.ofNat 32 j.val)
                (Scalar.select (Scalar.cmpi CmpIPredicate.eq 8#32 0#32) 1#32 8#32))
              0#32))
          (IntOp.addi
            (IntOp.remsi ArithUnit.vector (BitVec.ofNat 32 j.val)
              (Scalar.select (Scalar.cmpi CmpIPredicate.eq 8#32 0#32) 1#32 8#32))
            (Scalar.select (Scalar.cmpi CmpIPredicate.eq 8#32 0#32) 1#32 8#32))
          (IntOp.remsi ArithUnit.vector (BitVec.ofNat 32 j.val)
            (Scalar.select (Scalar.cmpi CmpIPredicate.eq 8#32 0#32) 1#32 8#32)) = BitVec.ofNat 32 (j.val % 8) := by
  decide +kernel

/-- Comparing quotients below 16 and remainders below 8. -/
theorem cmp8 : ∀ (a b : Fin 16) (x y : Fin 8),
    IntOp.andi (IntOp.cmpi CmpIPredicate.eq (BitVec.ofNat 32 a.val) (BitVec.ofNat 32 b.val)) (IntOp.cmpi CmpIPredicate.sle (BitVec.ofNat 32 x.val) (BitVec.ofNat 32 y.val))
      = if a.val = b.val ∧ x.val ≤ y.val then 1#1 else 0#1 := by
  decide +kernel

/-- The mask keeps the places of one group of 8 tokens, at and before the row's. -/
theorem maskPay_apply (i j : Fin 128) : maskPay (ix2 i j) = if j.val / 8 = i.val / 8 ∧ j.val % 8 ≤ i.val % 8 then 1#1 else 0#1 := by
  unfold maskPay
  pointwise [k0_pay74, k0_pay70, k0_pay67, k0_pay68, k0_pay69, k0_pay71, k0_pay72, k0_pay73]
  rw [floorDiv8 j, floorDiv8 i, floorMod8 j, floorMod8 i]
  exact cmp8 ⟨j.val / 8, by omega⟩ ⟨i.val / 8, by omega⟩ ⟨j.val % 8, by omega⟩ ⟨i.val % 8, by omega⟩

/-- One head's spatial weights, kept where the mask is. -/
def maskW (w : Fin 128 → Fin 128 → EReal) (i j : Fin 128) : EReal := if j.val / 8 = i.val / 8 ∧ j.val % 8 ≤ i.val % 8 then w i j else 0

/-- Selecting by the mask. -/
theorem select_mask (i j : Fin 128) (x : EReal) :
    Scalar.select (maskPay (ix2 i j)) x 0 = if j.val / 8 = i.val / 8 ∧ j.val % 8 ≤ i.val % 8 then x else 0 := by
  rw [maskPay_apply]
  split_ifs <;> rfl

/-! The masked weights of the eight heads: the kernel spells one computation in several ways. -/

theorem mask2 (w : Vec Ideal S1x128x128 .f32) (i j : Fin 128) :
    k0_pay2 maskPay w (ix3 0 i j) = maskW (fun i j => w (ix3 0 i j)) i j := by
  pointwise [k0_pay2]
  exact select_mask i j _

theorem mask1 (w : Vec Ideal S1x128x128 .f32) (i j : Fin 128) :
    k0_pay1 (k0_pay81 maskPay w) (ix3 0 i j) = maskW (fun i j => w (ix3 0 i j)) i j := by
  pointwise [k0_pay1, k0_pay81]
  exact select_mask i j _

theorem mask78 (w : Vec Ideal S1x128x128 .f32) (i j : Fin 128) :
    k0_pay78 maskPay w (ix3 0 i j) = maskW (fun i j => w (ix3 0 i j)) i j := by
  pointwise [k0_pay78]
  exact select_mask i j _

theorem pay75 : k0_pay75 (F := Ideal) (k0_pay70 (iota .tc S128x128 32 [0] iota_S128x128_d0_w32) k0_pay67 8#32 k0_pay68 k0_pay69) (k0_pay71 (iota .tc S128x128 32 [1] iota_S128x128_d1_w32))
    (Scalar.select (Scalar.cmpi .eq 8#32 0#32) 1#32 8#32) (k0_pay72 (iota .tc S128x128 32 [0] iota_S128x128_d0_w32)) (k0_pay73 (iota .tc S128x128 32 [0] iota_S128x128_d0_w32)) 0#32
     = k0_pay78 maskPay := rfl
theorem pay76 : k0_pay76 (F := Ideal) (k0_pay70 (iota .tc S128x128 32 [0] iota_S128x128_d0_w32) k0_pay67 8#32 k0_pay68 k0_pay69) (k0_pay71 (iota .tc S128x128 32 [1] iota_S128x128_d1_w32))
    (Scalar.select (Scalar.cmpi .eq 8#32 0#32) 1#32 8#32) (k0_pay72 (iota .tc S128x128 32 [0] iota_S128x128_d0_w32)) (k0_pay73 (iota .tc S128x128 32 [0] iota_S128x128_d0_w32)) 0#32
     = k0_pay78 maskPay := rfl
theorem pay77 : k0_pay77 (F := Ideal) (k0_pay70 (iota .tc S128x128 32 [0] iota_S128x128_d0_w32) k0_pay67 8#32 k0_pay68 k0_pay69) (k0_pay71 (iota .tc S128x128 32 [1] iota_S128x128_d1_w32))
    (Scalar.select (Scalar.cmpi .eq 8#32 0#32) 1#32 8#32) (k0_pay72 (iota .tc S128x128 32 [0] iota_S128x128_d0_w32)) (k0_pay73 (iota .tc S128x128 32 [0] iota_S128x128_d0_w32)) 0#32
     = k0_pay78 maskPay := rfl
theorem pay79 : k0_pay79 (F := Ideal) = k0_pay78 := rfl
theorem pay80 : k0_pay80 (F := Ideal) = k0_pay78 := rfl

end Cert.KernelIdeal.Body

end
-- ==== Proof.MixSpec.lean ====
module

public import proofs.«01_k».proof.Proof.Mixer
public import proofs.«01_k».proof.Proof.MixGate

/-! # The mixer over sequences

128 sequences of 8 new rows, each with the 30 rows of history its convolution reaches back to.  `y`, `a` and `v` are
the mixer's three results: the residual stream, the gated rows, and the normalised values. -/

@[expose] public section

noncomputable section

namespace Layer

open Idealize.ShloMosaic Idealize.SL.Sem

/-- What the mixer is given: the rows, the histories, and its parameters. -/
structure Mix where
  x : Fin 128 → Fin 8 → Fin 2048 → EReal
  st : Fin 128 → Fin 30 → Fin 1024 → EReal
  g : Fin 2048 → EReal
  wi : Fin 2048 → Fin 4096 → EReal
  wd : Fin 31 → Fin 1024 → EReal
  bd : Fin 1024 → EReal
  gA : Fin 1024 → EReal
  bA : Fin 1024 → EReal
  gV : Fin 1024 → EReal
  bV : Fin 1024 → EReal
  ws : Fin 8 → Fin 128 → Fin 128 → EReal
  bs : Fin 8 → Fin 128 → EReal
  wo : Fin 2048 → Fin 2048 → EReal

namespace Mix

variable (A : Mix) (n : Fin 128) (t : Fin 8)

/-- The normalised row, projected. -/
def z : Fin 4096 → EReal := rowMul (rms (A.x n t) A.g) A.wi

/-- The gated row. -/
def a : Fin 1024 → EReal := gated (A.z n t)

/-- The normalised values. -/
def v : Fin 1024 → EReal := values (A.z n t) A.gV A.bV

/-- The convolution's row. -/
def c : Fin 1024 → EReal := conv (A.st n) (A.a n) A.wd A.bd t.val

/-- The values mixed over the sequence's rows up to this one, by the head's lower triangle. -/
def mixed (l : Fin 1024) : EReal :=
  (∑ s : Fin 8, (if s.val ≤ t.val then A.ws ⟨l.val / 128, by omega⟩ ⟨t.val, by omega⟩ ⟨s.val, by omega⟩ else 0) * A.v n s l)
    + A.bs ⟨l.val / 128, by omega⟩ ⟨t.val, by omega⟩

/-- The two branches side by side. -/
def cat (l : Fin 2048) : EReal :=
  if h : l.val < 1024 then silu (headNorm (A.c n t) A.gA A.bA ⟨l.val, h⟩)
  else gelu (A.z n t ⟨1024 + l.val, by omega⟩) * A.mixed n t ⟨l.val - 1024, by omega⟩

/-- The mixer's result. -/
def y (l : Fin 2048) : EReal := A.x n t l + rowMul (A.cat n t) A.wo l

end Mix

/-- The sum of a row of the block-diagonal weights against 128 terms is the sum over the row's own 8. -/
theorem mask_sum (w : Fin 8 → Fin 8 → EReal) (i : Fin 128) (f : Fin 128 → EReal) :
    (∑ q : Fin 128, Cert.KernelIdeal.Body.maskW (fun a b => w ⟨a.val % 8, by omega⟩ ⟨b.val % 8, by omega⟩) i q * f q)
      = ∑ s : Fin 8, (if s.val ≤ i.val % 8 then w ⟨i.val % 8, by omega⟩ s else 0) * f ⟨8 * (i.val / 8) + s.val, by omega⟩ := by
  have e : (∑ q : Fin 128, Cert.KernelIdeal.Body.maskW (fun a b => w ⟨a.val % 8, by omega⟩ ⟨b.val % 8, by omega⟩) i q * f q)
      = ∑ p : Fin 16 × Fin 8, Cert.KernelIdeal.Body.maskW (fun a b => w ⟨a.val % 8, by omega⟩ ⟨b.val % 8, by omega⟩) i (finProdFinEquiv p : Fin (16 * 8)) * f (finProdFinEquiv p : Fin (16 * 8)) :=
    (Equiv.sum_comp (finProdFinEquiv : Fin 16 × Fin 8 ≃ Fin (16 * 8)) (fun q : Fin (16 * 8) => Cert.KernelIdeal.Body.maskW (fun a b => w ⟨a.val % 8, by omega⟩ ⟨b.val % 8, by omega⟩) i q * f q)).symm
  rw [e, Fintype.sum_prod_type, Finset.sum_eq_single (⟨i.val / 8, by omega⟩ : Fin 16)]
  · refine Finset.sum_congr rfl fun s _ => ?_
    have hv : (finProdFinEquiv ((⟨i.val / 8, by omega⟩ : Fin 16), s) : Fin (16 * 8)) = (⟨8 * (i.val / 8) + s.val, by omega⟩ : Fin 128) :=
      Fin.ext (by simp [finProdFinEquiv]; omega)
    rw [hv]
    unfold Cert.KernelIdeal.Body.maskW
    have h1 : (8 * (i.val / 8) + s.val) / 8 = i.val / 8 := by omega
    have h2 : (8 * (i.val / 8) + s.val) % 8 = s.val := by omega
    simp only [h1, h2, true_and, Fin.eta]
  · intro b _ hb
    refine Finset.sum_eq_zero fun s _ => ?_
    have hv : (finProdFinEquiv (b, s) : Fin (16 * 8)).val = 8 * b.val + s.val := by simp [finProdFinEquiv]; omega
    unfold Cert.KernelIdeal.Body.maskW
    rw [if_neg, zero_mul]
    rintro ⟨h, -⟩
    refine hb (Fin.ext ?_)
    show b.val = i.val / 8
    omega
  · intro h
    exact absurd (Finset.mem_univ _) h

end Layer

end
-- ==== Proof.Rows.lean ====
module

public import Idealize.ShloMosaic.Lib.WritesUnit
public import Idealize.ShloMosaic.Lib.Pipeline.FrameBody
public import Idealize.ShloMosaic.Lib.Pointwise

/-! Matrices held in memory: what a matrix buffer reads after rectangles of it have been stored. -/

@[expose] public section

set_option maxRecDepth 16384

noncomputable section

namespace Rows

open Idealize.ShloMosaic Idealize.SL.Sem

variable {sig : RefSig} {κ : Kind} {sp : Space} {e : EltTy} {Val : EltTy → Type} {N W : ℕ}

/-- The contents `d` of an `N × W` buffer agree with the matrix `G` at the places `S`. -/
def Agrees {α : Type} (d : (⟨2, ![N, W]⟩ : Shape).Idx → α) (G : Fin N → Fin W → α) (S : ℕ → ℕ → Prop) : Prop :=
  ∀ (r : Fin N) (l : Fin W), S r l → d (ix2 r l) = G r l

/-- Agreement at every place is equality with the matrix read at an index. -/
theorem Agrees.eq {α : Type} {d : (⟨2, ![N, W]⟩ : Shape).Idx → α} {G : Fin N → Fin W → α} {S : ℕ → ℕ → Prop}
    (h : Agrees d G S) (hS : ∀ (r : Fin N) (l : Fin W), S r l) : d = fun y => G (y 0) (y 1) := by
  funext y
  rw [eq_ix2 y]
  exact h _ _ (hS _ _)

/-- Agreement at fewer places. -/
theorem Agrees.mono {α : Type} {d : (⟨2, ![N, W]⟩ : Shape).Idx → α} {G : Fin N → Fin W → α} {S S' : ℕ → ℕ → Prop}
    (h : Agrees d G S) (hS : ∀ r l : ℕ, r < N → l < W → S' r l → S r l) : Agrees d G S' :=
  fun r l hr => h r l (hS r l r.isLt l.isLt hr)

/-- Agreement at no place. -/
theorem agrees_none {α : Type} (d : (⟨2, ![N, W]⟩ : Shape).Idx → α) (G : Fin N → Fin W → α) {S : ℕ → ℕ → Prop}
    (hS : ∀ r l : ℕ, r < N → l < W → ¬ S r l) : Agrees d G S :=
  fun r l hr => absurd hr (hS r l r.isLt l.isLt)

/-- STORING A TILE: the buffer agreed with `G` at `S`; after the tile of `n` rows from row `o` and `m` columns from
    column `q` is stored with `G`'s entries, it agrees at `S` and on the tile. -/
theorem Agrees.store {n m : ℕ} (v : View sig κ sp (⟨2, ![N, W]⟩ : Shape) e) (f : v.ty.Contents Val)
    {off : Fin 2 → ℕ} (inb : ∀ a : Fin 2, off a + (![n, m] : Fin 2 → ℕ) a ≤ (![N, W] : Fin 2 → ℕ) a)
    (w : (⟨2, ![n, m]⟩ : Shape).Idx → Val e)
    (L : List (View.Piece Val (⟨2, ![N, W]⟩ : Shape) e)) (G : Fin N → Fin W → Val e) (o q : ℕ) (hoff : off = ![o, q])
    {S S' : ℕ → ℕ → Prop} (h : Agrees (v.read Val (v.writes Val f L)) G S)
    (hw : ∀ (i : Fin n) (j : Fin m) (hr : o + i.val < N) (hl : q + j.val < W), w (ix2 i j) = G ⟨o + i.val, hr⟩ ⟨q + j.val, hl⟩)
    (hS : ∀ r l : ℕ, r < N → l < W → S' r l → (o ≤ r ∧ r < o + n ∧ q ≤ l ∧ l < q + m) ∨ S r l) :
    Agrees (v.read Val (v.writes Val f ((⟨Rect.unit (s := ⟨2, ![N, W]⟩) off ![n, m] inb, w⟩ : View.Piece Val (⟨2, ![N, W]⟩ : Shape) e) :: L))) G S' := by
  intro r l hrl
  by_cases hin : o ≤ r.val ∧ r.val < o + n ∧ q ≤ l.val ∧ l.val < q + m
  · obtain ⟨h1, h2, h3, h4⟩ := hin
    have e1 : o + (r.val - o) = r.val := by omega
    have e2 : q + (l.val - q) = l.val := by omega
    refine (View.read_writes_cons_unit_of_mem v f inb w L (ix2 r l)
      (ix2 (⟨r.val - o, by omega⟩ : Fin n) (⟨l.val - q, by omega⟩ : Fin m)) hoff ?_).trans ?_
    · exact Fin.forall_fin_two.mpr ⟨e1.symm, e2.symm⟩
    · rw [hw ⟨r.val - o, by omega⟩ ⟨l.val - q, by omega⟩ (by rw [e1]; exact r.isLt) (by rw [e2]; exact l.isLt)]
      congr 1
      · exact Fin.ext e1
      · exact Fin.ext e2
  · have hold : S r.val l.val := (hS r l r.isLt l.isLt hrl).resolve_left hin
    by_cases hrow : o ≤ r.val ∧ r.val < o + n
    · exact (View.read_writes_cons_unit_of_not_mem v f inb w L (ix2 r l) hoff 1 (by
        show l.val < q ∨ q + m ≤ l.val
        omega)).trans (h r l hold)
    · exact (View.read_writes_cons_unit_of_not_mem v f inb w L (ix2 r l) hoff 0 (by
        show r.val < o ∨ o + n ≤ r.val
        omega)).trans (h r l hold)

/-- Loading a tile: its entry is the buffer's entry at the tile's origin plus the tile's own index. -/
theorem readAt_tile {n m : ℕ} (v : View sig κ sp (⟨2, ![N, W]⟩ : Shape) e) (f : v.ty.Contents Val)
    {off : Fin 2 → ℕ} (inb : ∀ a : Fin 2, off a + (![n, m] : Fin 2 → ℕ) a ≤ (![N, W] : Fin 2 → ℕ) a)
    (o q : ℕ) (hoff : off = ![o, q]) (i : Fin n) (j : Fin m) :
    v.readAt Val (Rect.unit (s := ⟨2, ![N, W]⟩) off ![n, m] inb).toLoadRect f (ix2 i j)
      = v.read Val f (ix2 (⟨o + i.val, by subst hoff; have h : o + n ≤ N := inb 0; omega⟩ : Fin N)
          (⟨q + j.val, by subst hoff; have h : q + m ≤ W := inb 1; omega⟩ : Fin W)) := by
  subst hoff
  show v.read Val f _ = _
  congr 1
  funext a
  refine Fin.ext ?_
  revert a
  exact Fin.forall_fin_two.mpr ⟨by simp [Rect.emb, Rect.unit], by simp [Rect.emb, Rect.unit]⟩

/-- Loading the whole matrix: its entry is the buffer's. -/
theorem readAt_all (v : View sig κ sp (⟨2, ![N, W]⟩ : Shape) e) (f : v.ty.Contents Val)
    (inb : ∀ a : Fin 2, (![0, 0] : Fin 2 → ℕ) a + (![N, W] : Fin 2 → ℕ) a ≤ (![N, W] : Fin 2 → ℕ) a) :
    v.readAt Val (Rect.unit (s := ⟨2, ![N, W]⟩) ![0, 0] ![N, W] inb).toLoadRect f = v.read Val f := by
  refine funext fun (y : (⟨2, ![N, W]⟩ : Shape).Idx) => ?_
  rw [eq_ix2 y]
  refine (readAt_tile v f inb 0 0 rfl (y 0) (y 1)).trans ?_
  congr 1
  funext a
  refine Fin.ext ?_
  revert a
  exact Fin.forall_fin_two.mpr ⟨Nat.zero_add _, Nat.zero_add _⟩

variable {D : ℕ}

/-- Loading a box of a rank-3 array: its entry is the array's entry at the box's origin plus the box's own index. -/
theorem readAt_box {d n m : ℕ} (v : View sig κ sp (⟨3, ![D, N, W]⟩ : Shape) e) (f : v.ty.Contents Val)
    {off : Fin 3 → ℕ} (inb : ∀ a : Fin 3, off a + (![d, n, m] : Fin 3 → ℕ) a ≤ (![D, N, W] : Fin 3 → ℕ) a)
    (p o q : ℕ) (hoff : off = ![p, o, q]) (u : Fin d) (i : Fin n) (j : Fin m) :
    v.readAt Val (Rect.unit (s := ⟨3, ![D, N, W]⟩) off ![d, n, m] inb).toLoadRect f (ix3 u i j)
      = v.read Val f (ix3 (⟨p + u.val, by subst hoff; have h : p + d ≤ D := inb 0; omega⟩ : Fin D)
          (⟨o + i.val, by subst hoff; have h : o + n ≤ N := inb 1; omega⟩ : Fin N)
          (⟨q + j.val, by subst hoff; have h : q + m ≤ W := inb 2; omega⟩ : Fin W)) := by
  subst hoff
  show v.read Val f _ = _
  congr 1
  funext a
  refine Fin.ext ?_
  fin_cases a <;> simp [Rect.emb, Rect.unit]

/-- The contents `d` of a `D × N × W` buffer agree with `G` on the slabs `S`. -/
def SlabAgrees {α : Type} (d : (⟨3, ![D, N, W]⟩ : Shape).Idx → α) (G : Fin D → Fin N → Fin W → α) (S : ℕ → Prop) : Prop :=
  ∀ (u : Fin D) (r : Fin N) (l : Fin W), S u → d (ix3 u r l) = G u r l

/-- Agreement on no slab. -/
theorem slabAgrees_none {α : Type} (d : (⟨3, ![D, N, W]⟩ : Shape).Idx → α) (G : Fin D → Fin N → Fin W → α) {S : ℕ → Prop}
    (hS : ∀ u : ℕ, ¬ S u) : SlabAgrees d G S :=
  fun u r l h => absurd h (hS u)

/-- STORING A SLAB: the buffer agreed with `G` on the slabs `S`; after slab `p` is stored with `G`'s entries it agrees
    there too. -/
theorem SlabAgrees.store (v : View sig κ sp (⟨3, ![D, N, W]⟩ : Shape) e) (f : v.ty.Contents Val)
    {off : Fin 3 → ℕ} (inb : ∀ a : Fin 3, off a + (![1, N, W] : Fin 3 → ℕ) a ≤ (![D, N, W] : Fin 3 → ℕ) a)
    (w : (⟨3, ![1, N, W]⟩ : Shape).Idx → Val e)
    (L : List (View.Piece Val (⟨3, ![D, N, W]⟩ : Shape) e)) (G : Fin D → Fin N → Fin W → Val e) (p : Fin D) (hoff : off = ![p.val, 0, 0])
    {S S' : ℕ → Prop} (h : SlabAgrees (v.read Val (v.writes Val f L)) G S)
    (hw : ∀ (i : Fin N) (j : Fin W), w (ix3 0 i j) = G p i j)
    (hS : ∀ u : ℕ, S' u → u = p.val ∨ S u) :
    SlabAgrees (v.read Val (v.writes Val f ((⟨Rect.unit (s := ⟨3, ![D, N, W]⟩) off ![1, N, W] inb, w⟩ : View.Piece Val (⟨3, ![D, N, W]⟩ : Shape) e) :: L))) G S' := by
  intro u r l hu
  by_cases hp : u = p
  · subst hp
    refine (View.read_writes_cons_unit_of_mem v f inb w L (ix3 u r l) (ix3 0 r l) hoff ?_).trans (hw r l)
    intro a
    fin_cases a <;> simp
  · refine (View.read_writes_cons_unit_of_not_mem v f inb w L (ix3 u r l) hoff 0 ?_).trans
      (h u r l ((hS u hu).resolve_left fun h' => hp (Fin.ext h')))
    show u.val < p.val ∨ p.val + 1 ≤ u.val
    have : u.val ≠ p.val := fun h' => hp (Fin.ext h')
    omega

end Rows

end
-- ==== Proof.MixRef.lean ====
module

public import proofs.«01_k».proof.Proof.MixSpec
public import proofs.«01_k».proof.Proof.Rows
public import proofs.«01_k».proof.Proof.Gen.ReferenceIdeal

/-! # The reference of the mixer, stage by stage

Each stage is a function of whole arrays, read at an index as the row function it computes. -/

@[expose] public section

set_option maxRecDepth 16384

noncomputable section

open Idealize.ShloMosaic Idealize.ShloMosaic.TcCoe Idealize.ShloMosaic.Tactic Idealize.SL.Sem

namespace Cert.ReferenceIdeal.Ref

open Cert.ReferenceIdeal Cert.ReferenceIdeal.Gen Layer

/-- A scalar at every place of the new rows. -/
abbrev every (b : BitVec 32) : FVec Ideal S128x8x1024 .f32 := broadcastInDim S128x8x1024 ![] bcast_S_S128x8x1024 (constant S_ .f32 b)

/-- A vector along the last axis of the new rows. -/
abbrev along (v : FVec Ideal S1024 .f32) : FVec Ideal S128x8x1024 .f32 :=
  broadcastInDim S128x8x1024 ![0, 1, 2] bcast_S1x1x1024_S128x8x1024_0_1_2 (broadcastInDim S1x1x1024 ![2] bcast_S1024_S1x1x1024_2 v)

/-- The normalised rows, projected. -/
def proj (x : FVec Ideal S128x8x2048 .f32) (g : FVec Ideal S1x2048 .f32) (w : FVec Ideal S1x2048x4096 .f32) : FVec Ideal S128x8x4096 .f32 :=
  Host.dotGeneral dot_S128x8x2048_S2048x4096_S128x8x4096_2_0_01_1_n_n none
    (mulf (mulf x (broadcastInDim S128x8x2048 ![0, 1, 2] bcast_S128x8x1_S128x8x2048_0_1_2 (Host.rsqrt (addf (Host.divf
      (broadcastInDim S128x8x1 ![0, 1] bcast_S128x8_S128x8x1_0_1 (Host.reduceAdd (mulf x x) (constant S_ .f32 0x00000000#32) reducesTo_S128x8x2048_S128x8_d2 h_S_))
      (broadcastInDim S128x8x1 ![] bcast_S_S128x8x1 (constant S_ .f32 0x45000000#32))) (broadcastInDim S128x8x1 ![] bcast_S_S128x8x1 (constant S_ .f32 0x358637BD#32))))))
      (broadcastInDim S128x8x2048 ![0, 1, 2] bcast_S1x1x2048_S128x8x2048_0_1_2 (broadcastInDim S1x1x2048 ![2] bcast_S2048_S1x1x2048_2 (shapeCast S2048 g shapeCasts_S1x2048_S2048))))
    (shapeCast S2048x4096 w shapeCasts_S1x2048x4096_S2048x4096)

theorem proj_apply (x : FVec Ideal S128x8x2048 .f32) (g : FVec Ideal S1x2048 .f32) (w : FVec Ideal S1x2048x4096 .f32) (n : Fin 128) (t : Fin 8) (l : Fin 4096) :
    proj x g w (ix3 n t l) = rowMul (rms (fun k => x (ix3 n t k)) fun k => g (ix2 0 k)) (fun k l => w (ix3 0 k l)) l := by
  pointwise [proj, rowMul, rms]

/-- The gated rows. -/
def gate (z : FVec Ideal S128x8x4096 .f32) : FVec Ideal S128x8x1024 .f32 :=
  mulf (extractStridedSlice S128x8x1024 ![0, 0, 0] z slices_S128x8x4096_S128x8x1024_0_0_0) (Host.divf (every 0x3F800000#32) (addf (every 0x3F800000#32)
    (Host.exp (Host.negf (extractStridedSlice S128x8x1024 ![0, 0, 1024] z slices_S128x8x4096_S128x8x1024_0_0_1024)))))

theorem gate_apply (z : FVec Ideal S128x8x4096 .f32) (n : Fin 128) (t : Fin 8) (l : Fin 1024) :
    gate z (ix3 n t l) = gated (fun l => z (ix3 n t l)) l := by
  pointwise [gate, gated]
  rfl

/-- The gelu of whole rows. -/
def act (v : FVec Ideal S128x8x1024 .f32) : FVec Ideal S128x8x1024 .f32 :=
  mulf v (mulf (every 0x3F000000#32) (addf (every 0x3F800000#32) (Host.tanh (mulf (every 0x3F4C422A#32) (addf v (mulf (every 0x3D372713#32) (mulf (mulf v v) v)))))))

theorem act_apply (v : FVec Ideal S128x8x1024 .f32) (n : Fin 128) (t : Fin 8) (l : Fin 1024) : act v (ix3 n t l) = gelu (v (ix3 n t l)) := by
  unfold gelu
  rw [mul_comm (v (ix3 n t l)) (v (ix3 n t l) * v (ix3 n t l))]
  pointwise [act]

/-- Every head of a row less its mean. -/
def centre (x : FVec Ideal S128x8x8x128 .f32) : FVec Ideal S128x8x8x128 .f32 :=
  subf x (broadcastInDim S128x8x8x128 ![0, 1, 2, 3] bcast_S128x8x8x1_S128x8x8x128_0_1_2_3 (Host.divf
    (broadcastInDim S128x8x8x1 ![0, 1, 2] bcast_S128x8x8_S128x8x8x1_0_1_2 (Host.reduceAdd x (constant S_ .f32 0x00000000#32) reducesTo_S128x8x8x128_S128x8x8_d3 h_S_))
    (broadcastInDim S128x8x8x1 ![] bcast_S_S128x8x8x1 (constant S_ .f32 0x43000000#32))))

/-- A centred head over its deviation, the heads joined, scaled and shifted. -/
def scaled (y : FVec Ideal S128x8x8x128 .f32) (g b : FVec Ideal S1x1024 .f32) : FVec Ideal S128x8x1024 .f32 :=
  addf (mulf (shapeCast S128x8x1024 (mulf y (broadcastInDim S128x8x8x128 ![0, 1, 2, 3] bcast_S128x8x8x1_S128x8x8x128_0_1_2_3 (Host.rsqrt (addf (Host.divf
    (broadcastInDim S128x8x8x1 ![0, 1, 2] bcast_S128x8x8_S128x8x8x1_0_1_2 (Host.reduceAdd (mulf y y) (constant S_ .f32 0x00000000#32) reducesTo_S128x8x8x128_S128x8x8_d3 h_S_))
    (broadcastInDim S128x8x8x1 ![] bcast_S_S128x8x8x1 (constant S_ .f32 0x43000000#32))) (broadcastInDim S128x8x8x1 ![] bcast_S_S128x8x8x1 (constant S_ .f32 0x358637BD#32))))))
    shapeCasts_S128x8x8x128_S128x8x1024) (along (shapeCast S1024 g shapeCasts_S1x1024_S1024))) (along (shapeCast S1024 b shapeCasts_S1x1024_S1024))

/-- Layer normalisation of the heads of whole rows. -/
def heads (x : FVec Ideal S128x8x1024 .f32) (g b : FVec Ideal S1x1024 .f32) : FVec Ideal S128x8x1024 .f32 :=
  scaled (centre (shapeCast S128x8x8x128 x shapeCasts_S128x8x1024_S128x8x8x128)) g b

theorem centre_apply (x : FVec Ideal S128x8x8x128 .f32) (n : Fin 128) (t h : Fin 8) (j : Fin 128) :
    centre x (ix4 n t h j) = x (ix4 n t h j) - Ideal.div (∑ k : Fin 128, x (ix4 n t h k)) (Ideal.ofBits .f32 0x43000000#32) := by
  pointwise [centre]

theorem scaled_apply (y : FVec Ideal S128x8x8x128 .f32) (g b : FVec Ideal S1x1024 .f32) (n : Fin 128) (t : Fin 8) (l : Fin 1024) :
    scaled y g b (ix3 n t l) = y (ix4 n t (⟨l.val / 128, by omega⟩ : Fin 8) (⟨l.val % 128, by omega⟩ : Fin 128))
      * Ideal.rsqrt (Ideal.div (∑ k : Fin 128, y (ix4 n t (⟨l.val / 128, by omega⟩ : Fin 8) k) * y (ix4 n t (⟨l.val / 128, by omega⟩ : Fin 8) k))
          (Ideal.ofBits .f32 0x43000000#32) + Ideal.ofBits .f32 0x358637BD#32) * g (ix2 0 l) + b (ix2 0 l) := by
  pointwise [scaled]

theorem split_apply (x : FVec Ideal S128x8x1024 .f32) (n : Fin 128) (t h : Fin 8) (j : Fin 128) :
    shapeCast S128x8x8x128 x shapeCasts_S128x8x1024_S128x8x8x128 (ix4 n t h j) = x (ix3 n t (⟨128 * h.val + j.val, by omega⟩ : Fin 1024)) := by
  have e : shapeCast S128x8x8x128 x shapeCasts_S128x8x1024_S128x8x8x128 (ix4 n t h j) = x (ix3 n t (⟨h.val * 128 + j.val, by omega⟩ : Fin 1024)) := by
    pointwise
  rw [e]
  exact congrArg x (congrArg (ix3 n t) (Fin.ext (by show h.val * 128 + j.val = 128 * h.val + j.val; omega)))

theorem heads_apply (x : FVec Ideal S128x8x1024 .f32) (g b : FVec Ideal S1x1024 .f32) (n : Fin 128) (t : Fin 8) (l : Fin 1024) :
    heads x g b (ix3 n t l) = headNorm (fun l => x (ix3 n t l)) (fun l => g (ix2 0 l)) (fun l => b (ix2 0 l)) l := by
  unfold heads headNorm unitVar head
  rw [scaled_apply]
  simp only [centre_apply, split_apply]

/-- The rows a sequence's convolution sees: its history, then its new rows. -/
def seen (St : FVec Ideal S1x128x30x1024 .f32) (a : FVec Ideal S128x8x1024 .f32) : FVec Ideal S128x38x1024 .f32 :=
  concatenate S128x38x1024 1 [⟨S128x30x1024, (shapeCast S128x30x1024 St shapeCasts_S1x128x30x1024_S128x30x1024)⟩, ⟨S128x8x1024, a⟩]
    concatenates_S128x30x1024_S128x8x1024_S128x38x1024_d1

theorem seen_apply (St : FVec Ideal S1x128x30x1024 .f32) (a : FVec Ideal S128x8x1024 .f32) (n : Fin 128) (k : Fin 38) (l : Fin 1024) :
    seen St a (ix3 n k l) = hist (fun k l => St (ix4 0 n k l)) (fun s l => a (ix3 n s l)) k.val l := by
  unfold hist
  pointwise [seen]
  by_cases h : k.val < 30
  · rw [dif_pos h, dif_pos h]
  · rw [dif_neg h, dif_neg h, dif_pos (by omega)]

theorem slices_seen (k : ℕ) (h : k < 31) : S128x38x1024.Slices ![0, k, 0] S128x8x1024 :=
  ⟨rfl, fun a => by fin_cases a <;> simp <;> omega⟩

theorem slices_taps (k : ℕ) (h : k < 31) : S31x1024.Slices ![k, 0] S1x1024 :=
  ⟨rfl, fun a => by fin_cases a <;> simp <;> omega⟩

/-- One tap of the convolution. -/
def tap (H : FVec Ideal S128x38x1024 .f32) (W : FVec Ideal S31x1024 .f32) (k : ℕ) (h : k < 31) : FVec Ideal S128x8x1024 .f32 :=
  mulf (extractStridedSlice S128x8x1024 ![0, k, 0] H (slices_seen k h)) (along (shapeCast S1024 (extractStridedSlice S1x1024 ![k, 0] W (slices_taps k h)) shapeCasts_S1x1024_S1024))

theorem tap_apply (H : FVec Ideal S128x38x1024 .f32) (W : FVec Ideal S31x1024 .f32) (k : ℕ) (h : k < 31) (n : Fin 128) (t : Fin 8) (l : Fin 1024) :
    tap H W k h (ix3 n t l) = H (ix3 n (⟨t.val + k, by omega⟩ : Fin 38) l) * W (ix2 (⟨k, h⟩ : Fin 31) l) := by
  have e : tap H W k h (ix3 n t l) = H (ix3 n (⟨k + t.val, by omega⟩ : Fin 38) l) * W (ix2 (⟨k, h⟩ : Fin 31) l) := by
    pointwise [tap]
  rw [e]
  exact congrArg (· * _) (congrArg (fun i => H (ix3 n i l)) (Fin.ext (Nat.add_comm _ _)))

/-- The taps up to `k`, added in order. -/
def taps (H : FVec Ideal S128x38x1024 .f32) (W : FVec Ideal S31x1024 .f32) : (k : ℕ) → k < 31 → FVec Ideal S128x8x1024 .f32
  | 0, h => tap H W 0 h
  | k + 1, h => addf (taps H W k (by omega)) (tap H W (k + 1) h)

theorem taps_apply (H : FVec Ideal S128x38x1024 .f32) (W : FVec Ideal S31x1024 .f32) (n : Fin 128) (t : Fin 8) (l : Fin 1024) : (k : ℕ) → (h : k < 31) →
    taps H W k h (ix3 n t l) = ∑ j : Fin (k + 1), H (ix3 n (⟨t.val + j.val, by omega⟩ : Fin 38) l) * W (ix2 (⟨j.val, by omega⟩ : Fin 31) l)
  | 0, h => by rw [Fin.sum_univ_castSucc]; simp only [Finset.univ_eq_empty, Finset.sum_empty, zero_add]; exact tap_apply H W 0 h n t l
  | k + 1, h => by
    rw [Fin.sum_univ_castSucc]
    exact congrArg₂ (· + ·) (taps_apply H W n t l k (by omega)) (tap_apply H W (k + 1) h n t l)

/-- The convolution of the new rows. -/
def convolve (H : FVec Ideal S128x38x1024 .f32) (Wd : FVec Ideal S1x31x1024 .f32) (Bd : FVec Ideal S1x1024 .f32) : FVec Ideal S128x8x1024 .f32 :=
  addf (taps H (shapeCast S31x1024 Wd shapeCasts_S1x31x1024_S31x1024) 30 (by omega)) (along (shapeCast S1024 Bd shapeCasts_S1x1024_S1024))

theorem along_apply (v : FVec Ideal S1024 .f32) (n : Fin 128) (t : Fin 8) (l : Fin 1024) : along v (ix3 n t l) = v (ix1 l) := by pointwise [along]
theorem row_apply (v : FVec Ideal S1x1024 .f32) (l : Fin 1024) : shapeCast S1024 v shapeCasts_S1x1024_S1024 (ix1 l) = v (ix2 0 l) := by pointwise
theorem wd_apply (v : FVec Ideal S1x31x1024 .f32) (k : Fin 31) (l : Fin 1024) : shapeCast S31x1024 v shapeCasts_S1x31x1024_S31x1024 (ix2 k l) = v (ix3 0 k l) := by pointwise

theorem convolve_apply (St : FVec Ideal S1x128x30x1024 .f32) (a : FVec Ideal S128x8x1024 .f32) (Wd : FVec Ideal S1x31x1024 .f32) (Bd : FVec Ideal S1x1024 .f32)
    (n : Fin 128) (t : Fin 8) (l : Fin 1024) :
    convolve (seen St a) Wd Bd (ix3 n t l)
      = conv (fun k l => St (ix4 0 n k l)) (fun s l => a (ix3 n s l)) (fun k l => Wd (ix3 0 k l)) (fun l => Bd (ix2 0 l)) t.val l := by
  unfold conv
  rw [add_comm]
  refine congrArg₂ (· + ·) ((taps_apply _ _ n t l 30 (by omega)).trans (Finset.sum_congr rfl fun k _ => ?_)) ((along_apply _ n t l).trans (row_apply Bd l))
  rw [seen_apply, mul_comm]
  exact congrArg (· * _) (wd_apply Wd k l)

/-- The lower triangle of 8 rows. -/
def lower : S8x8.Idx → BitVec 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

theorem lower_apply (i j : Fin 8) : lower (ix2 i j) = if j.val ≤ i.val then 1#1 else 0#1 := by
  revert i j
  decide +kernel

/-- The weights that mix a head's rows, below the diagonal. -/
def weights (Ws : FVec Ideal S1x8x128x128 .f32) : FVec Ideal S8x8x8 .f32 :=
  select (broadcastInDim S8x8x8 ![1, 2] bcast_S8x8_S8x8x8_1_2 lower)
    (extractStridedSlice S8x8x8 ![0, 0, 0] (shapeCast S8x128x128 Ws shapeCasts_S1x8x128x128_S8x128x128) slices_S8x128x128_S8x8x8_0_0_0)
    (broadcastInDim S8x8x8 ![] bcast_S_S8x8x8 (sitofp .f32 (constantI S_ 32 0#32)))

theorem weights_apply (Ws : FVec Ideal S1x8x128x128 .f32) (h i j : Fin 8) :
    weights Ws (ix3 h i j) = if j.val ≤ i.val then Ws (ix4 0 h (⟨i.val, by omega⟩ : Fin 128) (⟨j.val, by omega⟩ : Fin 128)) else 0 := by
  have e : weights Ws (ix3 h i j) = Scalar.select (lower (ix2 i j)) (Ws (ix4 0 h (⟨i.val, by omega⟩ : Fin 128) (⟨j.val, by omega⟩ : Fin 128))) 0 := by
    pointwise [weights]
    exact congrArg (Scalar.select _ _) (show ((((0#32 : BitVec 32).toInt : ℤ) : ℝ) : EReal) = 0 by simp)
  rw [e, lower_apply]
  by_cases h : j.val ≤ i.val
  · rw [if_pos h, if_pos h]; rfl
  · rw [if_neg h, if_neg h]; rfl

/-- The values mixed over a sequence's rows. -/
def blend (V : FVec Ideal S128x8x1024 .f32) (W : FVec Ideal S8x8x8 .f32) (Bs : FVec Ideal S1x8x128 .f32) : FVec Ideal S128x8x1024 .f32 :=
  shapeCast S128x8x1024 (addf (transpose S128x1x8x8x128 [1, 2, 4, 0, 3] (Host.dotGeneral dot_S128x1x8x8x128_S8x8x8_S8x128x1x128x8_2_2_014_1_3_0 none
      (shapeCast S128x1x8x8x128 V shapeCasts_S128x8x1024_S128x1x8x8x128) W) transposes_S8x128x1x128x8_S128x1x8x8x128_1_2_4_0_3)
    (broadcastInDim S128x1x8x8x128 ![0, 1, 2, 3, 4] bcast_S1x1x8x8x1_S128x1x8x8x128_0_1_2_3_4 (broadcastInDim S1x1x8x8x1 ![2, 3] bcast_S8x8_S1x1x8x8x1_2_3
      (transpose S8x8 [1, 0] (extractStridedSlice S8x8 ![0, 0] (shapeCast S8x128 Bs shapeCasts_S1x8x128_S8x128) slices_S8x128_S8x8_0_0) transposes_S8x8_S8x8_1_0))))
    shapeCasts_S128x1x8x8x128_S128x8x1024

theorem blend_apply (V : FVec Ideal S128x8x1024 .f32) (W : FVec Ideal S8x8x8 .f32) (Bs : FVec Ideal S1x8x128 .f32) (n : Fin 128) (t : Fin 8) (l : Fin 1024) :
    blend V W Bs (ix3 n t l) = (∑ s : Fin 8, W (ix3 (⟨l.val / 128, by omega⟩ : Fin 8) t s) * V (ix3 n s l))
      + Bs (ix3 0 (⟨l.val / 128, by omega⟩ : Fin 8) (⟨t.val, by omega⟩ : Fin 128)) := by
  simp only [mul_comm (W _)]
  pointwise [blend]

/-- The two branches side by side. -/
def branches (c u : FVec Ideal S128x8x1024 .f32) (b : FVec Ideal S128x8x1024 .f32) : FVec Ideal S128x8x2048 .f32 :=
  concatenate S128x8x2048 2 [⟨S128x8x1024, mulf c (Host.divf (every 0x3F800000#32) (addf (every 0x3F800000#32) (Host.exp (Host.negf c))))⟩,
    ⟨S128x8x1024, mulf (act u) b⟩] concatenates_S128x8x1024_S128x8x1024_S128x8x2048_d2

theorem branches_apply (c u b : FVec Ideal S128x8x1024 .f32) (n : Fin 128) (t : Fin 8) (l : Fin 2048) :
    branches c u b (ix3 n t l) = if h : l.val < 1024 then silu (c (ix3 n t (⟨l.val, h⟩ : Fin 1024)))
      else gelu (u (ix3 n t (⟨l.val - 1024, by omega⟩ : Fin 1024))) * b (ix3 n t (⟨l.val - 1024, by omega⟩ : Fin 1024)) := by
  by_cases h : l.val < 1024
  · rw [dif_pos h]
    unfold silu
    pointwise [branches]
    rw [dif_pos h]
    rfl
  · rw [dif_neg h, ← act_apply]
    pointwise [branches]
    rw [dif_neg h]

/-- The residual stream after the mixer. -/
def residual (x cat : FVec Ideal S128x8x2048 .f32) (Wo : FVec Ideal S1x2048x2048 .f32) : FVec Ideal S128x8x2048 .f32 :=
  addf x (Host.dotGeneral dot_S128x8x2048_S2048x2048_S128x8x2048_2_0_01_1_n_n none cat (shapeCast S2048x2048 Wo shapeCasts_S1x2048x2048_S2048x2048))

theorem residual_apply (x cat : FVec Ideal S128x8x2048 .f32) (Wo : FVec Ideal S1x2048x2048 .f32) (n : Fin 128) (t : Fin 8) (l : Fin 2048) :
    residual x cat Wo (ix3 n t l) = x (ix3 n t l) + rowMul (fun k => cat (ix3 n t k)) (fun k l => Wo (ix3 0 k l)) l := by
  pointwise [residual, rowMul]

theorem u_apply (z : FVec Ideal S128x8x4096 .f32) (n : Fin 128) (t : Fin 8) (l : Fin 1024) :
    extractStridedSlice S128x8x1024 ![0, 0, 2048] z slices_S128x8x4096_S128x8x1024_0_0_2048 (ix3 n t l) = z (ix3 n t (⟨2048 + l.val, by omega⟩ : Fin 4096)) := by
  pointwise

theorem v_apply (z : FVec Ideal S128x8x4096 .f32) (n : Fin 128) (t : Fin 8) (l : Fin 1024) :
    extractStridedSlice S128x8x1024 ![0, 0, 3072] z slices_S128x8x4096_S128x8x1024_0_0_3072 (ix3 n t l) = z (ix3 n t (⟨3072 + l.val, by omega⟩ : Fin 4096)) := by
  pointwise

end Cert.ReferenceIdeal.Ref

end
-- ==== Proof.MixLoops.lean ====
module

public import proofs.«01_k».proof.Proof.Gen.KernelIdeal.Frame
public import proofs.«01_k».proof.Proof.MixGate
public import proofs.«01_k».proof.Proof.Rows

/-! One grid point of the mixer: what each of its loops' trips computes. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Rows Layer

local notation "𝕄" => MT nD τ sig Unit (Elt Ideal) ℕ (UR sig nD τ) ℕ

theorem trips1 : k0_t1_loop.trips = 8 := by decide
theorem trips2 : k0_t2_loop.trips = 2 := by decide
theorem trips3 : k0_t3_loop.trips = 4 := by decide
theorem trips4 : k0_t4_loop.trips = 16 := by decide
theorem trips5 : k0_t5_loop.trips = 4 := by decide
theorem trips6 : k0_t6_loop.trips = 4 := by decide

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The buffer is held with contents agreeing with `G` at the places `S`. -/
def Holds (c : Dev nD) {N W : ℕ} {e : EltTy} (a : Memref sig .tc .vmem (⟨2, ![N, W]⟩ : Shape) e) (G : Fin N → Fin W → Elt Ideal e) (S : ℕ → ℕ → Prop) : sProp 𝕄 :=
  iprop(∃ f, ⌜Agrees (a.view.read (Elt Ideal) f) G S⌝ ∗ (a.view.loc (c : Thread nD τ) ↦[a.view.set]{fullShare} f))

/-- The buffer is held with contents agreeing with `G` on every slab. -/
def Slabs (c : Dev nD) {D N W : ℕ} {e : EltTy} (a : Memref sig .tc .vmem (⟨3, ![D, N, W]⟩ : Shape) e) (G : Fin D → Fin N → Fin W → Elt Ideal e) : sProp 𝕄 :=
  iprop(∃ f, ⌜SlabAgrees (a.view.read (Elt Ideal) f) G (fun _ => True)⌝ ∗ (a.view.loc (c : Thread nD τ) ↦[a.view.set]{fullShare} f))

/-- A rank-3 array as a family of matrices. -/
abbrev cube {D N W : ℕ} (x : (⟨3, ![D, N, W]⟩ : Shape).Idx → EReal) : Fin D → Fin N → Fin W → EReal := fun u r l => x (ix3 u r l)

/-- The convolution's rows over a block of 32 sequences of 8 rows. -/
def convRow (st : Fin 32 → Fin 30 → Fin 1024 → EReal) (A : Fin 256 → Fin 1024 → EReal) (w : Fin 31 → Fin 1024 → EReal) (b : Fin 1024 → EReal)
    (r : Fin 256) (l : Fin 1024) : EReal :=
  conv (st ⟨r.val / 8, by omega⟩) (fun t => A ⟨8 * (r.val / 8) + t.val, by omega⟩) w b (r.val % 8) l

/-- The two branches side by side, from the projected rows, the convolution and the values. -/
def catRow (Z : Fin 256 → Fin 4096 → EReal) (C V : Fin 256 → Fin 1024 → EReal) (g b : Fin 1024 → EReal) (w : Fin 8 → Fin 128 → Fin 128 → EReal)
    (bs : Fin 128 → Fin 1024 → EReal) (r : Fin 256) (l : Fin 2048) : EReal :=
  if h : l.val < 1024 then silu (headNorm (C r) g b ⟨l.val, h⟩)
  else gelu (Z r ⟨1024 + l.val, by omega⟩)
    * ((∑ q : Fin 128, w ⟨(l.val - 1024) / 128, by omega⟩ ⟨r.val % 128, by omega⟩ q * V ⟨128 * (r.val / 128) + q.val, by omega⟩ ⟨l.val - 1024, by omega⟩)
      + bs ⟨r.val % 128, by omega⟩ ⟨l.val - 1024, by omega⟩)

/-- The first loop: the rows before the trip's are normalised. -/
def inv1 (c : Dev nD) (arg1 : Memref sig .tc .vmem S256x2048 .f32) (harg1 : arg1.IsWhole) (arg3 : Memref sig .tc .vmem S1x2048 .f32) (harg3 : arg3.IsWhole) (arg17 : Memref sig .tc .vmem S256x2048 .bf16) (x : Vec Ideal S256x2048 .f32) (g : Vec Ideal S1x2048 .f32) (k : ℕ) (_ : Unit) : sProp 𝕄 :=
  iprop((arg1.view.loc (c : Thread nD τ) ↦[arg1.view.set]{fullShare} harg1.unread x)
    ∗ (arg3.view.loc (c : Thread nD τ) ↦[arg3.view.set]{fullShare} harg3.unread g)
    ∗ Holds c arg17 (fun r => rms (mat x r) (mat g 0)) (fun r _ => r < 32 * k))

variable (c : Dev nD) (i : grid0.Coords) (arg1 : Memref sig .tc .vmem S256x2048 .f32) (harg1 : arg1.IsWhole) (arg2 : Memref sig .tc .vmem S32x30x1024 .f32) (harg2 : arg2.IsWhole) (arg3 : Memref sig .tc .vmem S1x2048 .f32) (harg3 : arg3.IsWhole) (arg4 : Memref sig .tc .vmem S2048x4096 .bf16) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S2048x2048 .bf16) (harg13 : arg13.IsWhole) (arg14 : Memref sig .tc .vmem S256x2048 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x2048 .bf16) (harg17 : arg17.IsWhole) (arg18 : Memref sig .tc .vmem S256x4096 .f32) (harg18 : arg18.IsWhole) (arg19 : Memref sig .tc .vmem S256x2048 .bf16) (harg19 : arg19.IsWhole) (arg20 : Memref sig .tc .vmem S256x1024 .f32) (harg20 : arg20.IsWhole) (arg21 : Memref sig .tc .vmem S256x1024 .f32) (harg21 : arg21.IsWhole) (arg22 : Memref sig .tc .vmem S16x1024 .f32) (harg22 : arg22.IsWhole) (arg23 : Memref sig .tc .vmem S128x1024 .bf16) (harg23 : arg23.IsWhole) (arg24 : Memref sig .tc .vmem S8x128x128 .bf16) (harg24 : arg24.IsWhole)

/-- A trip of the first loop. -/
theorem step1 (x : Vec Ideal S256x2048 .f32) (g : Vec Ideal S1x2048 .f32) (E : Set ℕ) (k : Fin k0_t1_loop.trips) (acc : Unit) :
    inv1 c arg1 harg1 arg3 harg3 arg17 x g k.val acc
      ⊢ wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k acc) (fun acc' => inv1 c arg1 harg1 arg3 harg3 arg17 x g (k.val + 1) acc') := by
  unfold inv1 Holds k0_t1_body
  iintro ⟨H1, H3, %f, %hf, H17⟩
  sl_exec
  sl_step
  isplitl [H1]; · iexact H1
  isplitl [H3]; · iexact H3
  iexists _; isplitr; swap; · iexact H17
  ipureintro
  refine Agrees.store arg17.view f (k0_off1_inb k) _ [] _ (32 * k.val) 0 (k0_off1_eq k) (by simpa using hf) ?_ (by omega)
  intro i j hr hl
  pointwise [k0_pay65]
  simp only [readAt_tile arg1.view (harg1.unread x) (k0_off1_inb k) (32 * k.val) 0 (k0_off1_eq k), readAt_all, harg1.read_unread, harg3.read_unread, rms, mat,
    Nat.zero_add, Fin.eta]

/-- The gating loop of a chunk of 128 rows: the gated branch of the rows before the trip's. -/
def inv3 (c : Dev nD) (arg15 : Memref sig .tc .vmem S256x1024 .f32) (arg18 : Memref sig .tc .vmem S256x4096 .f32) (arg20 : Memref sig .tc .vmem S256x1024 .f32) (t2 : Fin k0_t2_loop.trips) (Z : Fin 256 → Fin 4096 → EReal) (k : ℕ) (_ : Unit) : sProp 𝕄 :=
  iprop(Holds c arg18 Z (fun _ _ => True)
    ∗ Holds c arg15 (fun r => gated (Z r)) (fun r _ => r < 128 * t2.val + 32 * k)
    ∗ Holds c arg20 (fun r => gated (Z r)) (fun r _ => r < 128 * t2.val + 32 * k))

/-- A trip of the gating loop. -/
theorem step3 (v0 v1 : BitVec 32) (t2 : Fin k0_t2_loop.trips) (Z : Fin 256 → Fin 4096 → EReal) (E : Set ℕ) (k : Fin k0_t3_loop.trips) (acc : Unit) :
    inv3 c arg15 arg18 arg20 t2 Z k.val acc
      ⊢ wp frame (wpE (defs₀ (F := Ideal)) Variants.none (c : Thread nD τ) none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 t2 k acc) (fun acc' => inv3 c arg15 arg18 arg20 t2 Z (k.val + 1) acc') := by
  unfold inv3 Holds k0_t3_body
  iintro ⟨⟨%f18, %h18, H18⟩, ⟨%f15, %h15, H15⟩, %f20, %h20, H20⟩
  have e18 := h18.eq fun _ _ => trivial
  sl_exec
  sl_step
  isplitl [H18]
  · iexists _; isplitr; swap; · iexact H18
    ipureintro; exact h18
  isplitl [H15]
  · iexists _; isplitr; swap; · iexact H15
    ipureintro
    refine Agrees.store arg15.view f15 (k0_off5_inb t2 k) _ [] _ (128 * t2.val + 32 * k.val) 0 (k0_off5_eq t2 k) (by simpa using h15) ?_ (by omega)
    intro i j hr hl
    pointwise [k0_pay42]
    simp only [readAt_tile arg18.view f18 (k0_off2_inb t2 k) (128 * t2.val + 32 * k.val) 0 (k0_off2_eq t2 k),
      readAt_tile arg18.view f18 (k0_off3_inb t2 k) (128 * t2.val + 32 * k.val) 1024 (k0_off3_eq t2 k), e18, Nat.zero_add, gated]
    rfl
  iexists _; isplitr; swap; · iexact H20
  ipureintro
  refine Agrees.store arg20.view f20 (k0_off4_inb t2 k) _ [] _ (128 * t2.val + 32 * k.val) 0 (k0_off4_eq t2 k) (by simpa using h20) ?_ (by omega)
  intro i j hr hl
  pointwise [k0_pay43, k0_pay42]
  simp only [readAt_tile arg18.view f18 (k0_off2_inb t2 k) (128 * t2.val + 32 * k.val) 0 (k0_off2_eq t2 k),
    readAt_tile arg18.view f18 (k0_off3_inb t2 k) (128 * t2.val + 32 * k.val) 1024 (k0_off3_eq t2 k), e18, Nat.zero_add, gated]
  rfl

/-- The 31 taps: the first rows of the kernel's table of 32. -/
abbrev taps (w : Vec Ideal S32x1024 .f32) (k : Fin 31) : Fin 1024 → EReal := mat w ⟨k.val, by omega⟩

/-- The convolution loop of a chunk: the convolution of the sequences before the trip's. -/
def inv4 (c : Dev nD) (arg2 : Memref sig .tc .vmem S32x30x1024 .f32) (harg2 : arg2.IsWhole) (arg5 : Memref sig .tc .vmem S32x1024 .f32) (harg5 : arg5.IsWhole) (arg6 : Memref sig .tc .vmem S1x1024 .f32) (harg6 : arg6.IsWhole) (arg20 : Memref sig .tc .vmem S256x1024 .f32) (arg21 : Memref sig .tc .vmem S256x1024 .f32) (arg22 : Memref sig .tc .vmem S16x1024 .f32) (t2 : Fin k0_t2_loop.trips) (st : Vec Ideal S32x30x1024 .f32) (w : Vec Ideal S32x1024 .f32) (b : Vec Ideal S1x1024 .f32) (A : Fin 256 → Fin 1024 → EReal) (k : ℕ) (_ : Unit) : sProp 𝕄 :=
  iprop((arg2.view.loc (c : Thread nD τ) ↦[arg2.view.set]{fullShare} harg2.unread st)
    ∗ (arg5.view.loc (c : Thread nD τ) ↦[arg5.view.set]{fullShare} harg5.unread w)
    ∗ (arg6.view.loc (c : Thread nD τ) ↦[arg6.view.set]{fullShare} harg6.unread b)
    ∗ Holds c arg20 A (fun r _ => r < 128 * t2.val + 128)
    ∗ Holds c arg21 (convRow (cube st) A (taps w) (mat b 0)) (fun r _ => r < 128 * t2.val + 8 * k)
    ∗ Any c arg22)

/-- The sequence's history and new rows, from row 22 on: what the trip's own buffer holds. -/
def tailRow (st : Fin 32 → Fin 30 → Fin 1024 → EReal) (A : Fin 256 → Fin 1024 → EReal) (s : ℕ) (hs : s < 32) (n : ℕ) (l : Fin 1024) : EReal :=
  hist (st ⟨s, hs⟩) (fun t => A ⟨8 * s + t.val, by omega⟩) n l

/-- The sum of 31 terms onto a first, in the kernel's order. -/
theorem chain31 (b : EReal) (f : ℕ → EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23
      + f 24 + f 25 + f 26 + f 27 + f 28 + f 29 + f 30 = b + ∑ k : Fin 31, f k.val := by
  rw [Fin.sum_univ_eq_sum_range]
  simp only [Finset.sum_range_succ, Finset.sum_range_zero, zero_add, add_assoc]

/-- A trip of the convolution loop: one sequence. -/
theorem step4 (v0 v1 v2 v3 : BitVec 32) (t2 : Fin k0_t2_loop.trips) (st : Vec Ideal S32x30x1024 .f32) (w : Vec Ideal S32x1024 .f32) (b : Vec Ideal S1x1024 .f32) (A : Fin 256 → Fin 1024 → EReal) (E : Set ℕ) (k : Fin k0_t4_loop.trips) (acc : Unit) :
    inv4 c arg2 harg2 arg5 harg5 arg6 harg6 arg20 arg21 arg22 t2 st w b A k.val acc
      ⊢ wp frame (wpE (defs₀ (F := Ideal)) Variants.none (c : Thread nD τ) none) E (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 t2 v2 v3 k acc) (fun acc' => inv4 c arg2 harg2 arg5 harg5 arg6 harg6 arg20 arg21 arg22 t2 st w b A (k.val + 1) acc') := by
  have ht2 : t2.val < 2 := lt_of_lt_of_eq t2.isLt trips2
  have hk : k.val < 16 := lt_of_lt_of_eq k.isLt trips4
  have hs : 16 * t2.val + k.val < 32 := by omega
  unfold inv4 Holds Any k0_t4_body
  iintro ⟨H2, H5, H6, ⟨%f20, %h20, H20⟩, ⟨%f21, %h21, H21⟩, %f22, H22⟩
  sl_exec
  sl_step
  isplitl [H2]; · iexact H2
  isplitl [H5]; · iexact H5
  isplitl [H6]; · iexact H6
  isplitl [H20]
  · iexists _; isplitr; swap; · iexact H20
    ipureintro; exact h20
  isplitr [H22]; swap
  · iexists _; iexact H22
  iexists _; isplitr; swap; · iexact H21
  ipureintro
  refine Agrees.store arg21.view f21 (k0_off7_inb t2 k) _ [] _ (128 * t2.val + 8 * k.val) 0 (k0_off7_eq t2 k) (by simpa using h21) ?_ (by omega)
  intro i j hr hl
  have hi := i.isLt
  have a22 : Agrees (arg22.view.read (Elt Ideal) (arg22.view.writes (Elt Ideal) arg22.view.junk (step4.sl.H22_2 arg2 harg2 arg20 t2 st k f20)))
      (fun n l => tailRow (cube st) A (16 * t2.val + k.val) hs (22 + n.val) l) (fun _ _ => True) := by
    unfold step4.sl.H22_2
    refine Agrees.store (S := fun r _ => r < 8) arg22.view _ inb_S16x1024_S8x1024_8_0 _ _ _ 8 0 rfl ?_ ?_ (by omega)
    · refine Agrees.store arg22.view _ inb_S16x1024_S8x1024_0_0 _ [] _ 0 0 rfl (agrees_none (S := fun _ _ => False) _ _ fun _ _ _ _ h => h) ?_ (by omega)
      intro a l ha hl'
      have ha' := a.isLt
      pointwise [k0_pay5]
      refine (readAt_box arg2.view _ (k0_off6_inb t2 k) (16 * t2.val + k.val) 22 0 (k0_off6_eq t2 k) 0 a l).trans ?_
      simp only [harg2.read_unread, tailRow, hist, Nat.zero_add]
      rw [dif_pos (by omega)]
      rfl
    · intro a l ha hl'
      have ha' := a.isLt
      pointwise [k0_pay6]
      refine (readAt_tile arg20.view _ (k0_off7_inb t2 k) (128 * t2.val + 8 * k.val) 0 (k0_off7_eq t2 k) a l).trans ?_
      refine (h20 _ _ (by show _ < _; simp only []; omega)).trans ?_
      simp only [tailRow, hist]
      rw [dif_neg (by omega), dif_pos (by omega)]
      congr 1
      · refine Fin.ext ?_
        simp only []
        omega
      · exact Fin.ext (Nat.zero_add _)
  have t22 : ∀ (m : ℕ) (inb : ∀ a : Fin 2, (![m, 0] : Fin 2 → ℕ) a + (![8, 1024] : Fin 2 → ℕ) a ≤ (![16, 1024] : Fin 2 → ℕ) a),
      arg22.view.readCov (step4.sl.H22_2 arg2 harg2 arg20 t2 st k f20) (Rect.unit (s := S16x1024) ![m, 0] ![8, 1024] inb).toLoadRect (ix2 i j)
        = tailRow (cube st) A (16 * t2.val + k.val) hs (i.val + (22 + m)) j := by
    intro m inb
    refine (readAt_tile arg22.view (arg22.view.writes (Elt Ideal) arg22.view.junk (step4.sl.H22_2 arg2 harg2 arg20 t2 st k f20)) inb m 0 rfl i j).trans ?_
    refine (a22 _ _ trivial).trans ?_
    simp only [Nat.zero_add, Fin.eta]
    congr 1
    omega
  have t2' : ∀ {off : Fin 3 → ℕ} (inb : ∀ a : Fin 3, off a + (![1, 8, 1024] : Fin 3 → ℕ) a ≤ (![32, 30, 1024] : Fin 3 → ℕ) a) (m : ℕ)
      (hoff : off = ![16 * t2.val + k.val, m, 0]) (hm : m ≤ 22),
      arg2.view.readAt (Elt Ideal) (Rect.unit (s := S32x30x1024) off ![1, 8, 1024] inb).toLoadRect (harg2.unread st) (ix3 0 i j)
        = tailRow (cube st) A (16 * t2.val + k.val) hs (i.val + m) j := by
    intro off inb m hoff hm
    refine (readAt_box arg2.view _ inb (16 * t2.val + k.val) m 0 hoff 0 i j).trans ?_
    simp only [harg2.read_unread, tailRow, hist, Nat.zero_add]
    rw [dif_pos (by omega)]
    simp only [Nat.add_comm m]
    rfl
  have t5 : ∀ (m : ℕ) (inb : ∀ a : Fin 2, (![m, 0] : Fin 2 → ℕ) a + (![1, 1024] : Fin 2 → ℕ) a ≤ (![32, 1024] : Fin 2 → ℕ) a),
      arg5.view.readAt (Elt Ideal) (Rect.unit (s := S32x1024) ![m, 0] ![1, 1024] inb).toLoadRect (harg5.unread w) (ix2 0 j)
        = (fun n => if h : n < 32 then mat w ⟨n, h⟩ j else 0) m := by
    intro m inb
    have hm : m + 1 ≤ 32 := inb 0
    refine (readAt_tile arg5.view _ inb m 0 rfl 0 j).trans ?_
    simp only [harg5.read_unread, Nat.zero_add]
    rw [dif_pos (by omega)]
    rfl
  delta step4.sl.r_5
  delta step4.sl.r_4
  delta step4.sl.r_3
  delta step4.sl.r_2
  delta step4.sl.r_1
  delta step4.sl.r
  delta step4.sl.v600 step4.sl.v606 step4.sl.v612 step4.sl.v618 step4.sl.v624 step4.sl.v630 step4.sl.v636 step4.sl.v642
  pointwise [k0_pay44, k0_pay12, k0_pay11, k0_pay10, k0_pay9, k0_pay8, k0_pay7]
  simp only [t5, t22, readAt_all, harg6.read_unread,
    t2' (k0_off8_inb t2 k) 0 (k0_off8_eq t2 k) (by omega), t2' (k0_off9_inb t2 k) 1 (k0_off9_eq t2 k) (by omega), t2' (k0_off10_inb t2 k) 2 (k0_off10_eq t2 k) (by omega), t2' (k0_off11_inb t2 k) 3 (k0_off11_eq t2 k) (by omega), t2' (k0_off12_inb t2 k) 4 (k0_off12_eq t2 k) (by omega), t2' (k0_off13_inb t2 k) 5 (k0_off13_eq t2 k) (by omega), t2' (k0_off14_inb t2 k) 6 (k0_off14_eq t2 k) (by omega), t2' (k0_off15_inb t2 k) 7 (k0_off15_eq t2 k) (by omega), t2' (k0_off16_inb t2 k) 8 (k0_off16_eq t2 k) (by omega), t2' (k0_off17_inb t2 k) 9 (k0_off17_eq t2 k) (by omega), t2' (k0_off18_inb t2 k) 10 (k0_off18_eq t2 k) (by omega), t2' (k0_off19_inb t2 k) 11 (k0_off19_eq t2 k) (by omega), t2' (k0_off20_inb t2 k) 12 (k0_off20_eq t2 k) (by omega), t2' (k0_off21_inb t2 k) 13 (k0_off21_eq t2 k) (by omega), t2' (k0_off22_inb t2 k) 14 (k0_off22_eq t2 k) (by omega), t2' (k0_off23_inb t2 k) 15 (k0_off23_eq t2 k) (by omega), t2' (k0_off24_inb t2 k) 16 (k0_off24_eq t2 k) (by omega), t2' (k0_off25_inb t2 k) 17 (k0_off25_eq t2 k) (by omega), t2' (k0_off26_inb t2 k) 18 (k0_off26_eq t2 k) (by omega), t2' (k0_off27_inb t2 k) 19 (k0_off27_eq t2 k) (by omega), t2' (k0_off28_inb t2 k) 20 (k0_off28_eq t2 k) (by omega), t2' (k0_off29_inb t2 k) 21 (k0_off29_eq t2 k) (by omega), t2' (k0_off6_inb t2 k) 22 (k0_off6_eq t2 k) (by omega)]
  refine (chain31 _ (fun n => (fun n => if h : n < 32 then mat w ⟨n, h⟩ j else 0) n * tailRow (cube st) A (16 * t2.val + k.val) hs (i.val + n) j)).trans ?_
  have e1 : (128 * t2.val + 8 * k.val + i.val) / 8 = 16 * t2.val + k.val := by omega
  have e2 : (128 * t2.val + 8 * k.val + i.val) % 8 = i.val := by omega
  simp only [convRow, conv, tailRow, e1, e2, Nat.zero_add, Fin.eta]
  refine congrArg _ (Finset.sum_congr rfl fun n _ => ?_)
  rw [dif_pos (by omega)]

/-- The first branch's normalisation loop of a chunk. -/
def inv5 (c : Dev nD) (arg7 : Memref sig .tc .vmem S1x1024 .f32) (harg7 : arg7.IsWhole) (arg8 : Memref sig .tc .vmem S1x1024 .f32) (harg8 : arg8.IsWhole) (arg19 : Memref sig .tc .vmem S256x2048 .bf16) (arg21 : Memref sig .tc .vmem S256x1024 .f32) (t2 : Fin k0_t2_loop.trips) (Z : Fin 256 → Fin 4096 → EReal) (C V : Fin 256 → Fin 1024 → EReal) (g b : Vec Ideal S1x1024 .f32) (w : Fin 8 → Fin 128 → Fin 128 → EReal) (bs : Fin 128 → Fin 1024 → EReal) (k : ℕ) (_ : Unit) : sProp 𝕄 :=
  iprop((arg7.view.loc (c : Thread nD τ) ↦[arg7.view.set]{fullShare} harg7.unread g)
    ∗ (arg8.view.loc (c : Thread nD τ) ↦[arg8.view.set]{fullShare} harg8.unread b)
    ∗ Holds c arg21 C (fun r _ => r < 128 * t2.val + 128)
    ∗ Holds c arg19 (catRow Z C V (mat g 0) (mat b 0) w bs) (fun r l => r < 128 * t2.val ∨ (l < 1024 ∧ r < 128 * t2.val + 32 * k)))

/-- A trip of the first branch's normalisation loop. -/
theorem step5 (v0 v1 v2 : BitVec 32) (t2 : Fin k0_t2_loop.trips) (Z : Fin 256 → Fin 4096 → EReal) (C V : Fin 256 → Fin 1024 → EReal) (g b : Vec Ideal S1x1024 .f32) (w : Fin 8 → Fin 128 → Fin 128 → EReal) (bs : Fin 128 → Fin 1024 → EReal) (E : Set ℕ) (k : Fin k0_t5_loop.trips) (acc : Unit) :
    inv5 c arg7 harg7 arg8 harg8 arg19 arg21 t2 Z C V g b w bs k.val acc
      ⊢ wp frame (wpE (defs₀ (F := Ideal)) Variants.none (c : Thread nD τ) none) E (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 t2 v2 k acc) (fun acc' => inv5 c arg7 harg7 arg8 harg8 arg19 arg21 t2 Z C V g b w bs (k.val + 1) acc') := by
  have ht2 : t2.val < 2 := lt_of_lt_of_eq t2.isLt trips2
  have hk : k.val < 4 := lt_of_lt_of_eq k.isLt trips5
  unfold inv5 Holds k0_t5_body
  iintro ⟨H7, H8, ⟨%f21, %h21, H21⟩, %f19, %h19, H19⟩
  sl_exec
  sl_step
  isplitl [H7]; · iexact H7
  isplitl [H8]; · iexact H8
  isplitl [H21]
  · iexists _; isplitr; swap; · iexact H21
    ipureintro; exact h21
  iexists _; isplitr; swap; · iexact H19
  ipureintro
  refine Agrees.store arg19.view f19 (k0_off31_inb t2 k) _ [] _ (128 * t2.val + 32 * k.val) 0 (k0_off31_eq t2 k) (by simpa using h19) ?_ (by omega)
  intro i j hr hl
  have hj := j.isLt
  refine (pay45 _ _ _ i j).trans ?_
  have e21 : ∀ l, mat (arg21.view.readAt (Elt Ideal) (Rect.unit (s := S256x1024) (k0_off30 t2 k) S32x1024.size (k0_off30_inb t2 k)).toLoadRect f21) i l
      = C ⟨128 * t2.val + 32 * k.val + i.val, hr⟩ l := by
    intro l
    refine (readAt_tile arg21.view f21 (k0_off30_inb t2 k) (128 * t2.val + 32 * k.val) 0 (k0_off30_eq t2 k) i l).trans ?_
    refine (h21 _ _ (by show _ < _; simp only []; omega)).trans ?_
    simp
  rw [show mat (arg21.view.readAt (Elt Ideal) (Rect.unit (s := S256x1024) (k0_off30 t2 k) S32x1024.size (k0_off30_inb t2 k)).toLoadRect f21) i
      = C ⟨128 * t2.val + 32 * k.val + i.val, hr⟩ from funext e21]
  simp only [readAt_all, harg7.read_unread, harg8.read_unread, catRow]
  rw [dif_pos (by omega)]
  simp

/-- The chunk's rows of a matrix. -/
def chunk (V : Fin 256 → Fin 1024 → EReal) (t : ℕ) (r : Fin 128) (l : Fin 1024) : EReal := if h : 128 * t + r.val < 256 then V ⟨128 * t + r.val, h⟩ l else 0

/-- The values' loop of a chunk. -/
def inv6 (c : Dev nD) (arg9 : Memref sig .tc .vmem S1x1024 .f32) (harg9 : arg9.IsWhole) (arg10 : Memref sig .tc .vmem S1x1024 .f32) (harg10 : arg10.IsWhole) (arg16 : Memref sig .tc .vmem S256x1024 .f32) (arg18 : Memref sig .tc .vmem S256x4096 .f32) (arg23 : Memref sig .tc .vmem S128x1024 .bf16) (t2 : Fin k0_t2_loop.trips) (Z : Fin 256 → Fin 4096 → EReal) (g b : Vec Ideal S1x1024 .f32) (k : ℕ) (_ : Unit) : sProp 𝕄 :=
  iprop((arg9.view.loc (c : Thread nD τ) ↦[arg9.view.set]{fullShare} harg9.unread g)
    ∗ (arg10.view.loc (c : Thread nD τ) ↦[arg10.view.set]{fullShare} harg10.unread b)
    ∗ Holds c arg18 Z (fun _ _ => True)
    ∗ Holds c arg16 (fun r => values (Z r) (mat g 0) (mat b 0)) (fun r _ => r < 128 * t2.val + 32 * k)
    ∗ Holds c arg23 (chunk (fun r => values (Z r) (mat g 0) (mat b 0)) t2.val) (fun r _ => r < 32 * k))

/-- A trip of the values' loop. -/
theorem step6 (v0 v1 v2 : BitVec 32) (t2 : Fin k0_t2_loop.trips) (Z : Fin 256 → Fin 4096 → EReal) (g b : Vec Ideal S1x1024 .f32) (E : Set ℕ) (k : Fin k0_t6_loop.trips) (acc : Unit) :
    inv6 c arg9 harg9 arg10 harg10 arg16 arg18 arg23 t2 Z g b k.val acc
      ⊢ wp frame (wpE (defs₀ (F := Ideal)) Variants.none (c : Thread nD τ) none) E (k0_t6_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 t2 v2 k acc) (fun acc' => inv6 c arg9 harg9 arg10 harg10 arg16 arg18 arg23 t2 Z g b (k.val + 1) acc') := by
  have ht2 : t2.val < 2 := lt_of_lt_of_eq t2.isLt trips2
  have hk : k.val < 4 := lt_of_lt_of_eq k.isLt trips6
  unfold inv6 Holds k0_t6_body
  iintro ⟨H9, H10, ⟨%f18, %h18, H18⟩, ⟨%f16, %h16, H16⟩, %f23, %h23, H23⟩
  have e18 := h18.eq fun _ _ => trivial
  sl_exec
  sl_step
  have key : ∀ (i : Fin 32) (hr : 128 * t2.val + 32 * k.val + i.val < 256), (fun l => gelu (arg18.view.readAt (Elt Ideal) (Rect.unit (s := S256x4096) (k0_off32 t2 k) S32x1024.size (k0_off32_inb t2 k)).toLoadRect f18 (ix2 i l)))
      = fun l : Fin 1024 => gelu (Z ⟨128 * t2.val + 32 * k.val + i.val, hr⟩ ⟨3072 + l.val, by omega⟩) := by
    intro i hr
    funext l
    refine congrArg gelu ((readAt_tile arg18.view f18 (k0_off32_inb t2 k) (128 * t2.val + 32 * k.val) 3072 (k0_off32_eq t2 k) i l).trans ?_)
    rw [e18]
    rfl
  isplitl [H9]; · iexact H9
  isplitl [H10]; · iexact H10
  isplitl [H18]
  · iexists _; isplitr; swap; · iexact H18
    ipureintro; exact h18
  isplitl [H16]
  · iexists _; isplitr; swap; · iexact H16
    ipureintro
    refine Agrees.store arg16.view f16 (k0_off34_inb t2 k) _ [] _ (128 * t2.val + 32 * k.val) 0 (k0_off34_eq t2 k) (by simpa using h16) ?_ (by omega)
    intro i j hr hl
    refine (pay46 _ _ _ i j).trans ?_
    rw [key i hr]
    simp only [readAt_all, harg9.read_unread, harg10.read_unread, values, Nat.zero_add, Fin.eta]
  iexists _; isplitr; swap; · iexact H23
  ipureintro
  refine Agrees.store arg23.view f23 (k0_off33_inb k) _ [] _ (32 * k.val) 0 (k0_off33_eq k) (by simpa using h23) ?_ (by omega)
  intro i j hr hl
  have hi := i.isLt
  refine (pay47 _ _ _ i j).trans ?_
  rw [key i (by omega)]
  simp only [readAt_all, harg9.read_unread, harg10.read_unread, chunk, values, Nat.zero_add, Fin.eta]
  rw [dif_pos (by omega)]
  simp only [Nat.add_assoc]

end Cert.KernelIdeal.Body

end
-- ==== Proof.MixChunk.lean ====
module

public import proofs.«01_k».proof.Proof.MixLoops

/-! One grid point of the mixer: a chunk of 128 rows. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Rows Layer

local notation "𝕄" => MT nD τ sig Unit (Elt Ideal) ℕ (UR sig nD τ) ℕ

/-- The values of a block's rows. -/
abbrev valRow (Z : Fin 256 → Fin 4096 → EReal) (gV bV : Vec Ideal S1x1024 .f32) (r : Fin 256) : Fin 1024 → EReal := values (Z r) (mat gV 0) (mat bV 0)

/-- The convolution of a block's gated rows. -/
abbrev convBlock (st : Vec Ideal S32x30x1024 .f32) (wc : Vec Ideal S32x1024 .f32) (bc : Vec Ideal S1x1024 .f32) (Z : Fin 256 → Fin 4096 → EReal) : Fin 256 → Fin 1024 → EReal :=
  convRow (cube st) (fun r => gated (Z r)) (taps wc) (mat bc 0)

/-- The two branches of a block side by side. -/
abbrev catBlock (st : Vec Ideal S32x30x1024 .f32) (wc : Vec Ideal S32x1024 .f32) (bc gA bA gV bV : Vec Ideal S1x1024 .f32) (bs : Vec Ideal S128x1024 .f32)
    (Z : Fin 256 → Fin 4096 → EReal) (W : Fin 8 → Fin 128 → Fin 128 → EReal) : Fin 256 → Fin 2048 → EReal :=
  catRow Z (convBlock st wc bc Z) (valRow Z gV bV) (mat gA 0) (mat bA 0) W (mat bs)

/-- The loop over the chunks of 128 rows: the rows of the chunks before the trip's are computed. -/
def inv2 (c : Dev nD) (arg2 : Memref sig .tc .vmem S32x30x1024 .f32) (harg2 : arg2.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S128x1024 .f32) (harg12 : arg12.IsWhole) (arg15 : Memref sig .tc .vmem S256x1024 .f32) (arg16 : Memref sig .tc .vmem S256x1024 .f32) (arg18 : Memref sig .tc .vmem S256x4096 .f32) (arg19 : Memref sig .tc .vmem S256x2048 .bf16) (arg20 : Memref sig .tc .vmem S256x1024 .f32) (arg21 : Memref sig .tc .vmem S256x1024 .f32) (arg22 : Memref sig .tc .vmem S16x1024 .f32) (arg23 : Memref sig .tc .vmem S128x1024 .bf16) (arg24 : Memref sig .tc .vmem S8x128x128 .bf16) (st : Vec Ideal S32x30x1024 .f32) (wc : Vec Ideal S32x1024 .f32) (bc gA bA gV bV : Vec Ideal S1x1024 .f32) (bs : Vec Ideal S128x1024 .f32) (Z : Fin 256 → Fin 4096 → EReal) (W : Fin 8 → Fin 128 → Fin 128 → EReal) (k : ℕ) (_ : Unit) : sProp 𝕄 :=
  iprop((arg2.view.loc (c : Thread nD τ) ↦[arg2.view.set]{fullShare} harg2.unread st)
    ∗ (arg5.view.loc (c : Thread nD τ) ↦[arg5.view.set]{fullShare} harg5.unread wc)
    ∗ (arg6.view.loc (c : Thread nD τ) ↦[arg6.view.set]{fullShare} harg6.unread bc)
    ∗ (arg7.view.loc (c : Thread nD τ) ↦[arg7.view.set]{fullShare} harg7.unread gA)
    ∗ (arg8.view.loc (c : Thread nD τ) ↦[arg8.view.set]{fullShare} harg8.unread bA)
    ∗ (arg9.view.loc (c : Thread nD τ) ↦[arg9.view.set]{fullShare} harg9.unread gV)
    ∗ (arg10.view.loc (c : Thread nD τ) ↦[arg10.view.set]{fullShare} harg10.unread bV)
    ∗ (arg12.view.loc (c : Thread nD τ) ↦[arg12.view.set]{fullShare} harg12.unread bs)
    ∗ Holds c arg15 (fun r => gated (Z r)) (fun r _ => r < 128 * k)
    ∗ Holds c arg16 (valRow Z gV bV) (fun r _ => r < 128 * k)
    ∗ Holds c arg18 Z (fun _ _ => True)
    ∗ Holds c arg19 (catBlock st wc bc gA bA gV bV bs Z W) (fun r _ => r < 128 * k)
    ∗ Holds c arg20 (fun r => gated (Z r)) (fun r _ => r < 128 * k)
    ∗ Holds c arg21 (convBlock st wc bc Z) (fun r _ => r < 128 * k)
    ∗ Any c arg22
    ∗ Any c arg23
    ∗ Slabs c arg24 W)

/-- One head's gate over a chunk, from the buffers it is read from. -/
theorem gate_eq (arg12 : Memref sig .tc .vmem S128x1024 .f32) (arg18 : Memref sig .tc .vmem S256x4096 .f32) (arg23 : Memref sig .tc .vmem S128x1024 .bf16) (arg24 : Memref sig .tc .vmem S8x128x128 .bf16)
    (Z : Fin 256 → Fin 4096 → EReal) (C V : Fin 256 → Fin 1024 → EReal) (g b : Fin 1024 → EReal) (W : Fin 8 → Fin 128 → Fin 128 → EReal) (bs : Vec Ideal S128x1024 .f32)
    {f12 : BufTy.Contents (Elt Ideal) arg12.view.ty} {f18 : BufTy.Contents (Elt Ideal) arg18.view.ty} {f23 : BufTy.Contents (Elt Ideal) arg23.view.ty} {f24 : BufTy.Contents (Elt Ideal) arg24.view.ty}
    (h12 : arg12.view.read (Elt Ideal) f12 = bs) (h18 : arg18.view.read (Elt Ideal) f18 = fun y => Z (y 0) (y 1)) (t : ℕ) (ht : t < 2)
    (h23 : arg23.view.read (Elt Ideal) f23 = fun y => chunk V t (y 0) (y 1)) (h24 : SlabAgrees (arg24.view.read (Elt Ideal) f24) W (fun _ => True)) (h : Fin 8)
    {o12 o18 o23 : Fin 2 → ℕ} {o24 : Fin 3 → ℕ} (i12 : ∀ a : Fin 2, o12 a + (![128, 128] : Fin 2 → ℕ) a ≤ (![128, 1024] : Fin 2 → ℕ) a)
    (i18 : ∀ a : Fin 2, o18 a + (![128, 128] : Fin 2 → ℕ) a ≤ (![256, 4096] : Fin 2 → ℕ) a) (i23 : ∀ a : Fin 2, o23 a + (![128, 128] : Fin 2 → ℕ) a ≤ (![128, 1024] : Fin 2 → ℕ) a)
    (i24 : ∀ a : Fin 3, o24 a + (![1, 128, 128] : Fin 3 → ℕ) a ≤ (![8, 128, 128] : Fin 3 → ℕ) a)
    (e12 : o12 = ![0, 128 * h.val]) (e18 : o18 = ![128 * t, 2048 + 128 * h.val]) (e23 : o23 = ![0, 128 * h.val]) (e24 : o24 = ![h.val, 0, 0])
    (q : ℕ) (hq : q = 1024 + 128 * h.val) (i j : Fin 128) (hr : 128 * t + i.val < 256) (hl : q + j.val < 2048) :
    gatePay (arg24.view.readAt (Elt Ideal) (Rect.unit (s := S8x128x128) o24 ![1, 128, 128] i24).toLoadRect f24)
        (arg23.view.readAt (Elt Ideal) (Rect.unit (s := S128x1024) o23 ![128, 128] i23).toLoadRect f23)
        (arg12.view.readAt (Elt Ideal) (Rect.unit (s := S128x1024) o12 ![128, 128] i12).toLoadRect f12)
        (arg18.view.readAt (Elt Ideal) (Rect.unit (s := S256x4096) o18 ![128, 128] i18).toLoadRect f18) i j
      = catRow Z C V g b W (mat bs) ⟨128 * t + i.val, hr⟩ ⟨q + j.val, hl⟩ := by
  subst hq
  have hi := i.isLt
  have hj := j.isLt
  have r24 : ∀ k : Fin 128, arg24.view.readAt (Elt Ideal) (Rect.unit (s := S8x128x128) o24 ![1, 128, 128] i24).toLoadRect f24 (ix3 0 i k) = W h i k := by
    intro k
    refine (readAt_box arg24.view f24 i24 h.val 0 0 e24 0 i k).trans ((h24 _ _ _ trivial).trans ?_)
    simp
  have r23 : ∀ k : Fin 128, arg23.view.readAt (Elt Ideal) (Rect.unit (s := S128x1024) o23 ![128, 128] i23).toLoadRect f23 (ix2 k j)
      = V ⟨128 * t + k.val, by omega⟩ ⟨128 * h.val + j.val, by omega⟩ := by
    intro k
    refine (readAt_tile arg23.view f23 i23 0 (128 * h.val) e23 k j).trans ?_
    simp only [h23, chunk, Nat.zero_add]
    exact dif_pos (by omega)
  have r12 : arg12.view.readAt (Elt Ideal) (Rect.unit (s := S128x1024) o12 ![128, 128] i12).toLoadRect f12 (ix2 i j) = bs (ix2 i ⟨128 * h.val + j.val, by omega⟩) := by
    refine (readAt_tile arg12.view f12 i12 0 (128 * h.val) e12 i j).trans ?_
    simp only [h12, Nat.zero_add]
  have r18 : arg18.view.readAt (Elt Ideal) (Rect.unit (s := S256x4096) o18 ![128, 128] i18).toLoadRect f18 (ix2 i j)
      = Z ⟨128 * t + i.val, hr⟩ ⟨2048 + 128 * h.val + j.val, by omega⟩ := by
    refine (readAt_tile arg18.view f18 i18 (128 * t) (2048 + 128 * h.val) e18 i j).trans ?_
    simp only [h18]
    rfl
  have d1 : (128 * h.val + j.val) / 128 = h.val := by omega
  have d2 : (128 * t + i.val) % 128 = i.val := by omega
  have d3 : (128 * t + i.val) / 128 = t := by omega
  have d4 : 1024 + 128 * h.val + j.val - 1024 = 128 * h.val + j.val := by omega
  have d5 : 1024 + (1024 + 128 * h.val + j.val) = 2048 + 128 * h.val + j.val := by omega
  unfold gatePay catRow
  rw [dif_neg (by simp only []; omega)]
  simp only [r24, r23, r12, r18, d2, d3, d4, d5, d1, Fin.eta, mat]

/-- A chunk. -/
theorem step2 (c : Dev nD) (i : grid0.Coords) (arg1 : Memref sig .tc .vmem S256x2048 .f32) (harg1 : arg1.IsWhole) (arg2 : Memref sig .tc .vmem S32x30x1024 .f32) (harg2 : arg2.IsWhole) (arg3 : Memref sig .tc .vmem S1x2048 .f32) (harg3 : arg3.IsWhole) (arg4 : Memref sig .tc .vmem S2048x4096 .bf16) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S2048x2048 .bf16) (harg13 : arg13.IsWhole) (arg14 : Memref sig .tc .vmem S256x2048 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x2048 .bf16) (harg17 : arg17.IsWhole) (arg18 : Memref sig .tc .vmem S256x4096 .f32) (harg18 : arg18.IsWhole) (arg19 : Memref sig .tc .vmem S256x2048 .bf16) (harg19 : arg19.IsWhole) (arg20 : Memref sig .tc .vmem S256x1024 .f32) (harg20 : arg20.IsWhole) (arg21 : Memref sig .tc .vmem S256x1024 .f32) (harg21 : arg21.IsWhole) (arg22 : Memref sig .tc .vmem S16x1024 .f32) (harg22 : arg22.IsWhole) (arg23 : Memref sig .tc .vmem S128x1024 .bf16) (harg23 : arg23.IsWhole) (arg24 : Memref sig .tc .vmem S8x128x128 .bf16) (harg24 : arg24.IsWhole)  (st : Vec Ideal S32x30x1024 .f32) (wc : Vec Ideal S32x1024 .f32) (bc gA bA gV bV : Vec Ideal S1x1024 .f32) (bs : Vec Ideal S128x1024 .f32) (Z : Fin 256 → Fin 4096 → EReal) (W : Fin 8 → Fin 128 → Fin 128 → EReal) (E : Set ℕ) (k : Fin k0_t2_loop.trips) (acc : Unit) :
    inv2 c arg2 harg2 arg5 harg5 arg6 harg6 arg7 harg7 arg8 harg8 arg9 harg9 arg10 harg10 arg12 harg12 arg15 arg16 arg18 arg19 arg20 arg21 arg22 arg23 arg24 st wc bc gA bA gV bV bs Z W k.val acc
      ⊢ wp frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k acc) (fun acc' => inv2 c arg2 harg2 arg5 harg5 arg6 harg6 arg7 harg7 arg8 harg8 arg9 harg9 arg10 harg10 arg12 harg12 arg15 arg16 arg18 arg19 arg20 arg21 arg22 arg23 arg24 st wc bc gA bA gV bV bs Z W (k.val + 1) acc') := by
  have hk : k.val < 2 := lt_of_lt_of_eq k.isLt trips2
  have T3 : Scf.trips k0_t3_loop.lb k0_t3_loop.ub k0_t3_loop.st = 4 := trips3
  have T4 : Scf.trips k0_t4_loop.lb k0_t4_loop.ub k0_t4_loop.st = 16 := trips4
  have T5 : Scf.trips k0_t5_loop.lb k0_t5_loop.ub k0_t5_loop.st = 4 := trips5
  have T6 : Scf.trips k0_t6_loop.lb k0_t6_loop.ub k0_t6_loop.st = 4 := trips6
  unfold inv2 k0_t2_body Holds Slabs Any
  iintro ⟨H2, H5, H6, H7, H8, H9, H10, H12, ⟨%f15, %h15, H15⟩, ⟨%f16, %h16, H16⟩, H18, ⟨%f19, %h19, H19⟩, ⟨%f20, %h20, H20⟩, ⟨%f21, %h21, H21⟩, H22, ⟨%f23, H23⟩, ⟨%f24, %h24, H24⟩⟩
  sl_exec
  sl_for (inv3 c arg15 arg18 arg20 k Z) $$ [H15 H18 H20]
  case region =>
    intro k' acc
    exact step3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ k Z E k' acc
  · unfold inv3 Holds
    isplitl [H18]; · iexact H18
    isplitl [H15]
    · iexists _; isplitr; swap; · iexact H15
      ipureintro; exact h15.mono (by omega)
    iexists _; isplitr; swap; · iexact H20
    ipureintro; exact h20.mono (by omega)
  iintro %acc3 HI
  unfold inv3 Holds
  icases HI with ⟨H18, ⟨%g15, %i15, H15⟩, ⟨%g20, %i20, H20⟩⟩
  sl_for (inv4 c arg2 harg2 arg5 harg5 arg6 harg6 arg20 arg21 arg22 k st wc bc (fun r => gated (Z r))) $$ [H2 H5 H6 H20 H21 H22]
  case region =>
    intro k' acc
    exact step4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ k st wc bc _ E k' acc
  · unfold inv4 Holds Any
    isplitl [H2]; · iexact H2
    isplitl [H5]; · iexact H5
    isplitl [H6]; · iexact H6
    isplitl [H20]
    · iexists _; isplitr; swap; · iexact H20
      ipureintro; exact i20.mono (by simp only [T3]; omega)
    isplitl [H21]
    · iexists _; isplitr; swap; · iexact H21
      ipureintro; exact h21.mono (by omega)
    iexact H22
  iintro %acc4 HI
  unfold inv4 Holds Any
  icases HI with ⟨H2, H5, H6, ⟨%g20, %i20, H20⟩, ⟨%g21, %i21, H21⟩, H22⟩
  sl_for (inv5 c arg7 harg7 arg8 harg8 arg19 arg21 k Z (convBlock st wc bc Z) (valRow Z gV bV) gA bA W (mat bs)) $$ [H7 H8 H19 H21]
  case region =>
    intro k' acc
    exact step5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ k Z _ _ gA bA W _ E k' acc
  · unfold inv5 Holds
    isplitl [H7]; · iexact H7
    isplitl [H8]; · iexact H8
    isplitl [H21]
    · iexists _; isplitr; swap; · iexact H21
      ipureintro; exact i21.mono (by simp only [T4]; omega)
    iexists _; isplitr; swap; · iexact H19
    ipureintro; exact h19.mono (by omega)
  iintro %acc5 HI
  unfold inv5 Holds
  icases HI with ⟨H7, H8, ⟨%g21, %i21, H21⟩, ⟨%g19, %i19, H19⟩⟩
  sl_for (inv6 c arg9 harg9 arg10 harg10 arg16 arg18 arg23 k Z gV bV) $$ [H9 H10 H18 H16 H23]
  case region =>
    intro k' acc
    exact step6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ k Z gV bV E k' acc
  · unfold inv6 Holds
    isplitl [H9]; · iexact H9
    isplitl [H10]; · iexact H10
    isplitl [H18]; · iexact H18
    isplitl [H16]
    · iexists _; isplitr; swap; · iexact H16
      ipureintro; exact h16.mono (by omega)
    iexists _; isplitr; swap; · iexact H23
    ipureintro; exact agrees_none _ _ (by omega)
  iintro %acc6 HI
  unfold inv6 Holds
  icases HI with ⟨H9, H10, ⟨%f18, %i18, H18⟩, ⟨%g16, %i16, H16⟩, ⟨%g23, %i23, H23⟩⟩
  have e18 := i18.eq fun _ _ => trivial
  have e23 := i23.eq fun r _ => show r.val < 32 * Scf.trips k0_t6_loop.lb k0_t6_loop.ub k0_t6_loop.st by rw [T6]; exact r.isLt
  sl_exec
  sl_step
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H15]
  · iexists _; isplitr; swap; · iexact H15
    ipureintro; exact i15.mono (by simp only [T3]; omega)
  isplitl [H16]
  · iexists _; isplitr; swap; · iexact H16
    ipureintro; exact i16.mono (by simp only [T6]; omega)
  isplitl [H18]
  · iexists _; isplitr; swap; · iexact H18
    ipureintro; exact i18
  isplitl [H19]
  · iexists _; isplitr; swap; · iexact H19
    ipureintro
    have r12 := harg12.read_unread (Val := Elt Ideal) bs
    refine Agrees.store arg19.view _ (k0_off50_inb k) _ _ _ (128 * k.val) 1920 (k0_off50_eq k) (S := fun r l => r < 128 * k.val ∨ (l < 1920 ∧ r < 128 * k.val + 128)) ?_
      (fun i j hr hl => (gate3 _ _ _ _ i j).trans (gate_eq arg12 arg18 arg23 arg24 Z _ _ _ _ W bs r12 e18 k.val hk e23 h24 7 _ (k0_off49_inb k) _ _ rfl (k0_off49_eq k) rfl rfl _ rfl i j hr hl)) (by omega)
    refine Agrees.store arg19.view _ (k0_off48_inb k) _ _ _ (128 * k.val) 1792 (k0_off48_eq k) (S := fun r l => r < 128 * k.val ∨ (l < 1792 ∧ r < 128 * k.val + 128)) ?_
      (fun i j hr hl => (gate62 _ _ _ _ i j).trans (gate_eq arg12 arg18 arg23 arg24 Z _ _ _ _ W bs r12 e18 k.val hk e23 h24 6 _ (k0_off47_inb k) _ _ rfl (k0_off47_eq k) rfl rfl _ rfl i j hr hl)) (by omega)
    refine Agrees.store arg19.view _ (k0_off46_inb k) _ _ _ (128 * k.val) 1664 (k0_off46_eq k) (S := fun r l => r < 128 * k.val ∨ (l < 1664 ∧ r < 128 * k.val + 128)) ?_
      (fun i j hr hl => (gate59 _ _ _ _ i j).trans (gate_eq arg12 arg18 arg23 arg24 Z _ _ _ _ W bs r12 e18 k.val hk e23 h24 5 _ (k0_off45_inb k) _ _ rfl (k0_off45_eq k) rfl rfl _ rfl i j hr hl)) (by omega)
    refine Agrees.store arg19.view _ (k0_off44_inb k) _ _ _ (128 * k.val) 1536 (k0_off44_eq k) (S := fun r l => r < 128 * k.val ∨ (l < 1536 ∧ r < 128 * k.val + 128)) ?_
      (fun i j hr hl => (gate58 _ _ _ _ i j).trans (gate_eq arg12 arg18 arg23 arg24 Z _ _ _ _ W bs r12 e18 k.val hk e23 h24 4 _ (k0_off43_inb k) _ _ rfl (k0_off43_eq k) rfl rfl _ rfl i j hr hl)) (by omega)
    refine Agrees.store arg19.view _ (k0_off42_inb k) _ _ _ (128 * k.val) 1408 (k0_off42_eq k) (S := fun r l => r < 128 * k.val ∨ (l < 1408 ∧ r < 128 * k.val + 128)) ?_
      (fun i j hr hl => (gate56 _ _ _ _ i j).trans (gate_eq arg12 arg18 arg23 arg24 Z _ _ _ _ W bs r12 e18 k.val hk e23 h24 3 _ (k0_off41_inb k) _ _ rfl (k0_off41_eq k) rfl rfl _ rfl i j hr hl)) (by omega)
    refine Agrees.store arg19.view _ (k0_off40_inb k) _ _ _ (128 * k.val) 1280 (k0_off40_eq k) (S := fun r l => r < 128 * k.val ∨ (l < 1280 ∧ r < 128 * k.val + 128)) ?_
      (fun i j hr hl => (gate53 _ _ _ _ i j).trans (gate_eq arg12 arg18 arg23 arg24 Z _ _ _ _ W bs r12 e18 k.val hk e23 h24 2 _ (k0_off39_inb k) _ _ rfl (k0_off39_eq k) rfl rfl _ rfl i j hr hl)) (by omega)
    refine Agrees.store arg19.view _ (k0_off38_inb k) _ _ _ (128 * k.val) 1152 (k0_off38_eq k) (S := fun r l => r < 128 * k.val ∨ (l < 1152 ∧ r < 128 * k.val + 128)) ?_
      (fun i j hr hl => (gate51 _ _ _ _ i j).trans (gate_eq arg12 arg18 arg23 arg24 Z _ _ _ _ W bs r12 e18 k.val hk e23 h24 1 _ (k0_off37_inb k) _ _ rfl (k0_off37_eq k) rfl rfl _ rfl i j hr hl)) (by omega)
    refine Agrees.store arg19.view _ (k0_off36_inb k) _ _ _ (128 * k.val) 1024 (k0_off36_eq k) (S := fun r l => r < 128 * k.val ∨ (l < 1024 ∧ r < 128 * k.val + 128)) (i19.mono (by simp only [T5]; omega))
      (fun i j hr hl => (gate50 _ _ _ _ i j).trans (gate_eq arg12 arg18 arg23 arg24 Z _ _ _ _ W bs r12 e18 k.val hk e23 h24 0 _ (k0_off35_inb k) _ _ rfl (k0_off35_eq k) rfl rfl _ rfl i j hr hl)) (by omega)
  isplitl [H20]
  · iexists _; isplitr; swap; · iexact H20
    ipureintro; exact i20.mono (by omega)
  isplitl [H21]
  · iexists _; isplitr; swap; · iexact H21
    ipureintro; exact i21.mono (by omega)
  isplitl [H22]; · iexact H22
  isplitl [H23]
  · iexists _; iexact H23
  iexists _; isplitr; swap; · iexact H24
  ipureintro; exact h24

end Cert.KernelIdeal.Body

end
-- ==== Proof.MixBody.lean ====
module

public import proofs.«01_k».proof.Proof.Gen.KernelIdeal.Frame
public import proofs.«01_k».proof.Proof.MixChunk

/-! One grid point of the mixer as a whole: the three blocks it leaves. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Rows Layer

local notation "𝕄" => MT nD τ sig Unit (Elt Ideal) ℕ (UR sig nD τ) ℕ

/-- The normalized rows projected: the four inputs of the mixer's branches. -/
def proj (x : Vec Ideal S256x2048 .f32) (g : Vec Ideal S1x2048 .f32) (wi : Vec Ideal S2048x4096 .bf16) (r : Fin 256) : Fin 4096 → EReal :=
  rowMul (rms (mat x r) (mat g 0)) (mat wi)

/-- The eight heads' masked weights. -/
def masked (ws : Vec Ideal S8x128x128 .f32) (h : Fin 8) : Fin 128 → Fin 128 → EReal := maskW fun i j => ws (ix3 h i j)

/-- A block of the mixer's result: the residual row and its mixing projected back. -/
def outY (x : Vec Ideal S256x2048 .f32) (st : Vec Ideal S32x30x1024 .f32) (g : Vec Ideal S1x2048 .f32) (wi : Vec Ideal S2048x4096 .bf16) (wc : Vec Ideal S32x1024 .f32) (bc : Vec Ideal S1x1024 .f32) (gA : Vec Ideal S1x1024 .f32) (bA : Vec Ideal S1x1024 .f32) (gV : Vec Ideal S1x1024 .f32) (bV : Vec Ideal S1x1024 .f32) (ws : Vec Ideal S8x128x128 .f32) (bs : Vec Ideal S128x1024 .f32) (wo : Vec Ideal S2048x2048 .bf16) (r : Fin 256) (l : Fin 2048) : EReal :=
  mat x r l + rowMul (catBlock st wc bc gA bA gV bV bs (proj x g wi) (masked ws) r) (mat wo) l

/-- A store of one head's masked weights keeps what the buffer agrees with. -/
theorem mask_store (arg11 : Memref sig .tc .vmem S8x128x128 .f32) (arg24 : Memref sig .tc .vmem S8x128x128 .bf16)
    {f11 : BufTy.Contents (Elt Ideal) arg11.view.ty} {f24 : BufTy.Contents (Elt Ideal) arg24.view.ty} (ws : Vec Ideal S8x128x128 .f32)
    (h11 : arg11.view.read (Elt Ideal) f11 = ws) (h : Fin 8) {o : Fin 3 → ℕ} (ho : o = ![h.val, 0, 0])
    (i24 : ∀ a : Fin 3, o a + (![1, 128, 128] : Fin 3 → ℕ) a ≤ (![8, 128, 128] : Fin 3 → ℕ) a) (P : Vec Ideal S1x128x128 .f32 → Vec Ideal S1x128x128 .bf16)
    (hP : ∀ w i j, P w (ix3 0 i j) = maskW (fun i j => w (ix3 0 i j)) i j) (w : Vec Ideal S1x128x128 .bf16)
    (hw : w = P (arg11.view.readAt (Elt Ideal) (Rect.unit (s := S8x128x128) o ![1, 128, 128] i24).toLoadRect f11)) (L : List (View.Piece (Elt Ideal) S8x128x128 .bf16)) {S S' : ℕ → Prop}
    (hL : SlabAgrees (arg24.view.read (Elt Ideal) (arg24.view.writes (Elt Ideal) f24 L)) (masked ws) S) (hS : ∀ u : ℕ, S' u → u = h.val ∨ S u) :
    SlabAgrees (arg24.view.read (Elt Ideal) (arg24.view.writes (Elt Ideal) f24
      ((⟨Rect.unit (s := S8x128x128) o ![1, 128, 128] i24, w⟩ :
        View.Piece (Elt Ideal) S8x128x128 .bf16) :: L))) (masked ws) S' := by
  subst hw
  refine SlabAgrees.store arg24.view f24 i24 _ L _ h ho hL (fun i j => (hP _ i j).trans ?_) hS
  unfold masked
  congr 1
  funext i j
  refine (readAt_box arg11.view f11 i24 h.val 0 0 ho 0 i j).trans ?_
  rw [h11]
  simp

set_option maxHeartbeats 1600000 in
/-- The body at a point, from its windows' blocks. -/
theorem run (c : Dev nD) (i : grid0.Coords) (arg1 : Memref sig .tc .vmem S256x2048 .f32) (harg1 : arg1.IsWhole) (arg2 : Memref sig .tc .vmem S32x30x1024 .f32) (harg2 : arg2.IsWhole) (arg3 : Memref sig .tc .vmem S1x2048 .f32) (harg3 : arg3.IsWhole) (arg4 : Memref sig .tc .vmem S2048x4096 .bf16) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S2048x2048 .bf16) (harg13 : arg13.IsWhole) (arg14 : Memref sig .tc .vmem S256x2048 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x2048 .bf16) (harg17 : arg17.IsWhole) (arg18 : Memref sig .tc .vmem S256x4096 .f32) (harg18 : arg18.IsWhole) (arg19 : Memref sig .tc .vmem S256x2048 .bf16) (harg19 : arg19.IsWhole) (arg20 : Memref sig .tc .vmem S256x1024 .f32) (harg20 : arg20.IsWhole) (arg21 : Memref sig .tc .vmem S256x1024 .f32) (harg21 : arg21.IsWhole) (arg22 : Memref sig .tc .vmem S16x1024 .f32) (harg22 : arg22.IsWhole) (arg23 : Memref sig .tc .vmem S128x1024 .bf16) (harg23 : arg23.IsWhole) (arg24 : Memref sig .tc .vmem S8x128x128 .bf16) (harg24 : arg24.IsWhole)
    (x : Vec Ideal S256x2048 .f32) (st : Vec Ideal S32x30x1024 .f32) (g : Vec Ideal S1x2048 .f32) (wi : Vec Ideal S2048x4096 .bf16) (wc : Vec Ideal S32x1024 .f32) (bc : Vec Ideal S1x1024 .f32) (gA : Vec Ideal S1x1024 .f32) (bA : Vec Ideal S1x1024 .f32) (gV : Vec Ideal S1x1024 .f32) (bV : Vec Ideal S1x1024 .f32) (ws : Vec Ideal S8x128x128 .f32) (bs : Vec Ideal S128x1024 .f32) (wo : Vec Ideal S2048x2048 .bf16)
    (E : Set ℕ) (K : PUnit → sProp 𝕄) :
    iprop(owns (c : Thread nD τ) arg1 fullShare x ∗ owns (c : Thread nD τ) arg2 fullShare st ∗ owns (c : Thread nD τ) arg3 fullShare g ∗ owns (c : Thread nD τ) arg4 fullShare wi ∗ owns (c : Thread nD τ) arg5 fullShare wc ∗ owns (c : Thread nD τ) arg6 fullShare bc ∗ owns (c : Thread nD τ) arg7 fullShare gA ∗ owns (c : Thread nD τ) arg8 fullShare bA ∗ owns (c : Thread nD τ) arg9 fullShare gV ∗ owns (c : Thread nD τ) arg10 fullShare bV ∗ owns (c : Thread nD τ) arg11 fullShare ws ∗ owns (c : Thread nD τ) arg12 fullShare bs ∗ owns (c : Thread nD τ) arg13 fullShare wo ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x ∗ owns (c : Thread nD τ) arg2 fullShare st ∗ owns (c : Thread nD τ) arg3 fullShare g ∗ owns (c : Thread nD τ) arg4 fullShare wi ∗ owns (c : Thread nD τ) arg5 fullShare wc ∗ owns (c : Thread nD τ) arg6 fullShare bc ∗ owns (c : Thread nD τ) arg7 fullShare gA ∗ owns (c : Thread nD τ) arg8 fullShare bA ∗ owns (c : Thread nD τ) arg9 fullShare gV ∗ owns (c : Thread nD τ) arg10 fullShare bV ∗ owns (c : Thread nD τ) arg11 fullShare ws ∗ owns (c : Thread nD τ) arg12 fullShare bs ∗ owns (c : Thread nD τ) arg13 fullShare wo ∗ owns (c : Thread nD τ) arg14 fullShare (fun y : S256x2048.Idx => outY x st g wi wc bc gA bA gV bV ws bs wo (y 0) (y 1)) ∗ owns (c : Thread nD τ) arg15 fullShare (fun y : S256x1024.Idx => gated (proj x g wi (y 0)) (y 1)) ∗ owns (c : Thread nD τ) arg16 fullShare (fun y : S256x1024.Idx => valRow (proj x g wi) gV bV (y 0) (y 1)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := Ideal)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_mixer_sample_eq_skeleton]; unfold cc0_mixer_sample_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  have T1 : Scf.trips k0_t1_loop.lb k0_t1_loop.ub k0_t1_loop.st = 8 := trips1
  have T2 : Scf.trips k0_t2_loop.lb k0_t2_loop.ub k0_t2_loop.st = 2 := trips2
  have r11 := harg11.read_unread (Val := Elt Ideal) ws
  sl_exec
  sl_for (inv1 c arg1 harg1 arg3 harg3 arg17 x g) $$ [H1 H3 H17]
  case region =>
    intro k acc
    exact step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x g E k acc
  · unfold inv1 Holds
    isplitl [H1]; · iexact H1
    isplitl [H3]; · iexact H3
    iexists _; isplitr; swap; · iexact H17
    ipureintro; exact agrees_none _ _ (by omega)
  iintro %acc1 HI
  unfold inv1 Holds
  icases HI with ⟨H1, H3, ⟨%g17, %h17, H17⟩⟩
  have e17 := h17.eq fun r _ => show r.val < 32 * Scf.trips k0_t1_loop.lb k0_t1_loop.ub k0_t1_loop.st by rw [T1]; exact r.isLt
  sl_exec
  sl_for (inv2 c arg2 harg2 arg5 harg5 arg6 harg6 arg7 harg7 arg8 harg8 arg9 harg9 arg10 harg10 arg12 harg12 arg15 arg16 arg18 arg19 arg20 arg21 arg22 arg23 arg24
    st wc bc gA bA gV bV bs (proj x g wi) (masked ws)) $$ [H2 H5 H6 H7 H8 H9 H10 H12 H15 H16 H18 H19 H20 H21 H22 H23 H24]
  case region =>
    intro k acc
    exact step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 st wc bc gA bA gV bV bs _ _ E k acc
  · unfold inv2 Holds Slabs Any
    isplitl [H2]; · iexact H2
    isplitl [H5]; · iexact H5
    isplitl [H6]; · iexact H6
    isplitl [H7]; · iexact H7
    isplitl [H8]; · iexact H8
    isplitl [H9]; · iexact H9
    isplitl [H10]; · iexact H10
    isplitl [H12]; · iexact H12
    isplitl [H15]
    · iexists _; isplitr; swap; · iexact H15
      ipureintro; exact agrees_none _ _ (by omega)
    isplitl [H16]
    · iexists _; isplitr; swap; · iexact H16
      ipureintro; exact agrees_none _ _ (by omega)
    isplitl [H18]
    · iexists _; isplitr; swap; · iexact H18
      ipureintro
      unfold run.sl.H18_1
      refine Agrees.store arg18.view _ inb_S256x4096_S256x4096_0_0 _ [] _ 0 0 rfl (agrees_none _ _ (S := fun _ _ => False) fun _ _ _ _ => id) ?_ (by omega)
      intro i j hr hl
      pointwise [k0_pay66]
      simp only [readAt_all, harg4.read_unread, e17, proj, rowMul, mat, Nat.zero_add, Fin.eta]
      rfl
    isplitl [H19]
    · iexists _; isplitr; swap; · iexact H19
      ipureintro; exact agrees_none _ _ (by omega)
    isplitl [H20]
    · iexists _; isplitr; swap; · iexact H20
      ipureintro; exact agrees_none _ _ (by omega)
    isplitl [H21]
    · iexists _; isplitr; swap; · iexact H21
      ipureintro; exact agrees_none _ _ (by omega)
    isplitl [H22]
    · iexists _; iexact H22
    isplitl [H23]
    · iexists _; iexact H23
    iexists _; isplitr; swap; · iexact H24
    ipureintro
    unfold run.sl.H24_8
    intro u r l _
    refine (?_ : SlabAgrees _ (masked ws) fun u => u < 8) u r l u.isLt
    refine mask_store arg11 arg24 ws r11 7 rfl inb_S8x128x128_S1x128x128_7_0_0 (k0_pay2 maskPay) mask2 _ rfl _ (S := fun u => u < 7) ?_ (fun u (hu : u < 8) => show u = 7 ∨ u < 7 by omega)
    refine mask_store arg11 arg24 ws r11 6 rfl inb_S8x128x128_S1x128x128_6_0_0 (fun w => k0_pay1 (k0_pay81 maskPay w)) mask1 _ rfl _ (S := fun u => u < 6) ?_ (fun u (hu : u < 7) => show u = 6 ∨ u < 6 by omega)
    refine mask_store arg11 arg24 ws r11 5 rfl inb_S8x128x128_S1x128x128_5_0_0 (k0_pay78 maskPay) mask78 _ (congrFun (congrFun pay80 _) _) _ (S := fun u => u < 5) ?_ (fun u (hu : u < 6) => show u = 5 ∨ u < 5 by omega)
    refine mask_store arg11 arg24 ws r11 4 rfl inb_S8x128x128_S1x128x128_4_0_0 (k0_pay78 maskPay) mask78 _ (congrFun (congrFun pay79 _) _) _ (S := fun u => u < 4) ?_ (fun u (hu : u < 5) => show u = 4 ∨ u < 4 by omega)
    refine mask_store arg11 arg24 ws r11 3 rfl inb_S8x128x128_S1x128x128_3_0_0 (k0_pay78 maskPay) mask78 _ rfl _ (S := fun u => u < 3) ?_ (fun u (hu : u < 4) => show u = 3 ∨ u < 3 by omega)
    refine mask_store arg11 arg24 ws r11 2 rfl inb_S8x128x128_S1x128x128_2_0_0 (k0_pay78 maskPay) mask78 _ (congrFun pay77 _) _ (S := fun u => u < 2) ?_ (fun u (hu : u < 3) => show u = 2 ∨ u < 2 by omega)
    refine mask_store arg11 arg24 ws r11 1 rfl inb_S8x128x128_S1x128x128_1_0_0 (k0_pay78 maskPay) mask78 _ (congrFun pay76 _) _ (S := fun u => u < 1) ?_ (fun u (hu : u < 2) => show u = 1 ∨ u < 1 by omega)
    refine mask_store arg11 arg24 ws r11 0 rfl inb_S8x128x128_S1x128x128_0_0_0 (k0_pay78 maskPay) mask78 _ (congrFun pay75 _) _ (S := fun u => u < 0) (slabAgrees_none _ _ fun u => Nat.not_lt_zero u) (fun u (hu : u < 1) => show u = 0 ∨ u < 0 by omega)
  iintro %acc2 HI
  unfold inv2 Holds Slabs Any
  icases HI with ⟨H2, H5, H6, H7, H8, H9, H10, H12, ⟨%g15, %h15, H15⟩, ⟨%g16, %h16, H16⟩, ⟨%g18, %h18, H18⟩, ⟨%g19, %h19, H19⟩, ⟨%g20, %h20, H20⟩, ⟨%g21, %h21, H21⟩, ⟨%g22, H22⟩, ⟨%g23, H23⟩, ⟨%g24, %h24, H24⟩⟩
  have e19 := h19.eq fun r _ => show r.val < 128 * Scf.trips k0_t2_loop.lb k0_t2_loop.ub k0_t2_loop.st by rw [T2]; exact r.isLt
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine Agrees.eq (G := outY x st g wi wc bc gA bA gV bV ws bs wo) (S := fun _ _ => True) ?_ fun _ _ => trivial
    refine Agrees.store arg14.view f14 inb_S256x2048_S256x2048_0_0 _ [] _ 0 0 rfl (agrees_none _ _ (S := fun _ _ => False) fun _ _ _ _ => id) ?_ (by omega)
    intro i j hr hl
    pointwise [k0_pay4]
    simp only [readAt_all, harg1.read_unread, harg13.read_unread, e19, outY, rowMul, mat, Nat.zero_add, Fin.eta]
    rfl
  isplitl [H15]
  · iexists _; isplitr; swap; · iexact H15
    ipureintro; exact h15.eq fun r _ => show r.val < 128 * Scf.trips k0_t2_loop.lb k0_t2_loop.ub k0_t2_loop.st by rw [T2]; exact r.isLt
  isplitl [H16]
  · iexists _; isplitr; swap; · iexact H16
    ipureintro; exact h16.eq fun r _ => show r.val < 128 * Scf.trips k0_t2_loop.lb k0_t2_loop.ub k0_t2_loop.st by rw [T2]; exact r.isLt
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.KernelIdeal.Body

end
-- ==== Proof.MixBlocks.lean ====
module

public import proofs.«01_k».proof.Proof.Gen.KernelIdeal.Frame
public import Idealize.ShloMosaic.Lib.Pipeline.ValueKit
public import Idealize.ShloMosaic.Lib.StableHlo.ReadAt

/-! # What the mixer's input blocks hold

Grid point `t` reads rows `256 t …` of the input (eight rows to a sequence) and the histories of the sequences
`32 t …`; every parameter is read whole.  The host lines before the region only reshape, pad and repeat: each theorem
says which entry of an argument array an entry of a block is. -/

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen

variable (m : (ℓ : Loc nD τ sig) → Buf (Elt Ideal) ℓ) (c : Dev nD) (t : Fin cfg0.N)

/-- The grid point's number. -/
abbrev pt : ℕ := (grid0.coords t 0).val

theorem pt_lt : pt t < 4 := (grid0.coords t 0).isLt

/-- Each window's block index at a grid point. -/
theorem idx : ∀ t : Fin cfg0.N, win0_0.index t = ![pt t, 0] ∧ win0_1.index t = ![pt t, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0, 0] ∧ win0_11.index t = ![0, 0] ∧ win0_12.index t = ![0, 0] ∧ win0_13.index t = ![pt t, 0] ∧ win0_14.index t = ![pt t, 0] ∧ win0_15.index t = ![pt t, 0] :=
  (by decide +kernel : ∀ t : Fin grid0.N, _)

theorem blk0 (r : Fin 256) (l : Fin 2048) : iblk m c 0 t (ix2 r l) = m ((c : Thread nD τ).loc main_arg0) (ix3 (⟨32 * pt t + r.val / 8, by have := pt_lt t; omega⟩ : Fin 128) (⟨r.val % 8, by omega⟩ : Fin 8) l) := by
  have e : iblk m c 0 t (ix2 r l) = V m c main_v18 (ix2 (⟨256 * pt t + r.val, by have := pt_lt t; omega⟩ : Fin 1024) l) := by blk_point [iblk, idx t]
  rw [e]
  unfold V
  after_reads_at
  have h1 : (256 * pt t + r.val) / 8 = 32 * pt t + r.val / 8 := by omega
  have h2 : (256 * pt t + r.val) % 8 = r.val % 8 := by omega
  simp only [h1, h2]

theorem blk1 (s : Fin 32) (k : Fin 30) (l : Fin 1024) : iblk m c 1 t (ix3 s k l) = m ((c : Thread nD τ).loc main_arg1) (ix4 (0 : Fin 1) (⟨32 * pt t + s.val, by have := pt_lt t; omega⟩ : Fin 128) k l) := by
  have e : iblk m c 1 t (ix3 s k l) = V m c main_v19 (ix3 (⟨32 * pt t + s.val, by have := pt_lt t; omega⟩ : Fin 128) k l) := by blk_point [iblk, idx t]
  rw [e]
  unfold V
  after_reads_at

theorem blk2 (l : Fin 2048) : iblk m c 2 t (ix2 (0 : Fin 1) l) = m ((c : Thread nD τ).loc main_arg2) (ix2 (0 : Fin 1) l) := by
  have e : iblk m c 2 t (ix2 (0 : Fin 1) l) = V m c main_v3 (ix2 (0 : Fin 1) l) := by blk_point [iblk, idx t]
  rw [e]
  unfold V
  after_reads_at

theorem blk3 (k : Fin 2048) (l : Fin 4096) : iblk m c 3 t (ix2 k l) = m ((c : Thread nD τ).loc main_arg3) (ix3 (0 : Fin 1) k l) := by
  have e : iblk m c 3 t (ix2 k l) = V m c main_v5 (ix2 k l) := by blk_point [iblk, idx t]
  rw [e]
  unfold V
  after_reads_at

theorem blk4 (k : Fin 31) (l : Fin 1024) : iblk m c 4 t (ix2 (⟨k.val, by omega⟩ : Fin 32) l) = m ((c : Thread nD τ).loc main_arg4) (ix3 (0 : Fin 1) k l) := by
  have e : iblk m c 4 t (ix2 (⟨k.val, by omega⟩ : Fin 32) l) = V m c main_v1 (ix2 (⟨k.val, by omega⟩ : Fin 32) l) := by blk_point [iblk, idx t]
  rw [e]
  unfold V
  after_reads_at

theorem blk5 (l : Fin 1024) : iblk m c 5 t (ix2 (0 : Fin 1) l) = m ((c : Thread nD τ).loc main_arg5) (ix2 (0 : Fin 1) l) := by
  have e : iblk m c 5 t (ix2 (0 : Fin 1) l) = V m c main_v7 (ix2 (0 : Fin 1) l) := by blk_point [iblk, idx t]
  rw [e]
  unfold V
  after_reads_at

theorem blk6 (l : Fin 1024) : iblk m c 6 t (ix2 (0 : Fin 1) l) = m ((c : Thread nD τ).loc main_arg6) (ix2 (0 : Fin 1) l) := by
  have e : iblk m c 6 t (ix2 (0 : Fin 1) l) = V m c main_v9 (ix2 (0 : Fin 1) l) := by blk_point [iblk, idx t]
  rw [e]
  unfold V
  after_reads_at

theorem blk7 (l : Fin 1024) : iblk m c 7 t (ix2 (0 : Fin 1) l) = m ((c : Thread nD τ).loc main_arg7) (ix2 (0 : Fin 1) l) := by
  have e : iblk m c 7 t (ix2 (0 : Fin 1) l) = V m c main_v11 (ix2 (0 : Fin 1) l) := by blk_point [iblk, idx t]
  rw [e]
  unfold V
  after_reads_at

theorem blk8 (l : Fin 1024) : iblk m c 8 t (ix2 (0 : Fin 1) l) = m ((c : Thread nD τ).loc main_arg8) (ix2 (0 : Fin 1) l) := by
  have e : iblk m c 8 t (ix2 (0 : Fin 1) l) = V m c main_v13 (ix2 (0 : Fin 1) l) := by blk_point [iblk, idx t]
  rw [e]
  unfold V
  after_reads_at

theorem blk9 (l : Fin 1024) : iblk m c 9 t (ix2 (0 : Fin 1) l) = m ((c : Thread nD τ).loc main_arg9) (ix2 (0 : Fin 1) l) := by
  have e : iblk m c 9 t (ix2 (0 : Fin 1) l) = V m c main_v15 (ix2 (0 : Fin 1) l) := by blk_point [iblk, idx t]
  rw [e]
  unfold V
  after_reads_at

theorem blk10 (h : Fin 8) (i j : Fin 128) : iblk m c 10 t (ix3 h i j) = m ((c : Thread nD τ).loc main_arg10) (ix4 (0 : Fin 1) h (⟨i.val % 8, by omega⟩ : Fin 128) (⟨j.val % 8, by omega⟩ : Fin 128)) := by
  have e : iblk m c 10 t (ix3 h i j) = V m c main_v24 (ix3 h i j) := by blk_point [iblk, idx t]
  rw [e]
  unfold V
  after_reads_at

theorem blk11 (i : Fin 128) (l : Fin 1024) : iblk m c 11 t (ix2 i l) = m ((c : Thread nD τ).loc main_arg11) (ix3 (0 : Fin 1) (⟨l.val / 128, by omega⟩ : Fin 8) (⟨i.val % 8, by omega⟩ : Fin 128)) := by
  have e : iblk m c 11 t (ix2 i l) = V m c main_v32 (ix2 i l) := by blk_point [iblk, idx t]
  rw [e]
  unfold V
  after_reads_at

theorem blk12 (k l : Fin 2048) : iblk m c 12 t (ix2 k l) = m ((c : Thread nD τ).loc main_arg12) (ix3 (0 : Fin 1) k l) := by
  have e : iblk m c 12 t (ix2 k l) = V m c main_v17 (ix2 k l) := by blk_point [iblk, idx t]
  rw [e]
  unfold V
  after_reads_at

end Cert.KernelIdeal.Body

end
-- ==== Proof.MixLaunch.lean ====
module

public import proofs.«01_k».proof.Proof.MixBody
public import proofs.«01_k».proof.Proof.MixBlocks
public import proofs.«01_k».proof.Proof.MixSpec
public import proofs.«01_k».proof.Defs
public import Idealize.ShloMosaic.Lib.Claim

/-! # The mixer's launch

Each grid point leaves the three blocks that `run` states; so the call runs to its end and leaves the three arrays
that the blocks cover. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Layer

local notation "𝕄" => MT nD τ sig Unit (Elt Ideal) ℕ (UR sig nD τ) ℕ

variable (m : (ℓ : Loc nD τ sig) → Buf (Elt Ideal) ℓ) (ρ : Dev nD → PrngReg)

/-- The residual block a grid point leaves. -/
def Y13 (c : Dev nD) (t : Fin cfg0.N) : S256x2048.Idx → EReal := (fun y : S256x2048.Idx => outY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1))

/-- The gated block a grid point leaves. -/
def Y14 (c : Dev nD) (t : Fin cfg0.N) : S256x1024.Idx → EReal := (fun y : S256x1024.Idx => gated (proj (iblk m c 0 t) (iblk m c 2 t) (iblk m c 3 t) (y 0)) (y 1))

/-- The block of values a grid point leaves. -/
def Y15 (c : Dev nD) (t : Fin cfg0.N) : S256x1024.Idx → EReal := (fun y : S256x1024.Idx => valRow (proj (iblk m c 0 t) (iblk m c 2 t) (iblk m c 3 t)) (iblk m c 8 t) (iblk m c 9 t) (y 0) (y 1))

/-- The proof data: the inputs' buffers hold their blocks, the outputs' the blocks the body leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Y13 m c t
    | ⟨14, _⟩ => Y14 m c t
    | ⟨15, _⟩ => Y15 m c t
    | ⟨n + 16, h⟩ => absurd h (Nat.not_lt.mpr (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = Y13 m c t := by dsimp only [dats]
theorem after0_14 (c : Dev nD) (t : Fin cfg0.N) : (dats m 0 c).after 14 t = Y14 m c t := by dsimp only [dats]
theorem after0_15 (c : Dev nD) (t : Fin cfg0.N) : (dats m 0 c).after 15 t = Y15 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev ms0_14 (t : Fin cfg0.N) := win0_14.stage (cfg0.slots t 14)
abbrev ms0_15 (t : Fin cfg0.N) := win0_15.stage (cfg0.slots t 15)

abbrev scM0_0 : Memref sig .tc .vmem S256x2048 .bf16 := Memref.whole cc0_scratch0
abbrev scM0_1 : Memref sig .tc .vmem S256x4096 .f32 := Memref.whole cc0_scratch1
abbrev scM0_2 : Memref sig .tc .vmem S256x2048 .bf16 := Memref.whole cc0_scratch2
abbrev scM0_3 : Memref sig .tc .vmem S256x1024 .f32 := Memref.whole cc0_scratch3
abbrev scM0_4 : Memref sig .tc .vmem S256x1024 .f32 := Memref.whole cc0_scratch4
abbrev scM0_5 : Memref sig .tc .vmem S16x1024 .f32 := Memref.whole cc0_scratch5
abbrev scM0_6 : Memref sig .tc .vmem S128x1024 .bf16 := Memref.whole cc0_scratch6
abbrev scM0_7 : Memref sig .tc .vmem S8x128x128 .bf16 := Memref.whole cc0_scratch7

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 1600000 in
/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold Y13 Y14 Y15
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- Every execution ends with the arrays at what the proof data says and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_quiescent m ρ)

/-- The frame claim. -/
theorem quiescent : Cert.quiescent_KernelIdeal := fun m ρ _ =>
  θ_run_and (frame_of m ρ (dats m) (A_eq m) (run_main m ρ)) ((θ_run defs _ _).mono (fun _ h => h.2) (run_quiescent m ρ))

end Cert.KernelIdeal.Body

end
-- ==== Proof.MixValue.lean ====
module

public import proofs.«01_k».proof.Proof.MixLaunch

/-! # The mixer's three results

The arrays that the call leaves, as the mixer of its arguments over sequences: row `r` belongs to sequence `r / 8`. -/

@[expose] public section

set_option maxRecDepth 16384

noncomputable section

namespace Cert.KernelIdeal.Body

open Idealize.ShloMosaic Idealize.ShloMosaic.TcCoe Idealize.ShloMosaic.Tactic
open Idealize.SL.Sem
open Idealize.ShloMosaic.Pipeline (Dat)
open Cert.KernelIdeal.Gen Layer

/-- What the mixer is given, from the call's arguments. -/
def args (X : S128x8x2048.Idx → EReal) (St : S1x128x30x1024.Idx → EReal) (G : S1x2048.Idx → EReal) (Wi : S1x2048x4096.Idx → EReal)
    (Wd : S1x31x1024.Idx → EReal) (Bd GA BA GV BV : S1x1024.Idx → EReal) (Ws : S1x8x128x128.Idx → EReal) (Bs : S1x8x128.Idx → EReal)
    (Wo : S1x2048x2048.Idx → EReal) : Mix where
  x n t l := X (ix3 n t l)
  st n k l := St (ix4 0 n k l)
  g l := G (ix2 0 l)
  wi k l := Wi (ix3 0 k l)
  wd k l := Wd (ix3 0 k l)
  bd l := Bd (ix2 0 l)
  gA l := GA (ix2 0 l)
  bA l := BA (ix2 0 l)
  gV l := GV (ix2 0 l)
  bV l := BV (ix2 0 l)
  ws h i j := Ws (ix4 0 h i j)
  bs h i := Bs (ix3 0 h i)
  wo k l := Wo (ix3 0 k l)

/-- The two branches of a block's row, once the block's pieces are known to be the sequence's. -/
theorem catRow_of (A : Mix) (Z : Fin 256 → Fin 4096 → EReal) (C V : Fin 256 → Fin 1024 → EReal) (g b : Fin 1024 → EReal)
    (w : Fin 8 → Fin 128 → Fin 128 → EReal) (bs : Fin 128 → Fin 1024 → EReal) (n : Fin 128) (p : Fin 8) (r : Fin 256) (hp : p.val = r.val % 8)
    (hZ : Z r = A.z n p) (hC : C r = A.c n p) (hV : ∀ (s : Fin 8) (h : 8 * (r.val / 8) + s.val < 256), V ⟨8 * (r.val / 8) + s.val, h⟩ = A.v n s)
    (hg : g = A.gA) (hb : b = A.bA) (hw : ∀ h, w h = maskW fun i j => A.ws h ⟨i.val % 8, by omega⟩ ⟨j.val % 8, by omega⟩)
    (hs : ∀ (i : Fin 128) (l : Fin 1024), bs i l = A.bs ⟨l.val / 128, by omega⟩ ⟨i.val % 8, by omega⟩) (l : Fin 2048) :
    catRow Z C V g b w bs r l = A.cat n p l := by
  unfold catRow Mix.cat
  by_cases h : l.val < 1024
  · rw [dif_pos h, dif_pos h, hC, hg, hb]
  · rw [dif_neg h, dif_neg h, hZ, hw, hs]
    congr 1
    unfold Mix.mixed
    have hr : r.val % 128 % 8 = p.val := by omega
    refine congrArg₂ (· + ·) ((mask_sum (fun i j => A.ws ⟨(l.val - 1024) / 128, by omega⟩ ⟨i.val, by omega⟩ ⟨j.val, by omega⟩) ⟨r.val % 128, by omega⟩ _).trans ?_) ?_
    · refine Finset.sum_congr rfl fun s _ => ?_
      simp only [hr]
      congr 1
      have hq : 128 * (r.val / 128) + (8 * (r.val % 128 / 8) + s.val) = 8 * (r.val / 8) + s.val := by omega
      simp only [hq]
      exact congrFun (hV s _) _
    · simp only [hr]

variable (m : (ℓ : Loc nD τ sig) → Buf (Elt Ideal) ℓ) (c : Dev nD) (t : Fin cfg0.N)

/-- The call's arguments. -/
def given : Mix := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The sequence of a block's row. -/
abbrev sq (r : Fin 256) : Fin 128 := ⟨32 * pt t + r.val / 8, by have := pt_lt t; omega⟩

/-- The row's place in its sequence. -/
abbrev pl (r : Fin 256) : Fin 8 := ⟨r.val % 8, by omega⟩

/-- A block's projected rows. -/
abbrev Z : Fin 256 → Fin 4096 → EReal := proj (iblk m c 0 t) (iblk m c 2 t) (iblk m c 3 t)

theorem Z_eq (r : Fin 256) : Z m c t r = (given m c).z (sq t r) (pl r) := by
  unfold Z proj Mix.z
  have h0 : mat (iblk m c 0 t) r = (given m c).x (sq t r) (pl r) := funext fun l => blk0 m c t r l
  have h2 : mat (iblk m c 2 t) 0 = (given m c).g := funext fun l => blk2 m c t l
  have h3 : mat (iblk m c 3 t) = (given m c).wi := funext fun k => funext fun l => blk3 m c t k l
  rw [h0, h2, h3]

theorem row_eq (r : Fin 256) (s : Fin 8) (h : 8 * (r.val / 8) + s.val < 256) :
    Z m c t ⟨8 * (r.val / 8) + s.val, h⟩ = (given m c).z (sq t r) s := by
  rw [Z_eq]
  congr 1
  · exact Fin.ext (by show 32 * pt t + (8 * (r.val / 8) + s.val) / 8 = 32 * pt t + r.val / 8; omega)
  · exact Fin.ext (by show (8 * (r.val / 8) + s.val) % 8 = s.val; omega)

theorem conv_eq (r : Fin 256) : convBlock (iblk m c 1 t) (iblk m c 4 t) (iblk m c 5 t) (Z m c t) r = (given m c).c (sq t r) (pl r) := by
  funext l
  unfold convBlock convRow Mix.c Mix.a
  have h1 : cube (iblk m c 1 t) ⟨r.val / 8, by omega⟩ = (given m c).st (sq t r) := funext fun k => funext fun l => blk1 m c t _ k l
  have h4 : taps (iblk m c 4 t) = (given m c).wd := funext fun k => funext fun l => blk4 m c t k l
  have h5 : mat (iblk m c 5 t) 0 = (given m c).bd := funext fun l => blk5 m c t l
  have hz : (fun s : Fin 8 => gated (Z m c t ⟨8 * (r.val / 8) + s.val, by omega⟩)) = fun s => gated ((given m c).z (sq t r) s) :=
    funext fun s => congrArg gated (row_eq m c t r s _)
  rw [h1, h4, h5, hz]

theorem val_eq (r : Fin 256) : valRow (Z m c t) (iblk m c 8 t) (iblk m c 9 t) r = (given m c).v (sq t r) (pl r) := by
  unfold valRow Mix.v
  have h8 : mat (iblk m c 8 t) 0 = (given m c).gV := funext fun l => blk8 m c t l
  have h9 : mat (iblk m c 9 t) 0 = (given m c).bV := funext fun l => blk9 m c t l
  rw [h8, h9, Z_eq]

theorem masked_eq (h : Fin 8) : masked (iblk m c 10 t) h
    = maskW fun a b => (given m c).ws h ⟨a.val % 8, by omega⟩ ⟨b.val % 8, by omega⟩ :=
  congrArg maskW (funext fun i => funext fun j => blk10 m c t h i j)

theorem cat_eq (r : Fin 256) (l : Fin 2048) :
    catBlock (iblk m c 1 t) (iblk m c 4 t) (iblk m c 5 t) (iblk m c 6 t) (iblk m c 7 t) (iblk m c 8 t) (iblk m c 9 t) (iblk m c 11 t) (Z m c t) (masked (iblk m c 10 t)) r l
      = (given m c).cat (sq t r) (pl r) l :=
  catRow_of (given m c) _ _ _ _ _ _ _ (sq t r) (pl r) r rfl (Z_eq m c t r) (conv_eq m c t r)
    (fun s h => (val_eq m c t ⟨8 * (r.val / 8) + s.val, h⟩).trans (congrArg₂ (given m c).v
      (Fin.ext (by show 32 * pt t + (8 * (r.val / 8) + s.val) / 8 = 32 * pt t + r.val / 8; omega))
      (Fin.ext (by show (8 * (r.val / 8) + s.val) % 8 = s.val; omega))))
    (funext fun l => blk6 m c t l) (funext fun l => blk7 m c t l) (masked_eq m c t) (fun i l => blk11 m c t i l) l

/-- A function of a sequence's rows, as the array of all rows. -/
def rows {n : Nat} (f : Fin 128 → Fin 8 → Fin n → EReal) (y : (⟨2, ![1024, n]⟩ : Shape).Idx) : EReal :=
  f ⟨(y 0).val / 8, by have h : (y 0).val < 1024 := (y 0).isLt; omega⟩ ⟨(y 0).val % 8, by omega⟩ (y 1)

theorem rows_block {n : Nat} (f : Fin 128 → Fin 8 → Fin n → EReal) (y : (⟨2, ![1024, n]⟩ : Shape).Idx) (r : Fin 256) (l : Fin n)
    (h0 : (y 0).val = 256 * pt t + r.val) (h1 : (y 1).val = l.val) : rows f y = f (sq t r) (pl r) l := by
  unfold rows
  have h2 : y 1 = l := Fin.ext h1
  rw [h2]
  exact congrArg₂ (fun a b => f a b l) (Fin.ext (by show (y 0).val / 8 = 32 * pt t + r.val / 8; omega)) (Fin.ext (by show (y 0).val % 8 = r.val % 8; omega))

/-- A block's residual rows. -/
theorem Y13_eq (r : Fin 256) (l : Fin 2048) : Y13 m c t (ix2 r l) = (given m c).y (sq t r) (pl r) l := by
  have h12 : mat (iblk m c 12 t) = (given m c).wo := funext fun k => funext fun l => blk12 m c t k l
  exact congrArg₂ (· + ·) (blk0 m c t r l) (congrFun (congrArg₂ rowMul (funext fun l => cat_eq m c t r l) h12) l)

/-- A block's gated rows. -/
theorem Y14_eq (r : Fin 256) (l : Fin 1024) : Y14 m c t (ix2 r l) = (given m c).a (sq t r) (pl r) l :=
  congrFun (congrArg gated (Z_eq m c t r)) l

/-- A block's values. -/
theorem Y15_eq (r : Fin 256) (l : Fin 1024) : Y15 m c t (ix2 r l) = (given m c).v (sq t r) (pl r) l :=
  congrFun (val_eq m c t r) l

/-- The first result: the residual stream. -/
theorem final13 : (dats m 0 c).arrAt 13 cfg0.N = rows (given m c).y := by
  refine (dats m 0 c).arrAt_eq_of_covers 13 _ (by decide +kernel) fun t _ y => ?_
  obtain ⟨r, l, rfl⟩ : ∃ r l, y = ix2 r l := ⟨_, _, eq_ix2 y⟩
  rw [after0_13]
  refine (Y13_eq m c t r l).trans (rows_block t _ _ r l ?_ ?_).symm
  · blk_simp
    blk_point [idx t]
    exact Nat.mul_comm _ _
  · blk_simp
    try blk_point [idx t]

/-- The second result: the gated rows. -/
theorem final14 : (dats m 0 c).arrAt 14 cfg0.N = rows (given m c).a := by
  refine (dats m 0 c).arrAt_eq_of_covers 14 _ (by decide +kernel) fun t _ y => ?_
  obtain ⟨r, l, rfl⟩ : ∃ r l, y = ix2 r l := ⟨_, _, eq_ix2 y⟩
  rw [after0_14]
  refine (Y14_eq m c t r l).trans (rows_block t _ _ r l ?_ ?_).symm
  · blk_simp
    blk_point [idx t]
    exact Nat.mul_comm _ _
  · blk_simp
    try blk_point [idx t]

/-- The third result: the normalised values. -/
theorem final15 : (dats m 0 c).arrAt 15 cfg0.N = rows (given m c).v := by
  refine (dats m 0 c).arrAt_eq_of_covers 15 _ (by decide +kernel) fun t _ y => ?_
  obtain ⟨r, l, rfl⟩ : ∃ r l, y = ix2 r l := ⟨_, _, eq_ix2 y⟩
  rw [after0_15]
  refine (Y15_eq m c t r l).trans (rows_block t _ _ r l ?_ ?_).symm
  · blk_simp
    blk_point [idx t]
    exact Nat.mul_comm _ _
  · blk_simp
    try blk_point [idx t]

end Cert.KernelIdeal.Body

end
-- ==== Proof.MixClaim.lean ====
module

public import proofs.«01_k».proof.Proof.MixRef
public import proofs.«01_k».proof.Proof.MixValue
public import proofs.«01_k».proof.Proof.Gen.ReferenceIdeal.Run

/-! The mixer against its reference. -/

@[expose] public section

set_option maxRecDepth 16384

noncomputable section

open Idealize.ShloMosaic Idealize.ShloMosaic.TcCoe Idealize.ShloMosaic.Tactic Idealize.SL.Sem Idealize.ShloMosaic.StableHlo

namespace Cert.ReferenceIdeal.Ref

open Cert.ReferenceIdeal Cert.ReferenceIdeal.Gen Layer
open Cert.KernelIdeal.Body (args rows)

section Stages

variable (X : FVec Ideal S128x8x2048 .f32) (St : FVec Ideal S1x128x30x1024 .f32) (G : FVec Ideal S1x2048 .f32) (Wi : FVec Ideal S1x2048x4096 .f32)
  (Wd : FVec Ideal S1x31x1024 .f32) (Bd GA BA GV BV : FVec Ideal S1x1024 .f32) (Ws : FVec Ideal S1x8x128x128 .f32) (Bs : FVec Ideal S1x8x128 .f32)
  (Wo : FVec Ideal S1x2048x2048 .f32)

/-- The reference's values. -/
def valuesR : FVec Ideal S128x8x1024 .f32 :=
  heads (act (extractStridedSlice S128x8x1024 ![0, 0, 3072] (proj X G Wi) slices_S128x8x4096_S128x8x1024_0_0_3072)) GV BV

/-- The reference's residual stream. -/
def resultR : FVec Ideal S128x8x2048 .f32 :=
  residual X (branches (heads (convolve (seen St (gate (proj X G Wi))) Wd Bd) GA BA)
    (extractStridedSlice S128x8x1024 ![0, 0, 2048] (proj X G Wi) slices_S128x8x4096_S128x8x1024_0_0_2048)
    (blend (valuesR X G Wi GV BV) (weights Ws) Bs)) Wo

theorem z_eq (n : Fin 128) (t : Fin 8) (l : Fin 4096) : proj X G Wi (ix3 n t l) = (args X St G Wi Wd Bd GA BA GV BV Ws Bs Wo).z n t l := proj_apply X G Wi n t l

theorem gate_eq (n : Fin 128) (t : Fin 8) (l : Fin 1024) : gate (proj X G Wi) (ix3 n t l) = (args X St G Wi Wd Bd GA BA GV BV Ws Bs Wo).a n t l :=
  (gate_apply _ n t l).trans (congrFun (congrArg gated (funext fun l => proj_apply X G Wi n t l)) l)

theorem valuesR_eq (n : Fin 128) (t : Fin 8) (l : Fin 1024) : valuesR X G Wi GV BV (ix3 n t l) = (args X St G Wi Wd Bd GA BA GV BV Ws Bs Wo).v n t l := by
  refine (heads_apply _ GV BV n t l).trans ?_
  unfold Mix.v values
  congr 2
  funext l
  rw [act_apply, v_apply, proj_apply]
  rfl

theorem resultR_eq (n : Fin 128) (t : Fin 8) (l : Fin 2048) : resultR X St G Wi Wd Bd GA BA GV BV Ws Bs Wo (ix3 n t l) = (args X St G Wi Wd Bd GA BA GV BV Ws Bs Wo).y n t l := by
  refine (residual_apply X _ Wo n t l).trans (congrArg (X (ix3 n t l) + ·) (congrFun (congrArg (rowMul · _) (funext fun l => ?_)) l))
  rw [branches_apply]
  unfold Mix.cat
  by_cases h : l.val < 1024
  · rw [dif_pos h, dif_pos h, heads_apply]
    refine congrArg silu (congrFun (congrArg (headNorm · _ _) (funext fun l => (convolve_apply St _ Wd Bd n t l).trans ?_)) _)
    exact congrFun (congrArg (conv _ · _ _ t.val) (funext fun s => funext fun l => gate_eq X St G Wi Wd Bd GA BA GV BV Ws Bs Wo n s l)) l
  · rw [dif_neg h, dif_neg h, u_apply, blend_apply]
    refine congrArg₂ (· * ·) (congrArg gelu ((proj_apply X G Wi n t _).trans (congrArg ((args X St G Wi Wd Bd GA BA GV BV Ws Bs Wo).z n t) (Fin.ext ?_)))) (congrArg (· + _) (Finset.sum_congr rfl fun s _ => ?_))
    · show 2048 + (l.val - 1024) = 1024 + l.val
      omega
    · rw [weights_apply, valuesR_eq X St G Wi Wd Bd GA BA GV BV Ws Bs Wo]
      rfl

end Stages

theorem wide_apply (V : FVec Ideal S128x8x2048 .f32) (f : Fin 128 → Fin 8 → Fin 2048 → EReal) (hf : ∀ a t l, V (ix3 a t l) = f a t l) :
    shapeCast S1024x2048 V shapeCasts_S128x8x2048_S1024x2048 = rows f := by
  funext y
  obtain ⟨r, l, rfl⟩ : ∃ (r : Fin 1024) (l : Fin 2048), y = ix2 r l := ⟨y 0, y 1, eq_ix2 y⟩
  refine (?_ : _ = V (ix3 (⟨r.val / 8, by omega⟩ : Fin 128) (⟨r.val % 8, by omega⟩ : Fin 8) l)).trans (hf _ _ _)
  pointwise

theorem narrow_apply (V : FVec Ideal S128x8x1024 .f32) (f : Fin 128 → Fin 8 → Fin 1024 → EReal) (hf : ∀ a t l, V (ix3 a t l) = f a t l) :
    shapeCast S1024x1024 V shapeCasts_S128x8x1024_S1024x1024 = rows f := by
  funext y
  obtain ⟨r, l, rfl⟩ : ∃ (r : Fin 1024) (l : Fin 1024), y = ix2 r l := ⟨y 0, y 1, eq_ix2 y⟩
  refine (?_ : _ = V (ix3 (⟨r.val / 8, by omega⟩ : Fin 128) (⟨r.val % 8, by omega⟩ : Fin 8) l)).trans (hf _ _ _)
  pointwise

section Run

variable (V0 : Valuation τ sig (Elt Ideal))

theorem proj_run : Value.res_main_v18 V0 = proj (V0 (Proc.devRef .tc main_arg0)) (V0 (Proc.devRef .tc main_arg2)) (V0 (Proc.devRef .tc main_arg3)) := rfl

theorem gate_run : Value.res_main_v29 V0 = gate (proj (V0 (Proc.devRef .tc main_arg0)) (V0 (Proc.devRef .tc main_arg2)) (V0 (Proc.devRef .tc main_arg3))) := rfl

theorem taps10_run : Value.res_main_v108 V0 = taps (Value.res_main_v30 V0) (Value.res_main_v31 V0) 10 (by omega) := rfl

theorem taps21_run : Value.res_main_v185 V0 = taps (Value.res_main_v30 V0) (Value.res_main_v31 V0) 21 (by omega) := rfl

theorem conv_run : Value.res_main_v254 V0 = shapeCast S128x8x8x128 (convolve (Value.res_main_v30 V0) (V0 (Proc.devRef .tc main_arg4)) (V0 (Proc.devRef .tc main_arg5))) shapeCasts_S128x8x1024_S128x8x8x128 := rfl

theorem values_run : Value.res_main_v330 V0 = valuesR (V0 (Proc.devRef .tc main_arg0)) (V0 (Proc.devRef .tc main_arg2)) (V0 (Proc.devRef .tc main_arg3)) (V0 (Proc.devRef .tc main_arg8)) (V0 (Proc.devRef .tc main_arg9)) := rfl

end Run

section Results

variable (m : (ℓ : Loc nD τ sig) → Buf (Elt Ideal) ℓ) (c : Dev nD)

/-- The arguments in a device's memory. -/
def given : Mix := args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The reference's first result is the mixer's residual stream. -/
theorem first : shapeCast S1024x2048 (resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) shapeCasts_S128x8x2048_S1024x2048 = rows (given m c).y :=
  wide_apply _ _ fun n t l => resultR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) n t l

/-- The reference's second result is the gated rows. -/
theorem second : shapeCast S1024x1024 (gate (proj (m ((c.tc : Thread nD τ).loc main_arg0)) (m ((c.tc : Thread nD τ).loc main_arg2)) (m ((c.tc : Thread nD τ).loc main_arg3)))) shapeCasts_S128x8x1024_S1024x1024 = rows (given m c).a :=
  narrow_apply _ _ fun n t l => gate_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) n t l

/-- The reference's third result is the normalised values. -/
theorem third : shapeCast S1024x1024 (valuesR (m ((c.tc : Thread nD τ).loc main_arg0)) (m ((c.tc : Thread nD τ).loc main_arg2)) (m ((c.tc : Thread nD τ).loc main_arg3)) (m ((c.tc : Thread nD τ).loc main_arg8)) (m ((c.tc : Thread nD τ).loc main_arg9))) shapeCasts_S128x8x1024_S1024x1024 = rows (given m c).v :=
  narrow_apply _ _ fun n t l => valuesR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) n t l

end Results

end Cert.ReferenceIdeal.Ref

/-- The reference runs to its end and leaves its arguments as they were. -/
theorem Cert.ReferenceIdeal.Ref.quiescent : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mixer runs to its end, with its three results at the mixer's and its arguments as they were. -/
theorem Cert.KernelIdeal.Body.run_values (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v33_0) = Cert.KernelIdeal.Body.rows (Cert.KernelIdeal.Body.given m c).y
      ∧ r.2.mem ((c.tc : Thread Cert.KernelIdeal.nD Cert.KernelIdeal.τ).loc Cert.KernelIdeal.main_v33_1) = Cert.KernelIdeal.Body.rows (Cert.KernelIdeal.Body.given m c).a
      ∧ r.2.mem ((c.tc : Thread Cert.KernelIdeal.nD Cert.KernelIdeal.τ).loc Cert.KernelIdeal.main_v33_2) = Cert.KernelIdeal.Body.rows (Cert.KernelIdeal.Body.given m c).v
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) :=
  (θ_run Cert.KernelIdeal.defs _ _).mono (fun _ h c => ⟨((h.1 c).1 13).trans (Cert.KernelIdeal.Body.final13 m c), ((h.1 c).1 14).trans (Cert.KernelIdeal.Body.final14 m c),
      ((h.1 c).1 15).trans (Cert.KernelIdeal.Body.final15 m c), h.2 c⟩)
    (θ_run_and (Cert.KernelIdeal.Body.run_main m ρ)
      (Cert.KernelIdeal.Gen.frame_of m ρ (Cert.KernelIdeal.Body.dats m) (Cert.KernelIdeal.Body.A_eq m) (Cert.KernelIdeal.Body.run_main m ρ)))

set_option maxHeartbeats 1000000 in
/-- The mixer leaves what its reference computes. -/
theorem Cert.KernelIdeal.Body.algebraic : Cert.algebraic_KernelIdeal_ReferenceIdeal := by
  pair_intro
  · run_from Cert.KernelIdeal.Body.run_values m g
  · run_from Cert.ReferenceIdeal.Value.run m' g'
    all_goals
      obtain ⟨h0, h1, h2, h3, h4, h5, h6, h7, h8, h9, h10, h11, h12⟩ := hagree c
      have e : Cert.KernelIdeal.Body.given m c = Cert.ReferenceIdeal.Ref.given m' c := by
        unfold Cert.KernelIdeal.Body.given Cert.ReferenceIdeal.Ref.given
        rw [h0, h1, h2, h3, h4, h5, h6, h7, h8, h9, h10, h11, h12]
    · rw [e]
      simp only [← h0, ← h12]
      exact Cert.ReferenceIdeal.Ref.first m' c
    · rw [e]
      exact Cert.ReferenceIdeal.Ref.second m' c
    · rw [e]
      exact Cert.ReferenceIdeal.Ref.third m' c

end
-- ==== Proof.FfnFrame.lean ====
module

public import proofs.«01_k».proof.Proof.Gen.Ffn.Frame
public import proofs.«01_k».proof.Proof.Gen.Ffn.Skeleton
public import proofs.«01_k».proof.Defs
public import Idealize.ShloMosaic.Lib.Claim

/-! # The feed-forward call as written runs to its end

The body reads its inputs and writes its outputs and its scratch; nothing is stated of what it writes.  One invariant
serves every loop: the inputs are held unchanged, the other buffers are held with some contents. -/

@[expose] public section

set_option maxRecDepth 16384

noncomputable section

namespace Cert.Ffn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Ffn.Gen

local notation "𝕄" => MT nD τ sig Unit (Elt Bits) ℕ (UR sig nD τ) ℕ

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The inputs are held at their contents, every other buffer at some contents. -/
def Own (c : Dev nD) (arg2 : Memref sig .tc .vmem S512x2048 .f32) (w2 : arg2.IsWhole) (arg3 : Memref sig .tc .vmem S64x2x512 .f32) (w3 : arg3.IsWhole) (arg4 : Memref sig .tc .vmem S64x2x512 .f32) (w4 : arg4.IsWhole) (arg5 : Memref sig .tc .vmem S1x2048 .f32) (w5 : arg5.IsWhole) (arg6 : Memref sig .tc .vmem S2048x512 .bf16) (w6 : arg6.IsWhole) (arg7 : Memref sig .tc .vmem S2048x512 .bf16) (w7 : arg7.IsWhole) (arg8 : Memref sig .tc .vmem S3x512 .f32) (w8 : arg8.IsWhole) (arg9 : Memref sig .tc .vmem S3x512 .f32) (w9 : arg9.IsWhole) (arg10 : Memref sig .tc .vmem S1x512 .f32) (w10 : arg10.IsWhole) (arg11 : Memref sig .tc .vmem S1x512 .f32) (w11 : arg11.IsWhole) (arg12 : Memref sig .tc .vmem S512x2048 .bf16) (w12 : arg12.IsWhole) (arg13 : Memref sig .tc .vmem S512x2048 .f32) (w13 : arg13.IsWhole) (arg14 : Memref sig .tc .vmem S512x512 .f32) (w14 : arg14.IsWhole) (arg15 : Memref sig .tc .vmem S512x512 .f32) (w15 : arg15.IsWhole) (arg16 : Memref sig .tc .vmem S512x2048 .bf16) (w16 : arg16.IsWhole) (arg17 : Memref sig .tc .vmem S520x512 .f32) (w17 : arg17.IsWhole) (arg18 : Memref sig .tc .vmem S520x512 .f32) (w18 : arg18.IsWhole) (arg19 : Memref sig .tc .vmem S512x512 .bf16) (w19 : arg19.IsWhole) (x0 : Vec Bits S512x2048 .f32) (x1 : Vec Bits S64x2x512 .f32) (x2 : Vec Bits S64x2x512 .f32) (x3 : Vec Bits S1x2048 .f32) (x4 : Vec Bits S2048x512 .bf16) (x5 : Vec Bits S2048x512 .bf16) (x6 : Vec Bits S3x512 .f32) (x7 : Vec Bits S3x512 .f32) (x8 : Vec Bits S1x512 .f32) (x9 : Vec Bits S1x512 .f32) (x10 : Vec Bits S512x2048 .bf16) : sProp 𝕄 :=
  iprop((arg2.view.loc (c : Thread nD τ) ↦[arg2.view.set]{fullShare} w2.unread x0)
    ∗ (arg3.view.loc (c : Thread nD τ) ↦[arg3.view.set]{fullShare} w3.unread x1)
    ∗ (arg4.view.loc (c : Thread nD τ) ↦[arg4.view.set]{fullShare} w4.unread x2)
    ∗ (arg5.view.loc (c : Thread nD τ) ↦[arg5.view.set]{fullShare} w5.unread x3)
    ∗ (arg6.view.loc (c : Thread nD τ) ↦[arg6.view.set]{fullShare} w6.unread x4)
    ∗ (arg7.view.loc (c : Thread nD τ) ↦[arg7.view.set]{fullShare} w7.unread x5)
    ∗ (arg8.view.loc (c : Thread nD τ) ↦[arg8.view.set]{fullShare} w8.unread x6)
    ∗ (arg9.view.loc (c : Thread nD τ) ↦[arg9.view.set]{fullShare} w9.unread x7)
    ∗ (arg10.view.loc (c : Thread nD τ) ↦[arg10.view.set]{fullShare} w10.unread x8)
    ∗ (arg11.view.loc (c : Thread nD τ) ↦[arg11.view.set]{fullShare} w11.unread x9)
    ∗ (arg12.view.loc (c : Thread nD τ) ↦[arg12.view.set]{fullShare} w12.unread x10)
    ∗ Any c arg13
    ∗ Any c arg14
    ∗ Any c arg15
    ∗ Any c arg16
    ∗ Any c arg17
    ∗ Any c arg18
    ∗ Any c arg19)

variable (c : Dev nD) (i : grid0.Coords) (arg2 : Memref sig .tc .vmem S512x2048 .f32) (w2 : arg2.IsWhole) (arg3 : Memref sig .tc .vmem S64x2x512 .f32) (w3 : arg3.IsWhole) (arg4 : Memref sig .tc .vmem S64x2x512 .f32) (w4 : arg4.IsWhole) (arg5 : Memref sig .tc .vmem S1x2048 .f32) (w5 : arg5.IsWhole) (arg6 : Memref sig .tc .vmem S2048x512 .bf16) (w6 : arg6.IsWhole) (arg7 : Memref sig .tc .vmem S2048x512 .bf16) (w7 : arg7.IsWhole) (arg8 : Memref sig .tc .vmem S3x512 .f32) (w8 : arg8.IsWhole) (arg9 : Memref sig .tc .vmem S3x512 .f32) (w9 : arg9.IsWhole) (arg10 : Memref sig .tc .vmem S1x512 .f32) (w10 : arg10.IsWhole) (arg11 : Memref sig .tc .vmem S1x512 .f32) (w11 : arg11.IsWhole) (arg12 : Memref sig .tc .vmem S512x2048 .bf16) (w12 : arg12.IsWhole) (arg13 : Memref sig .tc .vmem S512x2048 .f32) (w13 : arg13.IsWhole) (arg14 : Memref sig .tc .vmem S512x512 .f32) (w14 : arg14.IsWhole) (arg15 : Memref sig .tc .vmem S512x512 .f32) (w15 : arg15.IsWhole) (arg16 : Memref sig .tc .vmem S512x2048 .bf16) (w16 : arg16.IsWhole) (arg17 : Memref sig .tc .vmem S520x512 .f32) (w17 : arg17.IsWhole) (arg18 : Memref sig .tc .vmem S520x512 .f32) (w18 : arg18.IsWhole) (arg19 : Memref sig .tc .vmem S512x512 .bf16) (w19 : arg19.IsWhole)

/-- A trip of loop 1 keeps the invariant. -/
theorem step1 (k0_h1 : k0_cond1 i = 1#1) (x0 : Vec Bits S512x2048 .f32) (x1 : Vec Bits S64x2x512 .f32) (x2 : Vec Bits S64x2x512 .f32) (x3 : Vec Bits S1x2048 .f32) (x4 : Vec Bits S2048x512 .bf16) (x5 : Vec Bits S2048x512 .bf16) (x6 : Vec Bits S3x512 .f32) (x7 : Vec Bits S3x512 .f32) (x8 : Vec Bits S1x512 .f32) (x9 : Vec Bits S1x512 .f32) (x10 : Vec Bits S512x2048 .bf16) (E : Set ℕ) (k : Fin k0_t1_loop.trips) (acc : Unit) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10
      ⊢ wp frame (wpE (defs₀ (F := Bits)) Variants.none (c : Thread nD τ) none) E (k0_t1_body (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_h1 k acc) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10) := by
  unfold Own Any k0_t1_body
  iintro ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
  sl_exec
  sl_step
  iframe H2 H3 H4 H5 H6 H7 H8 H9 H10 H11 H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- A trip of loop 2 keeps the invariant. -/
theorem step2 (x0 : Vec Bits S512x2048 .f32) (x1 : Vec Bits S64x2x512 .f32) (x2 : Vec Bits S64x2x512 .f32) (x3 : Vec Bits S1x2048 .f32) (x4 : Vec Bits S2048x512 .bf16) (x5 : Vec Bits S2048x512 .bf16) (x6 : Vec Bits S3x512 .f32) (x7 : Vec Bits S3x512 .f32) (x8 : Vec Bits S1x512 .f32) (x9 : Vec Bits S1x512 .f32) (x10 : Vec Bits S512x2048 .bf16) (E : Set ℕ) (k : Fin k0_t2_loop.trips) (acc : Unit) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10
      ⊢ wp frame (wpE (defs₀ (F := Bits)) Variants.none (c : Thread nD τ) none) E (k0_t2_body (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19  k acc) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10) := by
  unfold Own Any k0_t2_body
  iintro ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
  sl_exec
  sl_step
  iframe H2 H3 H4 H5 H6 H7 H8 H9 H10 H11 H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

set_option maxHeartbeats 4000000 in
/-- The body runs from inputs at their contents and gives them back; the other buffers are given back at some contents. -/
theorem run (x0 : Vec Bits S512x2048 .f32) (x1 : Vec Bits S64x2x512 .f32) (x2 : Vec Bits S64x2x512 .f32) (x3 : Vec Bits S1x2048 .f32) (x4 : Vec Bits S2048x512 .bf16) (x5 : Vec Bits S2048x512 .bf16) (x6 : Vec Bits S3x512 .f32) (x7 : Vec Bits S3x512 .f32) (x8 : Vec Bits S1x512 .f32) (x9 : Vec Bits S1x512 .f32) (x10 : Vec Bits S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Bits)) Variants.none c none) E (cc0_ffn_sample i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) K := by
  simp only [cc0_ffn_sample_eq_skeleton]; unfold cc0_ffn_sample_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8; obtain rfl := w9.eq_unread hf9; obtain rfl := w10.eq_unread hf10; obtain rfl := w11.eq_unread hf11; obtain rfl := w12.eq_unread hf12
  by_cases hc : k0_cond1 i = 1#1
  · sl_exec
    sl_for (fun _ _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10) $$ [H2 H3 H4 H5 H6 H7 H8 H9 H10 H11 H12 H13 H14 H15 H16 H17 H18 H19]
    case region =>
      intro k' acc
      exact step1 c i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 hc x0 x1 x2 x3 x4 x5 x6 x7 x8 x9 x10 E k' acc
    · unfold Own Any
      iframe H2 H3 H4 H5 H6 H7 H8 H9 H10 H11 H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    iintro %acc1 HI
    unfold Own Any
    icases HI with ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
    sl_exec
    sl_for (fun _ _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10) $$ [H2 H3 H4 H5 H6 H7 H8 H9 H10 H11 H12 H13 H14 H15 H16 H17 H18 H19]
    case region =>
      intro k' acc
      exact step2 c i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19  x0 x1 x2 x3 x4 x5 x6 x7 x8 x9 x10 E k' acc
    · unfold Own Any
      iframe H2 H3 H4 H5 H6 H7 H8 H9 H10 H11 H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    iintro %acc2 HI
    unfold Own Any
    icases HI with ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
    sl_exec
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    · iexists _, _; isplitr; swap; · iexact H19
      ipureintro; rfl
  · sl_exec
    sl_for (fun _ _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 x0 x1 x2 x3 x4 x5 x6 x7 x8 x9 x10) $$ [H2 H3 H4 H5 H6 H7 H8 H9 H10 H11 H12 H13 H14 H15 H16 H17 H18 H19]
    case region =>
      intro k' acc
      exact step2 c i arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19  x0 x1 x2 x3 x4 x5 x6 x7 x8 x9 x10 E k' acc
    · unfold Own Any
      iframe H2 H3 H4 H5 H6 H7 H8 H9 H10 H11 H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    iintro %acc2 HI
    unfold Own Any
    icases HI with ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
    sl_exec
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    · iexists _, _; isplitr; swap; · iexact H19
      ipureintro; rfl

variable (m : (ℓ : Loc nD τ sig) → Buf (Elt Bits) ℓ) (ρ : Dev nD → PrngReg)

/-- The windows nothing is stated of: the outputs. -/
def forgets0 : Fin 14 → Bool := fun w => w.val == 11 || w.val == 12 || w.val == 13

/-- The proof data: the inputs' buffers hold their blocks, the outputs' are unnamed. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)

abbrev scM0_0 : Memref sig .tc .vmem S512x2048 .bf16 := Memref.whole cc0_scratch0
abbrev scM0_1 : Memref sig .tc .vmem S520x512 .f32 := Memref.whole cc0_scratch1
abbrev scM0_2 : Memref sig .tc .vmem S520x512 .f32 := Memref.whole cc0_scratch2
abbrev scM0_3 : Memref sig .tc .vmem S512x512 .bf16 := Memref.whole cc0_scratch3

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1600000 in
/-- The body at any grid point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  iframe H0 H1 H2 H3 H4 H5 H6 H7 H8 H9 H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  iframe H0 H1 H2 H3 H4 H5 H6 H7 H8 H9 H10 H11 H12
  iexact H13

theorem body_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets0 := fun t => by
  rw [bigSep_W0, bigSep_W0, body_row]
  exact triple_restated (sound_body m c t) rfl .rfl fun _ => .rfl

set_option backward.isDefEq.respectTransparency.types false in
/-- Every execution ends with the arguments unchanged and every counter at zero. -/
theorem run_quiescent : θ_run defs (onTc (τ := τ) (main (F := Bits))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Bits))) (s₀ m ρ) (Pipeline.RDat.FramePost (cfgs 0) (fun c => (dats m 0 c).toRForget forgets0) (V m)) :=
  (θ_run defs _ _).mono (fun _ h => h.1) (run_quiescent m ρ)

/-- The frame claim. -/
theorem quiescent : Cert.quiescent_Ffn := fun m ρ _ =>
  θ_run_and ((θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)) ((θ_run defs _ _).mono (fun _ h => h.2) (run_quiescent m ρ))

end Cert.Ffn.Body

end
-- ==== Proof.FfnSpec.lean ====
module

public import proofs.«01_k».proof.Proof.Layer

/-! # The feed-forward part of the layer

Normalised rows are projected up; a causal convolution of width 3 runs over each sequence's two old and eight new rows;
one half of the channels, through its gate, multiplies the other half; the product is projected down and added. -/

@[expose] public section

set_option maxRecDepth 16384

noncomputable section

namespace Layer

open Idealize.ShloMosaic Idealize.SL.Sem

/-- The causal convolution of width 3 over one sequence's eight new rows and the two rows `s` before them, at the row
    `t`: the taps `a`, `b`, `c` times the row two before, the row before and the row, plus the bias. -/
def tapped (s : Fin 2 → EReal) (u : Fin 8 → EReal) (a b c d : EReal) (t : Fin 8) : EReal :=
  a * (if t.val = 0 then s 0 else if t.val = 1 then s 1 else u (t - 2)) + b * (if t.val = 0 then s 1 else u (t - 1)) + c * u t + d

/-- What the feed-forward part is given: 128 sequences of eight new rows, their two rows of history, and the weights. -/
structure Ffn where
  x : Fin 128 → Fin 8 → Fin 2048 → EReal
  st : Fin 128 → Fin 2 → Fin 11264 → EReal
  g : Fin 2048 → EReal
  wu : Fin 2048 → Fin 11264 → EReal
  w : Fin 3 → Fin 11264 → EReal
  b : Fin 11264 → EReal
  wd : Fin 5632 → Fin 2048 → EReal

namespace Ffn

variable (A : Ffn) (n : Fin 128) (t : Fin 8)

/-- A new row, normalised. -/
def h : Fin 2048 → EReal := rms (A.x n t) A.g

/-- A new row, projected up. -/
def up : Fin 11264 → EReal := rowMul (A.h n t) A.wu

/-- The convolution at a new row. -/
def cv (i : Fin 11264) : EReal := tapped (fun e => A.st n e i) (fun s => A.up n s i) (A.w 0 i) (A.w 1 i) (A.w 2 i) (A.b i) t

/-- The hidden row: the first half of the channels through its gate, times the second half. -/
def gate (i : Fin 5632) : EReal :=
  A.cv n t ⟨i.val, by omega⟩ * Ideal.logistic (A.cv n t ⟨i.val, by omega⟩) * A.cv n t ⟨5632 + i.val, by omega⟩

/-- The result: the row plus the hidden row projected down. -/
def y (l : Fin 2048) : EReal := A.x n t l + rowMul (A.gate n t) A.wd l

/-- One hidden channel's part of the down-projection. -/
def term (l : Fin 2048) (i : ℕ) : EReal := if hi : i < 5632 then A.gate n t ⟨i, hi⟩ * A.wd ⟨i, hi⟩ l else 0

/-- The result after the first `k` blocks of 512 hidden channels. -/
def acc (k : ℕ) (l : Fin 2048) : EReal := A.x n t l + ∑ j ∈ Finset.range k, ∑ q : Fin 512, A.term n t l (512 * j + q.val)

theorem acc_zero (l : Fin 2048) : A.acc n t 0 l = A.x n t l := by simp [acc]

theorem acc_succ (k : ℕ) (l : Fin 2048) : A.acc n t (k + 1) l = A.acc n t k l + ∑ q : Fin 512, A.term n t l (512 * k + q.val) := by
  unfold acc
  rw [Finset.sum_range_succ, add_assoc]

/-- All eleven blocks make the whole down-projection. -/
theorem acc_all (l : Fin 2048) : A.acc n t 11 l = A.y n t l := by
  unfold acc y rowMul
  congr 1
  rw [Finset.sum_range, ← Fintype.sum_prod_type' (f := fun (j : Fin 11) (q : Fin 512) => A.term n t l (512 * j.val + q.val))]
  refine Fintype.sum_equiv (finProdFinEquiv (m := 11) (n := 512)) _ _ fun p => ?_
  have hv : (finProdFinEquiv (m := 11) (n := 512) p).val = p.2.val + 512 * p.1.val := rfl
  have hl : 512 * p.1.val + p.2.val < 5632 := by have h1 := p.1.isLt; have h2 := p.2.isLt; omega
  have he : (⟨512 * p.1.val + p.2.val, hl⟩ : Fin 5632) = finProdFinEquiv (m := 11) (n := 512) p := Fin.ext (by rw [hv]; exact Nat.add_comm _ _)
  exact (dif_pos hl).trans (congrArg (fun i => A.gate n t i * A.wd i l) he)

end Ffn

/-- A function of a sequence's rows, as the array of all rows. -/
def seqRows {w : ℕ} (f : Fin 128 → Fin 8 → Fin w → EReal) (y : (⟨2, ![1024, w]⟩ : Shape).Idx) : EReal :=
  f ⟨(y 0).val / 8, by have h : (y 0).val < 1024 := (y 0).isLt; omega⟩ ⟨(y 0).val % 8, by omega⟩ (y 1)

end Layer

end
-- ==== Proof.FfnRefValue.lean ====
module

public import proofs.«01_k».proof.Proof.FfnSpec
public import proofs.«01_k».proof.Proof.Rows
public import proofs.«01_k».proof.Proof.Gen.FfnRefIdeal

/-! # The reference of the feed-forward part, stage by stage

Each stage is a function of whole arrays, read at an index as the row function it computes. -/

@[expose] public section

set_option maxRecDepth 16384

noncomputable section

open Idealize.ShloMosaic Idealize.ShloMosaic.TcCoe Idealize.ShloMosaic.Tactic Idealize.SL.Sem

namespace Cert.FfnRefIdeal.Ref

open Cert.FfnRefIdeal Cert.FfnRefIdeal.Gen Layer

/-- The rows, by sequence. -/
abbrev split (X : FVec Ideal S1024x2048 .f32) : FVec Ideal S128x8x2048 .f32 := shapeCast S128x8x2048 X shapeCasts_S1024x2048_S128x8x2048

theorem split_apply (X : FVec Ideal S1024x2048 .f32) (n : Fin 128) (t : Fin 8) (l : Fin 2048) :
    split X (ix3 n t l) = X (ix2 (⟨8 * n.val + t.val, by omega⟩ : Fin 1024) l) := by
  have e : split X (ix3 n t l) = X (ix2 (⟨n.val * 8 + t.val, by omega⟩ : Fin 1024) l) := by pointwise [split]
  rw [e]
  exact congrArg (fun i => X (ix2 i l)) (Fin.ext (by show n.val * 8 + t.val = 8 * n.val + t.val; omega))

/-- A vector along the channels of every new row. -/
abbrev along (v : FVec Ideal S11264 .f32) : FVec Ideal S128x8x11264 .f32 :=
  broadcastInDim S128x8x11264 ![0, 1, 2] bcast_S1x1x11264_S128x8x11264_0_1_2 (broadcastInDim S1x1x11264 ![2] bcast_S11264_S1x1x11264_2 v)

/-- The normalised rows, projected up. -/
def up (x : FVec Ideal S128x8x2048 .f32) (g : FVec Ideal S1x2048 .f32) (w : FVec Ideal S1x2048x11264 .f32) : FVec Ideal S128x8x11264 .f32 :=
  Host.dotGeneral dot_S128x8x2048_S2048x11264_S128x8x11264_2_0_01_1_n_n none
    (mulf (mulf x (broadcastInDim S128x8x2048 ![0, 1, 2] bcast_S128x8x1_S128x8x2048_0_1_2 (Host.rsqrt (addf (Host.divf
      (broadcastInDim S128x8x1 ![0, 1] bcast_S128x8_S128x8x1_0_1 (Host.reduceAdd (mulf x x) (constant S_ .f32 0x00000000#32) reducesTo_S128x8x2048_S128x8_d2 h_S_))
      (broadcastInDim S128x8x1 ![] bcast_S_S128x8x1 (constant S_ .f32 0x45000000#32))) (broadcastInDim S128x8x1 ![] bcast_S_S128x8x1 (constant S_ .f32 0x358637BD#32))))))
      (broadcastInDim S128x8x2048 ![0, 1, 2] bcast_S1x1x2048_S128x8x2048_0_1_2 (broadcastInDim S1x1x2048 ![2] bcast_S2048_S1x1x2048_2 (shapeCast S2048 g shapeCasts_S1x2048_S2048))))
    (shapeCast S2048x11264 w shapeCasts_S1x2048x11264_S2048x11264)

theorem up_apply (x : FVec Ideal S128x8x2048 .f32) (g : FVec Ideal S1x2048 .f32) (w : FVec Ideal S1x2048x11264 .f32) (n : Fin 128) (t : Fin 8) (l : Fin 11264) :
    up x g w (ix3 n t l) = rowMul (rms (fun k => x (ix3 n t k)) fun k => g (ix2 0 k)) (fun k l => w (ix3 0 k l)) l := by
  pointwise [up, rowMul, rms]

/-- The rows a sequence's convolution sees: its two rows of history, then its new rows. -/
def seen (St : FVec Ideal S1x128x2x11264 .f32) (u : FVec Ideal S128x8x11264 .f32) : FVec Ideal S128x10x11264 .f32 :=
  concatenate S128x10x11264 1 [⟨S128x2x11264, (shapeCast S128x2x11264 St shapeCasts_S1x128x2x11264_S128x2x11264)⟩, ⟨S128x8x11264, u⟩]
    concatenates_S128x2x11264_S128x8x11264_S128x10x11264_d1

theorem seen_apply (St : FVec Ideal S1x128x2x11264 .f32) (u : FVec Ideal S128x8x11264 .f32) (n : Fin 128) (k : Fin 10) (l : Fin 11264) :
    seen St u (ix3 n k l) = if h : k.val < 2 then St (ix4 0 n (⟨k.val, h⟩ : Fin 2) l) else u (ix3 n (⟨k.val - 2, by omega⟩ : Fin 8) l) := by
  by_cases h : k.val < 2
  · rw [dif_pos h]
    pointwise [seen]
    rw [dif_pos h]
  · rw [dif_neg h]
    pointwise [seen]
    rw [dif_neg h]

theorem slices_seen (k : ℕ) (h : k < 3) : S128x10x11264.Slices ![0, k, 0] S128x8x11264 :=
  ⟨rfl, fun a => by fin_cases a <;> simp <;> omega⟩

theorem slices_taps (k : ℕ) (h : k < 3) : S3x11264.Slices ![k, 0] S1x11264 :=
  ⟨rfl, fun a => by fin_cases a <;> simp <;> omega⟩

/-- One tap of the convolution. -/
def tap (H : FVec Ideal S128x10x11264 .f32) (W : FVec Ideal S1x3x11264 .f32) (k : ℕ) (h : k < 3) : FVec Ideal S128x8x11264 .f32 :=
  mulf (extractStridedSlice S128x8x11264 ![0, k, 0] H (slices_seen k h)) (along (shapeCast S11264 (extractStridedSlice S1x11264 ![k, 0]
    (shapeCast S3x11264 W shapeCasts_S1x3x11264_S3x11264) (slices_taps k h)) shapeCasts_S1x11264_S11264))

theorem tap_apply (H : FVec Ideal S128x10x11264 .f32) (W : FVec Ideal S1x3x11264 .f32) (k : ℕ) (h : k < 3) (n : Fin 128) (t : Fin 8) (l : Fin 11264) :
    tap H W k h (ix3 n t l) = H (ix3 n (⟨k + t.val, by omega⟩ : Fin 10) l) * W (ix3 0 (⟨k, h⟩ : Fin 3) l) := by
  pointwise [tap]

/-- The convolution of the new rows. -/
def convolve (H : FVec Ideal S128x10x11264 .f32) (W : FVec Ideal S1x3x11264 .f32) (B : FVec Ideal S1x11264 .f32) : FVec Ideal S128x8x11264 .f32 :=
  addf (addf (addf (tap H W 0 (by omega)) (tap H W 1 (by omega))) (tap H W 2 (by omega))) (along (shapeCast S11264 B shapeCasts_S1x11264_S11264))

theorem bias_apply (B : FVec Ideal S1x11264 .f32) (n : Fin 128) (t : Fin 8) (l : Fin 11264) :
    along (shapeCast S11264 B shapeCasts_S1x11264_S11264) (ix3 n t l) = B (ix2 0 l) := by pointwise [along]

theorem convolve_apply (St : FVec Ideal S1x128x2x11264 .f32) (u : FVec Ideal S128x8x11264 .f32) (W : FVec Ideal S1x3x11264 .f32) (B : FVec Ideal S1x11264 .f32)
    (n : Fin 128) (t : Fin 8) (l : Fin 11264) :
    convolve (seen St u) W B (ix3 n t l) = tapped (fun e => St (ix4 0 n e l)) (fun s => u (ix3 n s l)) (W (ix3 0 0 l)) (W (ix3 0 1 l)) (W (ix3 0 2 l)) (B (ix2 0 l)) t := by
  have e : convolve (seen St u) W B (ix3 n t l) = tap (seen St u) W 0 (by omega) (ix3 n t l) + tap (seen St u) W 1 (by omega) (ix3 n t l)
      + tap (seen St u) W 2 (by omega) (ix3 n t l) + along (shapeCast S11264 B shapeCasts_S1x11264_S11264) (ix3 n t l) := rfl
  rw [e, bias_apply]
  simp only [tap_apply, seen_apply, mul_comm _ (W _)]
  unfold tapped
  fin_cases t <;> rfl

/-- The hidden rows: the first half of the channels through its gate, times the second half. -/
def hidden (z : FVec Ideal S128x8x11264 .f32) : FVec Ideal S128x8x5632 .f32 :=
  mulf (mulf (extractStridedSlice S128x8x5632 ![0, 0, 0] z slices_S128x8x11264_S128x8x5632_0_0_0)
    (Host.divf (broadcastInDim S128x8x5632 ![] bcast_S_S128x8x5632 (constant S_ .f32 0x3F800000#32)) (addf (broadcastInDim S128x8x5632 ![] bcast_S_S128x8x5632 (constant S_ .f32 0x3F800000#32))
      (Host.exp (Host.negf (extractStridedSlice S128x8x5632 ![0, 0, 0] z slices_S128x8x11264_S128x8x5632_0_0_0))))))
    (extractStridedSlice S128x8x5632 ![0, 0, 5632] z slices_S128x8x11264_S128x8x5632_0_0_5632)

theorem hidden_apply (z : FVec Ideal S128x8x11264 .f32) (n : Fin 128) (t : Fin 8) (l : Fin 5632) :
    hidden z (ix3 n t l) = z (ix3 n t (⟨l.val, by omega⟩ : Fin 11264)) * Ideal.logistic (z (ix3 n t (⟨l.val, by omega⟩ : Fin 11264)))
      * z (ix3 n t (⟨5632 + l.val, by omega⟩ : Fin 11264)) := by
  pointwise [hidden]
  rfl

/-- The rows plus the hidden rows projected down. -/
def result (x : FVec Ideal S128x8x2048 .f32) (v : FVec Ideal S128x8x5632 .f32) (Wd : FVec Ideal S1x5632x2048 .f32) : FVec Ideal S128x8x2048 .f32 :=
  addf x (Host.dotGeneral dot_S128x8x5632_S5632x2048_S128x8x2048_2_0_01_1_n_n none v (shapeCast S5632x2048 Wd shapeCasts_S1x5632x2048_S5632x2048))

theorem result_apply (x : FVec Ideal S128x8x2048 .f32) (v : FVec Ideal S128x8x5632 .f32) (Wd : FVec Ideal S1x5632x2048 .f32) (n : Fin 128) (t : Fin 8) (l : Fin 2048) :
    result x v Wd (ix3 n t l) = x (ix3 n t l) + rowMul (fun k => v (ix3 n t k)) (fun k l => Wd (ix3 0 k l)) l := by
  pointwise [result, rowMul]

/-- Sequences' rows, as the array of all rows. -/
theorem joined (V : FVec Ideal S128x8x2048 .f32) (f : Fin 128 → Fin 8 → Fin 2048 → EReal) (hf : ∀ a t l, V (ix3 a t l) = f a t l) :
    shapeCast S1024x2048 V shapeCasts_S128x8x2048_S1024x2048 = seqRows f := by
  funext y
  obtain ⟨r, l, rfl⟩ : ∃ (r : Fin 1024) (l : Fin 2048), y = ix2 r l := ⟨y 0, y 1, eq_ix2 y⟩
  refine (?_ : _ = V (ix3 (⟨r.val / 8, by omega⟩ : Fin 128) (⟨r.val % 8, by omega⟩ : Fin 8) l)).trans (hf _ _ _)
  pointwise

/-- The first half of the channels of sequences' rows, as the array of all rows. -/
theorem joined_low (V : FVec Ideal S128x8x11264 .f32) (f : Fin 128 → Fin 8 → Fin 5632 → EReal) (hf : ∀ a t (l : Fin 5632), V (ix3 a t (⟨l.val, by omega⟩ : Fin 11264)) = f a t l) :
    extractStridedSlice S1024x5632 ![0, 0] (shapeCast S1024x11264 V shapeCasts_S128x8x11264_S1024x11264) slices_S1024x11264_S1024x5632_0_0 = seqRows f := by
  funext y
  obtain ⟨r, l, rfl⟩ : ∃ (r : Fin 1024) (l : Fin 5632), y = ix2 r l := ⟨y 0, y 1, eq_ix2 y⟩
  refine (?_ : _ = V (ix3 (⟨r.val / 8, by omega⟩ : Fin 128) (⟨r.val % 8, by omega⟩ : Fin 8) (⟨l.val, by omega⟩ : Fin 11264))).trans (hf _ _ _)
  pointwise

/-- The second half of the channels of sequences' rows, as the array of all rows. -/
theorem joined_high (V : FVec Ideal S128x8x11264 .f32) (f : Fin 128 → Fin 8 → Fin 5632 → EReal) (hf : ∀ a t (l : Fin 5632), V (ix3 a t (⟨5632 + l.val, by omega⟩ : Fin 11264)) = f a t l) :
    extractStridedSlice S1024x5632 ![0, 5632] (shapeCast S1024x11264 V shapeCasts_S128x8x11264_S1024x11264) slices_S1024x11264_S1024x5632_0_5632 = seqRows f := by
  funext y
  obtain ⟨r, l, rfl⟩ : ∃ (r : Fin 1024) (l : Fin 5632), y = ix2 r l := ⟨y 0, y 1, eq_ix2 y⟩
  refine (?_ : _ = V (ix3 (⟨r.val / 8, by omega⟩ : Fin 128) (⟨r.val % 8, by omega⟩ : Fin 8) (⟨5632 + l.val, by omega⟩ : Fin 11264))).trans (hf _ _ _)
  pointwise

end Cert.FfnRefIdeal.Ref

end
-- ==== Proof.FfnRow.lean ====
module

public import proofs.«01_k».proof.Proof.Gen.FfnIdeal.Frame
public import proofs.«01_k».proof.Proof.Gen.FfnIdeal.Skeleton
public import proofs.«01_k».proof.Proof.Rows
public import proofs.«01_k».proof.Proof.FfnSpec

/-! The feed-forward part on one block of 512 rows and 512 hidden channels: what it computes, and what the values that
the body stores are at an entry. -/

@[expose] public section

set_option maxRecDepth 16384

noncomputable section

namespace Cert.FfnIdeal.Body

open Idealize.ShloMosaic Idealize.ShloMosaic.TcCoe Idealize.ShloMosaic.Tactic
open Idealize.SL Idealize.SL.Sem
open Cert.FfnIdeal.Gen Rows Layer

/-- The sequence and the place in it of a row. -/
abbrev seqOf {n : ℕ} (r : Fin (8 * n)) : Fin n := ⟨r.val / 8, by omega⟩
abbrev posOf (r : ℕ) : Fin 8 := ⟨r % 8, by omega⟩

/-- Row `t` of the sequence of the row `r`. -/
abbrev mate (r : Fin 512) (t : Fin 8) : Fin 512 := ⟨r.val / 8 * 8 + t.val, by omega⟩

/-- The normalised rows of a block. -/
def Hrow (x : Vec Ideal S512x2048 .f32) (g : Vec Ideal S1x2048 .f32) (r : Fin 512) : Fin 2048 → EReal := rms (mat x r) (mat g 0)

/-- The up-projection of the rows `h` onto the block's channels. -/
def Up (h : Fin 512 → Fin 2048 → EReal) (w : Vec Ideal S2048x512 .bf16) (r : Fin 512) : Fin 512 → EReal := rowMul (h r) (mat w)

/-- The convolution of the up-projected rows. -/
def Cv (st : Vec Ideal S64x2x512 .f32) (up : Fin 512 → Fin 512 → EReal) (w : Vec Ideal S3x512 .f32) (b : Vec Ideal S1x512 .f32)
    (r l : Fin 512) : EReal :=
  tapped (fun e => st (ix3 (⟨r.val / 8, by omega⟩ : Fin 64) e l)) (fun t => up (mate r t) l) (w (ix2 0 l)) (w (ix2 1 l)) (w (ix2 2 l)) (b (ix2 0 l)) (posOf r.val)

/-- The gated hidden rows. -/
def Gt (v g : Fin 512 → Fin 512 → EReal) (r l : Fin 512) : EReal := v r l * Ideal.logistic (v r l) * g r l

/-- The block of the result after the block's channels have been added to `y`. -/
def Yn (y : Fin 512 → Fin 2048 → EReal) (gt : Fin 512 → Fin 512 → EReal) (w : Vec Ideal S512x2048 .bf16) (r : Fin 512) (l : Fin 2048) : EReal :=
  y r l + rowMul (gt r) (mat w) l

/-- A choice by a row's place in its sequence. -/
theorem pick (p q : ℕ) (hq : q < 2) (x y : EReal) :
    Scalar.select (IntOp.cmpi CmpIPredicate.eq (BitVec.ofNat 32 (p % 8)) (BitVec.ofNat 32 q)) x y = if p % 8 = q then x else y := by
  have hp : p % 8 < 8 := Nat.mod_lt _ (by omega)
  generalize p % 8 = n at hp ⊢
  interval_cases n <;> interval_cases q <;> rfl

/-- The convolution of a piece of 32 rows, `p` being a row of it. -/
def piece (u : Vec Ideal S32x512 .f32) (s0 s1 : Vec Ideal S4x1x512 .f32) (w0 w1 w2 b : Vec Ideal S1x512 .f32) (p : Fin 32) (l : Fin 512) : EReal :=
  tapped (fun e => if e = 0 then s0 (ix3 (⟨p.val / 8, by omega⟩ : Fin 4) 0 l) else s1 (ix3 (⟨p.val / 8, by omega⟩ : Fin 4) 0 l))
    (fun t => u (ix2 (⟨p.val / 8 * 8 + t.val, by omega⟩ : Fin 32) l)) (w0 (ix2 0 l)) (w1 (ix2 0 l)) (w2 (ix2 0 l)) (b (ix2 0 l)) (posOf p.val)

theorem piece_eq (u : Vec Ideal S32x512 .f32) (s0 s1 : Vec Ideal S4x1x512 .f32) (w0 w1 w2 b : Vec Ideal S1x512 .f32) (p : Fin 32) (l : Fin 512)
    (h2 : p.val / 8 * 8 + (p.val % 8 + 8 - 2) % 8 < 32) (h1 : p.val / 8 * 8 + (p.val % 8 + 8 - 1) % 8 < 32) :
    piece u s0 s1 w0 w1 w2 b p l
      = w0 (ix2 0 l) * (if p.val % 8 = 0 then s0 (ix3 (⟨p.val / 8, by omega⟩ : Fin 4) 0 l) else if p.val % 8 = 1 then s1 (ix3 (⟨p.val / 8, by omega⟩ : Fin 4) 0 l)
          else u (ix2 ⟨p.val / 8 * 8 + (p.val % 8 + 8 - 2) % 8, h2⟩ l))
        + w1 (ix2 0 l) * (if p.val % 8 = 0 then s1 (ix3 (⟨p.val / 8, by omega⟩ : Fin 4) 0 l) else u (ix2 ⟨p.val / 8 * 8 + (p.val % 8 + 8 - 1) % 8, h1⟩ l))
        + w2 (ix2 0 l) * u (ix2 p l) + b (ix2 0 l) := by
  have e2 : ((posOf p.val - 2 : Fin 8)).val = (p.val % 8 + 8 - 2) % 8 := by
    rw [Fin.sub_def]; show (8 - 2 + p.val % 8) % 8 = _; omega
  have e1 : ((posOf p.val - 1 : Fin 8)).val = (p.val % 8 + 8 - 1) % 8 := by
    rw [Fin.sub_def]; show (8 - 1 + p.val % 8) % 8 = _; omega
  have e0 : (⟨p.val / 8 * 8 + (posOf p.val).val, by have := (posOf p.val).isLt; omega⟩ : Fin 32) = p := Fin.ext (by show p.val / 8 * 8 + p.val % 8 = p.val; omega)
  unfold piece tapped
  simp only [e2, e1, e0, if_true, Fin.isValue, one_ne_zero, if_false]

/-- The value half of a piece. -/
theorem pay9_at (w0 w1 w2 b : Vec Ideal S1x512 .f32) (u : Vec Ideal S32x512 .f32) (s0 s1 : Vec Ideal S4x1x512 .f32) (p : Fin 32) (l : Fin 512) :
    k0_pay9 (F := Ideal) (k0_pay2 w0) (k0_pay3 w1) (k0_pay4 w2) (k0_pay5 u) (iota .tc S4x8x512 32 [1] iota_S4x8x512_d1_w32) (k0_pay6 s0) (k0_pay7 s1) k0_pay8 b (ix2 p l)
      = piece u s0 s1 w0 w1 w2 b p l := by
  rw [piece_eq u s0 s1 w0 w1 w2 b p l (by omega) (by omega)]
  pointwise [k0_pay9, k0_pay2, k0_pay3, k0_pay4, k0_pay5, k0_pay6, k0_pay7, k0_pay8]
  simp only [← pick _ 0 (by omega), ← pick _ 1 (by omega)]

/-- The stored piece: the value half through its gate, times the gating half. -/
theorem pay21_at (cv : FVec Ideal S32x512 .f32) (w0 w1 w2 b : Vec Ideal S1x512 .f32) (u : Vec Ideal S32x512 .f32) (s0 s1 : Vec Ideal S4x1x512 .f32) (p : Fin 32) (l : Fin 512) :
    k0_pay21 (F := Ideal) cv (k0_pay12 w2) (k0_pay13 u) (k0_pay15 u s1) (k0_pay16 (k0_pay10 w0) u s0 s1) (k0_pay17 (k0_pay11 w1)) b (ix2 p l)
      = cv (ix2 p l) * Ideal.logistic (cv (ix2 p l)) * piece u s0 s1 w0 w1 w2 b p l := by
  rw [piece_eq u s0 s1 w0 w1 w2 b p l (by omega) (by omega)]
  pointwise [k0_pay21, k0_pay10, k0_pay11, k0_pay12, k0_pay13, k0_pay14, k0_pay15, k0_pay16, k0_pay17]
  simp only [← pick _ 0 (by omega), ← pick _ 1 (by omega)]

/-- What a piece of 32 rows has been loaded from: the block's rows from row `32 * k`, their sequences' histories, the taps
    and the bias. -/
structure Fits (st : Vec Ideal S64x2x512 .f32) (up : Fin 512 → Fin 512 → EReal) (w : Vec Ideal S3x512 .f32) (b : Vec Ideal S1x512 .f32)
    (k : ℕ) (u : Vec Ideal S32x512 .f32) (s0 s1 : Vec Ideal S4x1x512 .f32) (w0 w1 w2 b' : Vec Ideal S1x512 .f32) : Prop where
  hu : ∀ (p : Fin 32) (l : Fin 512) (h : 32 * k + p.val < 512), u (ix2 p l) = up ⟨32 * k + p.val, h⟩ l
  h0 : ∀ (q : Fin 4) (l : Fin 512) (h : 4 * k + q.val < 64), s0 (ix3 q 0 l) = st (ix3 ⟨4 * k + q.val, h⟩ 0 l)
  h1 : ∀ (q : Fin 4) (l : Fin 512) (h : 4 * k + q.val < 64), s1 (ix3 q 0 l) = st (ix3 ⟨4 * k + q.val, h⟩ 1 l)
  hw0 : ∀ l, w0 (ix2 0 l) = w (ix2 0 l)
  hw1 : ∀ l, w1 (ix2 0 l) = w (ix2 1 l)
  hw2 : ∀ l, w2 (ix2 0 l) = w (ix2 2 l)
  hb : ∀ l, b' (ix2 0 l) = b (ix2 0 l)

/-- A piece of the block's convolution: where the piece's rows, taps and histories are the block's, its rows are the
    block's from row `32 * k`. -/
theorem piece_Cv (st : Vec Ideal S64x2x512 .f32) (up : Fin 512 → Fin 512 → EReal) (w : Vec Ideal S3x512 .f32) (b : Vec Ideal S1x512 .f32)
    (k : ℕ) (u : Vec Ideal S32x512 .f32) (s0 s1 : Vec Ideal S4x1x512 .f32) (w0 w1 w2 b' : Vec Ideal S1x512 .f32)
    (F : Fits st up w b k u s0 s1 w0 w1 w2 b')
    (p : Fin 32) (l : Fin 512) (hr : 32 * k + p.val < 512) :
    piece u s0 s1 w0 w1 w2 b' p l = Cv st up w b ⟨32 * k + p.val, hr⟩ l := by
  unfold piece Cv
  have e1 : (posOf p.val) = posOf (32 * k + p.val) := Fin.ext (by show p.val % 8 = (32 * k + p.val) % 8; omega)
  have e2 : (⟨4 * k + p.val / 8, by omega⟩ : Fin 64) = ⟨(32 * k + p.val) / 8, by omega⟩ := Fin.ext (by show 4 * k + p.val / 8 = (32 * k + p.val) / 8; omega)
  rw [F.hw0, F.hw1, F.hw2, F.hb, F.h0 _ _ (by show 4 * k + p.val / 8 < 64; omega), F.h1 _ _ (by show 4 * k + p.val / 8 < 64; omega), e1]
  congr 1
  · funext e
    fin_cases e
    · exact congrArg (fun q => st (ix3 q 0 l)) e2
    · exact congrArg (fun q => st (ix3 q 1 l)) e2
  · funext t
    rw [F.hu _ _ (by show 32 * k + (p.val / 8 * 8 + t.val) < 512; omega)]
    exact congrArg (fun q => up q l) (Fin.ext (by show 32 * k + (p.val / 8 * 8 + t.val) = (32 * k + p.val) / 8 * 8 + t.val; omega))

/-- The stored piece is the block's gated hidden rows from row `32 * k`. -/
theorem stored_at {stv stg : Vec Ideal S64x2x512 .f32} {upv upg : Fin 512 → Fin 512 → EReal} {wv wg : Vec Ideal S3x512 .f32} {bv bg : Vec Ideal S1x512 .f32}
    {k : ℕ} {uv ug : Vec Ideal S32x512 .f32} {s0v s1v s0g s1g : Vec Ideal S4x1x512 .f32} {w0v w1v w2v cv w0g w1g w2g cg : Vec Ideal S1x512 .f32}
    (Fv : Fits stv upv wv bv k uv s0v s1v w0v w1v w2v cv) (Fg : Fits stg upg wg bg k ug s0g s1g w0g w1g w2g cg)
    (p : Fin 32) (l : Fin 512) (hr : 32 * k + p.val < 512) :
    k0_pay21 (F := Ideal) (k0_pay9 (k0_pay2 w0v) (k0_pay3 w1v) (k0_pay4 w2v) (k0_pay5 uv) (iota .tc S4x8x512 32 [1] iota_S4x8x512_d1_w32) (k0_pay6 s0v) (k0_pay7 s1v) k0_pay8 cv)
        (k0_pay12 w2g) (k0_pay13 ug) (k0_pay15 ug s1g) (k0_pay16 (k0_pay10 w0g) ug s0g s1g) (k0_pay17 (k0_pay11 w1g)) cg (ix2 p l)
      = Gt (Cv stv upv wv bv) (Cv stg upg wg bg) ⟨32 * k + p.val, hr⟩ l := by
  rw [pay21_at, pay9_at, piece_Cv stv upv wv bv k uv s0v s1v w0v w1v w2v cv Fv p l hr, piece_Cv stg upg wg bg k ug s0g s1g w0g w1g w2g cg Fg p l hr]
  rfl

/-- A stored piece of normalised rows, at an entry. -/
theorem pay18_at (v : Vec Ideal S32x2048 .f32) (g : Vec Ideal S1x2048 .f32) (p : Fin 32) (l : Fin 2048) :
    k0_pay18 (F := Ideal) v g (ix2 p l) = rms (mat v p) (mat g 0) l := by
  pointwise [k0_pay18]
  rfl

/-- A stored up-projection, at an entry. -/
theorem pay19_at (h : Vec Ideal S512x2048 .bf16) (w : Vec Ideal S2048x512 .bf16) (r l : Fin 512) :
    k0_pay19 (F := Ideal) h w (ix2 r l) = rowMul (mat h r) (mat w) l := by
  pointwise [k0_pay19]
  rfl

theorem pay20_at (h : Vec Ideal S512x2048 .bf16) (w : Vec Ideal S2048x512 .bf16) (r l : Fin 512) :
    k0_pay20 (F := Ideal) h w (ix2 r l) = rowMul (mat h r) (mat w) l := by
  pointwise [k0_pay20]
  rfl

/-- The stored result block, at an entry. -/
theorem pay1_at (y : Vec Ideal S512x2048 .f32) (gt : Vec Ideal S512x512 .bf16) (w : Vec Ideal S512x2048 .bf16) (r : Fin 512) (l : Fin 2048) :
    k0_pay1 (F := Ideal) y gt w (ix2 r l) = mat y r l + rowMul (mat gt r) (mat w) l := by
  pointwise [k0_pay1]
  rfl

/-- A buffer of 520 rows whose rows from row 8 are `up`. -/
def below (up : Fin 512 → Fin 512 → EReal) (r : Fin 520) (l : Fin 512) : EReal := up ⟨r.val - 8, by omega⟩ l

/-- The loads of a piece fit the block. -/
theorem fits (a : Memref sig .tc .vmem S520x512 .f32) (f : a.view.ty.Contents (Elt Ideal)) (s : Memref sig .tc .vmem S64x2x512 .f32) (hs : s.IsWhole)
    (t : Memref sig .tc .vmem S3x512 .f32) (ht : t.IsWhole) (d : Memref sig .tc .vmem S1x512 .f32) (hd : d.IsWhole)
    (st : Vec Ideal S64x2x512 .f32) (up : Fin 512 → Fin 512 → EReal) (w : Vec Ideal S3x512 .f32) (b : Vec Ideal S1x512 .f32)
    (h : Agrees (a.view.read (Elt Ideal) f) (below up) (fun r _ => 8 ≤ r)) (k : Fin k0_t2_loop.trips) :
    Fits st up w b k.val
      (a.view.readAt (Elt Ideal) (Rect.unit (s := S520x512) (k0_off2 k) S32x512.size (k0_off2_inb k)).toLoadRect f)
      (s.view.readAt (Elt Ideal) (Rect.unit (s := S64x2x512) (k0_off3 k) S4x1x512.size (k0_off3_inb k)).toLoadRect (hs.unread st))
      (s.view.readAt (Elt Ideal) (Rect.unit (s := S64x2x512) (k0_off4 k) S4x1x512.size (k0_off4_inb k)).toLoadRect (hs.unread st))
      (t.view.readAt (Elt Ideal) (Rect.unit (s := S3x512) ![0, 0] S1x512.size inb_S3x512_S1x512_0_0).toLoadRect (ht.unread w))
      (t.view.readAt (Elt Ideal) (Rect.unit (s := S3x512) ![1, 0] S1x512.size inb_S3x512_S1x512_1_0).toLoadRect (ht.unread w))
      (t.view.readAt (Elt Ideal) (Rect.unit (s := S3x512) ![2, 0] S1x512.size inb_S3x512_S1x512_2_0).toLoadRect (ht.unread w))
      (d.view.readAt (Elt Ideal) (Rect.unit (s := S1x512) ![0, 0] S1x512.size inb_S1x512_S1x512_0_0).toLoadRect (hd.unread b)) where
  hu p l hp := by
    refine (readAt_tile a.view f (k0_off2_inb k) (32 * k.val + 8) 0 (k0_off2_eq k) p l).trans ((h _ _ (by show 8 ≤ 32 * k.val + 8 + p.val; omega)).trans ?_)
    unfold below
    exact congrArg₂ up (Fin.ext (by show 32 * k.val + 8 + p.val - 8 = 32 * k.val + p.val; omega)) (Fin.ext (Nat.zero_add _))
  h0 q l hq := by
    refine (readAt_box s.view _ (k0_off3_inb k) (4 * k.val) 0 0 (k0_off3_eq k) q 0 l).trans ?_
    rw [hs.read_unread]
    exact congrArg (fun z => st (ix3 _ _ z)) (Fin.ext (Nat.zero_add _))
  h1 q l hq := by
    refine (readAt_box s.view _ (k0_off4_inb k) (4 * k.val) 1 0 (k0_off4_eq k) q 0 l).trans ?_
    rw [hs.read_unread]
    exact congrArg (fun z => st (ix3 _ _ z)) (Fin.ext (Nat.zero_add _))
  hw0 l := by
    refine (readAt_tile t.view _ inb_S3x512_S1x512_0_0 0 0 rfl 0 l).trans ?_
    rw [ht.read_unread]
    exact congrArg (fun z => w (ix2 _ z)) (Fin.ext (Nat.zero_add _))
  hw1 l := by
    refine (readAt_tile t.view _ inb_S3x512_S1x512_1_0 1 0 rfl 0 l).trans ?_
    rw [ht.read_unread]
    exact congrArg (fun z => w (ix2 _ z)) (Fin.ext (Nat.zero_add _))
  hw2 l := by
    refine (readAt_tile t.view _ inb_S3x512_S1x512_2_0 2 0 rfl 0 l).trans ?_
    rw [ht.read_unread]
    exact congrArg (fun z => w (ix2 _ z)) (Fin.ext (Nat.zero_add _))
  hb l := by
    refine (readAt_tile d.view _ inb_S1x512_S1x512_0_0 0 0 rfl 0 l).trans ?_
    rw [hd.read_unread]
    exact congrArg (fun z => b (ix2 _ z)) (Fin.ext (Nat.zero_add _))

end Cert.FfnIdeal.Body

end
-- ==== Proof.FfnBody.lean ====
module

public import proofs.«01_k».proof.Proof.FfnRow

/-! One grid point of the feed-forward call: the two loops of its body, and what its stores leave. -/

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen Rows Layer

local notation "𝕄" => MT nD τ sig Unit (Elt Ideal) ℕ (UR sig nD τ) ℕ

theorem trips1 : k0_t1_loop.trips = 16 := by decide
theorem trips2 : k0_t2_loop.trips = 16 := by decide

/-- The first loop's invariant: the rows before the trip's are normalised. -/
def inv1 (c : Dev nD) (arg2 : Memref sig .tc .vmem S512x2048 .f32) (harg2 : arg2.IsWhole) (arg5 : Memref sig .tc .vmem S1x2048 .f32) (harg5 : arg5.IsWhole) (arg16 : Memref sig .tc .vmem S512x2048 .bf16) (x0 : Vec Ideal S512x2048 .f32) (x3 : Vec Ideal S1x2048 .f32) (k : ℕ) (_ : Unit) : sProp 𝕄 :=
  iprop((arg2.view.loc (c : Thread nD τ) ↦[arg2.view.set]{fullShare} harg2.unread x0) ∗ (arg5.view.loc (c : Thread nD τ) ↦[arg5.view.set]{fullShare} harg5.unread x3)
    ∗ (∃ f, ⌜Agrees (arg16.view.read (Elt Ideal) f) (Hrow x0 x3) (fun r _ => r < 32 * k)⌝ ∗ (arg16.view.loc (c : Thread nD τ) ↦[arg16.view.set]{fullShare} f)))

/-- The second loop's invariant: the gated hidden rows before the trip's are computed. -/
def inv2 (c : Dev nD) (arg3 : Memref sig .tc .vmem S64x2x512 .f32) (harg3 : arg3.IsWhole) (arg4 : Memref sig .tc .vmem S64x2x512 .f32) (harg4 : arg4.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg17 : Memref sig .tc .vmem S520x512 .f32) (arg18 : Memref sig .tc .vmem S520x512 .f32) (arg19 : Memref sig .tc .vmem S512x512 .bf16)
    (x1 : Vec Ideal S64x2x512 .f32) (x2 : Vec Ideal S64x2x512 .f32) (x6 : Vec Ideal S3x512 .f32) (x7 : Vec Ideal S3x512 .f32) (x8 : Vec Ideal S1x512 .f32) (x9 : Vec Ideal S1x512 .f32) (U V : Fin 512 → Fin 512 → EReal) (k : ℕ) (_ : Unit) : sProp 𝕄 :=
  iprop((arg3.view.loc (c : Thread nD τ) ↦[arg3.view.set]{fullShare} harg3.unread x1) ∗ (arg4.view.loc (c : Thread nD τ) ↦[arg4.view.set]{fullShare} harg4.unread x2)
    ∗ (arg8.view.loc (c : Thread nD τ) ↦[arg8.view.set]{fullShare} harg8.unread x6) ∗ (arg9.view.loc (c : Thread nD τ) ↦[arg9.view.set]{fullShare} harg9.unread x7)
    ∗ (arg10.view.loc (c : Thread nD τ) ↦[arg10.view.set]{fullShare} harg10.unread x8) ∗ (arg11.view.loc (c : Thread nD τ) ↦[arg11.view.set]{fullShare} harg11.unread x9)
    ∗ (∃ f, ⌜Agrees (arg17.view.read (Elt Ideal) f) (below U) (fun r _ => 8 ≤ r)⌝ ∗ (arg17.view.loc (c : Thread nD τ) ↦[arg17.view.set]{fullShare} f))
    ∗ (∃ f, ⌜Agrees (arg18.view.read (Elt Ideal) f) (below V) (fun r _ => 8 ≤ r)⌝ ∗ (arg18.view.loc (c : Thread nD τ) ↦[arg18.view.set]{fullShare} f))
    ∗ (∃ f, ⌜Agrees (arg19.view.read (Elt Ideal) f) (Gt (Cv x1 U x6 x8) (Cv x2 V x7 x9)) (fun r _ => r < 32 * k)⌝ ∗ (arg19.view.loc (c : Thread nD τ) ↦[arg19.view.set]{fullShare} f)))

variable (c : Dev nD) (i : grid0.Coords) (arg2 : Memref sig .tc .vmem S512x2048 .f32) (harg2 : arg2.IsWhole) (arg3 : Memref sig .tc .vmem S64x2x512 .f32) (harg3 : arg3.IsWhole) (arg4 : Memref sig .tc .vmem S64x2x512 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x2048 .bf16) (harg16 : arg16.IsWhole) (arg17 : Memref sig .tc .vmem S520x512 .f32) (harg17 : arg17.IsWhole) (arg18 : Memref sig .tc .vmem S520x512 .f32) (harg18 : arg18.IsWhole) (arg19 : Memref sig .tc .vmem S512x512 .bf16) (harg19 : arg19.IsWhole)

/-- A trip of the first loop normalises its 32 rows. -/
theorem step1
    (k0_h1 : k0_cond1 i = 1#1) (x0 : Vec Ideal S512x2048 .f32) (x3 : Vec Ideal S1x2048 .f32) (E : Set ℕ) (k : Fin k0_t1_loop.trips) (acc : Unit) :
    inv1 c arg2 harg2 arg5 harg5 arg16 x0 x3 k.val acc
      ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k acc)
          (fun acc' => inv1 c arg2 harg2 arg5 harg5 arg16 x0 x3 (k.val + 1) acc') := by
  unfold inv1 k0_t1_body
  iintro ⟨H2, H5, %f, %hf, H16⟩
  sl_exec
  sl_step
  isplitl [H2]; · iexact H2
  isplitl [H5]; · iexact H5
  iexists _; isplitr; swap; · iexact H16
  ipureintro
  refine Agrees.store arg16.view f (k0_off1_inb i k k0_h1) _ [] (Hrow x0 x3) (32 * k.val) 0 (k0_off1_eq k) (by simpa using hf) ?_ (by omega)
  intro p j hr hl
  have hx : mat (arg2.view.readAt (Elt Ideal) (Rect.unit (s := S512x2048) (k0_off1 k) S32x2048.size (k0_off1_inb i k k0_h1)).toLoadRect (harg2.unread x0)) p = mat x0 ⟨32 * k.val + p.val, hr⟩ :=
    funext fun l => (readAt_tile arg2.view (harg2.unread x0) (k0_off1_inb i k k0_h1) (32 * k.val) 0 (k0_off1_eq k) p l).trans (by
      rw [harg2.read_unread]; exact congrArg (fun z => x0 (ix2 _ z)) (Fin.ext (Nat.zero_add _)))
  have hg : mat (arg5.view.readAt (Elt Ideal) (Rect.unit (s := S1x2048) ![0, 0] S1x2048.size inb_S1x2048_S1x2048_0_0).toLoadRect (harg5.unread x3)) 0 = mat x3 0 :=
    funext fun l => congrFun ((readAt_all arg5.view _ _).trans (harg5.read_unread x3)) (ix2 0 l)
  refine (pay18_at _ _ p j).trans ?_
  unfold Hrow
  rw [← hx, ← hg]
  exact congrArg (rms _ _) (Fin.ext (Nat.zero_add _).symm)

/-- A trip of the second loop gates its 32 rows. -/
theorem step2
    (x1 : Vec Ideal S64x2x512 .f32) (x2 : Vec Ideal S64x2x512 .f32) (x6 : Vec Ideal S3x512 .f32) (x7 : Vec Ideal S3x512 .f32) (x8 : Vec Ideal S1x512 .f32) (x9 : Vec Ideal S1x512 .f32) (U V : Fin 512 → Fin 512 → EReal) (E : Set ℕ) (k : Fin k0_t2_loop.trips) (acc : Unit) :
    inv2 c arg3 harg3 arg4 harg4 arg8 harg8 arg9 harg9 arg10 harg10 arg11 harg11 arg17 arg18 arg19 x1 x2 x6 x7 x8 x9 U V k.val acc
      ⊢ wp frame (wpE (defs₀ (F := Ideal)) Variants.none (c : Thread nD τ) none) E (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc)
          (fun acc' => inv2 c arg3 harg3 arg4 harg4 arg8 harg8 arg9 harg9 arg10 harg10 arg11 harg11 arg17 arg18 arg19 x1 x2 x6 x7 x8 x9 U V (k.val + 1) acc') := by
  unfold inv2 k0_t2_body
  iintro ⟨H3, H4, H8, H9, H10, H11, ⟨%f17, %h17, H17⟩, ⟨%f18, %h18, H18⟩, %f19, %h19, H19⟩
  sl_exec
  sl_step
  isplitl [H3]; · iexact H3
  isplitl [H4]; · iexact H4
  isplitl [H8]; · iexact H8
  isplitl [H9]; · iexact H9
  isplitl [H10]; · iexact H10
  isplitl [H11]; · iexact H11
  isplitl [H17]
  · iexists _; isplitr; swap; · iexact H17
    ipureintro; exact h17
  isplitl [H18]
  · iexists _; isplitr; swap; · iexact H18
    ipureintro; exact h18
  iexists _; isplitr; swap; · iexact H19
  ipureintro
  refine Agrees.store arg19.view f19 (k0_off5_inb k) _ [] (Gt (Cv x1 U x6 x8) (Cv x2 V x7 x9)) (32 * k.val) 0 (k0_off5_eq k) (by simpa using h19) ?_ (by omega)
  intro i j hr hl
  refine (stored_at (fits arg17 f17 arg3 harg3 arg8 harg8 arg10 harg10 x1 U x6 x8 h17 k) (fits arg18 f18 arg4 harg4 arg9 harg9 arg11 harg11 x2 V x7 x9 h18 k) i j hr).trans ?_
  exact congrArg (Gt (Cv x1 U x6 x8) (Cv x2 V x7 x9) _) (Fin.ext (Nat.zero_add _).symm)

/-- A whole up-projected block stored below the first eight rows. -/
theorem stored_below (a : Memref sig .tc .vmem S520x512 .f32) (f : a.view.ty.Contents (Elt Ideal)) (w : Vec Ideal S512x512 .f32) (up : Fin 512 → Fin 512 → EReal)
    (hw : ∀ r l, w (ix2 r l) = up r l) :
    Agrees (a.view.read (Elt Ideal) (a.view.writes (Elt Ideal) f [⟨Rect.unit (s := S520x512) ![8, 0] S512x512.size inb_S520x512_S512x512_8_0, w⟩]))
      (below up) (fun r _ => 8 ≤ r) := by
  refine Agrees.store a.view f inb_S520x512_S512x512_8_0 w [] (below up) 8 0 rfl (agrees_none _ _ (S := fun _ _ => False) fun _ _ _ _ => id) ?_ (by omega)
  intro i j hr hl
  rw [hw]
  exact congrArg₂ up (Fin.ext (by show i.val = 8 + i.val - 8; omega)) (Fin.ext (Nat.zero_add _).symm)

/-- A whole matrix stored: the buffer reads it. -/
theorem stored_whole {N W : ℕ} {e : EltTy} (a : Memref sig .tc .vmem (⟨2, ![N, W]⟩ : Shape) e) (f : a.view.ty.Contents (Elt Ideal))
    (inb : ∀ q : Fin 2, (![0, 0] : Fin 2 → ℕ) q + (![N, W] : Fin 2 → ℕ) q ≤ (![N, W] : Fin 2 → ℕ) q)
    (w : (⟨2, ![N, W]⟩ : Shape).Idx → Elt Ideal e) (L : List (View.Piece (Elt Ideal) (⟨2, ![N, W]⟩ : Shape) e)) (G : Fin N → Fin W → Elt Ideal e)
    (hw : ∀ r l, w (ix2 r l) = G r l) :
    a.view.read (Elt Ideal) (a.view.writes (Elt Ideal) f (⟨Rect.unit (s := ⟨2, ![N, W]⟩) ![0, 0] ![N, W] inb, w⟩ :: L)) = fun y => G (y 0) (y 1) := by
  have h : Agrees (a.view.read (Elt Ideal) (a.view.writes (Elt Ideal) f (⟨Rect.unit (s := ⟨2, ![N, W]⟩) ![0, 0] ![N, W] inb, w⟩ :: L))) G (fun _ _ => True) := by
    refine Agrees.store a.view f inb w L G 0 0 rfl (agrees_none _ _ (S := fun _ _ => False) fun _ _ _ _ => id) ?_ (by omega)
    intro i j hr hl
    rw [hw]
    exact congrArg₂ G (Fin.ext (Nat.zero_add _).symm) (Fin.ext (Nat.zero_add _).symm)
  exact h.eq fun _ _ => trivial

/-- The up-projections stored, from the loads of the normalised rows and of the weights. -/
theorem up19_at (a : Memref sig .tc .vmem S512x2048 .bf16) (f : a.view.ty.Contents (Elt Ideal)) (h : Fin 512 → Fin 2048 → EReal)
    (e : a.view.read (Elt Ideal) f = fun y => h (y 0) (y 1)) (b : Memref sig .tc .vmem S2048x512 .bf16) (hb : b.IsWhole) (w : Vec Ideal S2048x512 .bf16) (r l : Fin 512) :
    k0_pay19 (F := Ideal) (a.view.readAt (Elt Ideal) (Rect.unit (s := S512x2048) ![0, 0] S512x2048.size inb_S512x2048_S512x2048_0_0).toLoadRect f)
      (b.view.readAt (Elt Ideal) (Rect.unit (s := S2048x512) ![0, 0] S2048x512.size inb_S2048x512_S2048x512_0_0).toLoadRect (hb.unread w)) (ix2 r l) = Up h w r l := by
  rw [pay19_at]
  simp only [mat, readAt_all, e, hb.read_unread]
  rfl

theorem up20_at (a : Memref sig .tc .vmem S512x2048 .bf16) (f : a.view.ty.Contents (Elt Ideal)) (h : Fin 512 → Fin 2048 → EReal)
    (e : a.view.read (Elt Ideal) f = fun y => h (y 0) (y 1)) (b : Memref sig .tc .vmem S2048x512 .bf16) (hb : b.IsWhole) (w : Vec Ideal S2048x512 .bf16) (r l : Fin 512) :
    k0_pay20 (F := Ideal) (a.view.readAt (Elt Ideal) (Rect.unit (s := S512x2048) ![0, 0] S512x2048.size inb_S512x2048_S512x2048_0_0).toLoadRect f)
      (b.view.readAt (Elt Ideal) (Rect.unit (s := S2048x512) ![0, 0] S2048x512.size inb_S2048x512_S2048x512_0_0).toLoadRect (hb.unread w)) (ix2 r l) = Up h w r l := by
  rw [pay20_at]
  simp only [mat, readAt_all, e, hb.read_unread]
  rfl

/-- The result block stored, from the loads of the gated rows and of the weights. -/
theorem out_at (a : Memref sig .tc .vmem S512x512 .bf16) (f : a.view.ty.Contents (Elt Ideal)) (gt : Fin 512 → Fin 512 → EReal)
    (e : a.view.read (Elt Ideal) f = fun y => gt (y 0) (y 1)) (b : Memref sig .tc .vmem S512x2048 .bf16) (hb : b.IsWhole) (w : Vec Ideal S512x2048 .bf16)
    (v : Vec Ideal S512x2048 .f32) (y : Fin 512 → Fin 2048 → EReal) (hv : ∀ r l, v (ix2 r l) = y r l) (r : Fin 512) (l : Fin 2048) :
    k0_pay1 (F := Ideal) v (a.view.readAt (Elt Ideal) (Rect.unit (s := S512x512) ![0, 0] S512x512.size inb_S512x512_S512x512_0_0).toLoadRect f)
      (b.view.readAt (Elt Ideal) (Rect.unit (s := S512x2048) ![0, 0] S512x2048.size inb_S512x2048_S512x2048_0_0).toLoadRect (hb.unread w)) (ix2 r l) = Yn y gt w r l := by
  rw [pay1_at]
  simp only [mat, readAt_all, e, hb.read_unread, hv]
  rfl

/-- The normalised rows that the point works with: its block's at the first point of the block, else those kept. -/
def hNow (i : grid0.Coords) (x0 : Vec Ideal S512x2048 .f32) (x3 : Vec Ideal S1x2048 .f32) (d16 : Vec Ideal S512x2048 .bf16) : Fin 512 → Fin 2048 → EReal :=
  if k0_cond1 i = 1#1 then Hrow x0 x3 else mat d16

/-- The result block that the point adds to: the input's block at the first point of the block, else what is there. -/
def yNow (i : grid0.Coords) (x0 d13 : Vec Ideal S512x2048 .f32) : Fin 512 → Fin 2048 → EReal :=
  if k0_cond1 i = 1#1 then mat x0 else mat d13

/-- The result block that the point leaves, from the normalised rows `h` and the block `y`. -/
def yOut (h y : Fin 512 → Fin 2048 → EReal) (x1 : Vec Ideal S64x2x512 .f32) (x2 : Vec Ideal S64x2x512 .f32) (x4 : Vec Ideal S2048x512 .bf16) (x5 : Vec Ideal S2048x512 .bf16) (x6 : Vec Ideal S3x512 .f32) (x7 : Vec Ideal S3x512 .f32) (x8 : Vec Ideal S1x512 .f32) (x9 : Vec Ideal S1x512 .f32) (x10 : Vec Ideal S512x2048 .bf16) : Fin 512 → Fin 2048 → EReal :=
  Yn y (Gt (Cv x1 (Up h x4) x6 x8) (Cv x2 (Up h x5) x7 x9)) x10

end Cert.FfnIdeal.Body

end
-- ==== Proof.FfnRun.lean ====
module

public import proofs.«01_k».proof.Proof.FfnBody

/-! One grid point of the feed-forward call, whole: what it leaves in its blocks and in the scratch, from what it finds there. -/

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen Rows Layer

local notation "𝕄" => MT nD τ sig Unit (Elt Ideal) ℕ (UR sig nD τ) ℕ

set_option maxHeartbeats 1600000 in
/-- The body, from its blocks and what it was left, leaves the block's part of the results. -/
theorem run (c : Dev nD) (i : grid0.Coords) (arg2 : Memref sig .tc .vmem S512x2048 .f32) (harg2 : arg2.IsWhole) (arg3 : Memref sig .tc .vmem S64x2x512 .f32) (harg3 : arg3.IsWhole) (arg4 : Memref sig .tc .vmem S64x2x512 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x2048 .bf16) (harg16 : arg16.IsWhole) (arg17 : Memref sig .tc .vmem S520x512 .f32) (harg17 : arg17.IsWhole) (arg18 : Memref sig .tc .vmem S520x512 .f32) (harg18 : arg18.IsWhole) (arg19 : Memref sig .tc .vmem S512x512 .bf16) (harg19 : arg19.IsWhole)
    (x0 : Vec Ideal S512x2048 .f32) (x1 : Vec Ideal S64x2x512 .f32) (x2 : Vec Ideal S64x2x512 .f32) (x3 : Vec Ideal S1x2048 .f32) (x4 : Vec Ideal S2048x512 .bf16) (x5 : Vec Ideal S2048x512 .bf16) (x6 : Vec Ideal S3x512 .f32) (x7 : Vec Ideal S3x512 .f32) (x8 : Vec Ideal S1x512 .f32) (x9 : Vec Ideal S1x512 .f32) (x10 : Vec Ideal S512x2048 .bf16) (d13 : Vec Ideal S512x2048 .f32) (d16 : Vec Ideal S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d13 ∗ (∃ d, owns (c : Thread nD τ) arg14 fullShare d) ∗ (∃ d, owns (c : Thread nD τ) arg15 fullShare d) ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (fun y => yOut (hNow i x0 x3 d16) (yNow i x0 d13) x1 x2 x4 x5 x6 x7 x8 x9 x10 (y 0) (y 1)) ∗ owns (c : Thread nD τ) arg14 fullShare (fun y => Up (hNow i x0 x3 d16) x4 (y 0) (y 1)) ∗ owns (c : Thread nD τ) arg15 fullShare (fun y => Up (hNow i x0 x3 d16) x5 (y 0) (y 1)) ∗ owns (c : Thread nD τ) arg16 fullShare (fun y => (hNow i x0 x3 d16) (y 0) (y 1)) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) E (cc0_ffn_sample i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_sample_eq_skeleton]; unfold cc0_ffn_sample_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  by_cases hc : k0_cond1 i = 1#1
  · have hH : hNow i x0 x3 d16 = Hrow x0 x3 := if_pos hc
    have hY : yNow i x0 d13 = mat x0 := if_pos hc
    rw [hH, hY]
    sl_exec
    sl_for (inv1 c arg2 harg2 arg5 harg5 arg16 x0 x3) $$ [H2 H5 H16]
    case region =>
      intro k' acc
      exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x3 E k' acc
    · unfold inv1
      isplitl [H2]; · iexact H2
      isplitl [H5]; · iexact H5
      iexists _; isplitr; swap; · iexact H16
      ipureintro
      exact agrees_none _ _ (by omega)
    iintro %acc1 HI
    unfold inv1
    icases HI with ⟨H2, H5, %g16, %h16, H16⟩
    have e16 : arg16.view.read (Elt Ideal) g16 = fun y => Hrow x0 x3 (y 0) (y 1) := h16.eq fun r _ => show r.val < 32 * k0_t1_loop.trips by rw [trips1]; exact r.isLt
    sl_exec
    sl_for (inv2 c arg3 harg3 arg4 harg4 arg8 harg8 arg9 harg9 arg10 harg10 arg11 harg11 arg17 arg18 arg19 x1 x2 x6 x7 x8 x9 (Up (Hrow x0 x3) x4) (Up (Hrow x0 x3) x5)) $$ [H3 H4 H8 H9 H10 H11 H17 H18 H19]
    case region =>
      intro k' acc
      exact step2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x7 x8 x9 _ _ E k' acc
    · unfold inv2
      isplitl [H3]; · iexact H3
      isplitl [H4]; · iexact H4
      isplitl [H8]; · iexact H8
      isplitl [H9]; · iexact H9
      isplitl [H10]; · iexact H10
      isplitl [H11]; · iexact H11
      isplitl [H17]
      · iexists _; isplitr; swap; · iexact H17
        ipureintro
        exact stored_below arg17 _ _ _ fun r l => up19_at arg16 _ _ e16 arg6 harg6 x4 r l
      isplitl [H18]
      · iexists _; isplitr; swap; · iexact H18
        ipureintro
        exact stored_below arg18 _ _ _ fun r l => up20_at arg16 _ _ e16 arg7 harg7 x5 r l
      iexists _; isplitr; swap; · iexact H19
      ipureintro
      exact agrees_none _ _ (by omega)
    iintro %acc2 HI
    unfold inv2
    icases HI with ⟨H3, H4, H8, H9, H10, H11, ⟨%g17, %h17, H17⟩, ⟨%g18, %h18, H18⟩, %g19, %h19, H19⟩
    have e19 : arg19.view.read (Elt Ideal) g19 = fun y => (Gt (Cv x1 (Up (Hrow x0 x3) x4) x6 x8) (Cv x2 (Up (Hrow x0 x3) x5) x7 x9)) (y 0) (y 1) := h19.eq fun r _ => show r.val < 32 * k0_t2_loop.trips by rw [trips2]; exact r.isLt
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro
      unfold run.sl.v22 run.sl.H13_1
      rw [View.readCov_cons_toLoadRect]
      exact stored_whole arg13 _ _ _ _ _ fun r l => out_at arg19 _ _ e19 arg12 harg12 x10 _ _ (fun r l => congrFun ((readAt_all arg2.view _ _).trans (harg2.read_unread x0)) (ix2 r l)) r l
    isplitl [H14]
    · iexists _; isplitr; swap; · iexact H14
      ipureintro
      unfold run.sl.H14_1 run.sl.v17 run.sl.H17_1
      rw [View.readCov_cons_toLoadRect]
      exact stored_whole arg14 _ _ _ _ _ fun r l => up19_at arg16 _ _ e16 arg6 harg6 x4 r l
    isplitl [H15]
    · iexists _; isplitr; swap; · iexact H15
      ipureintro
      unfold run.sl.H15_1 run.sl.v19 run.sl.H18_1
      rw [View.readCov_cons_toLoadRect]
      exact stored_whole arg15 _ _ _ _ _ fun r l => up20_at arg16 _ _ e16 arg7 harg7 x5 r l
    isplitl [H16]
    · iexists _; isplitr; swap; · iexact H16
      ipureintro
      exact e16
    isplitl [H17]
    · iexists _, _; isplitr; swap; · iexact H17
      ipureintro; rfl
    isplitl [H18]
    · iexists _, _; isplitr; swap; · iexact H18
      ipureintro; rfl
    · iexists _, _; isplitr; swap; · iexact H19
      ipureintro; rfl
  · have hH : hNow i x0 x3 d16 = mat d16 := if_neg hc
    have hY : yNow i x0 d13 = mat d13 := if_neg hc
    rw [hH, hY]
    have e16 : arg16.view.read (Elt Ideal) f16 = fun y => mat d16 (y 0) (y 1) := hf16.trans (funext fun y => congrArg d16 (eq_ix2 y))
    sl_exec
    sl_for (inv2 c arg3 harg3 arg4 harg4 arg8 harg8 arg9 harg9 arg10 harg10 arg11 harg11 arg17 arg18 arg19 x1 x2 x6 x7 x8 x9 (Up (mat d16) x4) (Up (mat d16) x5)) $$ [H3 H4 H8 H9 H10 H11 H17 H18 H19]
    case region =>
      intro k' acc
      exact step2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x7 x8 x9 _ _ E k' acc
    · unfold inv2
      isplitl [H3]; · iexact H3
      isplitl [H4]; · iexact H4
      isplitl [H8]; · iexact H8
      isplitl [H9]; · iexact H9
      isplitl [H10]; · iexact H10
      isplitl [H11]; · iexact H11
      isplitl [H17]
      · iexists _; isplitr; swap; · iexact H17
        ipureintro
        exact stored_below arg17 _ _ _ fun r l => up19_at arg16 _ _ e16 arg6 harg6 x4 r l
      isplitl [H18]
      · iexists _; isplitr; swap; · iexact H18
        ipureintro
        exact stored_below arg18 _ _ _ fun r l => up20_at arg16 _ _ e16 arg7 harg7 x5 r l
      iexists _; isplitr; swap; · iexact H19
      ipureintro
      exact agrees_none _ _ (by omega)
    iintro %acc2 HI
    unfold inv2
    icases HI with ⟨H3, H4, H8, H9, H10, H11, ⟨%g17, %h17, H17⟩, ⟨%g18, %h18, H18⟩, %g19, %h19, H19⟩
    have e19 : arg19.view.read (Elt Ideal) g19 = fun y => (Gt (Cv x1 (Up (mat d16) x4) x6 x8) (Cv x2 (Up (mat d16) x5) x7 x9)) (y 0) (y 1) := h19.eq fun r _ => show r.val < 32 * k0_t2_loop.trips by rw [trips2]; exact r.isLt
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro
      exact stored_whole arg13 _ _ _ _ _ fun r l => out_at arg19 _ _ e19 arg12 harg12 x10 _ _ (fun r l => congrFun ((readAt_all arg13.view f13 _).trans hf13) (ix2 r l)) r l
    isplitl [H14]
    · iexists _; isplitr; swap; · iexact H14
      ipureintro
      unfold run.sl.H14_1_1 run.sl.v17_1 run.sl.H17_1_1
      rw [View.readCov_cons_toLoadRect]
      exact stored_whole arg14 _ _ _ _ _ fun r l => up19_at arg16 _ _ e16 arg6 harg6 x4 r l
    isplitl [H15]
    · iexists _; isplitr; swap; · iexact H15
      ipureintro
      unfold run.sl.H15_1_1 run.sl.v19_1 run.sl.H18_1_1
      rw [View.readCov_cons_toLoadRect]
      exact stored_whole arg15 _ _ _ _ _ fun r l => up20_at arg16 _ _ e16 arg7 harg7 x5 r l
    isplitl [H16]
    · iexists _; isplitr; swap; · iexact H16
      ipureintro
      exact e16
    isplitl [H17]
    · iexists _, _; isplitr; swap; · iexact H17
      ipureintro; rfl
    isplitl [H18]
    · iexists _, _; isplitr; swap; · iexact H18
      ipureintro; rfl
    · iexists _, _; isplitr; swap; · iexact H19
      ipureintro; rfl

end Cert.FfnIdeal.Body

end
-- ==== Proof.FfnBlocks.lean ====
module

public import proofs.«01_k».proof.Proof.Gen.FfnIdeal.Frame
public import Idealize.ShloMosaic.Lib.Pipeline.ValueKit
public import Idealize.ShloMosaic.Lib.StableHlo.ReadAt

/-! # What the feed-forward call's input blocks hold

Grid point `t` belongs to the rows `512 * pi t …` and the hidden channels `512 * pj t …`.  The host lines before the
region only reshape: each theorem says which entry of an argument array an entry of a block is. -/

@[expose] public section

set_option maxRecDepth 16384

noncomputable section

namespace Cert.FfnIdeal.Body

open Idealize.ShloMosaic Idealize.ShloMosaic.TcCoe Idealize.ShloMosaic.Tactic
open Idealize.SL.Sem
open Cert.FfnIdeal.Gen

variable (m : (ℓ : Loc nD τ sig) → Buf (Elt Ideal) ℓ) (c : Dev nD) (t : Fin cfg0.N)

/-- The grid point's block of rows and block of hidden channels. -/
abbrev pi : ℕ := (grid0.coords t 0).val
abbrev pj : ℕ := (grid0.coords t 1).val

theorem pi_lt : pi t < 2 := (grid0.coords t 0).isLt
theorem pj_lt : pj t < 11 := (grid0.coords t 1).isLt

/-- A block's row, sequence and channels, in the whole arrays. -/
abbrev gr (r : Fin 512) : Fin 1024 := ⟨512 * pi t + r.val, by have := pi_lt t; omega⟩
abbrev gs (s : Fin 64) : Fin 128 := ⟨64 * pi t + s.val, by have := pi_lt t; omega⟩
abbrev gv (l : Fin 512) : Fin 11264 := ⟨512 * pj t + l.val, by have := pj_lt t; omega⟩
abbrev gg (l : Fin 512) : Fin 11264 := ⟨5632 + (512 * pj t + l.val), by have := pj_lt t; omega⟩
abbrev gh (l : Fin 512) : Fin 5632 := ⟨512 * pj t + l.val, by have := pj_lt t; omega⟩

/-- Each window's block index at a grid point. -/
theorem idx : ∀ t : Fin cfg0.N, win0_0.index t = ![pi t, 0] ∧ win0_1.index t = ![pi t, 0, pj t] ∧ win0_2.index t = ![pi t, 0, 11 + pj t] ∧ win0_3.index t = ![0, 0] ∧ win0_4.index t = ![0, pj t] ∧ win0_5.index t = ![0, 11 + pj t] ∧ win0_6.index t = ![0, pj t] ∧ win0_7.index t = ![0, 11 + pj t] ∧ win0_8.index t = ![0, pj t] ∧ win0_9.index t = ![0, 11 + pj t] ∧ win0_10.index t = ![pj t, 0] ∧ win0_11.index t = ![pi t, 0] ∧ win0_12.index t = ![pi t, pj t] ∧ win0_13.index t = ![pi t, pj t] :=
  (by decide +kernel : ∀ t : Fin grid0.N, _)

theorem blk0 (r : Fin 512) (l : Fin 2048) : iblk m c 0 t (ix2 r l) = m ((c : Thread nD τ).loc main_arg0) (ix2 (gr t r) l) := by
  have e : iblk m c 0 t (ix2 r l) = V m c main_arg0 (ix2 (gr t r) l) := by blk_point [iblk, idx t]
  rw [e, V_main_arg0]

theorem blk3 (l : Fin 2048) : iblk m c 3 t (ix2 (0 : Fin 1) l) = m ((c : Thread nD τ).loc main_arg2) (ix2 (0 : Fin 1) l) := by
  have e : iblk m c 3 t (ix2 (0 : Fin 1) l) = V m c main_v1 (ix2 (0 : Fin 1) l) := by blk_point [iblk, idx t]
  rw [e]
  unfold V
  after_reads_at

theorem blk10 (k : Fin 512) (l : Fin 2048) : iblk m c 10 t (ix2 k l) = m ((c : Thread nD τ).loc main_arg6) (ix3 (0 : Fin 1) (gh t k) l) := by
  have e : iblk m c 10 t (ix2 k l) = V m c main_v8 (ix2 (gh t k) l) := by blk_point [iblk, idx t]
  rw [e]
  unfold V
  after_reads_at

theorem blk1 (s : Fin 64) (e : Fin 2) (l : Fin 512) : iblk m c 1 t (ix3 s e l) = m ((c : Thread nD τ).loc main_arg1) (ix4 (0 : Fin 1) (gs t s) e (gv t l)) := by
  have e : iblk m c 1 t (ix3 s e l) = V m c main_v9 (ix3 (gs t s) e (gv t l)) := by blk_point [iblk, idx t]
  rw [e]
  unfold V
  after_reads_at

theorem blk4 (k : Fin 2048) (l : Fin 512) : iblk m c 4 t (ix2 k l) = m ((c : Thread nD τ).loc main_arg3) (ix3 (0 : Fin 1) k (gv t l)) := by
  have e : iblk m c 4 t (ix2 k l) = V m c main_v3 (ix2 k (gv t l)) := by blk_point [iblk, idx t]
  rw [e]
  unfold V
  after_reads_at

theorem blk6 (k : Fin 3) (l : Fin 512) : iblk m c 6 t (ix2 k l) = m ((c : Thread nD τ).loc main_arg4) (ix3 (0 : Fin 1) k (gv t l)) := by
  have e : iblk m c 6 t (ix2 k l) = V m c main_v4 (ix2 k (gv t l)) := by blk_point [iblk, idx t]
  rw [e]
  unfold V
  after_reads_at

theorem blk8 (l : Fin 512) : iblk m c 8 t (ix2 (0 : Fin 1) l) = m ((c : Thread nD τ).loc main_arg5) (ix2 (0 : Fin 1) (gv t l)) := by
  have e : iblk m c 8 t (ix2 (0 : Fin 1) l) = V m c main_v6 (ix2 (0 : Fin 1) (gv t l)) := by blk_point [iblk, idx t]
  rw [e]
  unfold V
  after_reads_at

theorem blk2 (s : Fin 64) (e : Fin 2) (l : Fin 512) : iblk m c 2 t (ix3 s e l) = m ((c : Thread nD τ).loc main_arg1) (ix4 (0 : Fin 1) (gs t s) e (gg t l)) := by
  have e : iblk m c 2 t (ix3 s e l) = V m c main_v9 (ix3 (gs t s) e (gg t l)) := by blk_point [iblk, idx t]
  rw [e]
  unfold V
  after_reads_at

theorem blk5 (k : Fin 2048) (l : Fin 512) : iblk m c 5 t (ix2 k l) = m ((c : Thread nD τ).loc main_arg3) (ix3 (0 : Fin 1) k (gg t l)) := by
  have e : iblk m c 5 t (ix2 k l) = V m c main_v3 (ix2 k (gg t l)) := by blk_point [iblk, idx t]
  rw [e]
  unfold V
  after_reads_at

theorem blk7 (k : Fin 3) (l : Fin 512) : iblk m c 7 t (ix2 k l) = m ((c : Thread nD τ).loc main_arg4) (ix3 (0 : Fin 1) k (gg t l)) := by
  have e : iblk m c 7 t (ix2 k l) = V m c main_v4 (ix2 k (gg t l)) := by blk_point [iblk, idx t]
  rw [e]
  unfold V
  after_reads_at

theorem blk9 (l : Fin 512) : iblk m c 9 t (ix2 (0 : Fin 1) l) = m ((c : Thread nD τ).loc main_arg5) (ix2 (0 : Fin 1) (gg t l)) := by
  have e : iblk m c 9 t (ix2 (0 : Fin 1) l) = V m c main_v6 (ix2 (0 : Fin 1) (gg t l)) := by blk_point [iblk, idx t]
  rw [e]
  unfold V
  after_reads_at

end Cert.FfnIdeal.Body

end
-- ==== Proof.FfnPoint.lean ====
module

public import proofs.«01_k».proof.Proof.FfnBody
public import proofs.«01_k».proof.Proof.FfnBlocks

/-! # One grid point of the feed-forward call, in terms of the call's arguments

What the point computes from its blocks is its part of the feed-forward part of the whole arrays. -/

@[expose] public section

set_option maxRecDepth 16384

noncomputable section

namespace Cert.FfnIdeal.Body

open Idealize.ShloMosaic Idealize.ShloMosaic.TcCoe Idealize.ShloMosaic.Tactic
open Idealize.SL.Sem
open Cert.FfnIdeal.Gen Layer

/-- What the feed-forward part is given, from the call's arguments. -/
def args (X : S1024x2048.Idx → EReal) (St : S1x128x2x11264.Idx → EReal) (G : S1x2048.Idx → EReal) (Wu : S1x2048x11264.Idx → EReal)
    (W : S1x3x11264.Idx → EReal) (B : S1x11264.Idx → EReal) (Wd : S1x5632x2048.Idx → EReal) : Ffn where
  x n t l := X (ix2 (⟨8 * n.val + t.val, by omega⟩ : Fin 1024) l)
  st n e l := St (ix4 0 n e l)
  g l := G (ix2 0 l)
  wu k l := Wu (ix3 0 k l)
  w k l := W (ix3 0 k l)
  b l := B (ix2 0 l)
  wd k l := Wd (ix3 0 k l)

variable (m : (ℓ : Loc nD τ sig) → Buf (Elt Ideal) ℓ) (c : Dev nD) (t : Fin cfg0.N)

/-- The call's arguments. -/
def given : Ffn := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The sequence of a block's row. -/
abbrev sq (r : Fin 512) : Fin 128 := ⟨64 * pi t + r.val / 8, by have := pi_lt t; omega⟩

/-- The row's place in its sequence. -/
abbrev pl (r : Fin 512) : Fin 8 := ⟨r.val % 8, by omega⟩

theorem x_eq (r : Fin 512) (l : Fin 2048) : mat (iblk m c 0 t) r l = (given m c).x (sq t r) (pl r) l := by
  refine (blk0 m c t r l).trans ?_
  unfold given args
  exact congrArg (fun q => m ((c : Thread nD τ).loc main_arg0) (ix2 q l)) (Fin.ext (by show 512 * pi t + r.val = 8 * (64 * pi t + r.val / 8) + r.val % 8; omega))

/-- The block's normalised rows. -/
def hOf (r : Fin 512) : Fin 2048 → EReal := (given m c).h (sq t r) (pl r)

theorem h_eq : Hrow (iblk m c 0 t) (iblk m c 3 t) = hOf m c t := by
  funext r
  unfold Hrow hOf Ffn.h
  have h0 : mat (iblk m c 0 t) r = (given m c).x (sq t r) (pl r) := funext fun l => x_eq m c t r l
  have h3 : mat (iblk m c 3 t) 0 = (given m c).g := funext fun l => blk3 m c t l
  rw [h0, h3]

theorem upv_eq (r l : Fin 512) : Up (hOf m c t) (iblk m c 4 t) r l = (given m c).up (sq t r) (pl r) (gv t l) := by
  unfold Up Ffn.up rowMul
  have e : ∀ k, mat (iblk m c 4 t) k l = (given m c).wu k (gv t l) := fun k => blk4 m c t k l
  exact Finset.sum_congr rfl fun k _ => congrArg (hOf m c t r k * ·) (e k)

theorem upg_eq (r l : Fin 512) : Up (hOf m c t) (iblk m c 5 t) r l = (given m c).up (sq t r) (pl r) (gg t l) := by
  unfold Up Ffn.up rowMul
  have e : ∀ k, mat (iblk m c 5 t) k l = (given m c).wu k (gg t l) := fun k => blk5 m c t k l
  exact Finset.sum_congr rfl fun k _ => congrArg (hOf m c t r k * ·) (e k)

/-- A sequence's rows lie together in its block. -/
theorem sq_mate (r : Fin 512) (s : Fin 8) : sq t (mate r s) = sq t r :=
  Fin.ext (by show 64 * pi t + (r.val / 8 * 8 + s.val) / 8 = 64 * pi t + r.val / 8; omega)

theorem pl_mate (r : Fin 512) (s : Fin 8) : pl (mate r s) = s :=
  Fin.ext (by show (r.val / 8 * 8 + s.val) % 8 = s.val; omega)

theorem cvv_eq (r l : Fin 512) : Cv (iblk m c 1 t) (Up (hOf m c t) (iblk m c 4 t)) (iblk m c 6 t) (iblk m c 8 t) r l = (given m c).cv (sq t r) (pl r) (gv t l) := by
  unfold Cv Ffn.cv
  have hs : (fun e => iblk m c 1 t (ix3 (⟨r.val / 8, by omega⟩ : Fin 64) e l)) = fun e => (given m c).st (sq t r) e (gv t l) := funext fun e => blk1 m c t _ e l
  have hu : (fun s => Up (hOf m c t) (iblk m c 4 t) (mate r s) l) = fun s => (given m c).up (sq t r) s (gv t l) :=
    funext fun s => by rw [upv_eq, sq_mate, pl_mate]
  have h0 : iblk m c 6 t (ix2 0 l) = (given m c).w 0 (gv t l) := blk6 m c t 0 l
  have h1 : iblk m c 6 t (ix2 1 l) = (given m c).w 1 (gv t l) := blk6 m c t 1 l
  have h2 : iblk m c 6 t (ix2 2 l) = (given m c).w 2 (gv t l) := blk6 m c t 2 l
  have hb : iblk m c 8 t (ix2 0 l) = (given m c).b (gv t l) := blk8 m c t l
  rw [hs, hu, h0, h1, h2, hb]

theorem cvg_eq (r l : Fin 512) : Cv (iblk m c 2 t) (Up (hOf m c t) (iblk m c 5 t)) (iblk m c 7 t) (iblk m c 9 t) r l = (given m c).cv (sq t r) (pl r) (gg t l) := by
  unfold Cv Ffn.cv
  have hs : (fun e => iblk m c 2 t (ix3 (⟨r.val / 8, by omega⟩ : Fin 64) e l)) = fun e => (given m c).st (sq t r) e (gg t l) := funext fun e => blk2 m c t _ e l
  have hu : (fun s => Up (hOf m c t) (iblk m c 5 t) (mate r s) l) = fun s => (given m c).up (sq t r) s (gg t l) :=
    funext fun s => by rw [upg_eq, sq_mate, pl_mate]
  have h0 : iblk m c 7 t (ix2 0 l) = (given m c).w 0 (gg t l) := blk7 m c t 0 l
  have h1 : iblk m c 7 t (ix2 1 l) = (given m c).w 1 (gg t l) := blk7 m c t 1 l
  have h2 : iblk m c 7 t (ix2 2 l) = (given m c).w 2 (gg t l) := blk7 m c t 2 l
  have hb : iblk m c 9 t (ix2 0 l) = (given m c).b (gg t l) := blk9 m c t l
  rw [hs, hu, h0, h1, h2, hb]

theorem gate_eq (r q : Fin 512) :
    Gt (Cv (iblk m c 1 t) (Up (hOf m c t) (iblk m c 4 t)) (iblk m c 6 t) (iblk m c 8 t)) (Cv (iblk m c 2 t) (Up (hOf m c t) (iblk m c 5 t)) (iblk m c 7 t) (iblk m c 9 t)) r q
      = (given m c).gate (sq t r) (pl r) (gh t q) := by
  unfold Gt Ffn.gate
  rw [cvv_eq, cvg_eq]

/-- The point adds its block of hidden channels. -/
theorem out_eq (y : Fin 512 → Fin 2048 → EReal) (hy : ∀ r l, y r l = (given m c).acc (sq t r) (pl r) (pj t) l) (r : Fin 512) (l : Fin 2048) :
    yOut (hOf m c t) y (iblk m c 1 t) (iblk m c 2 t) (iblk m c 4 t) (iblk m c 5 t) (iblk m c 6 t) (iblk m c 7 t) (iblk m c 8 t) (iblk m c 9 t) (iblk m c 10 t) r l
      = (given m c).acc (sq t r) (pl r) (pj t + 1) l := by
  rw [Ffn.acc_succ, ← hy]
  refine congrArg (y r l + ·) (Finset.sum_congr rfl fun q _ => ?_)
  rw [gate_eq]
  have hl : 512 * pj t + q.val < 5632 := by have := pj_lt t; omega
  have e : mat (iblk m c 10 t) q l = (given m c).wd (gh t q) l := blk10 m c t q l
  rw [e]
  unfold Ffn.term
  rw [dif_pos hl]

end Cert.FfnIdeal.Body

end
-- ==== Proof.FfnLaunch.lean ====
module

public import proofs.«01_k».proof.Proof.FfnRun
public import proofs.«01_k».proof.Proof.FfnPoint
public import proofs.«01_k».proof.Defs
public import Idealize.ShloMosaic.Lib.Claim

/-! # The feed-forward call's launch

A block of rows is visited at eleven points in turn.  The first normalises the rows into the scratch and starts the
result block from the input's; every point adds its block of hidden channels.  So after a point the result block holds
the sum over the hidden blocks so far, and between the points of one block the scratch holds its normalised rows. -/

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen Layer

local notation "𝕄" => MT nD τ sig Unit (Elt Ideal) ℕ (UR sig nD τ) ℕ

/-- The grid's points in order: the hidden blocks of the first block of rows, then those of the second. -/
theorem pi_eq : ∀ t : Fin cfg0.N, pi t = t.val / 11 := (by decide +kernel : ∀ t : Fin grid0.N, (grid0.coords t 0).val = t.val / 11)
theorem pj_eq : ∀ t : Fin cfg0.N, pj t = t.val % 11 := (by decide +kernel : ∀ t : Fin grid0.N, (grid0.coords t 1).val = t.val % 11)

/-- The first point of a block of rows. -/
theorem first_iff : ∀ t : Fin cfg0.N, k0_cond1 (grid0.coords t) = 1#1 ↔ t.val % 11 = 0 :=
  (by decide +kernel : ∀ t : Fin grid0.N, k0_cond1 (grid0.coords t) = 1#1 ↔ t.val % 11 = 0)

variable (m : (ℓ : Loc nD τ sig) → Buf (Elt Ideal) ℓ) (ρ : Dev nD → PrngReg)

/-- The result block after a point: the input's rows and the hidden blocks so far. -/
def Y11 (c : Dev nD) (t : Fin cfg0.N) : S512x2048.Idx → EReal := fun y => (given m c).acc (sq t (y 0)) (pl (y 0)) (pj t + 1) (y 1)

/-- The two blocks of projected rows. -/
def Y12 (c : Dev nD) (t : Fin cfg0.N) : S512x512.Idx → EReal := fun y => (given m c).up (sq t (y 0)) (pl (y 0)) (gv t (y 1))
def Y13 (c : Dev nD) (t : Fin cfg0.N) : S512x512.Idx → EReal := fun y => (given m c).up (sq t (y 0)) (pl (y 0)) (gg t (y 1))

/-- Before a point that is not its block's first, the scratch holds the block's normalised rows. -/
def Hold (c : Dev nD) (t : Fin (cfg0.N + 1)) (d : S512x2048.Idx → EReal) : Prop :=
  ∀ h : t.val < cfg0.N, t.val % 11 ≠ 0 → d = fun y => hOf m c ⟨t.val, h⟩ (y 0) (y 1)

theorem hOf_congr (c : Dev nD) (s t : Fin cfg0.N) (h : pi s = pi t) : hOf m c s = hOf m c t := by
  funext r
  unfold hOf
  exact congrFun (congrArg (given m c).h (Fin.ext (by show 64 * pi s + r.val / 8 = 64 * pi t + r.val / 8; rw [h]))) _

abbrev scM0_0 : Memref sig .tc .vmem S512x2048 .bf16 := Memref.whole cc0_scratch0
abbrev scM0_1 : Memref sig .tc .vmem S520x512 .f32 := Memref.whole cc0_scratch1
abbrev scM0_2 : Memref sig .tc .vmem S520x512 .f32 := Memref.whole cc0_scratch2
abbrev scM0_3 : Memref sig .tc .vmem S512x512 .bf16 := Memref.whole cc0_scratch3

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What is held between the points: the scratch with the normalised rows where they are kept, the other scratch at some
    contents, and the generator register. -/
def kept (c : Dev nD) (t : Fin (cfg0.N + 1)) : sProp 𝕄 :=
  iprop(iprop((∃ d, ⌜Hold m c t d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem kept_in (c : Dev nD) : (Pipeline.ΦA spec0 c : sProp 𝕄) ⊢ kept m c 0 := by
  rw [PhiA0_eq]
  unfold kept
  iintro ⟨⟨⟨%d, H0⟩, H1, H2, H3⟩, Hg⟩
  isplitl [H0 H1 H2 H3]
  · isplitl [H0]
    · iexists d; isplitr; swap; · iexact H0
      ipureintro
      exact fun _ h => absurd rfl h
    isplitl [H1]; · iexact H1
    isplitl [H2]; · iexact H2
    iexact H3
  iexact Hg

theorem kept_out (c : Dev nD) (t : Fin (cfg0.N + 1)) : kept m c t ⊢ (Pipeline.ΦA spec0 c : sProp 𝕄) := by
  rw [PhiA0_eq]
  unfold kept
  iintro ⟨⟨⟨%d, -, H0⟩, H1, H2, H3⟩, Hg⟩
  isplitl [H0 H1 H2 H3]
  · isplitl [H0]
    · iexists d; iexact H0
    isplitl [H1]; · iexact H1
    isplitl [H2]; · iexact H2
    iexact H3
  iexact Hg

/-- The proof data: the inputs' buffers hold their blocks, the outputs' the blocks named above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Y11 m c t
    | ⟨12, _⟩ => Y12 m c t
    | ⟨13, _⟩ => Y13 m c t
  Φ t := kept m c t
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = Y11 m c t := by dsimp only [dats]
theorem after0_12 (c : Dev nD) (t : Fin cfg0.N) : (dats m 0 c).after 12 t = Y12 m c t := by dsimp only [dats]
theorem after0_13 (c : Dev nD) (t : Fin cfg0.N) : (dats m 0 c).after 13 t = Y13 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)

/-- The normalised rows that a point works with. -/
theorem now_h (c : Dev nD) (t : Fin cfg0.N) (d : S512x2048.Idx → EReal) (hd : Hold m c t.castSucc d) :
    hNow (grid0.coords t) (iblk m c 0 t) (iblk m c 3 t) d = hOf m c t := by
  unfold hNow
  by_cases h : t.val % 11 = 0
  · rw [if_pos ((first_iff t).mpr h), h_eq]
  · rw [if_neg (fun e => h ((first_iff t).mp e)), hd t.isLt h]
    rfl

/-- The result block that a point adds to. -/
theorem now_y (c : Dev nD) (t : Fin cfg0.N) (d) (r : Fin 512) (l : Fin 2048) :
    yNow (grid0.coords t) (iblk m c 0 t) ((dats m 0 c).before 11 t d) r l = (given m c).acc (sq t r) (pl r) (pj t) l := by
  unfold yNow
  by_cases h : t.val % 11 = 0
  · rw [if_pos ((first_iff t).mpr h), pj_eq, h, Ffn.acc_zero]
    exact x_eq m c t r l
  · rw [if_neg (fun e => h ((first_iff t).mp e))]
    have h0 : t.val ≠ 0 := fun e => h (by rw [e])
    have hfl : (cfg0.win 11).flush ⟨t.val - 1, Nat.lt_of_le_of_lt (Nat.sub_le _ _) t.isLt⟩ = false :=
      Bool.eq_false_iff.mpr fun e => by
        have := (flush0_11 _).mp e
        have h2 : (t.val - 1) % 11 = 10 := this
        omega
    have e := (dats m 0 c).before_out_kept 11 rfl t h0 hfl (fun _ => rfl) (fun _ _ => rfl) d
    have hs : ∀ s : Fin cfg0.N, s.val = t.val - 1 → Y11 m c s (ix2 r l) = (given m c).acc (sq t r) (pl r) (pj t) l := fun s hs => by
      have h1 : pi s = pi t := by rw [pi_eq, pi_eq, hs]; omega
      have h2 : pj s + 1 = pj t := by rw [pj_eq, pj_eq, hs]; omega
      unfold Y11
      rw [h2]
      exact congrArg (fun q => (given m c).acc q (pl r) (pj t) l) (Fin.ext (by show 64 * pi s + r.val / 8 = 64 * pi t + r.val / 8; rw [h1]))
    exact (congrFun (e.trans (after0_11 m c _)) (ix2 r l)).trans (hs _ rfl)

/-- The blocks that a point leaves. -/
theorem leaves11 (c : Dev nD) (t : Fin cfg0.N) (d) (e : S512x2048.Idx → EReal) (he : Hold m c t.castSucc e) :
    (fun y : S512x2048.Idx => yOut (hNow (grid0.coords t) (iblk m c 0 t) (iblk m c 3 t) e) (yNow (grid0.coords t) (iblk m c 0 t) ((dats m 0 c).before 11 t d)) (iblk m c 1 t) (iblk m c 2 t) (iblk m c 4 t) (iblk m c 5 t) (iblk m c 6 t) (iblk m c 7 t) (iblk m c 8 t) (iblk m c 9 t) (iblk m c 10 t) (y 0) (y 1))
      = Y11 m c t := by
  rw [now_h m c t e he]
  exact funext fun y => out_eq m c t _ (now_y m c t d) (y 0) (y 1)

theorem leaves12 (c : Dev nD) (t : Fin cfg0.N) (e : S512x2048.Idx → EReal) (he : Hold m c t.castSucc e) :
    (fun y : S512x512.Idx => Up (hNow (grid0.coords t) (iblk m c 0 t) (iblk m c 3 t) e) (iblk m c 4 t) (y 0) (y 1)) = Y12 m c t := by
  rw [now_h m c t e he]
  exact funext fun y => upv_eq m c t (y 0) (y 1)

theorem leaves13 (c : Dev nD) (t : Fin cfg0.N) (e : S512x2048.Idx → EReal) (he : Hold m c t.castSucc e) :
    (fun y : S512x512.Idx => Up (hNow (grid0.coords t) (iblk m c 0 t) (iblk m c 3 t) e) (iblk m c 5 t) (y 0) (y 1)) = Y13 m c t := by
  rw [now_h m c t e he]
  exact funext fun y => upg_eq m c t (y 0) (y 1)

/-- The scratch that a point leaves to the next. -/
theorem leaves_hold (c : Dev nD) (t : Fin cfg0.N) (e : S512x2048.Idx → EReal) (he : Hold m c t.castSucc e) :
    Hold m c t.succ (fun y => hNow (grid0.coords t) (iblk m c 0 t) (iblk m c 3 t) e (y 0) (y 1)) := by
  intro h hne
  rw [now_h m c t e he]
  have hs : pi t = pi ⟨t.succ.val, h⟩ := by
    rw [pi_eq, pi_eq]
    have h1 : (t.val + 1) % 11 ≠ 0 := hne
    show t.val / 11 = (t.val + 1) / 11
    omega
  rw [hOf_congr m c t _ hs]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = kept m c t.castSucc from rfl, show (dats m 0 c).Φ t.succ = kept m c t.succ from rfl]
  unfold kept
  iintro ⟨⟨⟨⟨%e, %he, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [← leaves11 m c t d11 e he, ← leaves12 m c t e he, ← leaves13 m c t e he]
  iapply (run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) e Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]
      · iexists _; isplitr; swap; · iexact HS0
        ipureintro
        exact leaves_hold m c t e he
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- Every execution ends with the arrays at what the proof data says and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => kept_in m c) (hout := fun c => kept_out m c _)

theorem run_main : θ_run defs (onTc (τ := τ) (main (F := Ideal))) (s₀ m ρ) (Pipeline.FramePost cfgs (dats m) 0 (V m)) :=
  (θ_run defs _ _).mono (fun _ h => h.1) (run_quiescent m ρ)

/-- The frame claim. -/
theorem quiescent : Cert.quiescent_FfnIdeal := fun m ρ _ =>
  θ_run_and (frame_of m ρ (dats m) (A_eq m) (run_main m ρ)) ((θ_run defs _ _).mono (fun _ h => h.2) (run_quiescent m ρ))

end Cert.FfnIdeal.Body

end
-- ==== Proof.FfnValue.lean ====
module

public import proofs.«01_k».proof.Proof.FfnLaunch

/-! # The feed-forward call's three results

The arrays that the call leaves, as the feed-forward part of its arguments over sequences: row `r` belongs to sequence
`r / 8`. -/

@[expose] public section

set_option maxRecDepth 16384

noncomputable section

namespace Cert.FfnIdeal.Body

open Idealize.ShloMosaic Idealize.ShloMosaic.TcCoe Idealize.ShloMosaic.Tactic
open Idealize.SL.Sem
open Idealize.ShloMosaic.Pipeline (Dat)
open Cert.FfnIdeal.Gen Layer

variable (m : (ℓ : Loc nD τ sig) → Buf (Elt Ideal) ℓ) (c : Dev nD)

/-- An array of all rows, read at a row of a grid point's block. -/
theorem seqRows_block (t : Fin cfg0.N) {w : ℕ} (f : Fin 128 → Fin 8 → Fin w → EReal) (y : (⟨2, ![1024, w]⟩ : Shape).Idx) (r : Fin 512) (l : Fin w)
    (h0 : (y 0).val = 512 * pi t + r.val) (h1 : (y 1).val = l.val) : seqRows f y = f (sq t r) (pl r) l := by
  unfold seqRows
  have h2 : y 1 = l := Fin.ext h1
  rw [h2]
  exact congrArg₂ (fun a b => f a b l) (Fin.ext (by show (y 0).val / 8 = 64 * pi t + r.val / 8; omega)) (Fin.ext (by show (y 0).val % 8 = r.val % 8; omega))

/-- The two halves of the up-projected rows. -/
def low (A : Ffn) (n : Fin 128) (t : Fin 8) (l : Fin 5632) : EReal := A.up n t ⟨l.val, by omega⟩
def high (A : Ffn) (n : Fin 128) (t : Fin 8) (l : Fin 5632) : EReal := A.up n t ⟨5632 + l.val, by omega⟩

/-- The first result, written at the last block of hidden channels: the rows plus the whole down-projection. -/
theorem final11 : (dats m 0 c).arrAt 11 cfg0.N = seqRows (given m c).y := by
  refine (dats m 0 c).arrAt_eq_of_covers 11 _ (by decide +kernel) fun t ht y => ?_
  obtain ⟨r, l, rfl⟩ : ∃ r l, y = ix2 r l := ⟨_, _, eq_ix2 y⟩
  have hl : pj t + 1 = 11 := by rw [pj_eq, (flush0_11 t).mp ht]
  rw [after0_11]
  have e : Y11 m c t (ix2 r l) = (given m c).y (sq t r) (pl r) l := by
    show (given m c).acc (sq t r) (pl r) (pj t + 1) l = _
    rw [hl, Ffn.acc_all]
  refine e.trans (seqRows_block t _ _ r l ?_ ?_).symm
  · blk_simp
    blk_point [idx t]
    exact Nat.mul_comm _ _
  · blk_simp
    try blk_point [idx t]

/-- The second result: the first half of the up-projected rows. -/
theorem final12 : (dats m 0 c).arrAt 12 cfg0.N = seqRows (low (given m c)) := by
  refine (dats m 0 c).arrAt_eq_of_covers 12 _ (by decide +kernel) fun t _ y => ?_
  obtain ⟨r, l, rfl⟩ : ∃ r l, y = ix2 r l := ⟨_, _, eq_ix2 y⟩
  rw [after0_12]
  refine Eq.trans (b := low (given m c) (sq t r) (pl r) (gh t l)) rfl (seqRows_block t _ _ r (gh t l) ?_ ?_).symm
  · blk_simp
    blk_point [idx t]
    exact Nat.mul_comm _ _
  · blk_simp
    rw [Nat.mul_comm]
    blk_point [idx t]

/-- The third result: the second half of the up-projected rows. -/
theorem final13 : (dats m 0 c).arrAt 13 cfg0.N = seqRows (high (given m c)) := by
  refine (dats m 0 c).arrAt_eq_of_covers 13 _ (by decide +kernel) fun t _ y => ?_
  obtain ⟨r, l, rfl⟩ : ∃ r l, y = ix2 r l := ⟨_, _, eq_ix2 y⟩
  rw [after0_13]
  refine Eq.trans (b := high (given m c) (sq t r) (pl r) (gh t l)) rfl (seqRows_block t _ _ r (gh t l) ?_ ?_).symm
  · blk_simp
    blk_point [idx t]
    exact Nat.mul_comm _ _
  · blk_simp
    rw [Nat.mul_comm]
    blk_point [idx t]

end Cert.FfnIdeal.Body

end
-- ==== Proof.FfnClaim.lean ====
module

public import proofs.«01_k».proof.Proof.FfnRefValue
public import proofs.«01_k».proof.Proof.FfnValue
public import proofs.«01_k».proof.Proof.Gen.FfnRefIdeal.Run

/-! The feed-forward part against its reference. -/

@[expose] public section

set_option maxRecDepth 16384

noncomputable section

open Idealize.ShloMosaic Idealize.ShloMosaic.TcCoe Idealize.ShloMosaic.Tactic Idealize.SL.Sem Idealize.ShloMosaic.StableHlo

namespace Cert.FfnRefIdeal.Ref

open Cert.FfnRefIdeal Cert.FfnRefIdeal.Gen Layer
open Cert.FfnIdeal.Body (args low high)

section Stages

variable (X : FVec Ideal S1024x2048 .f32) (St : FVec Ideal S1x128x2x11264 .f32) (G : FVec Ideal S1x2048 .f32) (Wu : FVec Ideal S1x2048x11264 .f32)
  (W : FVec Ideal S1x3x11264 .f32) (B : FVec Ideal S1x11264 .f32) (Wd : FVec Ideal S1x5632x2048 .f32)

/-- The reference's up-projected rows. -/
def upR : FVec Ideal S128x8x11264 .f32 := up (split X) G Wu

/-- The reference's residual stream. -/
def resultR : FVec Ideal S128x8x2048 .f32 := result (split X) (hidden (convolve (seen St (upR X G Wu)) W B)) Wd

theorem upR_eq (n : Fin 128) (t : Fin 8) (l : Fin 11264) : upR X G Wu (ix3 n t l) = (args X St G Wu W B Wd).up n t l := by
  refine (up_apply _ G Wu n t l).trans ?_
  simp only [split_apply]
  rfl

theorem cv_eq (n : Fin 128) (t : Fin 8) (l : Fin 11264) : convolve (seen St (upR X G Wu)) W B (ix3 n t l) = (args X St G Wu W B Wd).cv n t l := by
  refine (convolve_apply St _ W B n t l).trans ?_
  simp only [upR_eq X St G Wu W B Wd]
  rfl

theorem gate_eq (n : Fin 128) (t : Fin 8) (l : Fin 5632) : hidden (convolve (seen St (upR X G Wu)) W B) (ix3 n t l) = (args X St G Wu W B Wd).gate n t l := by
  refine (hidden_apply _ n t l).trans ?_
  simp only [cv_eq X St G Wu W B Wd]
  rfl

theorem resultR_eq (n : Fin 128) (t : Fin 8) (l : Fin 2048) : resultR X St G Wu W B Wd (ix3 n t l) = (args X St G Wu W B Wd).y n t l := by
  refine (result_apply _ _ Wd n t l).trans ?_
  simp only [gate_eq X St G Wu W B Wd, split_apply]
  rfl

end Stages

section Results

variable (m : (ℓ : Loc nD τ sig) → Buf (Elt Ideal) ℓ) (c : Dev nD)

/-- The arguments in a device's memory. -/
def given : Ffn := args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The reference's first result is the feed-forward part's residual stream. -/
theorem first : shapeCast S1024x2048 (resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S128x8x2048_S1024x2048 = seqRows (given m c).y :=
  joined _ _ fun n t l => resultR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n t l

/-- The reference's second result is the first half of the up-projected rows. -/
theorem second : extractStridedSlice S1024x5632 ![0, 0] (shapeCast S1024x11264 (upR (m ((c.tc : Thread nD τ).loc main_arg0)) (m ((c.tc : Thread nD τ).loc main_arg2)) (m ((c.tc : Thread nD τ).loc main_arg3))) shapeCasts_S128x8x11264_S1024x11264) slices_S1024x11264_S1024x5632_0_0 = seqRows (low (given m c)) :=
  joined_low _ _ fun n t l => upR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n t _

/-- The reference's third result is the second half of the up-projected rows. -/
theorem third : extractStridedSlice S1024x5632 ![0, 5632] (shapeCast S1024x11264 (upR (m ((c.tc : Thread nD τ).loc main_arg0)) (m ((c.tc : Thread nD τ).loc main_arg2)) (m ((c.tc : Thread nD τ).loc main_arg3))) shapeCasts_S128x8x11264_S1024x11264) slices_S1024x11264_S1024x5632_0_5632 = seqRows (high (given m c)) :=
  joined_high _ _ fun n t l => upR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n t _

end Results

end Cert.FfnRefIdeal.Ref

/-- The feed-forward call runs to its end, with its three results at the feed-forward part's and its arguments as they were. -/
theorem Cert.FfnIdeal.Body.run_values (m : (ℓ : Loc Cert.FfnIdeal.nD Cert.FfnIdeal.τ Cert.FfnIdeal.sig) → Buf (Elt Ideal) ℓ)
    (ρ : Dev Cert.FfnIdeal.nD → PrngReg) :
    θ_run Cert.FfnIdeal.defs (onTc (τ := Cert.FfnIdeal.τ) (Cert.FfnIdeal.main (F := Ideal))) ⟨m, fun _ => 0, ρ⟩ fun r => ∀ c : Dev Cert.FfnIdeal.nD,
      r.2.mem ((c.tc : Thread Cert.FfnIdeal.nD Cert.FfnIdeal.τ).loc Cert.FfnIdeal.main_v10_0) = Layer.seqRows (Cert.FfnIdeal.Body.given m c).y
      ∧ r.2.mem ((c.tc : Thread Cert.FfnIdeal.nD Cert.FfnIdeal.τ).loc Cert.FfnIdeal.main_v10_1) = Layer.seqRows (Cert.FfnIdeal.Body.low (Cert.FfnIdeal.Body.given m c))
      ∧ r.2.mem ((c.tc : Thread Cert.FfnIdeal.nD Cert.FfnIdeal.τ).loc Cert.FfnIdeal.main_v10_2) = Layer.seqRows (Cert.FfnIdeal.Body.high (Cert.FfnIdeal.Body.given m c))
      ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6) :=
  (θ_run Cert.FfnIdeal.defs _ _).mono (fun _ h c => ⟨((h.1 c).1 11).trans (Cert.FfnIdeal.Body.final11 m c), ((h.1 c).1 12).trans (Cert.FfnIdeal.Body.final12 m c),
      ((h.1 c).1 13).trans (Cert.FfnIdeal.Body.final13 m c), h.2 c⟩)
    (θ_run_and (Cert.FfnIdeal.Body.run_main m ρ)
      (Cert.FfnIdeal.Gen.frame_of m ρ (Cert.FfnIdeal.Body.dats m) (Cert.FfnIdeal.Body.A_eq m) (Cert.FfnIdeal.Body.run_main m ρ)))

set_option maxHeartbeats 1000000 in
/-- The feed-forward call leaves what its reference computes. -/
theorem Cert.FfnIdeal.Body.algebraic : Cert.algebraic_FfnIdeal_FfnRefIdeal := by
  pair_intro
  · run_from Cert.FfnIdeal.Body.run_values m g
  · run_from Cert.FfnRefIdeal.Value.run m' g'
    all_goals
      obtain ⟨h0, h1, h2, h3, h4, h5, h6⟩ := hagree c
      have e : Cert.FfnIdeal.Body.given m c = Cert.FfnRefIdeal.Ref.given m' c := by
        unfold Cert.FfnIdeal.Body.given Cert.FfnRefIdeal.Ref.given
        rw [h0, h1, h2, h3, h4, h5, h6]
    · rw [e]
      exact Cert.FfnRefIdeal.Ref.first m' c
    · rw [e]
      simp only [← h0, ← h2, ← h3]
      exact Cert.FfnRefIdeal.Ref.second m' c
    · rw [e]
      simp only [← h0, ← h2, ← h3]
      exact Cert.FfnRefIdeal.Ref.third m' c

end
-- ==== Proof.FfnRef.lean ====
module

public import proofs.«01_k».proof.Defs
public import proofs.«01_k».proof.Proof.Gen.FfnRefIdeal.Run

/-! The feed-forward reference's run. -/

@[expose] public section

noncomputable section

open Idealize.ShloMosaic Idealize.ShloMosaic.TcCoe Idealize.SL.Sem

/-- The reference runs to its end and leaves its arguments as they were. -/
theorem Cert.FfnRefIdeal.Ref.quiescent : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

end
-- ==== Proof.PleClaim.lean ====
module

public import proofs.«01_k».proof.Proof.PleValue
public import proofs.«01_k».proof.Proof.Gen.PleRefIdeal.Run

/-! The last call against its reference. -/

@[expose] public section

set_option maxRecDepth 16384

noncomputable section

open Idealize.ShloMosaic Idealize.ShloMosaic.TcCoe Idealize.ShloMosaic.Tactic Idealize.SL.Sem

namespace Cert.PleRefIdeal.Ref

open Cert.PleRefIdeal Cert.PleRefIdeal.Gen Layer

/-- The reference's normalisation of every row. -/
def norm (x : FVec Ideal S1024x2048 .f32) (g : FVec Ideal S2048 .f32) : FVec Ideal S1024x2048 .f32 :=
  mulf (mulf x (broadcastInDim S1024x2048 ![0, 1] bcast_S1024x1_S1024x2048_0_1 (Host.rsqrt (addf (Host.divf
    (broadcastInDim S1024x1 ![0] bcast_S1024_S1024x1_0 (Host.reduceAdd (mulf x x) (constant S_ .f32 0x00000000#32) reducesTo_S1024x2048_S1024_d1 h_S_))
    (broadcastInDim S1024x1 ![] bcast_S_S1024x1 (constant S_ .f32 0x45000000#32))) (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))

theorem norm_apply (x : FVec Ideal S1024x2048 .f32) (g : FVec Ideal S2048 .f32) (r : Fin 1024) (l : Fin 2048) :
    norm x g (ix2 r l) = rms (mat x r) (fun k => g (ix1 k)) l := by
  pointwise [norm, rms, mat]

/-- The reference's gated sum before the last normalisation. -/
def mix (x h : FVec Ideal S1024x2048 .f32) (wg : FVec Ideal S2048x2048 .f32) (p : FVec Ideal S1024x256 .f32) (wp : FVec Ideal S256x2048 .f32) : FVec Ideal S1024x2048 .f32 :=
  addf x (mulf (Host.divf (broadcastInDim S1024x2048 ![] bcast_S_S1024x2048 (constant S_ .f32 0x3F800000#32)) (addf (broadcastInDim S1024x2048 ![] bcast_S_S1024x2048 (constant S_ .f32 0x3F800000#32))
    (Host.exp (Host.negf (Host.dotGeneral dot_S1024x2048_S2048x2048_S1024x2048_1_0_0_1_n_n none h wg)))))
    (Host.dotGeneral dot_S1024x256_S256x2048_S1024x2048_1_0_0_1_n_n none p wp))

theorem mix_apply (x h : FVec Ideal S1024x2048 .f32) (wg : FVec Ideal S2048x2048 .f32) (p : FVec Ideal S1024x256 .f32) (wp : FVec Ideal S256x2048 .f32)
    (r : Fin 1024) (l : Fin 2048) : mix x h wg p wp (ix2 r l) = x (ix2 r l) + Ideal.logistic (rowMul (mat h r) (mat wg) l) * rowMul (mat p r) (mat wp) l := by
  pointwise [mix, rowMul, mat]
  rfl

theorem g_apply (G : FVec Ideal S1x2048 .f32) (k : Fin 2048) : shapeCast S2048 G shapeCasts_S1x2048_S2048 (ix1 k) = G (ix2 0 k) := by pointwise
theorem wg_apply (W : FVec Ideal S1x2048x2048 .f32) (k l : Fin 2048) : shapeCast S2048x2048 W shapeCasts_S1x2048x2048_S2048x2048 (ix2 k l) = W (ix3 0 k l) := by pointwise
theorem p_apply (W : FVec Ideal S1x1024x256 .f32) (k : Fin 1024) (l : Fin 256) : shapeCast S1024x256 W shapeCasts_S1x1024x256_S1024x256 (ix2 k l) = W (ix3 0 k l) := by pointwise
theorem wp_apply (W : FVec Ideal S1x256x2048 .f32) (k : Fin 256) (l : Fin 2048) : shapeCast S256x2048 W shapeCasts_S1x256x2048_S256x2048 (ix2 k l) = W (ix3 0 k l) := by pointwise

/-- The reference's stages put together are the layer's result. -/
theorem stages (X : FVec Ideal S1024x2048 .f32) (P : FVec Ideal S1x1024x256 .f32) (G : FVec Ideal S1x2048 .f32) (Wg : FVec Ideal S1x2048x2048 .f32)
    (Wp : FVec Ideal S1x256x2048 .f32) (Gf : FVec Ideal S2048 .f32) :
    norm (mix X (norm X (shapeCast S2048 G shapeCasts_S1x2048_S2048)) (shapeCast S2048x2048 Wg shapeCasts_S1x2048x2048_S2048x2048)
      (shapeCast S1024x256 P shapeCasts_S1x1024x256_S1024x256) (shapeCast S256x2048 Wp shapeCasts_S1x256x2048_S256x2048)) Gf
      = Cert.PleIdeal.Body.result X P G Wg Wp Gf := by
  funext y
  obtain ⟨r, l, rfl⟩ : ∃ (r : Fin 1024) (l : Fin 2048), y = ix2 r l := ⟨y 0, y 1, eq_ix2 y⟩
  have e : Cert.PleIdeal.Body.result X P G Wg Wp Gf (ix2 r l) = ple (mat X r) (mat G 0) (fun k l => Wg (ix3 0 k l)) (fun k => P (ix3 0 r k)) (fun k l => Wp (ix3 0 k l)) (fun k => Gf (ix1 k)) l := rfl
  rw [e, norm_apply]
  unfold ple
  congr 1
  funext l
  unfold mat
  rw [mix_apply]
  unfold pleMix rowMul mat
  simp only [norm_apply, g_apply, wg_apply, p_apply, wp_apply]

/-- The reference computes the layer's result. -/
theorem res_eq (m : (ℓ : Loc nD τ sig) → Buf (Elt Ideal) ℓ) (c : Dev nD) : Value.res_out0 m c
    = Cert.PleIdeal.Body.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) :=
  stages _ _ _ _ _ _

end Cert.PleRefIdeal.Ref

/-- The reference runs to its end and leaves its arguments as they were. -/
theorem Cert.PleRefIdeal.Ref.quiescent : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The last call leaves what its reference computes. -/
theorem Cert.PleIdeal.Body.algebraic : Cert.algebraic_PleIdeal_PleRefIdeal := by
  pair_intro
  · run_from Cert.PleIdeal.Body.run_main m g
  · run_from Cert.PleRefIdeal.Value.run m' g'
    obtain ⟨h0, h1, h2, h3, h4, h5⟩ := hagree c
    rw [Cert.PleIdeal.Body.final, ← h0, ← h1, ← h2, ← h3, ← h4, ← h5]
    exact Cert.PleRefIdeal.Ref.res_eq m' c

end
-- ==== Proof.PleFrame.lean ====
module

public import proofs.«01_k».proof.Proof.Gen.Ple.Frame.Runs
public import proofs.«01_k».proof.Proof.Gen.Ple.Skeleton
public import proofs.«01_k».proof.Defs
public import Idealize.ShloMosaic.Lib.Claim

/-! # The last call as written runs to its end

The body reads its inputs and writes its outputs and its scratch; nothing is stated of what it writes.  One invariant
serves every loop: the inputs are held unchanged, the other buffers are held with some contents. -/

@[expose] public section

set_option maxRecDepth 16384

noncomputable section

namespace Cert.Ple.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Ple.Gen

local notation "𝕄" => MT nD τ sig Unit (Elt Bits) ℕ (UR sig nD τ) ℕ

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The inputs are held at their contents, every other buffer at some contents. -/
def Own (c : Dev nD) (arg1 : Memref sig .tc .vmem S512x2048 .f32) (harg1 : arg1.IsWhole) (arg2 : Memref sig .tc .vmem S512x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole) (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) : sProp 𝕄 :=
  iprop((arg1.view.loc (c : Thread nD τ) ↦[arg1.view.set]{fullShare} harg1.unread x0)
    ∗ (arg2.view.loc (c : Thread nD τ) ↦[arg2.view.set]{fullShare} harg2.unread x1)
    ∗ (arg3.view.loc (c : Thread nD τ) ↦[arg3.view.set]{fullShare} harg3.unread x2)
    ∗ (arg4.view.loc (c : Thread nD τ) ↦[arg4.view.set]{fullShare} harg4.unread x3)
    ∗ (arg5.view.loc (c : Thread nD τ) ↦[arg5.view.set]{fullShare} harg5.unread x4)
    ∗ (arg6.view.loc (c : Thread nD τ) ↦[arg6.view.set]{fullShare} harg6.unread x5)
    ∗ Any c arg7
    ∗ Any c arg8
    ∗ Any c arg9
    ∗ Any c arg10)

variable (c : Dev nD) (i : grid0.Coords) (arg1 : Memref sig .tc .vmem S512x2048 .f32) (harg1 : arg1.IsWhole) (arg2 : Memref sig .tc .vmem S512x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole)

/-- A trip of loop 1 keeps the invariant. -/
theorem step1 (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (k : Fin k0_t1_loop.trips) (acc : Unit) :
    Own c arg1 harg1 arg2 harg2 arg3 harg3 arg4 harg4 arg5 harg5 arg6 harg6 arg7 harg7 arg8 harg8 arg9 harg9 arg10 harg10 x0 x1 x2 x3 x4 x5
      ⊢ wp frame (wpE (defs₀ (F := Bits)) Variants.none (c : Thread nD τ) none) E (k0_t1_body (F := Bits) i arg1 harg1 arg2 harg2 arg3 harg3 arg4 harg4 arg5 harg5 arg6 harg6 arg7 harg7 arg8 harg8 arg9 harg9 arg10 harg10  k acc) (fun _ => Own c arg1 harg1 arg2 harg2 arg3 harg3 arg4 harg4 arg5 harg5 arg6 harg6 arg7 harg7 arg8 harg8 arg9 harg9 arg10 harg10 x0 x1 x2 x3 x4 x5) := by
  unfold Own Any k0_t1_body
  iintro ⟨H1, H2, H3, H4, H5, H6, ⟨%f7, H7⟩, ⟨%f8, H8⟩, ⟨%f9, H9⟩, ⟨%f10, H10⟩⟩
  sl_exec
  sl_step
  iframe H1 H2 H3 H4 H5 H6
  isplitl [H7]; · iexists _; iexact H7
  isplitl [H8]; · iexists _; iexact H8
  isplitl [H9]; · iexists _; iexact H9
  iexists _; iexact H10

/-- A trip of loop 2 keeps the invariant. -/
theorem step2 (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (k : Fin k0_t2_loop.trips) (acc : Unit) :
    Own c arg1 harg1 arg2 harg2 arg3 harg3 arg4 harg4 arg5 harg5 arg6 harg6 arg7 harg7 arg8 harg8 arg9 harg9 arg10 harg10 x0 x1 x2 x3 x4 x5
      ⊢ wp frame (wpE (defs₀ (F := Bits)) Variants.none (c : Thread nD τ) none) E (k0_t2_body (F := Bits) i arg1 harg1 arg2 harg2 arg3 harg3 arg4 harg4 arg5 harg5 arg6 harg6 arg7 harg7 arg8 harg8 arg9 harg9 arg10 harg10  k acc) (fun _ => Own c arg1 harg1 arg2 harg2 arg3 harg3 arg4 harg4 arg5 harg5 arg6 harg6 arg7 harg7 arg8 harg8 arg9 harg9 arg10 harg10 x0 x1 x2 x3 x4 x5) := by
  unfold Own Any k0_t2_body
  iintro ⟨H1, H2, H3, H4, H5, H6, ⟨%f7, H7⟩, ⟨%f8, H8⟩, ⟨%f9, H9⟩, ⟨%f10, H10⟩⟩
  sl_exec
  sl_step
  iframe H1 H2 H3 H4 H5 H6
  isplitl [H7]; · iexists _; iexact H7
  isplitl [H8]; · iexists _; iexact H8
  isplitl [H9]; · iexists _; iexact H9
  iexists _; iexact H10

set_option maxHeartbeats 4000000 in
/-- The body runs from inputs at their contents and gives them back; the other buffers are given back at some contents. -/
theorem run (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := Bits)) Variants.none c none) E (cc0_ple_sample i arg1 harg1 arg2 harg2 arg3 harg3 arg4 harg4 arg5 harg5 arg6 harg6 arg7 harg7 arg8 harg8 arg9 harg9 arg10 harg10) K := by
  simp only [cc0_ple_sample_eq_skeleton]; unfold cc0_ple_sample_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_for (fun _ _ => Own c arg1 harg1 arg2 harg2 arg3 harg3 arg4 harg4 arg5 harg5 arg6 harg6 arg7 harg7 arg8 harg8 arg9 harg9 arg10 harg10 x0 x1 x2 x3 x4 x5) $$ [H1 H2 H3 H4 H5 H6 H7 H8 H9 H10]
  case region =>
    intro k' acc
    exact step1 c i arg1 harg1 arg2 harg2 arg3 harg3 arg4 harg4 arg5 harg5 arg6 harg6 arg7 harg7 arg8 harg8 arg9 harg9 arg10 harg10  x0 x1 x2 x3 x4 x5 E k' acc
  · unfold Own Any
    iframe H1 H2 H3 H4 H5 H6
    isplitl [H7]; · iexists _; iexact H7
    isplitl [H8]; · iexists _; iexact H8
    isplitl [H9]; · iexists _; iexact H9
    iexists _; iexact H10
  iintro %acc1 HI
  unfold Own Any
  icases HI with ⟨H1, H2, H3, H4, H5, H6, ⟨%f7, H7⟩, ⟨%f8, H8⟩, ⟨%f9, H9⟩, ⟨%f10, H10⟩⟩
  sl_respell [Prog.lift]
  simp only [Prog.bind_op, Prog.bind_ret, Prog.pure_eq_ret, Prog.bind_assoc]
  iterate 8 sl_step
  sl_for (fun _ _ => Own c arg1 harg1 arg2 harg2 arg3 harg3 arg4 harg4 arg5 harg5 arg6 harg6 arg7 harg7 arg8 harg8 arg9 harg9 arg10 harg10 x0 x1 x2 x3 x4 x5) $$ [H1 H2 H3 H4 H5 H6 H7 H8 H9 H10]
  case region =>
    intro k' acc
    exact step2 c i arg1 harg1 arg2 harg2 arg3 harg3 arg4 harg4 arg5 harg5 arg6 harg6 arg7 harg7 arg8 harg8 arg9 harg9 arg10 harg10  x0 x1 x2 x3 x4 x5 E k' acc
  · unfold Own Any
    iframe H1 H2 H3 H4 H5 H6
    isplitl [H7]; · iexists _; iexact H7
    isplitl [H8]; · iexists _; iexact H8
    isplitl [H9]; · iexists _; iexact H9
    iexists _; iexact H10
  iintro %acc2 HI
  unfold Own Any
  icases HI with ⟨H1, H2, H3, H4, H5, H6, ⟨%f7, H7⟩, ⟨%f8, H8⟩, ⟨%f9, H9⟩, ⟨%f10, H10⟩⟩
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  · iexists _, _; isplitr; swap; · iexact H10
    ipureintro; rfl

variable (m : (ℓ : Loc nD τ sig) → Buf (Elt Bits) ℓ) (ρ : Dev nD → PrngReg)

/-- The windows nothing is stated of: the outputs. -/
def forgets0 : Fin 7 → Bool := fun w => w.val == 6

/-- The proof data: the inputs' buffers hold their blocks, the outputs' are unnamed. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

abbrev scM0_0 : Memref sig .tc .vmem S512x2048 .bf16 := Memref.whole cc0_scratch0
abbrev scM0_1 : Memref sig .tc .vmem S512x2048 .f32 := Memref.whole cc0_scratch1
abbrev scM0_2 : Memref sig .tc .vmem S512x2048 .f32 := Memref.whole cc0_scratch2

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any grid point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  iframe H0 H1 H2 H3 H4 H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  iframe H0 H1 H2 H3 H4 H5
  iexact H6

theorem body_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets0 := fun t => by
  rw [bigSep_W0, bigSep_W0, body_row]
  exact triple_restated (sound_body m c t) rfl .rfl fun _ => .rfl

set_option backward.isDefEq.respectTransparency.types false in
/-- Every execution ends with the arguments unchanged and every counter at zero. -/
theorem run_quiescent : θ_run defs (onTc (τ := τ) (main (F := Bits))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Bits))) (s₀ m ρ) (Pipeline.RDat.FramePost (cfgs 0) (fun c => (dats m 0 c).toRForget forgets0) (V m)) :=
  (θ_run defs _ _).mono (fun _ h => h.1) (run_quiescent m ρ)

/-- The frame claim. -/
theorem quiescent : Cert.quiescent_Ple := fun m ρ _ =>
  θ_run_and ((θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)) ((θ_run defs _ _).mono (fun _ h => h.2) (run_quiescent m ρ))

end Cert.Ple.Body

end
-- ==== Proof.PromptBody.lean ====
module

public import proofs.«01_k».proof.Proof.Gen.PromptIdeal.Frame.Runs
public import proofs.«01_k».proof.Proof.PleBody

/-! One grid point of the prompt's last call: what its body leaves in the output block. -/

@[expose] public section

set_option maxRecDepth 16384

noncomputable section

namespace Cert.PromptIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PromptIdeal.Gen Rows Layer
open Cert.PleIdeal.Body (H Y)

local notation "𝕄" => MT nD τ sig Unit (Elt Ideal) ℕ (UR sig nD τ) ℕ

theorem trips1 : k0_t1_loop.trips = 16 := by decide
theorem trips2 : k0_t2_loop.trips = 16 := by decide

/-- The first loop's invariant: the rows before the trip's are normalised. -/
def inv1 (c : Dev nD) (arg1 : Memref sig .tc .vmem S512x2048 .f32) (harg1 : arg1.IsWhole) (arg3 : Memref sig .tc .vmem S1x2048 .f32) (harg3 : arg3.IsWhole)
    (arg8 : Memref sig .tc .vmem S512x2048 .bf16) (x : Vec Ideal S512x2048 .f32) (g : Vec Ideal S1x2048 .f32) (k : ℕ) (_ : Unit) : sProp 𝕄 :=
  iprop((arg1.view.loc (c : Thread nD τ) ↦[arg1.view.set]{fullShare} harg1.unread x) ∗ (arg3.view.loc (c : Thread nD τ) ↦[arg3.view.set]{fullShare} harg3.unread g)
    ∗ ∃ f, ⌜Agrees (arg8.view.read (Elt Ideal) f) (H x g) (fun r _ => r < 32 * k)⌝ ∗ (arg8.view.loc (c : Thread nD τ) ↦[arg8.view.set]{fullShare} f))

/-- The second loop's invariant: the output's rows before the trip's are computed. -/
def inv2 (c : Dev nD) (arg1 : Memref sig .tc .vmem S512x2048 .f32) (harg1 : arg1.IsWhole) (arg6 : Memref sig .tc .vmem S1x2048 .f32) (harg6 : arg6.IsWhole)
    (arg7 arg9 arg10 : Memref sig .tc .vmem S512x2048 .f32) (x : Vec Ideal S512x2048 .f32) (gf : Vec Ideal S1x2048 .f32) (A B O : Fin 512 → Fin 2048 → EReal)
    (k : ℕ) (_ : Unit) : sProp 𝕄 :=
  iprop((arg1.view.loc (c : Thread nD τ) ↦[arg1.view.set]{fullShare} harg1.unread x) ∗ (arg6.view.loc (c : Thread nD τ) ↦[arg6.view.set]{fullShare} harg6.unread gf)
    ∗ (∃ f, ⌜Agrees (arg9.view.read (Elt Ideal) f) A (fun _ _ => True)⌝ ∗ (arg9.view.loc (c : Thread nD τ) ↦[arg9.view.set]{fullShare} f))
    ∗ (∃ f, ⌜Agrees (arg10.view.read (Elt Ideal) f) B (fun _ _ => True)⌝ ∗ (arg10.view.loc (c : Thread nD τ) ↦[arg10.view.set]{fullShare} f))
    ∗ (∃ f, ⌜Agrees (arg7.view.read (Elt Ideal) f) O (fun r _ => r < 32 * k)⌝ ∗ (arg7.view.loc (c : Thread nD τ) ↦[arg7.view.set]{fullShare} f)))

theorem run (c : Dev nD) (i : grid0.Coords) (arg1 : Memref sig .tc .vmem S512x2048 .f32) (harg1 : arg1.IsWhole) (arg2 : Memref sig .tc .vmem S512x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole)
    (x0 : Vec Ideal S512x2048 .f32) (x1 : Vec Ideal S512x256 .f32) (x2 : Vec Ideal S1x2048 .f32) (x3 : Vec Ideal S2048x2048 .bf16) (x4 : Vec Ideal S256x2048 .bf16) (x5 : Vec Ideal S1x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (fun y => Y x0 x1 x2 x3 x4 x5 (y 0) (y 1)) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := Ideal)) Variants.none c none) E (cc0_ple_prompt i arg1 harg1 arg2 harg2 arg3 harg3 arg4 harg4 arg5 harg5 arg6 harg6 arg7 harg7 arg8 harg8 arg9 harg9 arg10 harg10) K := by
  simp only [cc0_ple_prompt_eq_skeleton]; unfold cc0_ple_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_for (inv1 c arg1 harg1 arg3 harg3 arg8 x0 x2) $$ [H0 H2 HS0]
  case region =>
    intro k acc
    unfold inv1
    iintro ⟨H0, H2, %f, %hf, HS0⟩
    sl_exec
    sl_step
    isplitl [H0]; · iexact H0
    isplitl [H2]; · iexact H2
    iexists _; isplitr; swap; · iexact HS0
    ipureintro
    refine Agrees.store arg8.view f (k0_off1_inb k) _ [] (H x0 x2) (32 * k.val) 0 (k0_off1_eq k) (by simpa using hf) ?_ (by omega)
    intro i j hr hl
    pointwise [k0_pay1]
    simp only [readAt_tile arg1.view (harg1.unread x0) (k0_off1_inb k) (32 * k.val) 0 (k0_off1_eq k), readAt_all, harg1.read_unread, harg3.read_unread, H, rms, mat, Nat.zero_add, Fin.eta]
  · unfold inv1
    isplitl [H0]; · iexact H0
    isplitl [H2]; · iexact H2
    iexists _; isplitr; swap; · iexact HS0
    ipureintro
    exact agrees_none _ _ (by omega)
  iintro %acc HI
  unfold inv1
  icases HI with ⟨H0, H2, %f8, %h8, HS0⟩
  sl_respell [Prog.lift]
  simp only [Prog.bind_op, Prog.bind_ret, Prog.pure_eq_ret, Prog.bind_assoc]
  iterate 8 sl_step
  have e8 : arg8.view.read (Elt Ideal) f8 = fun y => H x0 x2 (y 0) (y 1) := h8.eq fun r _ => show r.val < 32 * k0_t1_loop.trips by rw [trips1]; exact r.isLt
  sl_for (inv2 c arg1 harg1 arg6 harg6 arg7 arg9 arg10 x0 x5 (fun r l => rowMul (H x0 x2 r) (mat x3) l) (fun r l => rowMul (mat x1 r) (mat x4) l)
    (Y x0 x1 x2 x3 x4 x5)) $$ [H0 H5 H6 HS1 HS2]
  case region =>
    intro k acc
    unfold inv2
    iintro ⟨H0, H5, ⟨%f9, %h9, HS1⟩, ⟨%f10, %h10, HS2⟩, ⟨%f7, %h7, H6⟩⟩
    sl_exec
    sl_step
    isplitl [H0]; · iexact H0
    isplitl [H5]; · iexact H5
    isplitl [HS1]
    · iexists _; isplitr; swap; · iexact HS1
      ipureintro; exact h9
    isplitl [HS2]
    · iexists _; isplitr; swap; · iexact HS2
      ipureintro; exact h10
    iexists _; isplitr; swap; · iexact H6
    ipureintro
    refine Agrees.store arg7.view f7 (k0_off2_inb k) _ [] (Y x0 x1 x2 x3 x4 x5) (32 * k.val) 0 (k0_off2_eq k) (by simpa using h7) ?_ (by omega)
    intro i j hr hl
    have e9 := h9.eq fun _ _ => trivial
    have e10 := h10.eq fun _ _ => trivial
    pointwise [k0_pay4]
    simp only [readAt_tile arg1.view (harg1.unread x0) (k0_off2_inb k) (32 * k.val) 0 (k0_off2_eq k),
      readAt_tile arg9.view f9 (k0_off2_inb k) (32 * k.val) 0 (k0_off2_eq k),
      readAt_tile arg10.view f10 (k0_off2_inb k) (32 * k.val) 0 (k0_off2_eq k), readAt_all, harg1.read_unread, harg6.read_unread,
      e9, e10, Y, ple, pleMix, H, rms, mat, Nat.zero_add, Fin.eta]
    rfl
  · unfold inv2
    isplitl [H0]; · iexact H0
    isplitl [H5]; · iexact H5
    isplitl [HS1]
    · iexists _; isplitr; swap; · iexact HS1
      ipureintro
      refine Agrees.store arg9.view fs1 inb_S512x2048_S512x2048_0_0 _ [] _ 0 0 rfl (agrees_none _ _ (S := fun _ _ => False) fun _ _ _ _ => id) ?_ (by omega)
      intro i j hr hl
      pointwise [k0_pay2]
      simp only [readAt_all, harg4.read_unread, e8, rowMul, mat, Nat.zero_add, Fin.eta]
      rfl
    isplitl [HS2]
    · iexists _; isplitr; swap; · iexact HS2
      ipureintro
      refine Agrees.store arg10.view fs2 inb_S512x2048_S512x2048_0_0 _ [] _ 0 0 rfl (agrees_none _ _ (S := fun _ _ => False) fun _ _ _ _ => id) ?_ (by omega)
      intro i j hr hl
      pointwise [k0_pay3]
      simp only [readAt_all, harg2.read_unread, harg5.read_unread, rowMul, mat, Nat.zero_add, Fin.eta]
    iexists _; isplitr; swap; · iexact H6
    ipureintro
    exact agrees_none _ _ (by omega)
  iintro %acc HI
  unfold inv2
  icases HI with ⟨H0, H5, ⟨%f9, %h9, HS1⟩, ⟨%f10, %h10, HS2⟩, ⟨%f7, %h7, H6⟩⟩
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact h7.eq fun r _ => show r.val < 32 * k0_t2_loop.trips by rw [trips2]; exact r.isLt
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.PromptIdeal.Body

end
-- ==== Proof.PromptValue.lean ====
module

public import proofs.«01_k».proof.Proof.PromptBody
public import proofs.«01_k».proof.Defs
public import Idealize.ShloMosaic.Lib.Claim
public import Idealize.ShloMosaic.Lib.Pipeline.ValueKit

/-! The prompt's last call as a whole: every grid point leaves its block of the layer's result, so the result array holds it. -/

@[expose] public section

set_option maxRecDepth 16384

noncomputable section

namespace Cert.PromptIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen Layer
open Cert.PleIdeal.Body (Y)

local notation "𝕄" => MT nD τ sig Unit (Elt Ideal) ℕ (UR sig nD τ) ℕ

variable (m : (ℓ : Loc nD τ sig) → Buf (Elt Ideal) ℓ) (ρ : Dev nD → PrngReg)

/-- The proof data: inputs stay at their blocks, the output block is the one the body computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun y : S512x2048.Idx => Y (iblk m c 0 t) (iblk m c 1 t) (iblk m c 2 t) (iblk m c 3 t) (iblk m c 4 t) (iblk m c 5 t) (y 0) (y 1)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = fun y : S512x2048.Idx => Y (iblk m c 0 t) (iblk m c 1 t) (iblk m c 2 t) (iblk m c 3 t) (iblk m c 4 t) (iblk m c 5 t) (y 0) (y 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- Every execution ends with the arrays at what the proof data says and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_quiescent m ρ)

/-- The frame claim. -/
theorem quiescent : Cert.quiescent_PromptIdeal := fun m ρ _ =>
  θ_run_and (frame_of m ρ (dats m) (A_eq m) (run_main m ρ)) ((θ_run defs _ _).mono (fun _ h => h.2) (run_quiescent m ρ))

/-- The layer's result from the call's arguments. -/
def result (X : S8192x2048.Idx → EReal) (P : S1x8192x256.Idx → EReal) (G : S1x2048.Idx → EReal) (Wg : S1x2048x2048.Idx → EReal)
    (Wp : S1x256x2048.Idx → EReal) (Gf : S2048.Idx → EReal) (y : S8192x2048.Idx) : EReal :=
  ple (mat X (y 0)) (mat G 0) (fun k l => Wg (ix3 0 k l)) (fun k => P (ix3 0 (y 0) k)) (fun k l => Wp (ix3 0 k l)) (fun k => Gf (ix1 k)) (y 1)

theorem idx : ∀ t : Fin cfg0.N, win0_0.index t = ![(grid0.coords t 0).val, 0] ∧ win0_1.index t = ![(grid0.coords t 0).val, 0] ∧ win0_2.index t = ![0, 0]
    ∧ win0_3.index t = ![0, 0] ∧ win0_4.index t = ![0, 0] ∧ win0_5.index t = ![0, 0] ∧ win0_6.index t = ![(grid0.coords t 0).val, 0] :=
  (by decide +kernel : ∀ t : Fin grid0.N, _)

theorem final (c : Dev nD) : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  simp only [Y, result, ple, pleMix, rms, rowMul, mat]
  pointwise
  blk_point [iblk, V, idx t]

end Cert.PromptIdeal.Body

end
-- ==== Proof.PromptClaim.lean ====
module

public import proofs.«01_k».proof.Proof.PromptValue
public import proofs.«01_k».proof.Proof.Gen.PromptRefIdeal.Run

/-! The prompt's last call against its reference. -/

@[expose] public section

set_option maxRecDepth 16384

noncomputable section

open Idealize.ShloMosaic Idealize.ShloMosaic.TcCoe Idealize.ShloMosaic.Tactic Idealize.SL.Sem

namespace Cert.PromptRefIdeal.Ref

open Cert.PromptRefIdeal Cert.PromptRefIdeal.Gen Layer

/-- The reference's normalisation of every row. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem norm_apply (x : FVec Ideal S8192x2048 .f32) (g : FVec Ideal S2048 .f32) (r : Fin 8192) (l : Fin 2048) :
    norm x g (ix2 r l) = rms (mat x r) (fun k => g (ix1 k)) l := by
  pointwise [norm, rms, mat]

/-- The reference's gated sum before the last normalisation. -/
def mix (x h : FVec Ideal S8192x2048 .f32) (wg : FVec Ideal S2048x2048 .f32) (p : FVec Ideal S8192x256 .f32) (wp : FVec Ideal S256x2048 .f32) : FVec Ideal S8192x2048 .f32 :=
  addf x (mulf (Host.divf (broadcastInDim S8192x2048 ![] bcast_S_S8192x2048 (constant S_ .f32 0x3F800000#32)) (addf (broadcastInDim S8192x2048 ![] bcast_S_S8192x2048 (constant S_ .f32 0x3F800000#32))
    (Host.exp (Host.negf (Host.dotGeneral dot_S8192x2048_S2048x2048_S8192x2048_1_0_0_1_n_n none h wg)))))
    (Host.dotGeneral dot_S8192x256_S256x2048_S8192x2048_1_0_0_1_n_n none p wp))

theorem mix_apply (x h : FVec Ideal S8192x2048 .f32) (wg : FVec Ideal S2048x2048 .f32) (p : FVec Ideal S8192x256 .f32) (wp : FVec Ideal S256x2048 .f32)
    (r : Fin 8192) (l : Fin 2048) : mix x h wg p wp (ix2 r l) = x (ix2 r l) + Ideal.logistic (rowMul (mat h r) (mat wg) l) * rowMul (mat p r) (mat wp) l := by
  pointwise [mix, rowMul, mat]
  rfl

theorem g_apply (G : FVec Ideal S1x2048 .f32) (k : Fin 2048) : shapeCast S2048 G shapeCasts_S1x2048_S2048 (ix1 k) = G (ix2 0 k) := by pointwise
theorem wg_apply (W : FVec Ideal S1x2048x2048 .f32) (k l : Fin 2048) : shapeCast S2048x2048 W shapeCasts_S1x2048x2048_S2048x2048 (ix2 k l) = W (ix3 0 k l) := by pointwise
theorem p_apply (W : FVec Ideal S1x8192x256 .f32) (k : Fin 8192) (l : Fin 256) : shapeCast S8192x256 W shapeCasts_S1x8192x256_S8192x256 (ix2 k l) = W (ix3 0 k l) := by pointwise
theorem wp_apply (W : FVec Ideal S1x256x2048 .f32) (k : Fin 256) (l : Fin 2048) : shapeCast S256x2048 W shapeCasts_S1x256x2048_S256x2048 (ix2 k l) = W (ix3 0 k l) := by pointwise

/-- The reference's stages put together are the layer's result. -/
theorem stages (X : FVec Ideal S8192x2048 .f32) (P : FVec Ideal S1x8192x256 .f32) (G : FVec Ideal S1x2048 .f32) (Wg : FVec Ideal S1x2048x2048 .f32)
    (Wp : FVec Ideal S1x256x2048 .f32) (Gf : FVec Ideal S2048 .f32) :
    norm (mix X (norm X (shapeCast S2048 G shapeCasts_S1x2048_S2048)) (shapeCast S2048x2048 Wg shapeCasts_S1x2048x2048_S2048x2048)
      (shapeCast S8192x256 P shapeCasts_S1x8192x256_S8192x256) (shapeCast S256x2048 Wp shapeCasts_S1x256x2048_S256x2048)) Gf
      = Cert.PromptIdeal.Body.result X P G Wg Wp Gf := by
  funext y
  obtain ⟨r, l, rfl⟩ : ∃ (r : Fin 8192) (l : Fin 2048), y = ix2 r l := ⟨y 0, y 1, eq_ix2 y⟩
  have e : Cert.PromptIdeal.Body.result X P G Wg Wp Gf (ix2 r l) = ple (mat X r) (mat G 0) (fun k l => Wg (ix3 0 k l)) (fun k => P (ix3 0 r k)) (fun k l => Wp (ix3 0 k l)) (fun k => Gf (ix1 k)) l := rfl
  rw [e, norm_apply]
  unfold ple
  congr 1
  funext l
  unfold mat
  rw [mix_apply]
  unfold pleMix rowMul mat
  simp only [norm_apply, g_apply, wg_apply, p_apply, wp_apply]

/-- The reference computes the layer's result. -/
theorem res_eq (m : (ℓ : Loc nD τ sig) → Buf (Elt Ideal) ℓ) (c : Dev nD) : Value.res_out0 m c
    = Cert.PromptIdeal.Body.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) :=
  stages _ _ _ _ _ _

end Cert.PromptRefIdeal.Ref

/-- The reference runs to its end and leaves its arguments as they were. -/
theorem Cert.PromptRefIdeal.Ref.quiescent : Cert.quiescent_PromptRefIdeal := fun m ρ _ =>
  (θ_run Cert.PromptRefIdeal.defs _ _).mono (fun r h => ⟨fun c => (h c).2, sem_eq_zero_of_no_sems (by decide) r.2⟩)
    (Cert.PromptRefIdeal.Value.run (F := Ideal) m ρ)

/-- The prompt's last call leaves what its reference computes. -/
theorem Cert.PromptIdeal.Body.algebraic : Cert.algebraic_PromptIdeal_PromptRefIdeal := by
  pair_intro
  · run_from Cert.PromptIdeal.Body.run_main m g
  · run_from Cert.PromptRefIdeal.Value.run m' g'
    obtain ⟨h0, h1, h2, h3, h4, h5⟩ := hagree c
    rw [Cert.PromptIdeal.Body.final, ← h0, ← h1, ← h2, ← h3, ← h4, ← h5]
    exact Cert.PromptRefIdeal.Ref.res_eq m' c

end
-- ==== Proof.PromptFrame.lean ====
module

public import proofs.«01_k».proof.Proof.Gen.Prompt.Frame.Runs
public import proofs.«01_k».proof.Proof.Gen.Prompt.Skeleton
public import proofs.«01_k».proof.Defs
public import Idealize.ShloMosaic.Lib.Claim

/-! # The prompt's last call as written runs to its end

The body reads its inputs and writes its outputs and its scratch; nothing is stated of what it writes.  One invariant
serves every loop: the inputs are held unchanged, the other buffers are held with some contents. -/

@[expose] public section

set_option maxRecDepth 16384

noncomputable section

namespace Cert.Prompt.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Prompt.Gen

local notation "𝕄" => MT nD τ sig Unit (Elt Bits) ℕ (UR sig nD τ) ℕ

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The inputs are held at their contents, every other buffer at some contents. -/
def Own (c : Dev nD) (arg1 : Memref sig .tc .vmem S512x2048 .f32) (harg1 : arg1.IsWhole) (arg2 : Memref sig .tc .vmem S512x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole) (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) : sProp 𝕄 :=
  iprop((arg1.view.loc (c : Thread nD τ) ↦[arg1.view.set]{fullShare} harg1.unread x0)
    ∗ (arg2.view.loc (c : Thread nD τ) ↦[arg2.view.set]{fullShare} harg2.unread x1)
    ∗ (arg3.view.loc (c : Thread nD τ) ↦[arg3.view.set]{fullShare} harg3.unread x2)
    ∗ (arg4.view.loc (c : Thread nD τ) ↦[arg4.view.set]{fullShare} harg4.unread x3)
    ∗ (arg5.view.loc (c : Thread nD τ) ↦[arg5.view.set]{fullShare} harg5.unread x4)
    ∗ (arg6.view.loc (c : Thread nD τ) ↦[arg6.view.set]{fullShare} harg6.unread x5)
    ∗ Any c arg7
    ∗ Any c arg8
    ∗ Any c arg9
    ∗ Any c arg10)

variable (c : Dev nD) (i : grid0.Coords) (arg1 : Memref sig .tc .vmem S512x2048 .f32) (harg1 : arg1.IsWhole) (arg2 : Memref sig .tc .vmem S512x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole)

/-- A trip of loop 1 keeps the invariant. -/
theorem step1 (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (k : Fin k0_t1_loop.trips) (acc : Unit) :
    Own c arg1 harg1 arg2 harg2 arg3 harg3 arg4 harg4 arg5 harg5 arg6 harg6 arg7 harg7 arg8 harg8 arg9 harg9 arg10 harg10 x0 x1 x2 x3 x4 x5
      ⊢ wp frame (wpE (defs₀ (F := Bits)) Variants.none (c : Thread nD τ) none) E (k0_t1_body (F := Bits) i arg1 harg1 arg2 harg2 arg3 harg3 arg4 harg4 arg5 harg5 arg6 harg6 arg7 harg7 arg8 harg8 arg9 harg9 arg10 harg10  k acc) (fun _ => Own c arg1 harg1 arg2 harg2 arg3 harg3 arg4 harg4 arg5 harg5 arg6 harg6 arg7 harg7 arg8 harg8 arg9 harg9 arg10 harg10 x0 x1 x2 x3 x4 x5) := by
  unfold Own Any k0_t1_body
  iintro ⟨H1, H2, H3, H4, H5, H6, ⟨%f7, H7⟩, ⟨%f8, H8⟩, ⟨%f9, H9⟩, ⟨%f10, H10⟩⟩
  sl_exec
  sl_step
  iframe H1 H2 H3 H4 H5 H6
  isplitl [H7]; · iexists _; iexact H7
  isplitl [H8]; · iexists _; iexact H8
  isplitl [H9]; · iexists _; iexact H9
  iexists _; iexact H10

/-- A trip of loop 2 keeps the invariant. -/
theorem step2 (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (k : Fin k0_t2_loop.trips) (acc : Unit) :
    Own c arg1 harg1 arg2 harg2 arg3 harg3 arg4 harg4 arg5 harg5 arg6 harg6 arg7 harg7 arg8 harg8 arg9 harg9 arg10 harg10 x0 x1 x2 x3 x4 x5
      ⊢ wp frame (wpE (defs₀ (F := Bits)) Variants.none (c : Thread nD τ) none) E (k0_t2_body (F := Bits) i arg1 harg1 arg2 harg2 arg3 harg3 arg4 harg4 arg5 harg5 arg6 harg6 arg7 harg7 arg8 harg8 arg9 harg9 arg10 harg10  k acc) (fun _ => Own c arg1 harg1 arg2 harg2 arg3 harg3 arg4 harg4 arg5 harg5 arg6 harg6 arg7 harg7 arg8 harg8 arg9 harg9 arg10 harg10 x0 x1 x2 x3 x4 x5) := by
  unfold Own Any k0_t2_body
  iintro ⟨H1, H2, H3, H4, H5, H6, ⟨%f7, H7⟩, ⟨%f8, H8⟩, ⟨%f9, H9⟩, ⟨%f10, H10⟩⟩
  sl_exec
  sl_step
  iframe H1 H2 H3 H4 H5 H6
  isplitl [H7]; · iexists _; iexact H7
  isplitl [H8]; · iexists _; iexact H8
  isplitl [H9]; · iexists _; iexact H9
  iexists _; iexact H10

set_option maxHeartbeats 4000000 in
/-- The body runs from inputs at their contents and gives them back; the other buffers are given back at some contents. -/
theorem run (x0 : Vec Bits S512x2048 .f32) (x1 : Vec Bits S512x256 .f32) (x2 : Vec Bits S1x2048 .f32) (x3 : Vec Bits S2048x2048 .bf16) (x4 : Vec Bits S256x2048 .bf16) (x5 : Vec Bits S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := Bits)) Variants.none c none) E (cc0_ple_prompt i arg1 harg1 arg2 harg2 arg3 harg3 arg4 harg4 arg5 harg5 arg6 harg6 arg7 harg7 arg8 harg8 arg9 harg9 arg10 harg10) K := by
  simp only [cc0_ple_prompt_eq_skeleton]; unfold cc0_ple_prompt_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_for (fun _ _ => Own c arg1 harg1 arg2 harg2 arg3 harg3 arg4 harg4 arg5 harg5 arg6 harg6 arg7 harg7 arg8 harg8 arg9 harg9 arg10 harg10 x0 x1 x2 x3 x4 x5) $$ [H1 H2 H3 H4 H5 H6 H7 H8 H9 H10]
  case region =>
    intro k' acc
    exact step1 c i arg1 harg1 arg2 harg2 arg3 harg3 arg4 harg4 arg5 harg5 arg6 harg6 arg7 harg7 arg8 harg8 arg9 harg9 arg10 harg10  x0 x1 x2 x3 x4 x5 E k' acc
  · unfold Own Any
    iframe H1 H2 H3 H4 H5 H6
    isplitl [H7]; · iexists _; iexact H7
    isplitl [H8]; · iexists _; iexact H8
    isplitl [H9]; · iexists _; iexact H9
    iexists _; iexact H10
  iintro %acc1 HI
  unfold Own Any
  icases HI with ⟨H1, H2, H3, H4, H5, H6, ⟨%f7, H7⟩, ⟨%f8, H8⟩, ⟨%f9, H9⟩, ⟨%f10, H10⟩⟩
  sl_respell [Prog.lift]
  simp only [Prog.bind_op, Prog.bind_ret, Prog.pure_eq_ret, Prog.bind_assoc]
  iterate 8 sl_step
  sl_for (fun _ _ => Own c arg1 harg1 arg2 harg2 arg3 harg3 arg4 harg4 arg5 harg5 arg6 harg6 arg7 harg7 arg8 harg8 arg9 harg9 arg10 harg10 x0 x1 x2 x3 x4 x5) $$ [H1 H2 H3 H4 H5 H6 H7 H8 H9 H10]
  case region =>
    intro k' acc
    exact step2 c i arg1 harg1 arg2 harg2 arg3 harg3 arg4 harg4 arg5 harg5 arg6 harg6 arg7 harg7 arg8 harg8 arg9 harg9 arg10 harg10  x0 x1 x2 x3 x4 x5 E k' acc
  · unfold Own Any
    iframe H1 H2 H3 H4 H5 H6
    isplitl [H7]; · iexists _; iexact H7
    isplitl [H8]; · iexists _; iexact H8
    isplitl [H9]; · iexists _; iexact H9
    iexists _; iexact H10
  iintro %acc2 HI
  unfold Own Any
  icases HI with ⟨H1, H2, H3, H4, H5, H6, ⟨%f7, H7⟩, ⟨%f8, H8⟩, ⟨%f9, H9⟩, ⟨%f10, H10⟩⟩
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  · iexists _, _; isplitr; swap; · iexact H10
    ipureintro; rfl

variable (m : (ℓ : Loc nD τ sig) → Buf (Elt Bits) ℓ) (ρ : Dev nD → PrngReg)

/-- The windows nothing is stated of: the outputs. -/
def forgets0 : Fin 7 → Bool := fun w => w.val == 6

/-- The proof data: the inputs' buffers hold their blocks, the outputs' are unnamed. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

abbrev scM0_0 : Memref sig .tc .vmem S512x2048 .bf16 := Memref.whole cc0_scratch0
abbrev scM0_1 : Memref sig .tc .vmem S512x2048 .f32 := Memref.whole cc0_scratch1
abbrev scM0_2 : Memref sig .tc .vmem S512x2048 .f32 := Memref.whole cc0_scratch2

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any grid point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  iframe H0 H1 H2 H3 H4 H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  iframe H0 H1 H2 H3 H4 H5
  iexact H6

theorem body_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets0 := fun t => by
  rw [bigSep_W0, bigSep_W0, body_row]
  exact triple_restated (sound_body m c t) rfl .rfl fun _ => .rfl

set_option backward.isDefEq.respectTransparency.types false in
/-- Every execution ends with the arguments unchanged and every counter at zero. -/
theorem run_quiescent : θ_run defs (onTc (τ := τ) (main (F := Bits))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Bits))) (s₀ m ρ) (Pipeline.RDat.FramePost (cfgs 0) (fun c => (dats m 0 c).toRForget forgets0) (V m)) :=
  (θ_run defs _ _).mono (fun _ h => h.1) (run_quiescent m ρ)

/-- The frame claim. -/
theorem quiescent : Cert.quiescent_Prompt := fun m ρ _ =>
  θ_run_and ((θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)) ((θ_run defs _ _).mono (fun _ h => h.2) (run_quiescent m ρ))

end Cert.Prompt.Body

end
-- ==== Proof.SeqSpec.lean ====
module

public import proofs.«01_k».proof.Proof.Layer

/-! # The feed-forward part of the layer over whole prompts

As for the new rows of a running sequence, but the convolution runs over all 2048 rows of a sequence, with zeros before
its first. -/

@[expose] public section

set_option maxRecDepth 16384

noncomputable section

namespace Layer

open Idealize.ShloMosaic Idealize.SL.Sem

/-- What the feed-forward part is given: four sequences of 2048 rows, and the weights. -/
structure Seq where
  x : Fin 4 → Fin 2048 → Fin 2048 → EReal
  g : Fin 2048 → EReal
  wu : Fin 2048 → Fin 11264 → EReal
  w : Fin 3 → Fin 11264 → EReal
  b : Fin 11264 → EReal
  wd : Fin 5632 → Fin 2048 → EReal

/-- What the feed-forward part is given, from the arrays that hold it. -/
def seqArgs (X : (⟨2, ![8192, 2048]⟩ : Shape).Idx → EReal) (G : (⟨2, ![1, 2048]⟩ : Shape).Idx → EReal) (Wu : (⟨3, ![1, 2048, 11264]⟩ : Shape).Idx → EReal)
    (W : (⟨3, ![1, 3, 11264]⟩ : Shape).Idx → EReal) (B : (⟨2, ![1, 11264]⟩ : Shape).Idx → EReal) (Wd : (⟨3, ![1, 5632, 2048]⟩ : Shape).Idx → EReal) : Seq where
  x n t l := X (ix2 (⟨n.val * 2048 + t.val, by omega⟩ : Fin 8192) l)
  g l := G (ix2 0 l)
  wu k l := Wu (ix3 0 k l)
  w k l := W (ix3 0 k l)
  b l := B (ix2 0 l)
  wd k l := Wd (ix3 0 k l)

namespace Seq

variable (A : Seq) (n : Fin 4) (t : Fin 2048)

/-- A row, normalised. -/
def h : Fin 2048 → EReal := rms (A.x n t) A.g

/-- A row, projected up. -/
def up : Fin 11264 → EReal := rowMul (A.h n t) A.wu

/-- The projected row `k` places before, zero before the sequence begins. -/
def prev (k : ℕ) (i : Fin 11264) : EReal := if t.val < k then 0 else A.up n ⟨t.val - k, by omega⟩ i

/-- The causal convolution of width 3 at a row. -/
def cv (i : Fin 11264) : EReal := A.w 0 i * A.prev n t 2 i + A.w 1 i * A.prev n t 1 i + A.w 2 i * A.up n t i + A.b i

/-- The hidden row: the first half of the channels through its gate, times the second half. -/
def gate (i : Fin 5632) : EReal :=
  A.cv n t ⟨i.val, by omega⟩ * Ideal.logistic (A.cv n t ⟨i.val, by omega⟩) * A.cv n t ⟨5632 + i.val, by omega⟩

/-- The result: the row plus the hidden row projected down. -/
def y (l : Fin 2048) : EReal := A.x n t l + rowMul (A.gate n t) A.wd l

/-- One hidden channel's part of the down-projection. -/
def term (l : Fin 2048) (i : ℕ) : EReal := if hi : i < 5632 then A.gate n t ⟨i, hi⟩ * A.wd ⟨i, hi⟩ l else 0

/-- The result after the first `k` blocks of 512 hidden channels. -/
def acc (k : ℕ) (l : Fin 2048) : EReal := A.x n t l + ∑ j ∈ Finset.range k, ∑ q : Fin 512, A.term n t l (512 * j + q.val)

theorem acc_zero (l : Fin 2048) : A.acc n t 0 l = A.x n t l := by simp [acc]

theorem acc_succ (k : ℕ) (l : Fin 2048) : A.acc n t (k + 1) l = A.acc n t k l + ∑ q : Fin 512, A.term n t l (512 * k + q.val) := by
  unfold acc
  rw [Finset.sum_range_succ, add_assoc]

/-- All eleven blocks make the whole down-projection. -/
theorem acc_all (l : Fin 2048) : A.acc n t 11 l = A.y n t l := by
  unfold acc y rowMul
  congr 1
  rw [Finset.sum_range, ← Fintype.sum_prod_type' (f := fun (j : Fin 11) (q : Fin 512) => A.term n t l (512 * j.val + q.val))]
  refine Fintype.sum_equiv (finProdFinEquiv (m := 11) (n := 512)) _ _ fun p => ?_
  have hv : (finProdFinEquiv (m := 11) (n := 512) p).val = p.2.val + 512 * p.1.val := rfl
  have hl : 512 * p.1.val + p.2.val < 5632 := by have h1 := p.1.isLt; have h2 := p.2.isLt; omega
  have he : (⟨512 * p.1.val + p.2.val, hl⟩ : Fin 5632) = finProdFinEquiv (m := 11) (n := 512) p := Fin.ext (by rw [hv]; exact Nat.add_comm _ _)
  exact (dif_pos hl).trans (congrArg (fun i => A.gate n t i * A.wd i l) he)

/-- The result at every row, as the array of all rows: row `r` belongs to sequence `r / 2048`. -/
def rows (y : (⟨2, ![8192, 2048]⟩ : Shape).Idx) : EReal :=
  A.y ⟨(y 0).val / 2048, by have h : (y 0).val < 8192 := (y 0).isLt; omega⟩ ⟨(y 0).val % 2048, by omega⟩ (y 1)

/-- The last eight projected rows of every block of 512 rows, on 5632 channels from channel `o`. -/
def tails (o : ℕ) (ho : o ≤ 5632) (y : (⟨3, ![16, 8, 5632]⟩ : Shape).Idx) : EReal :=
  A.up ⟨(y 0).val / 4, by have h : (y 0).val < 16 := (y 0).isLt; omega⟩
    ⟨512 * ((y 0).val % 4) + 504 + (y 1).val, by have h : (y 1).val < 8 := (y 1).isLt; omega⟩
    ⟨o + (y 2).val, by have h : (y 2).val < 5632 := (y 2).isLt; omega⟩

end Seq

end Layer

end
-- ==== Proof.SeqRefValue.lean ====
module

public import proofs.«01_k».proof.Proof.SeqSpec
public import proofs.«01_k».proof.Proof.Rows
public import proofs.«01_k».proof.Proof.Gen.SeqRefIdeal

/-! # The reference of the prompt's feed-forward part, stage by stage

Each stage is a function of whole arrays, read at an index as the row function it computes. -/

@[expose] public section

set_option maxRecDepth 16384

noncomputable section

open Idealize.ShloMosaic Idealize.ShloMosaic.TcCoe Idealize.ShloMosaic.Tactic Idealize.SL.Sem

namespace Cert.SeqRefIdeal.Ref

open Cert.SeqRefIdeal Cert.SeqRefIdeal.Gen Layer

/-- The rows, by sequence. -/
abbrev split (X : FVec Ideal S8192x2048 .f32) : FVec Ideal S4x2048x2048 .f32 := shapeCast S4x2048x2048 X shapeCasts_S8192x2048_S4x2048x2048

theorem split_apply (X : FVec Ideal S8192x2048 .f32) (n : Fin 4) (t : Fin 2048) (l : Fin 2048) :
    split X (ix3 n t l) = X (ix2 (⟨n.val * 2048 + t.val, by omega⟩ : Fin 8192) l) := by pointwise [split]

/-- A vector along the channels of every row. -/
abbrev along (v : FVec Ideal S11264 .f32) : FVec Ideal S4x2048x11264 .f32 :=
  broadcastInDim S4x2048x11264 ![0, 1, 2] bcast_S1x1x11264_S4x2048x11264_0_1_2 (broadcastInDim S1x1x11264 ![2] bcast_S11264_S1x1x11264_2 v)

/-- The normalised rows, projected up. -/
def up (x : FVec Ideal S4x2048x2048 .f32) (g : FVec Ideal S1x2048 .f32) (w : FVec Ideal S1x2048x11264 .f32) : FVec Ideal S4x2048x11264 .f32 :=
  Host.dotGeneral dot_S4x2048x2048_S2048x11264_S4x2048x11264_2_0_01_1_n_n none
    (mulf (mulf x (broadcastInDim S4x2048x2048 ![0, 1, 2] bcast_S4x2048x1_S4x2048x2048_0_1_2 (Host.rsqrt (addf (Host.divf
      (broadcastInDim S4x2048x1 ![0, 1] bcast_S4x2048_S4x2048x1_0_1 (Host.reduceAdd (mulf x x) (constant S_ .f32 0x00000000#32) reducesTo_S4x2048x2048_S4x2048_d2 h_S_))
      (broadcastInDim S4x2048x1 ![] bcast_S_S4x2048x1 (constant S_ .f32 0x45000000#32))) (broadcastInDim S4x2048x1 ![] bcast_S_S4x2048x1 (constant S_ .f32 0x358637BD#32))))))
      (broadcastInDim S4x2048x2048 ![0, 1, 2] bcast_S1x1x2048_S4x2048x2048_0_1_2 (broadcastInDim S1x1x2048 ![2] bcast_S2048_S1x1x2048_2 (shapeCast S2048 g shapeCasts_S1x2048_S2048))))
    (shapeCast S2048x11264 w shapeCasts_S1x2048x11264_S2048x11264)

theorem up_apply (x : FVec Ideal S4x2048x2048 .f32) (g : FVec Ideal S1x2048 .f32) (w : FVec Ideal S1x2048x11264 .f32) (n : Fin 4) (t : Fin 2048) (l : Fin 11264) :
    up x g w (ix3 n t l) = rowMul (rms (fun k => x (ix3 n t k)) fun k => g (ix2 0 k)) (fun k l => w (ix3 0 k l)) l := by
  pointwise [up, rowMul, rms]

/-- The rows a sequence's convolution sees: two rows of zeros, then its rows. -/
def seen (u : FVec Ideal S4x2048x11264 .f32) : FVec Ideal S4x2050x11264 .f32 :=
  concatenate S4x2050x11264 1 [⟨S4x2x11264, (broadcastInDim S4x2x11264 ![] bcast_S_S4x2x11264 (constant S_ .f32 0x00000000#32))⟩, ⟨S4x2048x11264, u⟩]
    concatenates_S4x2x11264_S4x2048x11264_S4x2050x11264_d1

theorem seen_apply (u : FVec Ideal S4x2048x11264 .f32) (n : Fin 4) (k : Fin 2050) (l : Fin 11264) :
    seen u (ix3 n k l) = if h : k.val < 2 then 0 else u (ix3 n (⟨k.val - 2, by omega⟩ : Fin 2048) l) := by
  by_cases h : k.val < 2
  · rw [dif_pos h]
    pointwise [seen]
    rw [dif_pos h]
  · rw [dif_neg h]
    pointwise [seen]
    rw [dif_neg h]

theorem slices_seen (k : ℕ) (h : k < 3) : S4x2050x11264.Slices ![0, k, 0] S4x2048x11264 :=
  ⟨rfl, fun a => by fin_cases a <;> simp <;> omega⟩

theorem slices_taps (k : ℕ) (h : k < 3) : S3x11264.Slices ![k, 0] S1x11264 :=
  ⟨rfl, fun a => by fin_cases a <;> simp <;> omega⟩

/-- One tap of the convolution. -/
def tap (H : FVec Ideal S4x2050x11264 .f32) (W : FVec Ideal S1x3x11264 .f32) (k : ℕ) (h : k < 3) : FVec Ideal S4x2048x11264 .f32 :=
  mulf (extractStridedSlice S4x2048x11264 ![0, k, 0] H (slices_seen k h)) (along (shapeCast S11264 (extractStridedSlice S1x11264 ![k, 0]
    (shapeCast S3x11264 W shapeCasts_S1x3x11264_S3x11264) (slices_taps k h)) shapeCasts_S1x11264_S11264))

theorem tap_apply (H : FVec Ideal S4x2050x11264 .f32) (W : FVec Ideal S1x3x11264 .f32) (k : ℕ) (h : k < 3) (n : Fin 4) (t : Fin 2048) (l : Fin 11264) :
    tap H W k h (ix3 n t l) = H (ix3 n (⟨k + t.val, by omega⟩ : Fin 2050) l) * W (ix3 0 (⟨k, h⟩ : Fin 3) l) := by
  pointwise [tap]

/-- A tap on the rows seen: the row `2 - k` places before, zero before the sequence begins. -/
theorem tap_seen (u : FVec Ideal S4x2048x11264 .f32) (W : FVec Ideal S1x3x11264 .f32) (k : ℕ) (h : k < 3) (n : Fin 4) (t : Fin 2048) (l : Fin 11264) :
    tap (seen u) W k h (ix3 n t l) = W (ix3 0 (⟨k, h⟩ : Fin 3) l) * (if t.val < 2 - k then 0 else u (ix3 n (⟨t.val - (2 - k), by omega⟩ : Fin 2048) l)) := by
  rw [tap_apply, seen_apply, mul_comm]
  congr 1
  by_cases ht : t.val < 2 - k
  · rw [if_pos ht, dif_pos (show k + t.val < 2 by omega)]
  · rw [if_neg ht, dif_neg (show ¬ k + t.val < 2 by omega)]
    exact congrArg (fun q => u (ix3 n q l)) (Fin.ext (by show k + t.val - 2 = t.val - (2 - k); omega))

/-- The convolution of the rows. -/
def convolve (H : FVec Ideal S4x2050x11264 .f32) (W : FVec Ideal S1x3x11264 .f32) (B : FVec Ideal S1x11264 .f32) : FVec Ideal S4x2048x11264 .f32 :=
  addf (addf (addf (tap H W 0 (by omega)) (tap H W 1 (by omega))) (tap H W 2 (by omega))) (along (shapeCast S11264 B shapeCasts_S1x11264_S11264))

theorem bias_apply (B : FVec Ideal S1x11264 .f32) (n : Fin 4) (t : Fin 2048) (l : Fin 11264) :
    along (shapeCast S11264 B shapeCasts_S1x11264_S11264) (ix3 n t l) = B (ix2 0 l) := by pointwise [along]

theorem convolve_apply (H : FVec Ideal S4x2050x11264 .f32) (W : FVec Ideal S1x3x11264 .f32) (B : FVec Ideal S1x11264 .f32)
    (n : Fin 4) (t : Fin 2048) (l : Fin 11264) :
    convolve H W B (ix3 n t l) = tap H W 0 (by omega) (ix3 n t l) + tap H W 1 (by omega) (ix3 n t l) + tap H W 2 (by omega) (ix3 n t l) + B (ix2 0 l) := by
  rw [← bias_apply B n t l]
  rfl

/-- The hidden rows: the first half of the channels through its gate, times the second half. -/
def hidden (z : FVec Ideal S4x2048x11264 .f32) : FVec Ideal S4x2048x5632 .f32 :=
  mulf (mulf (extractStridedSlice S4x2048x5632 ![0, 0, 0] z slices_S4x2048x11264_S4x2048x5632_0_0_0)
    (Host.divf (broadcastInDim S4x2048x5632 ![] bcast_S_S4x2048x5632 (constant S_ .f32 0x3F800000#32)) (addf (broadcastInDim S4x2048x5632 ![] bcast_S_S4x2048x5632 (constant S_ .f32 0x3F800000#32))
      (Host.exp (Host.negf (extractStridedSlice S4x2048x5632 ![0, 0, 0] z slices_S4x2048x11264_S4x2048x5632_0_0_0))))))
    (extractStridedSlice S4x2048x5632 ![0, 0, 5632] z slices_S4x2048x11264_S4x2048x5632_0_0_5632)

theorem hidden_apply (z : FVec Ideal S4x2048x11264 .f32) (n : Fin 4) (t : Fin 2048) (l : Fin 5632) :
    hidden z (ix3 n t l) = z (ix3 n t (⟨l.val, by omega⟩ : Fin 11264)) * Ideal.logistic (z (ix3 n t (⟨l.val, by omega⟩ : Fin 11264)))
      * z (ix3 n t (⟨5632 + l.val, by omega⟩ : Fin 11264)) := by
  pointwise [hidden]
  rfl

/-- The rows plus the hidden rows projected down. -/
def result (x : FVec Ideal S4x2048x2048 .f32) (v : FVec Ideal S4x2048x5632 .f32) (Wd : FVec Ideal S1x5632x2048 .f32) : FVec Ideal S4x2048x2048 .f32 :=
  addf x (Host.dotGeneral dot_S4x2048x5632_S5632x2048_S4x2048x2048_2_0_01_1_n_n none v (shapeCast S5632x2048 Wd shapeCasts_S1x5632x2048_S5632x2048))

theorem result_apply (x : FVec Ideal S4x2048x2048 .f32) (v : FVec Ideal S4x2048x5632 .f32) (Wd : FVec Ideal S1x5632x2048 .f32) (n : Fin 4) (t : Fin 2048) (l : Fin 2048) :
    result x v Wd (ix3 n t l) = x (ix3 n t l) + rowMul (fun k => v (ix3 n t k)) (fun k l => Wd (ix3 0 k l)) l := by
  pointwise [result, rowMul]

/-- Sequences' rows, as the array of all rows. -/
theorem joined (V : FVec Ideal S4x2048x2048 .f32) (A : Seq) (hf : ∀ n t l, V (ix3 n t l) = A.y n t l) :
    shapeCast S8192x2048 V shapeCasts_S4x2048x2048_S8192x2048 = A.rows := by
  funext y
  obtain ⟨r, l, rfl⟩ : ∃ (r : Fin 8192) (l : Fin 2048), y = ix2 r l := ⟨y 0, y 1, eq_ix2 y⟩
  refine (?_ : _ = V (ix3 (⟨r.val / 2048, by omega⟩ : Fin 4) (⟨r.val % 2048, by omega⟩ : Fin 2048) l)).trans (hf _ _ _)
  pointwise

/-- The last eight rows of every block of 512 rows. -/
abbrev ends (V : FVec Ideal S4x2048x11264 .f32) : FVec Ideal S16x8x11264 .f32 :=
  extractStridedSlice S16x8x11264 ![0, 504, 0] (shapeCast S16x512x11264 V shapeCasts_S4x2048x11264_S16x512x11264) slices_S16x512x11264_S16x8x11264_0_504_0

theorem ends_apply (V : FVec Ideal S4x2048x11264 .f32) (b : Fin 16) (r : Fin 8) (l : Fin 11264) :
    ends V (ix3 b r l) = V (ix3 (⟨b.val / 4, by omega⟩ : Fin 4) (⟨512 * (b.val % 4) + 504 + r.val, by omega⟩ : Fin 2048) l) := by
  have e : ends V (ix3 b r l) = shapeCast S16x512x11264 V shapeCasts_S4x2048x11264_S16x512x11264 (ix3 b (⟨504 + r.val, by omega⟩ : Fin 512) l) := by pointwise [ends]
  rw [e, show (⟨512 * (b.val % 4) + 504 + r.val, by omega⟩ : Fin 2048) = ⟨b.val % 4 * 512 + (504 + r.val), by omega⟩ from Fin.ext (by show 512 * (b.val % 4) + 504 + r.val = b.val % 4 * 512 + (504 + r.val); omega)]
  pointwise

/-- Each half of their channels. -/
theorem ends_low (V : FVec Ideal S4x2048x11264 .f32) (A : Seq) (hf : ∀ n t l, V (ix3 n t l) = A.up n t l) :
    extractStridedSlice S16x8x5632 ![0, 0, 0] (ends V) slices_S16x8x11264_S16x8x5632_0_0_0 = A.tails 0 (by omega) := by
  funext y
  obtain ⟨b, r, l, rfl⟩ : ∃ (b : Fin 16) (r : Fin 8) (l : Fin 5632), y = ix3 b r l := ⟨y 0, y 1, y 2, eq_ix3 y⟩
  refine (?_ : _ = ends V (ix3 b r (⟨0 + l.val, by omega⟩ : Fin 11264))).trans ((ends_apply V b r _).trans (hf _ _ _))
  refine Eq.trans (b := ends V (ix3 b r (⟨l.val, by omega⟩ : Fin 11264))) ?_ (congrArg (fun q => ends V (ix3 b r q)) (Fin.ext (Nat.zero_add _).symm))
  generalize ends V = E
  pointwise

theorem ends_high (V : FVec Ideal S4x2048x11264 .f32) (A : Seq) (hf : ∀ n t l, V (ix3 n t l) = A.up n t l) :
    extractStridedSlice S16x8x5632 ![0, 0, 5632] (ends V) slices_S16x8x11264_S16x8x5632_0_0_5632 = A.tails 5632 (by omega) := by
  funext y
  obtain ⟨b, r, l, rfl⟩ : ∃ (b : Fin 16) (r : Fin 8) (l : Fin 5632), y = ix3 b r l := ⟨y 0, y 1, y 2, eq_ix3 y⟩
  refine (?_ : _ = ends V (ix3 b r (⟨5632 + l.val, by omega⟩ : Fin 11264))).trans ((ends_apply V b r _).trans (hf _ _ _))
  generalize ends V = E
  pointwise

section Stages

variable (X : FVec Ideal S8192x2048 .f32) (G : FVec Ideal S1x2048 .f32) (Wu : FVec Ideal S1x2048x11264 .f32)
  (W : FVec Ideal S1x3x11264 .f32) (B : FVec Ideal S1x11264 .f32) (Wd : FVec Ideal S1x5632x2048 .f32)

/-- The reference's up-projected rows. -/
def upR : FVec Ideal S4x2048x11264 .f32 := up (split X) G Wu

/-- The reference's residual stream. -/
def resultR : FVec Ideal S4x2048x2048 .f32 := result (split X) (hidden (convolve (seen (upR X G Wu)) W B)) Wd

theorem upR_eq (n : Fin 4) (t : Fin 2048) (l : Fin 11264) : upR X G Wu (ix3 n t l) = (seqArgs X G Wu W B Wd).up n t l := by
  refine (up_apply _ G Wu n t l).trans ?_
  simp only [split_apply]
  rfl

theorem cv_eq (n : Fin 4) (t : Fin 2048) (l : Fin 11264) : convolve (seen (upR X G Wu)) W B (ix3 n t l) = (seqArgs X G Wu W B Wd).cv n t l := by
  rw [convolve_apply, tap_seen, tap_seen, tap_seen]
  simp only [upR_eq X G Wu W B Wd]
  rw [if_neg (show ¬ t.val < 2 - 2 by omega)]
  rfl

theorem gate_eq (n : Fin 4) (t : Fin 2048) (l : Fin 5632) : hidden (convolve (seen (upR X G Wu)) W B) (ix3 n t l) = (seqArgs X G Wu W B Wd).gate n t l := by
  refine (hidden_apply _ n t l).trans ?_
  simp only [cv_eq X G Wu W B Wd]
  rfl

theorem resultR_eq (n : Fin 4) (t : Fin 2048) (l : Fin 2048) : resultR X G Wu W B Wd (ix3 n t l) = (seqArgs X G Wu W B Wd).y n t l := by
  refine (result_apply _ _ Wd n t l).trans ?_
  simp only [gate_eq X G Wu W B Wd, split_apply]
  rfl

end Stages

end Cert.SeqRefIdeal.Ref

end
-- ==== Proof.SeqRow.lean ====
module

public import proofs.«01_k».proof.Proof.Gen.SeqIdeal.Frame
public import proofs.«01_k».proof.Proof.Gen.SeqIdeal.Skeleton
public import proofs.«01_k».proof.Proof.Rows
public import proofs.«01_k».proof.Proof.Layer

/-! The prompt's feed-forward part on one block of 512 rows and 512 hidden channels: what it computes, and what the values
that the body stores are at an entry. -/

@[expose] public section

set_option maxRecDepth 16384

noncomputable section

namespace Cert.SeqIdeal.Body

open Idealize.ShloMosaic Idealize.ShloMosaic.TcCoe Idealize.ShloMosaic.Tactic
open Idealize.SL Idealize.SL.Sem
open Cert.SeqIdeal.Gen Rows Layer

/-- The normalised rows of a block. -/
def Hrow (x : Vec Ideal S512x2048 .f32) (g : Vec Ideal S1x2048 .f32) (r : Fin 512) : Fin 2048 → EReal := rms (mat x r) (mat g 0)

/-- The up-projection of the rows `h` onto the block's channels. -/
def Up (h : Fin 512 → Fin 2048 → EReal) (w : Vec Ideal S2048x512 .bf16) (r : Fin 512) : Fin 512 → EReal := rowMul (h r) (mat w)

/-- The projected rows with the eight rows before them. -/
def ext (C : Fin 8 → Fin 512 → EReal) (U : Fin 512 → Fin 512 → EReal) (r : Fin 520) (l : Fin 512) : EReal :=
  if h : r.val < 8 then C ⟨r.val, h⟩ l else U ⟨r.val - 8, by omega⟩ l

/-- The convolution of the projected rows `E`, which begin eight rows before the block. -/
def Cv (E : Fin 520 → Fin 512 → EReal) (w : Vec Ideal S3x512 .f32) (b : Vec Ideal S1x512 .f32) (r l : Fin 512) : EReal :=
  w (ix2 0 l) * E ⟨r.val + 6, by omega⟩ l + w (ix2 1 l) * E ⟨r.val + 7, by omega⟩ l + w (ix2 2 l) * E ⟨r.val + 8, by omega⟩ l + b (ix2 0 l)

/-- The gated hidden rows. -/
def Gt (v g : Fin 512 → Fin 512 → EReal) (r l : Fin 512) : EReal := v r l * Ideal.logistic (v r l) * g r l

/-- The block of the result after the block's channels have been added to `y`. -/
def Yn (y : Fin 512 → Fin 2048 → EReal) (gt : Fin 512 → Fin 512 → EReal) (w : Vec Ideal S512x2048 .bf16) (r : Fin 512) (l : Fin 2048) : EReal :=
  y r l + rowMul (gt r) (mat w) l

/-- The convolution of a piece of 32 rows: `u` its rows, `v` the rows from eight before it. -/
def piece (w0 w1 w2 : Vec Ideal S1x512 .f32) (u : Vec Ideal S32x512 .f32) (v : Vec Ideal S40x512 .f32) (b : Vec Ideal S1x512 .f32) (p : Fin 32) (l : Fin 512) : EReal :=
  w0 (ix2 0 l) * v (ix2 (⟨6 + p.val, by omega⟩ : Fin 40) l) + w1 (ix2 0 l) * v (ix2 (⟨7 + p.val, by omega⟩ : Fin 40) l) + w2 (ix2 0 l) * u (ix2 p l) + b (ix2 0 l)

/-- The value half of a piece. -/
theorem pay2_at (w0 w1 w2 : Vec Ideal S1x512 .f32) (u : Vec Ideal S32x512 .f32) (v : Vec Ideal S40x512 .f32) (b : Vec Ideal S1x512 .f32) (p : Fin 32) (l : Fin 512) :
    k0_pay2 (F := Ideal) w0 w1 w2 u v b (ix2 p l) = piece w0 w1 w2 u v b p l := by
  unfold piece
  pointwise [k0_pay2]

/-- The stored piece: the value half through its gate, times the gating half. -/
theorem pay17_at (cv : FVec Ideal S32x512 .f32) (w0 w1 w2 : Vec Ideal S1x512 .f32) (u : Vec Ideal S32x512 .f32) (v : Vec Ideal S40x512 .f32) (b : Vec Ideal S1x512 .f32) (p : Fin 32) (l : Fin 512) :
    k0_pay17 (F := Ideal) cv (k0_pay3 w0) (k0_pay4 w1) (k0_pay5 w2) u v b (ix2 p l)
      = cv (ix2 p l) * Ideal.logistic (cv (ix2 p l)) * piece w0 w1 w2 u v b p l := by
  unfold piece
  pointwise [k0_pay17, k0_pay3, k0_pay4, k0_pay5]

/-- What a piece of 32 rows has been loaded from: the block's rows from row `32 * k`, the taps and the bias. -/
structure Fits (E : Fin 520 → Fin 512 → EReal) (w : Vec Ideal S3x512 .f32) (b : Vec Ideal S1x512 .f32)
    (k : ℕ) (w0 w1 w2 : Vec Ideal S1x512 .f32) (u : Vec Ideal S32x512 .f32) (v : Vec Ideal S40x512 .f32) (b' : Vec Ideal S1x512 .f32) : Prop where
  hu : ∀ (p : Fin 32) (l : Fin 512) (h : 32 * k + p.val + 8 < 520), u (ix2 p l) = E ⟨32 * k + p.val + 8, h⟩ l
  hv : ∀ (p : Fin 40) (l : Fin 512) (h : 32 * k + p.val < 520), v (ix2 p l) = E ⟨32 * k + p.val, h⟩ l
  hw0 : ∀ l, w0 (ix2 0 l) = w (ix2 0 l)
  hw1 : ∀ l, w1 (ix2 0 l) = w (ix2 1 l)
  hw2 : ∀ l, w2 (ix2 0 l) = w (ix2 2 l)
  hb : ∀ l, b' (ix2 0 l) = b (ix2 0 l)

theorem Fits.eq {E : Fin 520 → Fin 512 → EReal} {w : Vec Ideal S3x512 .f32} {b : Vec Ideal S1x512 .f32}
    {k : ℕ} {w0 w1 w2 : Vec Ideal S1x512 .f32} {u : Vec Ideal S32x512 .f32} {v : Vec Ideal S40x512 .f32} {b' : Vec Ideal S1x512 .f32}
    (F : Fits E w b k w0 w1 w2 u v b') (p : Fin 32) (l : Fin 512) (hr : 32 * k + p.val < 512) :
    piece w0 w1 w2 u v b' p l = Cv E w b ⟨32 * k + p.val, hr⟩ l := by
  unfold piece Cv
  rw [F.hw0, F.hw1, F.hw2, F.hb, F.hu p l (by omega), F.hv _ l (by show 32 * k + (6 + p.val) < 520; omega), F.hv _ l (by show 32 * k + (7 + p.val) < 520; omega)]
  have e6 : (⟨32 * k + (6 + p.val), by omega⟩ : Fin 520) = ⟨32 * k + p.val + 6, by omega⟩ := Fin.ext (by show 32 * k + (6 + p.val) = 32 * k + p.val + 6; omega)
  have e7 : (⟨32 * k + (7 + p.val), by omega⟩ : Fin 520) = ⟨32 * k + p.val + 7, by omega⟩ := Fin.ext (by show 32 * k + (7 + p.val) = 32 * k + p.val + 7; omega)
  rw [e6, e7]

/-- A stored piece of normalised rows, at an entry. -/
theorem pay6_at (v : Vec Ideal S32x2048 .f32) (g : Vec Ideal S1x2048 .f32) (p : Fin 32) (l : Fin 2048) :
    k0_pay6 (F := Ideal) v g (ix2 p l) = rms (mat v p) (mat g 0) l := by
  pointwise [k0_pay6]
  rfl

/-- A stored up-projection, at an entry. -/
theorem pay7_at (h : Vec Ideal S512x2048 .bf16) (w : Vec Ideal S2048x512 .bf16) (r l : Fin 512) :
    k0_pay7 (F := Ideal) h w (ix2 r l) = rowMul (mat h r) (mat w) l := by
  pointwise [k0_pay7]
  rfl

theorem pay8_eq : k0_pay8 (F := Ideal) = k0_pay7 := rfl

/-- The rows before a sequence's first: zeros. -/
theorem pay9_at (r : Fin 8) (l : Fin 512) : k0_pay9 (F := Ideal) (ix2 r l) = 0 := by
  pointwise [k0_pay9]

theorem pay10_at (r : Fin 8) (l : Fin 512) : k0_pay10 (F := Ideal) (ix2 r l) = 0 := by
  pointwise [k0_pay10]

/-- The rows kept from the block before, and those kept for the block after. -/
theorem pay11_at (v : Vec Ideal S1x1x8x512 .f32) (r : Fin 8) (l : Fin 512) : k0_pay11 (F := Ideal) v (ix2 r l) = v (ix4 0 0 r l) := by
  pointwise [k0_pay11]

theorem pay12_at (v : Vec Ideal S1x1x8x512 .f32) (r : Fin 8) (l : Fin 512) : k0_pay12 (F := Ideal) v (ix2 r l) = v (ix4 0 0 r l) := by
  pointwise [k0_pay12]

theorem pay13_at (v : Vec Ideal S8x512 .f32) (r : Fin 8) (l : Fin 512) : k0_pay13 (F := Ideal) v (ix4 0 0 r l) = v (ix2 r l) := by
  pointwise [k0_pay13]

theorem pay14_at (v : Vec Ideal S8x512 .f32) (r : Fin 8) (l : Fin 512) : k0_pay14 (F := Ideal) v (ix3 0 r l) = v (ix2 r l) := by
  pointwise [k0_pay14]

theorem pay15_at (v : Vec Ideal S8x512 .f32) (r : Fin 8) (l : Fin 512) : k0_pay15 (F := Ideal) v (ix4 0 0 r l) = v (ix2 r l) := by
  pointwise [k0_pay15]

theorem pay16_at (v : Vec Ideal S8x512 .f32) (r : Fin 8) (l : Fin 512) : k0_pay16 (F := Ideal) v (ix3 0 r l) = v (ix2 r l) := by
  pointwise [k0_pay16]

/-- The stored result block, at an entry. -/
theorem pay1_at (y : Vec Ideal S512x2048 .f32) (gt : Vec Ideal S512x512 .bf16) (w : Vec Ideal S512x2048 .bf16) (r : Fin 512) (l : Fin 2048) :
    k0_pay1 (F := Ideal) (k0_pay18 y) gt (k0_pay19 w) (constant S512x2048 .f32 0x00000000#32) (ix2 r l) = mat y r l + rowMul (mat gt r) (mat w) l := by
  pointwise [k0_pay1, k0_pay18, k0_pay19]
  rfl

/-- The loads of a piece fit the block. -/
theorem fits (a : Memref sig .tc .vmem S520x512 .f32) (f : a.view.ty.Contents (Elt Ideal))
    (t : Memref sig .tc .vmem S3x512 .f32) (ht : t.IsWhole) (d : Memref sig .tc .vmem S1x512 .f32) (hd : d.IsWhole)
    (E : Fin 520 → Fin 512 → EReal) (w : Vec Ideal S3x512 .f32) (b : Vec Ideal S1x512 .f32)
    (h : Agrees (a.view.read (Elt Ideal) f) E (fun _ _ => True)) (k : Fin k0_t2_loop.trips) :
    Fits E w b k.val
      (t.view.readAt (Elt Ideal) (Rect.unit (s := S3x512) ![0, 0] S1x512.size inb_S3x512_S1x512_0_0).toLoadRect (ht.unread w))
      (t.view.readAt (Elt Ideal) (Rect.unit (s := S3x512) ![1, 0] S1x512.size inb_S3x512_S1x512_1_0).toLoadRect (ht.unread w))
      (t.view.readAt (Elt Ideal) (Rect.unit (s := S3x512) ![2, 0] S1x512.size inb_S3x512_S1x512_2_0).toLoadRect (ht.unread w))
      (a.view.readAt (Elt Ideal) (Rect.unit (s := S520x512) (k0_off6 k) S32x512.size (k0_off6_inb k)).toLoadRect f)
      (a.view.readAt (Elt Ideal) (Rect.unit (s := S520x512) (k0_off7 k) S40x512.size (k0_off7_inb k)).toLoadRect f)
      (d.view.readAt (Elt Ideal) (Rect.unit (s := S1x512) ![0, 0] S1x512.size inb_S1x512_S1x512_0_0).toLoadRect (hd.unread b)) where
  hu p l hp := by
    refine (readAt_tile a.view f (k0_off6_inb k) (32 * k.val + 8) 0 (k0_off6_eq k) p l).trans ((h _ _ trivial).trans ?_)
    exact congrArg₂ E (Fin.ext (by show 32 * k.val + 8 + p.val = 32 * k.val + p.val + 8; omega)) (Fin.ext (Nat.zero_add _))
  hv p l hp := by
    refine (readAt_tile a.view f (k0_off7_inb k) (32 * k.val) 0 (k0_off7_eq k) p l).trans ((h _ _ trivial).trans ?_)
    exact congrArg (E _) (Fin.ext (Nat.zero_add _))
  hw0 l := by
    refine (readAt_tile t.view _ inb_S3x512_S1x512_0_0 0 0 rfl 0 l).trans ?_
    rw [ht.read_unread]
    exact congrArg (fun z => w (ix2 _ z)) (Fin.ext (Nat.zero_add _))
  hw1 l := by
    refine (readAt_tile t.view _ inb_S3x512_S1x512_1_0 1 0 rfl 0 l).trans ?_
    rw [ht.read_unread]
    exact congrArg (fun z => w (ix2 _ z)) (Fin.ext (Nat.zero_add _))
  hw2 l := by
    refine (readAt_tile t.view _ inb_S3x512_S1x512_2_0 2 0 rfl 0 l).trans ?_
    rw [ht.read_unread]
    exact congrArg (fun z => w (ix2 _ z)) (Fin.ext (Nat.zero_add _))
  hb l := by
    refine (readAt_tile d.view _ inb_S1x512_S1x512_0_0 0 0 rfl 0 l).trans ?_
    rw [hd.read_unread]
    exact congrArg (fun z => b (ix2 _ z)) (Fin.ext (Nat.zero_add _))

end Cert.SeqIdeal.Body

end
-- ==== Proof.SeqBody.lean ====
module

public import proofs.«01_k».proof.Proof.SeqRow

/-! One grid point of the prompt's feed-forward call: the two parts of its body, and what their stores leave. -/

@[expose] public section

set_option maxRecDepth 16384

noncomputable section

namespace Cert.SeqIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SeqIdeal.Gen Rows Layer

local notation "𝕄" => MT nD τ sig Unit (Elt Ideal) ℕ (UR sig nD τ) ℕ

theorem trips1 : k0_t1_loop.trips = 16 := by decide
theorem trips2 : k0_t2_loop.trips = 16 := by decide

/-- The condition under which the point begins a sequence, as the body computes it. -/
def begins (i : grid0.Coords) : BitVec 1 :=
  Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32) : BitVec 32) 0#32

/-- The rows before the block are read from those kept exactly where the point does not begin a sequence. -/
theorem cond3_iff : ∀ i : grid0.Coords, k0_cond3 i = 1#1 ↔ ¬ begins i = 1#1 := by decide +kernel

/-- A whole matrix stored: the buffer reads it. -/
theorem stored_whole {N W : ℕ} {e : EltTy} (a : Memref sig .tc .vmem (⟨2, ![N, W]⟩ : Shape) e) (f : a.view.ty.Contents (Elt Ideal))
    (inb : ∀ q : Fin 2, (![0, 0] : Fin 2 → ℕ) q + (![N, W] : Fin 2 → ℕ) q ≤ (![N, W] : Fin 2 → ℕ) q)
    (w : (⟨2, ![N, W]⟩ : Shape).Idx → Elt Ideal e) (L : List (View.Piece (Elt Ideal) (⟨2, ![N, W]⟩ : Shape) e)) (G : Fin N → Fin W → Elt Ideal e)
    (hw : ∀ r l, w (ix2 r l) = G r l) :
    a.view.read (Elt Ideal) (a.view.writes (Elt Ideal) f (⟨Rect.unit (s := ⟨2, ![N, W]⟩) ![0, 0] ![N, W] inb, w⟩ :: L)) = fun y => G (y 0) (y 1) := by
  have h : Agrees (a.view.read (Elt Ideal) (a.view.writes (Elt Ideal) f (⟨Rect.unit (s := ⟨2, ![N, W]⟩) ![0, 0] ![N, W] inb, w⟩ :: L))) G (fun _ _ => True) := by
    refine Agrees.store a.view f inb w L G 0 0 rfl (agrees_none _ _ (S := fun _ _ => False) fun _ _ _ _ => id) ?_ (by omega)
    intro i j hr hl
    rw [hw]
    exact congrArg₂ G (Fin.ext (Nat.zero_add _).symm) (Fin.ext (Nat.zero_add _).symm)
  exact h.eq fun _ _ => trivial

/-- A whole block of eight rows stored: the buffer reads it. -/
theorem stored_slab (a : Memref sig .tc .vmem S1x8x512 .f32) (f : a.view.ty.Contents (Elt Ideal)) (w : Vec Ideal S1x8x512 .f32)
    (L : List (View.Piece (Elt Ideal) S1x8x512 .f32)) (G : Fin 8 → Fin 512 → EReal) (hw : ∀ r l, w (ix3 0 r l) = G r l) :
    a.view.read (Elt Ideal) (a.view.writes (Elt Ideal) f (⟨Rect.unit (s := S1x8x512) ![0, 0, 0] S1x8x512.size inb_S1x8x512_S1x8x512_0_0_0, w⟩ :: L)) = fun y => G (y 1) (y 2) := by
  have h := SlabAgrees.store a.view f inb_S1x8x512_S1x8x512_0_0_0 w L (fun _ => G) 0 rfl (S := fun _ => False) (S' := fun u => u < 1) (slabAgrees_none _ _ fun _ => id) hw
    (fun u hu => Or.inl (by show u = 0; omega))
  funext y
  exact (congrArg _ (eq_ix3 y)).trans (h (y 0) (y 1) (y 2) (y 0).isLt)

/-- The projected block stored below the eight rows before it. -/
theorem stored_ext (a : Memref sig .tc .vmem S520x512 .f32) (f : a.view.ty.Contents (Elt Ideal)) (w : Vec Ideal S512x512 .f32)
    (C : Fin 8 → Fin 512 → EReal) (U : Fin 512 → Fin 512 → EReal) (hw : ∀ r l, w (ix2 r l) = U r l) :
    Agrees (a.view.read (Elt Ideal) (a.view.writes (Elt Ideal) f [⟨Rect.unit (s := S520x512) ![8, 0] S512x512.size inb_S520x512_S512x512_8_0, w⟩]))
      (ext C U) (fun r _ => 8 ≤ r) := by
  refine Agrees.store a.view f inb_S520x512_S512x512_8_0 w [] (ext C U) 8 0 rfl (agrees_none _ _ (S := fun _ _ => False) fun _ _ _ _ => id) ?_ (by omega)
  intro i j hr hl
  unfold ext
  rw [hw, dif_neg (show ¬ 8 + i.val < 8 by omega)]
  exact congrArg₂ U (Fin.ext (by show i.val = 8 + i.val - 8; omega)) (Fin.ext (Nat.zero_add _).symm)

/-- The eight rows before the block stored, too. -/
theorem stored_before (a : Memref sig .tc .vmem S520x512 .f32) (f : a.view.ty.Contents (Elt Ideal)) (z : Vec Ideal S8x512 .f32)
    (L : List (View.Piece (Elt Ideal) S520x512 .f32))
    (C : Fin 8 → Fin 512 → EReal) (U : Fin 512 → Fin 512 → EReal) (hz : ∀ r l, z (ix2 r l) = C r l)
    (h : Agrees (a.view.read (Elt Ideal) (a.view.writes (Elt Ideal) f L)) (ext C U) (fun r _ => 8 ≤ r)) (S : ℕ → ℕ → Prop) :
    Agrees (a.view.read (Elt Ideal) (a.view.writes (Elt Ideal) f (⟨Rect.unit (s := S520x512) ![0, 0] S8x512.size inb_S520x512_S8x512_0_0, z⟩ :: L)))
      (ext C U) S := by
  refine Agrees.store a.view f inb_S520x512_S8x512_0_0 z L (ext C U) 0 0 rfl h ?_ (by omega)
  intro i j hr hl
  unfold ext
  rw [hz, dif_pos (show 0 + i.val < 8 by omega)]
  exact congrArg₂ C (Fin.ext (Nat.zero_add _).symm) (Fin.ext (Nat.zero_add _).symm)

/-- The up-projection stored, from the loads of the normalised rows and of the weights. -/
theorem up_at (a : Memref sig .tc .vmem S512x2048 .bf16) (f : a.view.ty.Contents (Elt Ideal)) (h : Fin 512 → Fin 2048 → EReal)
    (e : a.view.read (Elt Ideal) f = fun y => h (y 0) (y 1)) (b : Memref sig .tc .vmem S2048x512 .bf16) (hb : b.IsWhole) (w : Vec Ideal S2048x512 .bf16) (r l : Fin 512) :
    k0_pay7 (F := Ideal) (a.view.readAt (Elt Ideal) (Rect.unit (s := S512x2048) ![0, 0] S512x2048.size inb_S512x2048_S512x2048_0_0).toLoadRect f)
      (b.view.readAt (Elt Ideal) (Rect.unit (s := S2048x512) ![0, 0] S2048x512.size inb_S2048x512_S2048x512_0_0).toLoadRect (hb.unread w)) (ix2 r l) = Up h w r l := by
  rw [pay7_at]
  simp only [mat, readAt_all, e, hb.read_unread]
  rfl

/-- The last eight of the projected rows, loaded. -/
theorem tail_at (a : Memref sig .tc .vmem S520x512 .f32) (f : a.view.ty.Contents (Elt Ideal)) (C : Fin 8 → Fin 512 → EReal) (U : Fin 512 → Fin 512 → EReal)
    {S : ℕ → ℕ → Prop} (h : Agrees (a.view.read (Elt Ideal) f) (ext C U) S) (hS : ∀ r l, 512 ≤ r → S r l) (r : Fin 8) (l : Fin 512) :
    a.view.readAt (Elt Ideal) (Rect.unit (s := S520x512) ![512, 0] S8x512.size inb_S520x512_S8x512_512_0).toLoadRect f (ix2 r l) = U ⟨504 + r.val, by omega⟩ l := by
  refine (readAt_tile a.view f inb_S520x512_S8x512_512_0 512 0 rfl r l).trans ((h _ _ (hS _ _ (Nat.le_add_right _ _))).trans ?_)
  unfold ext
  rw [dif_neg (show ¬ 512 + r.val < 8 by omega)]
  exact congrArg₂ U (Fin.ext (by show 512 + r.val - 8 = 504 + r.val; omega)) (Fin.ext (Nat.zero_add _))

/-- Loading the rows kept for one half of one block of channels. -/
theorem kept_at (a : Memref sig .tc .vmem S11x2x8x512 .f32) (f : a.view.ty.Contents (Elt Ideal)) {off : Fin 4 → ℕ}
    (inb : ∀ q : Fin 4, off q + S1x1x8x512.size q ≤ S11x2x8x512.size q) (p : Fin 11) (q : Fin 2) (hoff : off = ![p.val, q.val, 0, 0]) (r : Fin 8) (l : Fin 512) :
    a.view.readAt (Elt Ideal) (Rect.unit (s := S11x2x8x512) off S1x1x8x512.size inb).toLoadRect f (ix4 0 0 r l) = a.view.read (Elt Ideal) f (ix4 p q r l) := by
  subst hoff
  show a.view.read (Elt Ideal) f _ = _
  congr 1
  funext z
  refine Fin.ext ?_
  fin_cases z <;> simp [Rect.emb, Rect.unit]

/-- The rows kept after one half of one block of channels is stored. -/
theorem keep_at (a : Memref sig .tc .vmem S11x2x8x512 .f32) (f : a.view.ty.Contents (Elt Ideal)) {off : Fin 4 → ℕ}
    (inb : ∀ q : Fin 4, off q + S1x1x8x512.size q ≤ S11x2x8x512.size q) (w : Vec Ideal S1x1x8x512 .f32) (L : List (View.Piece (Elt Ideal) S11x2x8x512 .f32))
    (p : Fin 11) (q : Fin 2) (hoff : off = ![p.val, q.val, 0, 0]) (a0 : Fin 11) (a1 : Fin 2) (r : Fin 8) (l : Fin 512) :
    a.view.read (Elt Ideal) (a.view.writes (Elt Ideal) f (⟨Rect.unit (s := S11x2x8x512) off S1x1x8x512.size inb, w⟩ :: L)) (ix4 a0 a1 r l)
      = if a0 = p ∧ a1 = q then w (ix4 0 0 r l) else a.view.read (Elt Ideal) (a.view.writes (Elt Ideal) f L) (ix4 a0 a1 r l) := by
  by_cases h0 : a0 = p
  · by_cases h1 : a1 = q
    · rw [if_pos ⟨h0, h1⟩]
      subst h0 h1
      refine View.read_writes_cons_unit_of_mem a.view f inb w L (ix4 a0 a1 r l) (ix4 0 0 r l) hoff ?_
      intro z
      fin_cases z <;> simp
    · rw [if_neg (fun h => h1 h.2)]
      refine View.read_writes_cons_unit_of_not_mem a.view f inb w L (ix4 a0 a1 r l) hoff 1 ?_
      show a1.val < q.val ∨ q.val + 1 ≤ a1.val
      have : a1.val ≠ q.val := fun h => h1 (Fin.ext h)
      omega
  · rw [if_neg (fun h => h0 h.1)]
    refine View.read_writes_cons_unit_of_not_mem a.view f inb w L (ix4 a0 a1 r l) hoff 0 ?_
    show a0.val < p.val ∨ p.val + 1 ≤ a0.val
    have : a0.val ≠ p.val := fun h => h0 (Fin.ext h)
    omega

/-- The rows kept after a point of the channels' block `j`: both halves' last eight projected rows for that block, the
    others as before. -/
def carry (d : S11x2x8x512.Idx → EReal) (j : Fin 11) (U V : Fin 512 → Fin 512 → EReal) (y : S11x2x8x512.Idx) : EReal :=
  if (y 0).val = j.val then (if (y 1).val = 0 then U ⟨504 + (y 2).val, by have h : (y 2).val < 8 := (y 2).isLt; omega⟩ (y 3) else V ⟨504 + (y 2).val, by have h : (y 2).val < 8 := (y 2).isLt; omega⟩ (y 3)) else d y

/-- Both halves stored. -/
theorem carry_at (a : Memref sig .tc .vmem S11x2x8x512 .f32) (f : a.view.ty.Contents (Elt Ideal)) (i : grid0.Coords) (j : Fin 11) (h4 : k0_off4 i = ![j.val, 0, 0, 0]) (h5 : k0_off5 i = ![j.val, 1, 0, 0]) (wv wg : Vec Ideal S1x1x8x512 .f32)
    (d : S11x2x8x512.Idx → EReal) (hd : a.view.read (Elt Ideal) f = d) (U V : Fin 512 → Fin 512 → EReal)
    (hv : ∀ (r : Fin 8) l, wv (ix4 0 0 r l) = U ⟨504 + r.val, by omega⟩ l) (hg : ∀ (r : Fin 8) l, wg (ix4 0 0 r l) = V ⟨504 + r.val, by omega⟩ l) :
    a.view.read (Elt Ideal) (a.view.writes (Elt Ideal) f [⟨Rect.unit (s := S11x2x8x512) (k0_off5 i) S1x1x8x512.size (k0_off5_inb i), wg⟩, ⟨Rect.unit (s := S11x2x8x512) (k0_off4 i) S1x1x8x512.size (k0_off4_inb i), wv⟩])
      = carry d j U V := by
  funext y
  obtain ⟨a0, a1, r, l, rfl⟩ : ∃ (a0 : Fin 11) (a1 : Fin 2) (r : Fin 8) (l : Fin 512), y = ix4 a0 a1 r l := ⟨y 0, y 1, y 2, y 3, eq_ix4 y⟩
  rw [keep_at a f _ wg _ j 1 h5, keep_at a f _ wv _ j 0 h4, hv, hg]
  show _ = if a0.val = j.val then (if a1.val = 0 then U ⟨504 + r.val, _⟩ l else V ⟨504 + r.val, _⟩ l) else d (ix4 a0 a1 r l)
  by_cases h0 : a0 = j
  · subst h0
    fin_cases a1 <;> simp
  · rw [if_neg (fun h => h0 h.1), if_neg (fun h => h0 h.1), if_neg (fun h => h0 (Fin.ext h)), ← hd]
    rfl

/-- The normalised rows that the point works with: its block's at the first point of the block, else those kept. -/
def hNow (i : grid0.Coords) (x0 : Vec Ideal S512x2048 .f32) (x1 : Vec Ideal S1x2048 .f32) (d14 : Vec Ideal S512x2048 .bf16) : Fin 512 → Fin 2048 → EReal :=
  if k0_cond1 i = 1#1 then Hrow x0 x1 else mat d14

/-- The result block that the point adds to: the input's block at the first point of the block, else what is there. -/
def yNow (i : grid0.Coords) (x0 d11 : Vec Ideal S512x2048 .f32) : Fin 512 → Fin 2048 → EReal :=
  if k0_cond1 i = 1#1 then mat x0 else mat d11

/-- The gated rows of the point, from the projected rows and those before them. -/
def gated (Ev Eg : Fin 520 → Fin 512 → EReal) (x4 x5 : Vec Ideal S3x512 .f32) (x6 x7 : Vec Ideal S1x512 .f32) : Fin 512 → Fin 512 → EReal :=
  Gt (Cv Ev x4 x6) (Cv Eg x5 x7)

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S512x2048 .bf16) (harg14 : arg14.IsWhole) (arg15 : Memref sig .tc .vmem S520x512 .f32) (harg15 : arg15.IsWhole) (arg16 : Memref sig .tc .vmem S520x512 .f32) (harg16 : arg16.IsWhole) (arg17 : Memref sig .tc .vmem S512x512 .bf16) (harg17 : arg17.IsWhole) (arg18 : Memref sig .tc .vmem S11x2x8x512 .f32) (harg18 : arg18.IsWhole)

/-- The first loop's invariant: the rows before the trip's are normalised. -/
def inv1 (x0 : Vec Ideal S512x2048 .f32) (x1 : Vec Ideal S1x2048 .f32) (k : ℕ) (_ : Unit) : sProp 𝕄 :=
  iprop((arg2.view.loc (c : Thread nD τ) ↦[arg2.view.set]{fullShare} harg2.unread x0) ∗ (arg3.view.loc (c : Thread nD τ) ↦[arg3.view.set]{fullShare} harg3.unread x1)
    ∗ (∃ f, ⌜Agrees (arg14.view.read (Elt Ideal) f) (Hrow x0 x1) (fun r _ => r < 32 * k)⌝ ∗ (arg14.view.loc (c : Thread nD τ) ↦[arg14.view.set]{fullShare} f)))

/-- The second loop's invariant: the gated hidden rows before the trip's are computed. -/
def inv2 (x4 : Vec Ideal S3x512 .f32) (x5 : Vec Ideal S3x512 .f32) (x6 : Vec Ideal S1x512 .f32) (x7 : Vec Ideal S1x512 .f32) (Ev Eg : Fin 520 → Fin 512 → EReal) (k : ℕ) (_ : Unit) : sProp 𝕄 :=
  iprop((arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7)
    ∗ (∃ f, ⌜Agrees (arg15.view.read (Elt Ideal) f) Ev (fun _ _ => True)⌝ ∗ (arg15.view.loc (c : Thread nD τ) ↦[arg15.view.set]{fullShare} f))
    ∗ (∃ f, ⌜Agrees (arg16.view.read (Elt Ideal) f) Eg (fun _ _ => True)⌝ ∗ (arg16.view.loc (c : Thread nD τ) ↦[arg16.view.set]{fullShare} f))
    ∗ (∃ f, ⌜Agrees (arg17.view.read (Elt Ideal) f) (gated Ev Eg x4 x5 x6 x7) (fun r _ => r < 32 * k)⌝ ∗ (arg17.view.loc (c : Thread nD τ) ↦[arg17.view.set]{fullShare} f)))

/-- What is held between the body's parts: the inputs, the result block `Y`, the normalised rows `H`, the projected rows at
    the places `S`, and the rows kept. -/
def Mid (x0 : Vec Ideal S512x2048 .f32) (x1 : Vec Ideal S1x2048 .f32) (x2 : Vec Ideal S2048x512 .bf16) (x3 : Vec Ideal S2048x512 .bf16) (x4 : Vec Ideal S3x512 .f32) (x5 : Vec Ideal S3x512 .f32) (x6 : Vec Ideal S1x512 .f32) (x7 : Vec Ideal S1x512 .f32) (x8 : Vec Ideal S512x2048 .bf16) (Y : Fin 512 → Fin 2048 → EReal) (H : Fin 512 → Fin 2048 → EReal) (Ev Eg : Fin 520 → Fin 512 → EReal) (S : ℕ → ℕ → Prop) (d : S11x2x8x512.Idx → EReal) : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread x4)
    ∗ (arg7.view.loc (c : Thread nD τ) ↦[arg7.view.set]{fullShare} harg7.unread x5)
    ∗ (arg8.view.loc (c : Thread nD τ) ↦[arg8.view.set]{fullShare} harg8.unread x6)
    ∗ (arg9.view.loc (c : Thread nD τ) ↦[arg9.view.set]{fullShare} harg9.unread x7)
    ∗ (arg10.view.loc (c : Thread nD τ) ↦[arg10.view.set]{fullShare} harg10.unread x8)
    ∗ (∃ f, ⌜arg11.view.read (Elt Ideal) f = fun y => Y (y 0) (y 1)⌝ ∗ (arg11.view.loc (c : Thread nD τ) ↦[arg11.view.set]{fullShare} f))
    ∗ (∃ f, (arg12.view.loc (c : Thread nD τ) ↦[arg12.view.set]{fullShare} f)) ∗ (∃ f, (arg13.view.loc (c : Thread nD τ) ↦[arg13.view.set]{fullShare} f))
    ∗ (∃ f, ⌜arg14.view.read (Elt Ideal) f = fun y => H (y 0) (y 1)⌝ ∗ (arg14.view.loc (c : Thread nD τ) ↦[arg14.view.set]{fullShare} f))
    ∗ (∃ f, ⌜Agrees (arg15.view.read (Elt Ideal) f) Ev S⌝ ∗ (arg15.view.loc (c : Thread nD τ) ↦[arg15.view.set]{fullShare} f))
    ∗ (∃ f, ⌜Agrees (arg16.view.read (Elt Ideal) f) Eg S⌝ ∗ (arg16.view.loc (c : Thread nD τ) ↦[arg16.view.set]{fullShare} f))
    ∗ (∃ f, (arg17.view.loc (c : Thread nD τ) ↦[arg17.view.set]{fullShare} f))
    ∗ (∃ f, ⌜arg18.view.read (Elt Ideal) f = d⌝ ∗ (arg18.view.loc (c : Thread nD τ) ↦[arg18.view.set]{fullShare} f)))

/-- What the second part leaves: besides, the last projected rows of both halves. -/
def Done (x0 : Vec Ideal S512x2048 .f32) (x1 : Vec Ideal S1x2048 .f32) (x2 : Vec Ideal S2048x512 .bf16) (x3 : Vec Ideal S2048x512 .bf16) (x4 : Vec Ideal S3x512 .f32) (x5 : Vec Ideal S3x512 .f32) (x6 : Vec Ideal S1x512 .f32) (x7 : Vec Ideal S1x512 .f32) (x8 : Vec Ideal S512x2048 .bf16) (Y : Fin 512 → Fin 2048 → EReal) (H : Fin 512 → Fin 2048 → EReal) (U V : Fin 512 → Fin 512 → EReal) (d : S11x2x8x512.Idx → EReal) : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread x4)
    ∗ (arg7.view.loc (c : Thread nD τ) ↦[arg7.view.set]{fullShare} harg7.unread x5)
    ∗ (arg8.view.loc (c : Thread nD τ) ↦[arg8.view.set]{fullShare} harg8.unread x6)
    ∗ (arg9.view.loc (c : Thread nD τ) ↦[arg9.view.set]{fullShare} harg9.unread x7)
    ∗ (arg10.view.loc (c : Thread nD τ) ↦[arg10.view.set]{fullShare} harg10.unread x8)
    ∗ (∃ f, ⌜arg11.view.read (Elt Ideal) f = fun y => Y (y 0) (y 1)⌝ ∗ (arg11.view.loc (c : Thread nD τ) ↦[arg11.view.set]{fullShare} f))
    ∗ (∃ f, ⌜arg12.view.read (Elt Ideal) f = fun y => U ⟨504 + (y 1).val, by have h : (y 1).val < 8 := (y 1).isLt; omega⟩ (y 2)⌝ ∗ (arg12.view.loc (c : Thread nD τ) ↦[arg12.view.set]{fullShare} f))
    ∗ (∃ f, ⌜arg13.view.read (Elt Ideal) f = fun y => V ⟨504 + (y 1).val, by have h : (y 1).val < 8 := (y 1).isLt; omega⟩ (y 2)⌝ ∗ (arg13.view.loc (c : Thread nD τ) ↦[arg13.view.set]{fullShare} f))
    ∗ (∃ f, ⌜arg14.view.read (Elt Ideal) f = fun y => H (y 0) (y 1)⌝ ∗ (arg14.view.loc (c : Thread nD τ) ↦[arg14.view.set]{fullShare} f))
    ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
    ∗ (∃ f, ⌜arg18.view.read (Elt Ideal) f = d⌝ ∗ (arg18.view.loc (c : Thread nD τ) ↦[arg18.view.set]{fullShare} f)))

/-- A trip of the first loop normalises its 32 rows. -/
theorem step1 (k0_h1 : k0_cond1 i = 1#1) (x0 : Vec Ideal S512x2048 .f32) (x1 : Vec Ideal S1x2048 .f32) (E : Set ℕ) (k : Fin k0_t1_loop.trips) (acc : Unit) :
    inv1 c arg2 harg2 arg3 harg3 arg14 x0 x1 k.val acc
      ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 k acc) (fun acc' => inv1 c arg2 harg2 arg3 harg3 arg14 x0 x1 (k.val + 1) acc') := by
  unfold inv1 k0_t1_body
  iintro ⟨H2, H3, %f, %hf, H14⟩
  sl_exec
  sl_step
  isplitl [H2]; · iexact H2
  isplitl [H3]; · iexact H3
  iexists _; isplitr; swap; · iexact H14
  ipureintro
  refine Agrees.store arg14.view f (k0_off1_inb i k k0_h1) _ [] (Hrow x0 x1) (32 * k.val) 0 (k0_off1_eq k) (by simpa using hf) ?_ (by omega)
  intro p j hr hl
  have hx : mat (arg2.view.readAt (Elt Ideal) (Rect.unit (s := S512x2048) (k0_off1 k) S32x2048.size (k0_off1_inb i k k0_h1)).toLoadRect (harg2.unread x0)) p = mat x0 ⟨32 * k.val + p.val, hr⟩ :=
    funext fun l => (readAt_tile arg2.view (harg2.unread x0) (k0_off1_inb i k k0_h1) (32 * k.val) 0 (k0_off1_eq k) p l).trans (by
      rw [harg2.read_unread]; exact congrArg (fun z => x0 (ix2 _ z)) (Fin.ext (Nat.zero_add _)))
  have hg : mat (arg3.view.readAt (Elt Ideal) (Rect.unit (s := S1x2048) ![0, 0] S1x2048.size inb_S1x2048_S1x2048_0_0).toLoadRect (harg3.unread x1)) 0 = mat x1 0 :=
    funext fun l => congrFun ((readAt_all arg3.view _ _).trans (harg3.read_unread x1)) (ix2 0 l)
  refine (pay6_at _ _ p j).trans ?_
  unfold Hrow
  rw [← hx, ← hg]
  exact congrArg (rms _ _) (Fin.ext (Nat.zero_add _).symm)

set_option maxHeartbeats 1600000 in
/-- A trip of the second loop gates its 32 rows. -/
theorem step2 (a : BitVec 32) (b : BitVec 1) (x4 : Vec Ideal S3x512 .f32) (x5 : Vec Ideal S3x512 .f32) (x6 : Vec Ideal S1x512 .f32) (x7 : Vec Ideal S1x512 .f32) (Ev Eg : Fin 520 → Fin 512 → EReal) (E : Set ℕ) (k : Fin k0_t2_loop.trips) (acc : Unit) :
    inv2 c arg6 harg6 arg7 harg7 arg8 harg8 arg9 harg9 arg15 arg16 arg17 x4 x5 x6 x7 Ev Eg k.val acc
      ⊢ wp frame (wpE (defs₀ (F := Ideal)) Variants.none (c : Thread nD τ) none) E (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a b k acc) (fun acc' => inv2 c arg6 harg6 arg7 harg7 arg8 harg8 arg9 harg9 arg15 arg16 arg17 x4 x5 x6 x7 Ev Eg (k.val + 1) acc') := by
  unfold inv2 k0_t2_body
  iintro ⟨H6, H7, H8, H9, ⟨%f15, %h15, H15⟩, ⟨%f16, %h16, H16⟩, %f17, %h17, H17⟩
  sl_exec
  sl_step
  isplitl [H6]; · iexact H6
  isplitl [H7]; · iexact H7
  isplitl [H8]; · iexact H8
  isplitl [H9]; · iexact H9
  isplitl [H15]
  · iexists _; isplitr; swap; · iexact H15
    ipureintro; exact h15
  isplitl [H16]
  · iexists _; isplitr; swap; · iexact H16
    ipureintro; exact h16
  iexists _; isplitr; swap; · iexact H17
  ipureintro
  refine Agrees.store arg17.view f17 (k0_off8_inb k) _ [] (gated Ev Eg x4 x5 x6 x7) (32 * k.val) 0 (k0_off8_eq k) (by simpa using h17) ?_ (by omega)
  intro p j hr hl
  refine (pay17_at _ _ _ _ _ _ _ p j).trans ?_
  have e1 := (pay2_at _ _ _ _ _ _ p j).trans ((fits arg15 f15 arg6 harg6 arg8 harg8 Ev x4 x6 h15 k).eq p j hr)
  have e2 := (fits arg16 f16 arg7 harg7 arg9 harg9 Eg x5 x7 h16 k).eq p j hr
  exact (congrArg₂ (fun u v : EReal => u * Ideal.logistic u * v) e1 e2).trans (congrArg (gated Ev Eg x4 x5 x6 x7 _) (Fin.ext (Nat.zero_add _).symm))

set_option maxHeartbeats 4000000 in
/-- The body's first part: the normalised rows, the result block it adds to, and the projected rows, with zeros before them
    where a sequence begins. -/
theorem part2_mid (x0 : Vec Ideal S512x2048 .f32) (x1 : Vec Ideal S1x2048 .f32) (x2 : Vec Ideal S2048x512 .bf16) (x3 : Vec Ideal S2048x512 .bf16) (x4 : Vec Ideal S3x512 .f32) (x5 : Vec Ideal S3x512 .f32) (x6 : Vec Ideal S1x512 .f32) (x7 : Vec Ideal S1x512 .f32) (x8 : Vec Ideal S512x2048 .bf16) (d11 d14 : S512x2048.Idx → EReal) (d : S11x2x8x512.Idx → EReal) (Ev Eg : Fin 520 → Fin 512 → EReal) (C D : Fin 8 → Fin 512 → EReal)
    (hC : begins i = 1#1 → C = fun _ _ => 0) (hD : begins i = 1#1 → D = fun _ _ => 0) (E : Set ℕ) :
    Mid c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 (mat d11) (mat d14) Ev Eg (fun _ _ => False) d
      ⊢ wp frame (wpE (defs₀ (F := Ideal)) Variants.none (c : Thread nD τ) none) E (k0_part2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => Mid c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 (yNow i x0 d11) (hNow i x0 x1 d14) (ext C (Up (hNow i x0 x1 d14) x2)) (ext D (Up (hNow i x0 x1 d14) x3)) (fun r _ => 8 ≤ r ∨ begins i = 1#1) d) := by
  simp only [k0_part2_eq_skeleton]; unfold k0_part2_skel
  unfold Mid
  iintro ⟨H2, H3, H4, H5, H6, H7, H8, H9, H10, ⟨%f11, %h11, H11⟩, ⟨%f12, H12⟩, ⟨%f13, H13⟩, ⟨%f14, %h14, H14⟩, ⟨%f15, %h15, H15⟩, ⟨%f16, %h16, H16⟩, ⟨%f17, H17⟩, ⟨%f18, %h18, H18⟩⟩
  by_cases hc : k0_cond1 i = 1#1
  · have hH : hNow i x0 x1 d14 = Hrow x0 x1 := if_pos hc
    have hY : yNow i x0 d11 = mat x0 := if_pos hc
    rw [hH, hY]
    by_cases hf : begins i = 1#1
    all_goals
      have hf' := hf
      unfold begins at hf'
      sl_exec
      sl_for (inv1 c arg2 harg2 arg3 harg3 arg14 x0 x1) $$ [H2 H3 H14]
      case region =>
        intro k' acc
        exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 E k' acc
      · unfold inv1
        isplitl [H2]; · iexact H2
        isplitl [H3]; · iexact H3
        iexists _; isplitr; swap; · iexact H14
        ipureintro
        exact agrees_none _ _ (by omega)
      iintro %acc1 HI
      unfold inv1
      icases HI with ⟨H2, H3, %g14, %hg14, H14⟩
      have e14 : arg14.view.read (Elt Ideal) g14 = fun y => Hrow x0 x1 (y 0) (y 1) := hg14.eq fun r _ => show r.val < 32 * k0_t1_loop.trips by rw [trips1]; exact r.isLt
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro
        exact stored_whole arg11 _ _ _ _ _ fun r l => congrFun ((readAt_all arg2.view _ _).trans (harg2.read_unread x0)) (ix2 r l)
      isplitl [H12]; · iexists _; iexact H12
      isplitl [H13]; · iexists _; iexact H13
      isplitl [H14]
      · iexists _; isplitr; swap; · iexact H14
        ipureintro
        exact e14
      isplitl [H15]
      · iexists _; isplitr; swap; · iexact H15
        ipureintro
        first
          | exact (stored_before arg15 _ _ _ C _ (fun r l => (pay9_at r l).trans (congrFun (congrFun (hC hf).symm r) l)) (stored_ext arg15 _ _ C _ fun r l => up_at arg14 _ _ e14 arg4 harg4 x2 r l) _)
          | exact (stored_ext arg15 _ _ C _ fun r l => up_at arg14 _ _ e14 arg4 harg4 x2 r l).mono fun r l _ _ h => h.resolve_right hf
      isplitl [H16]
      · iexists _; isplitr; swap; · iexact H16
        ipureintro
        first
          | exact (stored_before arg16 _ _ _ D _ (fun r l => (pay10_at r l).trans (congrFun (congrFun (hD hf).symm r) l)) (stored_ext arg16 _ _ D _ fun r l => up_at arg14 _ _ e14 arg5 harg5 x3 r l) _)
          | exact (stored_ext arg16 _ _ D _ fun r l => up_at arg14 _ _ e14 arg5 harg5 x3 r l).mono fun r l _ _ h => h.resolve_right hf
      isplitl [H17]; · iexists _; iexact H17
      iexists _; isplitr; swap; · iexact H18
      ipureintro
      exact h18
  · have hH : hNow i x0 x1 d14 = mat d14 := if_neg hc
    have hY : yNow i x0 d11 = mat d11 := if_neg hc
    rw [hH, hY]
    by_cases hf : begins i = 1#1
    all_goals
      have hf' := hf
      unfold begins at hf'
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro
        exact h11
      isplitl [H12]; · iexists _; iexact H12
      isplitl [H13]; · iexists _; iexact H13
      isplitl [H14]
      · iexists _; isplitr; swap; · iexact H14
        ipureintro
        exact h14
      isplitl [H15]
      · iexists _; isplitr; swap; · iexact H15
        ipureintro
        first
          | exact (stored_before arg15 _ _ _ C _ (fun r l => (pay9_at r l).trans (congrFun (congrFun (hC hf).symm r) l)) (stored_ext arg15 _ _ C _ fun r l => up_at arg14 _ _ h14 arg4 harg4 x2 r l) _)
          | exact (stored_ext arg15 _ _ C _ fun r l => up_at arg14 _ _ h14 arg4 harg4 x2 r l).mono fun r l _ _ h => h.resolve_right hf
      isplitl [H16]
      · iexists _; isplitr; swap; · iexact H16
        ipureintro
        first
          | exact (stored_before arg16 _ _ _ D _ (fun r l => (pay10_at r l).trans (congrFun (congrFun (hD hf).symm r) l)) (stored_ext arg16 _ _ D _ fun r l => up_at arg14 _ _ h14 arg5 harg5 x3 r l) _)
          | exact (stored_ext arg16 _ _ D _ fun r l => up_at arg14 _ _ h14 arg5 harg5 x3 r l).mono fun r l _ _ h => h.resolve_right hf
      isplitl [H17]; · iexists _; iexact H17
      iexists _; isplitr; swap; · iexact H18
      ipureintro
      exact h18

set_option maxHeartbeats 4000000 in
/-- The body's second part: the rows before the block where a sequence runs on, the rows kept and given out, the gated rows,
    and what the result block is to become. -/
theorem part3_done (a : BitVec 32) (b : BitVec 1) (x0 : Vec Ideal S512x2048 .f32) (x1 : Vec Ideal S1x2048 .f32) (x2 : Vec Ideal S2048x512 .bf16) (x3 : Vec Ideal S2048x512 .bf16) (x4 : Vec Ideal S3x512 .f32) (x5 : Vec Ideal S3x512 .f32) (x6 : Vec Ideal S1x512 .f32) (x7 : Vec Ideal S1x512 .f32) (x8 : Vec Ideal S512x2048 .bf16) (Y H : Fin 512 → Fin 2048 → EReal) (d : S11x2x8x512.Idx → EReal) (C D : Fin 8 → Fin 512 → EReal) (U V : Fin 512 → Fin 512 → EReal)
    (hC : ¬ begins i = 1#1 → ∀ r l, d (ix4 (i 1) 0 r l) = C r l) (hD : ¬ begins i = 1#1 → ∀ r l, d (ix4 (i 1) 1 r l) = D r l) (E : Set ℕ) :
    Mid c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 Y H (ext C U) (ext D V) (fun r _ => 8 ≤ r ∨ begins i = 1#1) d
      ⊢ wp frame (wpE (defs₀ (F := Ideal)) Variants.none (c : Thread nD τ) none) E (k0_part3 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a b)
          (fun v => iprop(⌜∀ r l, k0_pay1 (F := Ideal) v.1 v.2.1 v.2.2.1 v.2.2.2 (ix2 r l) = Yn Y (gated (ext C U) (ext D V) x4 x5 x6 x7) x8 r l⌝ ∗ Done c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 Y H U V (carry d (i 1) U V))) := by
  simp only [k0_part3_eq_skeleton]; unfold k0_part3_skel
  unfold Mid Done
  iintro ⟨H2, H3, H4, H5, H6, H7, H8, H9, H10, ⟨%f11, %h11, H11⟩, ⟨%f12, H12⟩, ⟨%f13, H13⟩, ⟨%f14, %h14, H14⟩, ⟨%f15, %h15, H15⟩, ⟨%f16, %h16, H16⟩, ⟨%f17, H17⟩, ⟨%f18, %h18, H18⟩⟩
  by_cases hf : begins i = 1#1
  all_goals
    have hc := cond3_iff i
    first
      | rw [eq_false (show ¬ ¬ begins i = 1#1 from fun h => h hf), iff_false] at hc
      | rw [eq_true hf, iff_true] at hc
    sl_exec
    sl_for (inv2 c arg6 harg6 arg7 harg7 arg8 harg8 arg9 harg9 arg15 arg16 arg17 x4 x5 x6 x7 (ext C U) (ext D V)) $$ [H6 H7 H8 H9 H15 H16 H17]
    case region =>
      intro k' acc
      exact step2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a b x4 x5 x6 x7 _ _ E k' acc
    · unfold inv2
      isplitl [H6]; · iexact H6
      isplitl [H7]; · iexact H7
      isplitl [H8]; · iexact H8
      isplitl [H9]; · iexact H9
      isplitl [H15]
      · iexists _; isplitr; swap; · iexact H15
        ipureintro
        first
          | exact (h15.mono fun r l _ _ _ => Or.inr hf)
          | exact stored_before arg15 f15 _ [] C U (fun r l => (pay11_at _ r l).trans ((kept_at arg18 f18 _ (i 1) 0 (k0_off2_eq i) r l).trans ((congrFun h18 _).trans (hC hf r l)))) (h15.mono fun r l _ _ h => Or.inl h) _
      isplitl [H16]
      · iexists _; isplitr; swap; · iexact H16
        ipureintro
        first
          | exact (h16.mono fun r l _ _ _ => Or.inr hf)
          | exact stored_before arg16 f16 _ [] D V (fun r l => (pay12_at _ r l).trans ((kept_at arg18 f18 _ (i 1) 1 (k0_off3_eq i) r l).trans ((congrFun h18 _).trans (hD hf r l)))) (h16.mono fun r l _ _ h => Or.inl h) _
      iexists _; isplitr; swap; · iexact H17
      ipureintro
      exact agrees_none _ _ (by omega)
    iintro %acc2 HI
    unfold inv2
    icases HI with ⟨H6, H7, H8, H9, ⟨%g15, %hg15, H15⟩, ⟨%g16, %hg16, H16⟩, %g17, %hg17, H17⟩
    have e17 : arg17.view.read (Elt Ideal) g17 = fun y => gated (ext C U) (ext D V) x4 x5 x6 x7 (y 0) (y 1) := hg17.eq fun r _ => show r.val < 32 * k0_t2_loop.trips by rw [trips2]; exact r.isLt
    sl_exec
    sl_step
    isplitr
    · ipureintro
      intro r l
      first | unfold part3_done.sl.cst_42 | unfold part3_done.sl.cst_42_1
      dsimp only
      refine (pay1_at _ _ _ r l).trans ?_
      have e1 : mat (arg11.view.readAt (Elt Ideal) (Rect.unit (s := S512x2048) ![0, 0] S512x2048.size inb_S512x2048_S512x2048_0_0).toLoadRect f11) = Y := funext fun r => funext fun l => congrFun ((readAt_all arg11.view _ _).trans h11) (ix2 r l)
      have e2 : mat (arg17.view.readAt (Elt Ideal) (Rect.unit (s := S512x512) ![0, 0] S512x512.size inb_S512x512_S512x512_0_0).toLoadRect g17) = gated (ext C U) (ext D V) x4 x5 x6 x7 := funext fun r => funext fun l => congrFun ((readAt_all arg17.view _ _).trans e17) (ix2 r l)
      have e3 : arg10.view.readAt (Elt Ideal) (Rect.unit (s := S512x2048) ![0, 0] S512x2048.size inb_S512x2048_S512x2048_0_0).toLoadRect (harg10.unread x8) = x8 := (readAt_all arg10.view _ _).trans (harg10.read_unread x8)
      rw [e1, e2, e3]
      rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro
      exact h11
    isplitl [H12]
    · iexists _; isplitr; swap; · iexact H12
      ipureintro
      exact stored_slab arg12 _ _ [] (fun r l => U ⟨504 + r.val, by omega⟩ l) fun r l => (pay14_at _ r l).trans (tail_at arg15 f15 C U h15 (fun r l h => Or.inl (by omega)) r l)
    isplitl [H13]
    · iexists _; isplitr; swap; · iexact H13
      ipureintro
      exact stored_slab arg13 _ _ [] (fun r l => V ⟨504 + r.val, by omega⟩ l) fun r l => (pay16_at _ r l).trans (tail_at arg16 f16 D V h16 (fun r l h => Or.inl (by omega)) r l)
    isplitl [H14]
    · iexists _; isplitr; swap; · iexact H14
      ipureintro
      exact h14
    isplitl [H15]; · iexists _; iexact H15
    isplitl [H16]; · iexists _; iexact H16
    isplitl [H17]; · iexists _; iexact H17
    iexists _; isplitr; swap; · iexact H18
    ipureintro
    exact carry_at arg18 f18 i (i 1) (k0_off4_eq i) (k0_off5_eq i) _ _ d h18 U V (fun r l => (pay13_at _ r l).trans (tail_at arg15 f15 C U h15 (fun r l h => Or.inl (by omega)) r l)) (fun r l => (pay15_at _ r l).trans (tail_at arg16 f16 D V h16 (fun r l h => Or.inl (by omega)) r l))

set_option maxHeartbeats 4000000 in
/-- The body, from its blocks and what it was left, leaves the block's part of the results.  `C` and `D` are the eight
    projected rows before the block. -/
theorem run (x0 : Vec Ideal S512x2048 .f32) (x1 : Vec Ideal S1x2048 .f32) (x2 : Vec Ideal S2048x512 .bf16) (x3 : Vec Ideal S2048x512 .bf16) (x4 : Vec Ideal S3x512 .f32) (x5 : Vec Ideal S3x512 .f32) (x6 : Vec Ideal S1x512 .f32) (x7 : Vec Ideal S1x512 .f32) (x8 : Vec Ideal S512x2048 .bf16) (d11 d14 : S512x2048.Idx → EReal) (d : S11x2x8x512.Idx → EReal) (C D : Fin 8 → Fin 512 → EReal)
    (hC0 : begins i = 1#1 → C = fun _ _ => 0) (hD0 : begins i = 1#1 → D = fun _ _ => 0)
    (hC : ¬ begins i = 1#1 → ∀ r l, d (ix4 (i 1) 0 r l) = C r l) (hD : ¬ begins i = 1#1 → ∀ r l, d (ix4 (i 1) 1 r l) = D r l) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d11 ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (fun y => Yn (yNow i x0 d11) (gated (ext C (Up (hNow i x0 x1 d14) x2)) (ext D (Up (hNow i x0 x1 d14) x3)) x4 x5 x6 x7) x8 (y 0) (y 1)) ∗ owns (c : Thread nD τ) arg12 fullShare (fun y => (Up (hNow i x0 x1 d14) x2) ⟨504 + (y 1).val, by have h : (y 1).val < 8 := (y 1).isLt; omega⟩ (y 2)) ∗ owns (c : Thread nD τ) arg13 fullShare (fun y => (Up (hNow i x0 x1 d14) x3) ⟨504 + (y 1).val, by have h : (y 1).val < 8 := (y 1).isLt; omega⟩ (y 2)) ∗ owns (c : Thread nD τ) arg14 fullShare (fun y => hNow i x0 x1 d14 (y 0) (y 1)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (carry d (i 1) (Up (hNow i x0 x1 d14) x2) (Up (hNow i x0 x1 d14) x3))) -∗ K ⟨⟩))
      ⊢ wp frame (wpE (defs₀ (F := Ideal)) Variants.none c none) E (cc0_ffn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_prompt_eq_skeleton]; unfold cc0_ffn_prompt_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  rw [wp_bind]
  iapply (wp_wand_r frame (wpE (defs₀ (F := Ideal)) Variants.none (c : Thread nD τ) none) E (Q := fun _ => Mid c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 (yNow i x0 d11) (hNow i x0 x1 d14) (ext C (Up (hNow i x0 x1 d14) x2)) (ext D (Up (hNow i x0 x1 d14) x3)) (fun r _ => 8 ≤ r ∨ begins i = 1#1) d))
  isplitr [Hk]
  · iapply (part2_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 d11 d14 d (fun _ _ => 0) (fun _ _ => 0) C D hC0 hD0 E)
    unfold Mid
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro
      exact hf11.trans (funext fun y => congrArg d11 (eq_ix2 y))
    isplitl [H12]; · iexists _; iexact H12
    isplitl [H13]; · iexists _; iexact H13
    isplitl [H14]
    · iexists _; isplitr; swap; · iexact H14
      ipureintro
      exact hf14.trans (funext fun y => congrArg d14 (eq_ix2 y))
    isplitl [H15]
    · iexists _; isplitr; swap; · iexact H15
      ipureintro
      exact agrees_none _ _ (S := fun _ _ => False) fun _ _ _ _ => id
    isplitl [H16]
    · iexists _; isplitr; swap; · iexact H16
      ipureintro
      exact agrees_none _ _ (S := fun _ _ => False) fun _ _ _ _ => id
    isplitl [H17]; · iexists _; iexact H17
    iexists _; isplitr; swap; · iexact H18
    ipureintro
    exact hf18
  iintro %r HI
  rw [wp_bind]
  iapply (wp_wand_r frame (wpE (defs₀ (F := Ideal)) Variants.none (c : Thread nD τ) none) E (Q := fun v => iprop(⌜∀ r l, k0_pay1 (F := Ideal) v.1 v.2.1 v.2.2.1 v.2.2.2 (ix2 r l) = Yn (yNow i x0 d11) (gated (ext C (Up (hNow i x0 x1 d14) x2)) (ext D (Up (hNow i x0 x1 d14) x3)) x4 x5 x6 x7) x8 r l⌝ ∗ Done c arg2 harg2 arg3 harg3 arg4 harg4 arg5 harg5 arg6 harg6 arg7 harg7 arg8 harg8 arg9 harg9 arg10 harg10 arg11 arg12 arg13 arg14 arg15 arg16 arg17 arg18 x0 x1 x2 x3 x4 x5 x6 x7 x8 (yNow i x0 d11) (hNow i x0 x1 d14) (Up (hNow i x0 x1 d14) x2) (Up (hNow i x0 x1 d14) x3) (carry d (i 1) (Up (hNow i x0 x1 d14) x2) (Up (hNow i x0 x1 d14) x3)))))
  isplitr [Hk]
  · iapply (part3_done c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ x0 x1 x2 x3 x4 x5 x6 x7 x8 _ _ d C D _ _ hC hD E)
    iexact HI
  iintro %v HI
  unfold Done
  icases HI with ⟨%hr, H2, H3, H4, H5, H6, H7, H8, H9, H10, ⟨%f11, %h11, H11⟩, ⟨%f12, %h12, H12⟩, ⟨%f13, %h13, H13⟩, ⟨%f14, %h14, H14⟩, ⟨%f15, H15⟩, ⟨%f16, H16⟩, ⟨%f17, H17⟩, ⟨%f18, %h18, H18⟩⟩
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact stored_whole arg11 _ _ _ _ _ hr
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _; isplitr; swap; · iexact H18
  ipureintro; exact h18

end Cert.SeqIdeal.Body

end
-- ==== Proof.SeqBlocks.lean ====
module

public import proofs.«01_k».proof.Proof.Gen.SeqIdeal.Frame
public import Idealize.ShloMosaic.Lib.Pipeline.ValueKit
public import Idealize.ShloMosaic.Lib.StableHlo.ReadAt

/-! # What the input blocks of the prompt's feed-forward call hold

Grid point `t` belongs to the rows `512 * pi t …` and the hidden channels `512 * pj t …`. -/

@[expose] public section

set_option maxRecDepth 16384

noncomputable section

namespace Cert.SeqIdeal.Body

open Idealize.ShloMosaic Idealize.ShloMosaic.TcCoe Idealize.ShloMosaic.Tactic
open Idealize.SL.Sem
open Cert.SeqIdeal.Gen

variable (m : (ℓ : Loc nD τ sig) → Buf (Elt Ideal) ℓ) (c : Dev nD) (t : Fin cfg0.N)

/-- The grid point's block of rows and block of hidden channels. -/
abbrev pi : ℕ := (grid0.coords t 0).val
abbrev pj : ℕ := (grid0.coords t 1).val

theorem pi_lt : pi t < 16 := (grid0.coords t 0).isLt
theorem pj_lt : pj t < 11 := (grid0.coords t 1).isLt

/-- A block's row and channels, in the whole arrays. -/
abbrev gr (r : Fin 512) : Fin 8192 := ⟨512 * pi t + r.val, by have := pi_lt t; omega⟩
abbrev gv (l : Fin 512) : Fin 11264 := ⟨512 * pj t + l.val, by have := pj_lt t; omega⟩
abbrev gg (l : Fin 512) : Fin 11264 := ⟨5632 + (512 * pj t + l.val), by have := pj_lt t; omega⟩
abbrev gh (l : Fin 512) : Fin 5632 := ⟨512 * pj t + l.val, by have := pj_lt t; omega⟩

/-- Each window's block index at a grid point. -/
theorem idx : ∀ t : Fin cfg0.N, win0_0.index t = ![pi t, 0] ∧ win0_1.index t = ![0, 0] ∧ win0_2.index t = ![0, pj t] ∧ win0_3.index t = ![0, 11 + pj t] ∧ win0_4.index t = ![0, pj t] ∧ win0_5.index t = ![0, 11 + pj t] ∧ win0_6.index t = ![0, pj t] ∧ win0_7.index t = ![0, 11 + pj t] ∧ win0_8.index t = ![pj t, 0] ∧ win0_9.index t = ![pi t, 0] ∧ win0_10.index t = ![pi t, 0, pj t] ∧ win0_11.index t = ![pi t, 0, pj t] :=
  (by decide +kernel : ∀ t : Fin grid0.N, _)

theorem blk0 (r : Fin 512) (l : Fin 2048) : iblk m c 0 t (ix2 r l) = m ((c : Thread nD τ).loc main_arg0) (ix2 (gr t r) l) := by
  have e : iblk m c 0 t (ix2 r l) = V m c main_arg0 (ix2 (gr t r) l) := by blk_point [iblk, idx t]
  rw [e, V_main_arg0]

theorem blk1 (l : Fin 2048) : iblk m c 1 t (ix2 (0 : Fin 1) l) = m ((c : Thread nD τ).loc main_arg1) (ix2 (0 : Fin 1) l) := by
  have e : iblk m c 1 t (ix2 (0 : Fin 1) l) = V m c main_v1 (ix2 (0 : Fin 1) l) := by blk_point [iblk, idx t]
  rw [e]
  unfold V
  after_reads_at

theorem blk2 (k : Fin 2048) (l : Fin 512) : iblk m c 2 t (ix2 k l) = m ((c : Thread nD τ).loc main_arg2) (ix3 (0 : Fin 1) k (gv t l)) := by
  have e : iblk m c 2 t (ix2 k l) = V m c main_v3 (ix2 k (gv t l)) := by blk_point [iblk, idx t]
  rw [e]
  unfold V
  after_reads_at

theorem blk3 (k : Fin 2048) (l : Fin 512) : iblk m c 3 t (ix2 k l) = m ((c : Thread nD τ).loc main_arg2) (ix3 (0 : Fin 1) k (gg t l)) := by
  have e : iblk m c 3 t (ix2 k l) = V m c main_v3 (ix2 k (gg t l)) := by blk_point [iblk, idx t]
  rw [e]
  unfold V
  after_reads_at

theorem blk4 (k : Fin 3) (l : Fin 512) : iblk m c 4 t (ix2 k l) = m ((c : Thread nD τ).loc main_arg3) (ix3 (0 : Fin 1) k (gv t l)) := by
  have e : iblk m c 4 t (ix2 k l) = V m c main_v4 (ix2 k (gv t l)) := by blk_point [iblk, idx t]
  rw [e]
  unfold V
  after_reads_at

theorem blk5 (k : Fin 3) (l : Fin 512) : iblk m c 5 t (ix2 k l) = m ((c : Thread nD τ).loc main_arg3) (ix3 (0 : Fin 1) k (gg t l)) := by
  have e : iblk m c 5 t (ix2 k l) = V m c main_v4 (ix2 k (gg t l)) := by blk_point [iblk, idx t]
  rw [e]
  unfold V
  after_reads_at

theorem blk6 (l : Fin 512) : iblk m c 6 t (ix2 (0 : Fin 1) l) = m ((c : Thread nD τ).loc main_arg4) (ix2 (0 : Fin 1) (gv t l)) := by
  have e : iblk m c 6 t (ix2 (0 : Fin 1) l) = V m c main_v6 (ix2 (0 : Fin 1) (gv t l)) := by blk_point [iblk, idx t]
  rw [e]
  unfold V
  after_reads_at

theorem blk7 (l : Fin 512) : iblk m c 7 t (ix2 (0 : Fin 1) l) = m ((c : Thread nD τ).loc main_arg4) (ix2 (0 : Fin 1) (gg t l)) := by
  have e : iblk m c 7 t (ix2 (0 : Fin 1) l) = V m c main_v6 (ix2 (0 : Fin 1) (gg t l)) := by blk_point [iblk, idx t]
  rw [e]
  unfold V
  after_reads_at

theorem blk8 (k : Fin 512) (l : Fin 2048) : iblk m c 8 t (ix2 k l) = m ((c : Thread nD τ).loc main_arg5) (ix3 (0 : Fin 1) (gh t k) l) := by
  have e : iblk m c 8 t (ix2 k l) = V m c main_v8 (ix2 (gh t k) l) := by blk_point [iblk, idx t]
  rw [e]
  unfold V
  after_reads_at

end Cert.SeqIdeal.Body

end
-- ==== Proof.SeqPoint.lean ====
module

public import proofs.«01_k».proof.Proof.SeqBody
public import proofs.«01_k».proof.Proof.SeqBlocks
public import proofs.«01_k».proof.Proof.SeqSpec

/-! # One grid point of the prompt's feed-forward call, in terms of the call's arguments

Four blocks of 512 rows make a sequence.  The eight rows before a block are those of the block before it, or zero where a
sequence begins. -/

@[expose] public section

set_option maxRecDepth 16384

noncomputable section

namespace Cert.SeqIdeal.Body

open Idealize.ShloMosaic Idealize.ShloMosaic.TcCoe Idealize.ShloMosaic.Tactic
open Idealize.SL.Sem
open Cert.SeqIdeal.Gen Layer

variable (m : (ℓ : Loc nD τ sig) → Buf (Elt Ideal) ℓ) (c : Dev nD) (t : Fin cfg0.N)

/-- The call's arguments. -/
def given : Seq := seqArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The sequence of a block of rows, and a row's place in it. -/
abbrev sqOf (b : Fin 16) : Fin 4 := ⟨b.val / 4, by omega⟩
abbrev plOf (b : Fin 16) (r : Fin 512) : Fin 2048 := ⟨512 * (b.val % 4) + r.val, by omega⟩

/-- The same for the point's block. -/
abbrev bl : Fin 16 := ⟨pi t, pi_lt t⟩
abbrev sq : Fin 4 := sqOf (bl t)
abbrev pl (r : Fin 512) : Fin 2048 := plOf (bl t) r

theorem x_eq (r : Fin 512) (l : Fin 2048) : mat (iblk m c 0 t) r l = (given m c).x (sq t) (pl t r) l := by
  refine (blk0 m c t r l).trans ?_
  unfold given seqArgs
  exact congrArg (fun q => m ((c : Thread nD τ).loc main_arg0) (ix2 q l)) (Fin.ext (by show 512 * pi t + r.val = pi t / 4 * 2048 + (512 * (pi t % 4) + r.val); omega))

/-- The block's normalised rows. -/
def hOf (b : Fin 16) (r : Fin 512) : Fin 2048 → EReal := (given m c).h (sqOf b) (plOf b r)

theorem h_eq : Hrow (iblk m c 0 t) (iblk m c 1 t) = hOf m c (bl t) := by
  funext r
  unfold Hrow hOf Seq.h
  have h0 : mat (iblk m c 0 t) r = (given m c).x (sq t) (pl t r) := funext fun l => x_eq m c t r l
  have h1 : mat (iblk m c 1 t) 0 = (given m c).g := funext fun l => blk1 m c t l
  rw [h0, h1]

/-- The block's projected rows, on 512 of the channels. -/
def ups (b : Fin 16) (g : Fin 512 → Fin 11264) (r l : Fin 512) : EReal := (given m c).up (sqOf b) (plOf b r) (g l)

theorem up_eq (g : Fin 512 → Fin 11264) (w : Vec Ideal S2048x512 .bf16) (hw : ∀ k l, w (ix2 k l) = (given m c).wu k (g l)) :
    Up (hOf m c (bl t)) w = ups m c (bl t) g :=
  funext fun r => funext fun l => show rowMul _ _ _ = rowMul _ _ _ from Finset.sum_congr rfl fun k _ => congrArg (hOf m c (bl t) r k * ·) (hw k l)

theorem upv_eq : Up (hOf m c (bl t)) (iblk m c 2 t) = ups m c (bl t) (gv t) := up_eq m c t _ _ fun k l => blk2 m c t k l
theorem upg_eq : Up (hOf m c (bl t)) (iblk m c 3 t) = ups m c (bl t) (gg t) := up_eq m c t _ _ fun k l => blk3 m c t k l

/-- The eight projected rows before the block. -/
def bef (b : Fin 16) (g : Fin 512 → Fin 11264) (r : Fin 8) (l : Fin 512) : EReal :=
  if h : b.val % 4 = 0 then 0 else (given m c).up (sqOf b) ⟨512 * (b.val % 4) - 8 + r.val, by omega⟩ (g l)

/-- With them before it, the block has every row that the convolution reads. -/
theorem ext_prev (b : Fin 16) (g : Fin 512 → Fin 11264) (k : ℕ) (hk : k ≤ 8) (r l : Fin 512) :
    ext (bef m c b g) (ups m c b g) ⟨r.val + 8 - k, by omega⟩ l = (given m c).prev (sqOf b) (plOf b r) k (g l) := by
  unfold ext Seq.prev
  by_cases h : r.val + 8 - k < 8
  · rw [dif_pos h]
    unfold bef
    by_cases hb : b.val % 4 = 0
    · rw [dif_pos hb, if_pos (show 512 * (b.val % 4) + r.val < k by omega)]
    · rw [dif_neg hb, if_neg (show ¬ 512 * (b.val % 4) + r.val < k by omega)]
      exact congrArg (fun q => (given m c).up (sqOf b) q (g l)) (Fin.ext (by show 512 * (b.val % 4) - 8 + (r.val + 8 - k) = 512 * (b.val % 4) + r.val - k; omega))
  · rw [dif_neg h, if_neg (show ¬ 512 * (b.val % 4) + r.val < k by omega)]
    exact congrArg (fun q => (given m c).up (sqOf b) q (g l)) (Fin.ext (by show 512 * (b.val % 4) + (r.val + 8 - k - 8) = 512 * (b.val % 4) + r.val - k; omega))

theorem cv_eq (b : Fin 16) (g : Fin 512 → Fin 11264) (w : Vec Ideal S3x512 .f32) (z : Vec Ideal S1x512 .f32)
    (hw : ∀ k l, w (ix2 k l) = (given m c).w k (g l)) (hz : ∀ l, z (ix2 0 l) = (given m c).b (g l)) (r l : Fin 512) :
    Cv (ext (bef m c b g) (ups m c b g)) w z r l = (given m c).cv (sqOf b) (plOf b r) (g l) := by
  unfold Cv Seq.cv
  have e2 := ext_prev m c b g 2 (by omega) r l
  have e1 := ext_prev m c b g 1 (by omega) r l
  have e0 : ext (bef m c b g) (ups m c b g) ⟨r.val + 8, by omega⟩ l = (given m c).up (sqOf b) (plOf b r) (g l) := ext_prev m c b g 0 (by omega) r l
  rw [hw, hw, hw, hz, ← e0, ← e1, ← e2]
  rfl

theorem gate_eq (r q : Fin 512) :
    gated (ext (bef m c (bl t) (gv t)) (ups m c (bl t) (gv t))) (ext (bef m c (bl t) (gg t)) (ups m c (bl t) (gg t))) (iblk m c 4 t) (iblk m c 5 t) (iblk m c 6 t) (iblk m c 7 t) r q
      = (given m c).gate (sq t) (pl t r) (gh t q) := by
  unfold gated Gt Seq.gate
  rw [cv_eq m c (bl t) (gv t) _ _ (fun k l => blk4 m c t k l) (fun l => blk6 m c t l), cv_eq m c (bl t) (gg t) _ _ (fun k l => blk5 m c t k l) (fun l => blk7 m c t l)]

/-- The point adds its block of hidden channels. -/
theorem out_eq (y : Fin 512 → Fin 2048 → EReal) (hy : ∀ r l, y r l = (given m c).acc (sq t) (pl t r) (pj t) l) (r : Fin 512) (l : Fin 2048) :
    Yn y (gated (ext (bef m c (bl t) (gv t)) (ups m c (bl t) (gv t))) (ext (bef m c (bl t) (gg t)) (ups m c (bl t) (gg t))) (iblk m c 4 t) (iblk m c 5 t) (iblk m c 6 t) (iblk m c 7 t)) (iblk m c 8 t) r l
      = (given m c).acc (sq t) (pl t r) (pj t + 1) l := by
  unfold Yn
  rw [Seq.acc_succ, ← hy]
  refine congrArg (y r l + ·) (Finset.sum_congr rfl fun q _ => ?_)
  rw [gate_eq]
  have hl : 512 * pj t + q.val < 5632 := by have := pj_lt t; omega
  have e : mat (iblk m c 8 t) q l = (given m c).wd (gh t q) l := blk8 m c t q l
  rw [e]
  unfold Seq.term
  rw [dif_pos hl]

end Cert.SeqIdeal.Body

end
-- ==== Proof.SeqLaunch.lean ====
module

public import proofs.«01_k».proof.Proof.SeqPoint
public import proofs.«01_k».proof.Defs
public import Idealize.ShloMosaic.Lib.Claim

/-! # The launch of the prompt's feed-forward call

Each of the sixteen blocks of rows is visited at eleven points in turn, as in the call for the new rows.  Besides, the last
eight projected rows of each block of channels are kept until the next block of rows comes to those channels. -/

@[expose] public section

set_option maxRecDepth 16384

noncomputable section

namespace Cert.SeqIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SeqIdeal.Gen Layer

local notation "𝕄" => MT nD τ sig Unit (Elt Ideal) ℕ (UR sig nD τ) ℕ

theorem pi_eq : ∀ t : Fin cfg0.N, pi t = t.val / 11 := (by decide +kernel : ∀ t : Fin grid0.N, (grid0.coords t 0).val = t.val / 11)
theorem pj_eq : ∀ t : Fin cfg0.N, pj t = t.val % 11 := (by decide +kernel : ∀ t : Fin grid0.N, (grid0.coords t 1).val = t.val % 11)

/-- The first point of a block of rows. -/
theorem first_iff : ∀ t : Fin cfg0.N, k0_cond1 (grid0.coords t) = 1#1 ↔ t.val % 11 = 0 :=
  (by decide +kernel : ∀ t : Fin grid0.N, k0_cond1 (grid0.coords t) = 1#1 ↔ t.val % 11 = 0)

/-- The points of a sequence's first block. -/
theorem begins_iff : ∀ t : Fin cfg0.N, begins (grid0.coords t) = 1#1 ↔ pi t % 4 = 0 :=
  (by decide +kernel : ∀ t : Fin grid0.N, begins (grid0.coords t) = 1#1 ↔ (grid0.coords t 0).val % 4 = 0)

variable (m : (ℓ : Loc nD τ sig) → Buf (Elt Ideal) ℓ) (ρ : Dev nD → PrngReg)

/-- The result block after a point: the input's rows and the hidden blocks so far. -/
def Y9 (c : Dev nD) (t : Fin cfg0.N) : S512x2048.Idx → EReal := fun y => (given m c).acc (sq t) (pl t (y 0)) (pj t + 1) (y 1)

/-- The last eight projected rows. -/
def last (c : Dev nD) (t : Fin cfg0.N) (g : Fin 512 → Fin 11264) : S1x8x512.Idx → EReal :=
  fun y => ups m c (bl t) g ⟨504 + (y 1).val, by have h : (y 1).val < 8 := (y 1).isLt; omega⟩ (y 2)

/-- Before a point that is not its block's first, the scratch holds the block's normalised rows. -/
def Hold (c : Dev nD) (t : Fin (cfg0.N + 1)) (d : S512x2048.Idx → EReal) : Prop :=
  ∀ h : t.val < cfg0.N, t.val % 11 ≠ 0 → d = fun y => hOf m c (bl ⟨t.val, h⟩) (y 0) (y 1)

/-- Before a point, the rows kept for a block of channels are the last of the block of rows that last came to it. -/
def Past (c : Dev nD) (t : Fin (cfg0.N + 1)) (d : S11x2x8x512.Idx → EReal) : Prop :=
  ∀ (j : Fin 11) (h : Fin 2) (r : Fin 8) (l : Fin 512) (b : Fin 16), 11 * b.val + j.val < t.val → t.val ≤ 11 * b.val + j.val + 11 →
    d (ix4 j h r l) = (given m c).up (sqOf b) ⟨512 * (b.val % 4) + 504 + r.val, by omega⟩ ⟨5632 * h.val + (512 * j.val + l.val), by omega⟩

abbrev scM0_0 : Memref sig .tc .vmem S512x2048 .bf16 := Memref.whole cc0_scratch0
abbrev scM0_1 : Memref sig .tc .vmem S520x512 .f32 := Memref.whole cc0_scratch1
abbrev scM0_2 : Memref sig .tc .vmem S520x512 .f32 := Memref.whole cc0_scratch2
abbrev scM0_3 : Memref sig .tc .vmem S512x512 .bf16 := Memref.whole cc0_scratch3
abbrev scM0_4 : Memref sig .tc .vmem S11x2x8x512 .f32 := Memref.whole cc0_scratch4

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What is held between the points. -/
def kept (c : Dev nD) (t : Fin (cfg0.N + 1)) : sProp 𝕄 :=
  iprop(iprop((∃ d, ⌜Hold m c t d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, ⌜Past m c t d⌝ ∗ owns (c : Thread nD τ) scM0_4 fullShare d)) ∗ (∃ r, prngReg c r))

theorem kept_in (c : Dev nD) : (Pipeline.ΦA spec0 c : sProp 𝕄) ⊢ kept m c 0 := by
  rw [PhiA0_eq]
  unfold kept
  iintro ⟨⟨⟨%d, H0⟩, H1, H2, H3, ⟨%d4, H4⟩⟩, Hg⟩
  isplitl [H0 H1 H2 H3 H4]
  · isplitl [H0]
    · iexists d; isplitr; swap; · iexact H0
      ipureintro
      exact fun _ h => absurd rfl h
    isplitl [H1]; · iexact H1
    isplitl [H2]; · iexact H2
    isplitl [H3]; · iexact H3
    iexists d4; isplitr; swap; · iexact H4
    ipureintro
    exact fun _ _ _ _ _ h => absurd h (Nat.not_lt_zero _)
  iexact Hg

theorem kept_out (c : Dev nD) (t : Fin (cfg0.N + 1)) : kept m c t ⊢ (Pipeline.ΦA spec0 c : sProp 𝕄) := by
  rw [PhiA0_eq]
  unfold kept
  iintro ⟨⟨⟨%d, -, H0⟩, H1, H2, H3, ⟨%d4, -, H4⟩⟩, Hg⟩
  isplitl [H0 H1 H2 H3 H4]
  · isplitl [H0]
    · iexists d; iexact H0
    isplitl [H1]; · iexact H1
    isplitl [H2]; · iexact H2
    isplitl [H3]; · iexact H3
    iexists d4; iexact H4
  iexact Hg

/-- The proof data: the inputs' buffers hold their blocks, the outputs' the blocks named above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Y9 m c t
    | ⟨10, _⟩ => last m c t (gv t)
    | ⟨11, _⟩ => last m c t (gg t)
  Φ t := kept m c t
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = Y9 m c t := by dsimp only [dats]
theorem after0_10 (c : Dev nD) (t : Fin cfg0.N) : (dats m 0 c).after 10 t = last m c t (gv t) := by dsimp only [dats]
theorem after0_11 (c : Dev nD) (t : Fin cfg0.N) : (dats m 0 c).after 11 t = last m c t (gg t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)

/-- The normalised rows that a point works with. -/
theorem now_h (c : Dev nD) (t : Fin cfg0.N) (d : S512x2048.Idx → EReal) (hd : Hold m c t.castSucc d) :
    hNow (grid0.coords t) (iblk m c 0 t) (iblk m c 1 t) d = hOf m c (bl t) := by
  unfold hNow
  by_cases h : t.val % 11 = 0
  · rw [if_pos ((first_iff t).mpr h), h_eq]
  · rw [if_neg (fun e => h ((first_iff t).mp e)), hd t.isLt h]
    rfl

/-- The result block that a point adds to. -/
theorem now_y (c : Dev nD) (t : Fin cfg0.N) (d) (r : Fin 512) (l : Fin 2048) :
    yNow (grid0.coords t) (iblk m c 0 t) ((dats m 0 c).before 9 t d) r l = (given m c).acc (sq t) (pl t r) (pj t) l := by
  unfold yNow
  by_cases h : t.val % 11 = 0
  · rw [if_pos ((first_iff t).mpr h), pj_eq, h, Seq.acc_zero]
    exact x_eq m c t r l
  · rw [if_neg (fun e => h ((first_iff t).mp e))]
    have h0 : t.val ≠ 0 := fun e => h (by rw [e])
    have hfl : (cfg0.win 9).flush ⟨t.val - 1, Nat.lt_of_le_of_lt (Nat.sub_le _ _) t.isLt⟩ = false :=
      Bool.eq_false_iff.mpr fun e => by
        have := (flush0_9 _).mp e
        have h2 : (t.val - 1) % 11 = 10 := this
        omega
    have e := (dats m 0 c).before_out_kept 9 rfl t h0 hfl (fun _ => rfl) (fun _ _ => rfl) d
    have hs : ∀ s : Fin cfg0.N, s.val = t.val - 1 → Y9 m c s (ix2 r l) = (given m c).acc (sq t) (pl t r) (pj t) l := fun s hs => by
      have h1 : bl s = bl t := Fin.ext (by show pi s = pi t; rw [pi_eq, pi_eq, hs]; omega)
      have h2 : pj s + 1 = pj t := by rw [pj_eq, pj_eq, hs]; omega
      unfold Y9
      rw [h2]
      exact congrArg (fun b => (given m c).acc (sqOf b) (plOf b r) (pj t) l) h1
    exact (congrFun (e.trans (after0_9 m c _)) (ix2 r l)).trans (hs _ rfl)

/-- Where a sequence begins there are zeros before the block. -/
theorem bef_zero (c : Dev nD) (t : Fin cfg0.N) (g : Fin 512 → Fin 11264) (h : begins (grid0.coords t) = 1#1) : bef m c (bl t) g = fun _ _ => 0 := by
  funext r l
  unfold bef
  exact dif_pos ((begins_iff t).mp h)

/-- Elsewhere the rows before the block are those kept. -/
theorem bef_past (c : Dev nD) (t : Fin cfg0.N) (d : S11x2x8x512.Idx → EReal) (hd : Past m c t.castSucc d) (h : Fin 2) (g : Fin 512 → Fin 11264)
    (hg : ∀ l, (g l).val = 5632 * h.val + (512 * pj t + l.val)) (hb : ¬ begins (grid0.coords t) = 1#1) (r : Fin 8) (l : Fin 512) :
    d (ix4 (grid0.coords t 1) h r l) = bef m c (bl t) g r l := by
  have hn : ¬ pi t % 4 = 0 := fun e => hb ((begins_iff t).mpr e)
  have hp := pi_lt t
  have e := hd ⟨pj t, pj_lt t⟩ h r l ⟨pi t - 1, by omega⟩
    (by show 11 * (pi t - 1) + pj t < t.val; rw [pi_eq] at hn ⊢; rw [pj_eq]; omega)
    (by show t.val ≤ 11 * (pi t - 1) + pj t + 11; rw [pi_eq] at hn ⊢; rw [pj_eq]; omega)
  refine e.trans ?_
  unfold bef
  rw [dif_neg (show ¬ (bl t).val % 4 = 0 from hn)]
  have e1 : sqOf ⟨pi t - 1, by omega⟩ = sq t := Fin.ext (by show (pi t - 1) / 4 = pi t / 4; omega)
  have e2 : (⟨512 * ((pi t - 1) % 4) + 504 + r.val, by omega⟩ : Fin 2048) = ⟨512 * (pi t % 4) - 8 + r.val, by omega⟩ := Fin.ext (by show 512 * ((pi t - 1) % 4) + 504 + r.val = 512 * (pi t % 4) - 8 + r.val; omega)
  have e3 : (⟨5632 * h.val + (512 * pj t + l.val), by have := pj_lt t; omega⟩ : Fin 11264) = g l := Fin.ext (hg l).symm
  exact (congrArg₂ (fun n i => (given m c).up n _ i) e1 e3).trans (congrArg (fun q => (given m c).up (sq t) q (g l)) e2)

/-- The blocks that a point leaves. -/
theorem leaves9 (c : Dev nD) (t : Fin cfg0.N) (d) (e : S512x2048.Idx → EReal) (he : Hold m c t.castSucc e) :
    (fun y : S512x2048.Idx => Yn (yNow (grid0.coords t) (iblk m c 0 t) ((dats m 0 c).before 9 t d)) (gated (ext (bef m c (bl t) (gv t)) (Up (hNow (grid0.coords t) (iblk m c 0 t) (iblk m c 1 t) e) (iblk m c 2 t))) (ext (bef m c (bl t) (gg t)) (Up (hNow (grid0.coords t) (iblk m c 0 t) (iblk m c 1 t) e) (iblk m c 3 t))) (iblk m c 4 t) (iblk m c 5 t) (iblk m c 6 t) (iblk m c 7 t)) (iblk m c 8 t) (y 0) (y 1))
      = Y9 m c t := by
  rw [now_h m c t e he, upv_eq, upg_eq]
  exact funext fun y => out_eq m c t _ (now_y m c t d) (y 0) (y 1)

theorem leaves10 (c : Dev nD) (t : Fin cfg0.N) (e : S512x2048.Idx → EReal) (he : Hold m c t.castSucc e) :
    (fun y : S1x8x512.Idx => Up (hNow (grid0.coords t) (iblk m c 0 t) (iblk m c 1 t) e) (iblk m c 2 t) ⟨504 + (y 1).val, by have h : (y 1).val < 8 := (y 1).isLt; omega⟩ (y 2)) = last m c t (gv t) := by
  rw [now_h m c t e he, upv_eq]
  rfl

theorem leaves11 (c : Dev nD) (t : Fin cfg0.N) (e : S512x2048.Idx → EReal) (he : Hold m c t.castSucc e) :
    (fun y : S1x8x512.Idx => Up (hNow (grid0.coords t) (iblk m c 0 t) (iblk m c 1 t) e) (iblk m c 3 t) ⟨504 + (y 1).val, by have h : (y 1).val < 8 := (y 1).isLt; omega⟩ (y 2)) = last m c t (gg t) := by
  rw [now_h m c t e he, upg_eq]
  rfl

/-- The scratch that a point leaves to the next. -/
theorem leaves_hold (c : Dev nD) (t : Fin cfg0.N) (e : S512x2048.Idx → EReal) (he : Hold m c t.castSucc e) :
    Hold m c t.succ (fun y => hNow (grid0.coords t) (iblk m c 0 t) (iblk m c 1 t) e (y 0) (y 1)) := by
  intro h hne
  rw [now_h m c t e he]
  have hs : bl t = bl ⟨t.succ.val, h⟩ := by
    refine Fin.ext ?_
    show pi t = pi _
    rw [pi_eq, pi_eq]
    have h1 : (t.val + 1) % 11 ≠ 0 := hne
    show t.val / 11 = (t.val + 1) / 11
    omega
  rw [hs]

theorem leaves_past (c : Dev nD) (t : Fin cfg0.N) (e : S512x2048.Idx → EReal) (he : Hold m c t.castSucc e) (d : S11x2x8x512.Idx → EReal) (hd : Past m c t.castSucc d) :
    Past m c t.succ (carry d (grid0.coords t 1) (Up (hNow (grid0.coords t) (iblk m c 0 t) (iblk m c 1 t) e) (iblk m c 2 t)) (Up (hNow (grid0.coords t) (iblk m c 0 t) (iblk m c 1 t) e) (iblk m c 3 t))) := by
  intro j h r l b h1 h2
  have h1' : 11 * b.val + j.val < t.val + 1 := h1
  have h2' : t.val + 1 ≤ 11 * b.val + j.val + 11 := h2
  rw [now_h m c t e he, upv_eq, upg_eq]
  show (if j.val = pj t then (if h.val = 0 then ups m c (bl t) (gv t) ⟨504 + r.val, _⟩ l else ups m c (bl t) (gg t) ⟨504 + r.val, _⟩ l) else d (ix4 j h r l)) = _
  by_cases hj : j.val = pj t
  · rw [if_pos hj]
    have hb : bl t = b := Fin.ext (by show pi t = b.val; rw [pi_eq]; rw [pj_eq] at hj; omega)
    have hr : plOf b ⟨504 + r.val, by omega⟩ = ⟨512 * (b.val % 4) + 504 + r.val, by omega⟩ := Fin.ext (Nat.add_assoc _ _ _).symm
    unfold ups
    by_cases hh : h.val = 0
    · rw [if_pos hh, hb, hr]
      exact congrArg ((given m c).up (sqOf b) _) (Fin.ext (by show 512 * pj t + l.val = 5632 * h.val + (512 * j.val + l.val); rw [hh, hj]; omega))
    · rw [if_neg hh, hb, hr]
      have hh1 : h.val = 1 := by omega
      exact congrArg ((given m c).up (sqOf b) _) (Fin.ext (by show 5632 + (512 * pj t + l.val) = 5632 * h.val + (512 * j.val + l.val); rw [hh1, hj]))
  · rw [if_neg hj]
    rw [pj_eq] at hj
    exact hd j h r l b (show 11 * b.val + j.val < t.val by omega) (show t.val ≤ 11 * b.val + j.val + 11 by omega)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = kept m c t.castSucc from rfl, show (dats m 0 c).Φ t.succ = kept m c t.succ from rfl]
  unfold kept
  iintro ⟨⟨⟨⟨%e, %he, HS0⟩, HS1, HS2, HS3, ⟨%k, %hk, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← leaves9 m c t d9 e he, ← leaves10 m c t e he, ← leaves11 m c t e he]
  iapply (run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) e k
    (bef m c (bl t) (gv t)) (bef m c (bl t) (gg t)) (bef_zero m c t _) (bef_zero m c t _)
    (bef_past m c t k hk 0 _ fun l => (Nat.zero_add _).symm) (bef_past m c t k hk 1 _ fun l => rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, HS0, HS1, HS2, HS3, HS4⟩
  isplitl [HS0 HS1 HS2 HS3 HS4 Hg]
  · isplitl [HS0 HS1 HS2 HS3 HS4]
    · isplitl [HS0]
      · iexists _; isplitr; swap; · iexact HS0
        ipureintro
        exact leaves_hold m c t e he
      isplitl [HS1]; · iexact HS1
      isplitl [HS2]; · iexact HS2
      isplitl [HS3]; · iexact HS3
      iexists _; isplitr; swap; · iexact HS4
      ipureintro
      exact leaves_past m c t e he k hk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- Every execution ends with the arrays at what the proof data says and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => kept_in m c) (hout := fun c => kept_out m c _)

theorem run_main : θ_run defs (onTc (τ := τ) (main (F := Ideal))) (s₀ m ρ) (Pipeline.FramePost cfgs (dats m) 0 (V m)) :=
  (θ_run defs _ _).mono (fun _ h => h.1) (run_quiescent m ρ)

/-- The frame claim. -/
theorem quiescent : Cert.quiescent_SeqIdeal := fun m ρ _ =>
  θ_run_and (frame_of m ρ (dats m) (A_eq m) (run_main m ρ)) ((θ_run defs _ _).mono (fun _ h => h.2) (run_quiescent m ρ))

end Cert.SeqIdeal.Body

end
-- ==== Proof.SeqValue.lean ====
module

public import proofs.«01_k».proof.Proof.SeqLaunch

/-! # The three results of the prompt's feed-forward call -/

@[expose] public section

set_option maxRecDepth 16384

noncomputable section

namespace Cert.SeqIdeal.Body

open Idealize.ShloMosaic Idealize.ShloMosaic.TcCoe Idealize.ShloMosaic.Tactic
open Idealize.SL.Sem
open Idealize.ShloMosaic.Pipeline (Dat)
open Cert.SeqIdeal.Gen Layer

variable (m : (ℓ : Loc nD τ sig) → Buf (Elt Ideal) ℓ) (c : Dev nD)

/-- The array of all rows, read at a row of a grid point's block. -/
theorem rows_block (t : Fin cfg0.N) (y : (⟨2, ![8192, 2048]⟩ : Shape).Idx) (r : Fin 512) (l : Fin 2048)
    (h0 : (y 0).val = 512 * pi t + r.val) (h1 : (y 1).val = l.val) : (given m c).rows y = (given m c).y (sq t) (pl t r) l := by
  unfold Seq.rows
  have h2 : y 1 = l := Fin.ext h1
  rw [h2]
  exact congrArg₂ (fun a b => (given m c).y a b l) (Fin.ext (by show (y 0).val / 2048 = pi t / 4; omega)) (Fin.ext (by show (y 0).val % 2048 = 512 * (pi t % 4) + r.val; omega))

/-- The last rows of all blocks, read at a grid point's block. -/
theorem tails_block (t : Fin cfg0.N) (o : ℕ) (ho : o ≤ 5632) (r : Fin 8) (l : Fin 512) (g : Fin 512 → Fin 11264) (hg : ∀ l, (g l).val = o + (512 * pj t + l.val))
    (y : (⟨3, ![16, 8, 5632]⟩ : Shape).Idx) (h0 : (y 0).val = pi t) (h1 : (y 1).val = r.val) (h2 : (y 2).val = 512 * pj t + l.val) :
    (given m c).tails o ho y = last m c t g (ix3 0 r l) := by
  have e1 : (⟨(y 0).val / 4, by have h : (y 0).val < 16 := (y 0).isLt; omega⟩ : Fin 4) = sq t := Fin.ext (by show (y 0).val / 4 = pi t / 4; rw [h0])
  have e2 : (⟨512 * ((y 0).val % 4) + 504 + (y 1).val, by have h : (y 1).val < 8 := (y 1).isLt; omega⟩ : Fin 2048) = pl t ⟨504 + r.val, by omega⟩ :=
    Fin.ext (by show 512 * ((y 0).val % 4) + 504 + (y 1).val = 512 * (pi t % 4) + (504 + r.val); rw [h0, h1]; omega)
  have e3 : (⟨o + (y 2).val, by have h : (y 2).val < 5632 := (y 2).isLt; omega⟩ : Fin 11264) = g l := Fin.ext (by rw [hg, ← h2])
  unfold Seq.tails
  rw [e1, e2, e3]
  rfl

/-- The first result, written at the last block of hidden channels: the rows plus the whole down-projection. -/
theorem final9 : (dats m 0 c).arrAt 9 cfg0.N = (given m c).rows := by
  refine (dats m 0 c).arrAt_eq_of_covers 9 _ (by decide +kernel) fun t ht y => ?_
  obtain ⟨r, l, rfl⟩ : ∃ r l, y = ix2 r l := ⟨_, _, eq_ix2 y⟩
  have hl : pj t + 1 = 11 := by rw [pj_eq, (flush0_9 t).mp ht]
  rw [after0_9]
  have e : Y9 m c t (ix2 r l) = (given m c).y (sq t) (pl t r) l := by
    show (given m c).acc (sq t) (pl t r) (pj t + 1) l = _
    rw [hl, Seq.acc_all]
  refine e.trans (rows_block m c t _ r l ?_ ?_).symm
  · blk_simp
    blk_point [idx t]
    exact Nat.mul_comm _ _
  · blk_simp
    try blk_point [idx t]

/-- The other two: the last eight projected rows of every block of rows, in two halves of the channels. -/
theorem final10 : (dats m 0 c).arrAt 10 cfg0.N = (given m c).tails 0 (by omega) := by
  refine (dats m 0 c).arrAt_eq_of_covers 10 _ (by decide +kernel) fun t _ y => ?_
  obtain ⟨a, r, l, rfl⟩ : ∃ (a : Fin 1) (r : Fin 8) (l : Fin 512), y = ix3 a r l := ⟨y 0, y 1, y 2, eq_ix3 y⟩
  obtain rfl : a = 0 := Subsingleton.elim _ _
  rw [after0_10]
  refine (tails_block m c t _ _ r l (gv t) (fun l => (Nat.zero_add _).symm) _ ?_ ?_ ?_).symm
  · blk_simp
    rw [(idx t).2.2.2.2.2.2.2.2.2.2.1]
    rfl
  · blk_simp
    try blk_point [idx t]
  · blk_simp
    rw [Nat.mul_comm]
    blk_point [idx t]

theorem final11 : (dats m 0 c).arrAt 11 cfg0.N = (given m c).tails 5632 (by omega) := by
  refine (dats m 0 c).arrAt_eq_of_covers 11 _ (by decide +kernel) fun t _ y => ?_
  obtain ⟨a, r, l, rfl⟩ : ∃ (a : Fin 1) (r : Fin 8) (l : Fin 512), y = ix3 a r l := ⟨y 0, y 1, y 2, eq_ix3 y⟩
  obtain rfl : a = 0 := Subsingleton.elim _ _
  rw [after0_11]
  refine (tails_block m c t _ _ r l (gg t) (fun l => rfl) _ ?_ ?_ ?_).symm
  · blk_simp
    rw [(idx t).2.2.2.2.2.2.2.2.2.2.2]
    rfl
  · blk_simp
    try blk_point [idx t]
  · blk_simp
    rw [Nat.mul_comm]
    blk_point [idx t]

end Cert.SeqIdeal.Body

end
-- ==== Proof.SeqClaim.lean ====
module

public import proofs.«01_k».proof.Proof.SeqRefValue
public import proofs.«01_k».proof.Proof.SeqValue
public import proofs.«01_k».proof.Proof.Gen.SeqRefIdeal.Run

/-! The prompt's feed-forward part against its reference. -/

@[expose] public section

set_option maxRecDepth 16384

noncomputable section

open Idealize.ShloMosaic Idealize.ShloMosaic.TcCoe Idealize.ShloMosaic.Tactic Idealize.SL.Sem Idealize.ShloMosaic.StableHlo

namespace Cert.SeqRefIdeal.Ref

open Cert.SeqRefIdeal Cert.SeqRefIdeal.Gen Layer

variable (m : (ℓ : Loc nD τ sig) → Buf (Elt Ideal) ℓ) (c : Dev nD)

/-- The arguments in a device's memory. -/
def given : Seq := seqArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference's first result is the feed-forward part's residual stream. -/
theorem first : shapeCast S8192x2048 (resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S4x2048x2048_S8192x2048 = (given m c).rows :=
  joined _ _ fun n t l => resultR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n t l

/-- The reference's other results are the last projected rows of the blocks, in two halves. -/
theorem second : extractStridedSlice S16x8x5632 ![0, 0, 0] (ends (upR (m ((c.tc : Thread nD τ).loc main_arg0)) (m ((c.tc : Thread nD τ).loc main_arg1)) (m ((c.tc : Thread nD τ).loc main_arg2)))) slices_S16x8x11264_S16x8x5632_0_0_0 = (given m c).tails 0 (by omega) :=
  ends_low _ _ fun n t l => upR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n t l

theorem third : extractStridedSlice S16x8x5632 ![0, 0, 5632] (ends (upR (m ((c.tc : Thread nD τ).loc main_arg0)) (m ((c.tc : Thread nD τ).loc main_arg1)) (m ((c.tc : Thread nD τ).loc main_arg2)))) slices_S16x8x11264_S16x8x5632_0_0_5632 = (given m c).tails 5632 (by omega) :=
  ends_high _ _ fun n t l => upR_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n t l

end Cert.SeqRefIdeal.Ref

namespace Cert.SeqIdeal.Body

open Cert.SeqIdeal

/-- The call runs to its end, with its three results at the feed-forward part's and its arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = (given m c).rows
      ∧ r.2.mem ((c.tc : Thread nD τ).loc main_v9_1) = (given m c).tails 0 (by omega)
      ∧ r.2.mem ((c.tc : Thread nD τ).loc main_v9_2) = (given m c).tails 5632 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 9).trans (final9 m c), ((h.1 c).1 10).trans (final10 m c), ((h.1 c).1 11).trans (final11 m c), h.2 c⟩)
    (θ_run_and (run_main m ρ) (Gen.frame_of m ρ (dats m) (A_eq m) (run_main m ρ)))

end Cert.SeqIdeal.Body

set_option maxHeartbeats 1000000 in
/-- The prompt's feed-forward call leaves what its reference computes. -/
theorem Cert.SeqIdeal.Body.algebraic : Cert.algebraic_SeqIdeal_SeqRefIdeal := by
  pair_intro
  · run_from Cert.SeqIdeal.Body.run_values m g
  · run_from Cert.SeqRefIdeal.Value.run m' g'
    all_goals
      obtain ⟨h0, h1, h2, h3, h4, h5⟩ := hagree c
      have e : Cert.SeqIdeal.Body.given m c = Cert.SeqRefIdeal.Ref.given m' c := by
        unfold Cert.SeqIdeal.Body.given Cert.SeqRefIdeal.Ref.given
        rw [h0, h1, h2, h3, h4, h5]
    · rw [e]
      exact Cert.SeqRefIdeal.Ref.first m' c
    · rw [e]
      simp only [← h0, ← h1, ← h2]
      exact Cert.SeqRefIdeal.Ref.second m' c
    · rw [e]
      simp only [← h0, ← h1, ← h2]
      exact Cert.SeqRefIdeal.Ref.third m' c

end
-- ==== Proof.SeqFrame.lean ====
module

public import proofs.«01_k».proof.Proof.Gen.Seq.Frame
public import proofs.«01_k».proof.Proof.Gen.Seq.Skeleton
public import proofs.«01_k».proof.Defs
public import Idealize.ShloMosaic.Lib.Claim

/-! # The feed-forward call of the prompt as written runs to its end

The body reads its inputs and writes its outputs and its scratch; nothing is stated of what it writes.  One invariant
serves every loop: the inputs are held unchanged, the other buffers are held with some contents. -/

@[expose] public section

set_option maxRecDepth 16384

noncomputable section

namespace Cert.Seq.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Seq.Gen

local notation "𝕄" => MT nD τ sig Unit (Elt Bits) ℕ (UR sig nD τ) ℕ

/-- The buffer is held with some contents. -/
def Any (c : Dev nD) {s : Shape} {e : EltTy} (a : Memref sig .tc .vmem s e) : sProp 𝕄 :=
  iprop(∃ f, (a.view.loc (c : Thread nD τ) ↦[a.view.set]{fullShare} f))

/-- The inputs are held at their contents, every other buffer at some contents. -/
def Own (c : Dev nD) (arg2 : Memref sig .tc .vmem S512x2048 .f32) (w2 : arg2.IsWhole) (arg3 : Memref sig .tc .vmem S1x2048 .f32) (w3 : arg3.IsWhole) (arg4 : Memref sig .tc .vmem S2048x512 .bf16) (w4 : arg4.IsWhole) (arg5 : Memref sig .tc .vmem S2048x512 .bf16) (w5 : arg5.IsWhole) (arg6 : Memref sig .tc .vmem S3x512 .f32) (w6 : arg6.IsWhole) (arg7 : Memref sig .tc .vmem S3x512 .f32) (w7 : arg7.IsWhole) (arg8 : Memref sig .tc .vmem S1x512 .f32) (w8 : arg8.IsWhole) (arg9 : Memref sig .tc .vmem S1x512 .f32) (w9 : arg9.IsWhole) (arg10 : Memref sig .tc .vmem S512x2048 .bf16) (w10 : arg10.IsWhole) (arg11 : Memref sig .tc .vmem S512x2048 .f32) (w11 : arg11.IsWhole) (arg12 : Memref sig .tc .vmem S1x8x512 .f32) (w12 : arg12.IsWhole) (arg13 : Memref sig .tc .vmem S1x8x512 .f32) (w13 : arg13.IsWhole) (arg14 : Memref sig .tc .vmem S512x2048 .bf16) (w14 : arg14.IsWhole) (arg15 : Memref sig .tc .vmem S520x512 .f32) (w15 : arg15.IsWhole) (arg16 : Memref sig .tc .vmem S520x512 .f32) (w16 : arg16.IsWhole) (arg17 : Memref sig .tc .vmem S512x512 .bf16) (w17 : arg17.IsWhole) (arg18 : Memref sig .tc .vmem S11x2x8x512 .f32) (w18 : arg18.IsWhole) (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) : sProp 𝕄 :=
  iprop((arg2.view.loc (c : Thread nD τ) ↦[arg2.view.set]{fullShare} w2.unread x0)
    ∗ (arg3.view.loc (c : Thread nD τ) ↦[arg3.view.set]{fullShare} w3.unread x1)
    ∗ (arg4.view.loc (c : Thread nD τ) ↦[arg4.view.set]{fullShare} w4.unread x2)
    ∗ (arg5.view.loc (c : Thread nD τ) ↦[arg5.view.set]{fullShare} w5.unread x3)
    ∗ (arg6.view.loc (c : Thread nD τ) ↦[arg6.view.set]{fullShare} w6.unread x4)
    ∗ (arg7.view.loc (c : Thread nD τ) ↦[arg7.view.set]{fullShare} w7.unread x5)
    ∗ (arg8.view.loc (c : Thread nD τ) ↦[arg8.view.set]{fullShare} w8.unread x6)
    ∗ (arg9.view.loc (c : Thread nD τ) ↦[arg9.view.set]{fullShare} w9.unread x7)
    ∗ (arg10.view.loc (c : Thread nD τ) ↦[arg10.view.set]{fullShare} w10.unread x8)
    ∗ Any c arg11
    ∗ Any c arg12
    ∗ Any c arg13
    ∗ Any c arg14
    ∗ Any c arg15
    ∗ Any c arg16
    ∗ Any c arg17
    ∗ Any c arg18)

variable (c : Dev nD) (i : grid0.Coords) (arg2 : Memref sig .tc .vmem S512x2048 .f32) (w2 : arg2.IsWhole) (arg3 : Memref sig .tc .vmem S1x2048 .f32) (w3 : arg3.IsWhole) (arg4 : Memref sig .tc .vmem S2048x512 .bf16) (w4 : arg4.IsWhole) (arg5 : Memref sig .tc .vmem S2048x512 .bf16) (w5 : arg5.IsWhole) (arg6 : Memref sig .tc .vmem S3x512 .f32) (w6 : arg6.IsWhole) (arg7 : Memref sig .tc .vmem S3x512 .f32) (w7 : arg7.IsWhole) (arg8 : Memref sig .tc .vmem S1x512 .f32) (w8 : arg8.IsWhole) (arg9 : Memref sig .tc .vmem S1x512 .f32) (w9 : arg9.IsWhole) (arg10 : Memref sig .tc .vmem S512x2048 .bf16) (w10 : arg10.IsWhole) (arg11 : Memref sig .tc .vmem S512x2048 .f32) (w11 : arg11.IsWhole) (arg12 : Memref sig .tc .vmem S1x8x512 .f32) (w12 : arg12.IsWhole) (arg13 : Memref sig .tc .vmem S1x8x512 .f32) (w13 : arg13.IsWhole) (arg14 : Memref sig .tc .vmem S512x2048 .bf16) (w14 : arg14.IsWhole) (arg15 : Memref sig .tc .vmem S520x512 .f32) (w15 : arg15.IsWhole) (arg16 : Memref sig .tc .vmem S520x512 .f32) (w16 : arg16.IsWhole) (arg17 : Memref sig .tc .vmem S512x512 .bf16) (w17 : arg17.IsWhole) (arg18 : Memref sig .tc .vmem S11x2x8x512 .f32) (w18 : arg18.IsWhole)

/-- A trip of loop 1 keeps the invariant. -/
theorem step1 (k0_h1 : k0_cond1 i = 1#1) (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) (E : Set ℕ) (k : Fin k0_t1_loop.trips) (acc : Unit) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8
      ⊢ wp frame (wpE (defs₀ (F := Bits)) Variants.none (c : Thread nD τ) none) E (k0_t1_body (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18 k0_h1 k acc) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) := by
  unfold Own Any k0_t1_body
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  iframe H2 H3 H4 H5 H6 H7 H8 H9 H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- A trip of loop 2 keeps the invariant. -/
theorem step2 (a : BitVec 32) (b : BitVec 1) (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) (E : Set ℕ) (k : Fin k0_t2_loop.trips) (acc : Unit) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8
      ⊢ wp frame (wpE (defs₀ (F := Bits)) Variants.none (c : Thread nD τ) none) E (k0_t2_body (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18 a b k acc) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) := by
  unfold Own Any k0_t2_body
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  iframe H2 H3 H4 H5 H6 H7 H8 H9 H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- The condition under which the point begins a sequence, as the body computes it. -/
def begins (i : grid0.Coords) : BitVec 1 :=
  Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32) : BitVec 32) 0#32

set_option maxHeartbeats 4000000 in
/-- The body's first part keeps the invariant. -/
theorem part2_own (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) (E : Set ℕ) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8
      ⊢ wp frame (wpE (defs₀ (F := Bits)) Variants.none (c : Thread nD τ) none) E (k0_part2 (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) := by
  simp only [k0_part2_eq_skeleton]; unfold k0_part2_skel
  unfold Own Any
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
  by_cases hf : begins i = 1#1 <;> unfold begins at hf
  all_goals
    by_cases hc : k0_cond1 i = 1#1
    · sl_exec
      sl_for (fun _ _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) $$ [H2 H3 H4 H5 H6 H7 H8 H9 H10 H11 H12 H13 H14 H15 H16 H17 H18]
      case region =>
        intro k' acc
        exact step1 c i arg2 w2 arg3 w3 arg4 w4 arg5 w5 arg6 w6 arg7 w7 arg8 w8 arg9 w9 arg10 w10 arg11 w11 arg12 w12 arg13 w13 arg14 w14 arg15 w15 arg16 w16 arg17 w17 arg18 w18 hc x0 x1 x2 x3 x4 x5 x6 x7 x8 E k' acc
      · unfold Own Any
        iframe H2 H3 H4 H5 H6 H7 H8 H9 H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        iexists _; iexact H18
      iintro %acc1 HI
      unfold Own Any
      icases HI with ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
      sl_exec
      sl_step
      iframe H2 H3 H4 H5 H6 H7 H8 H9 H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    · sl_exec
      sl_step
      iframe H2 H3 H4 H5 H6 H7 H8 H9 H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18

set_option maxHeartbeats 4000000 in
/-- The body's second part keeps the invariant. -/
theorem part3_own (a : BitVec 32) (b : BitVec 1) (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) (E : Set ℕ) :
    Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8
      ⊢ wp frame (wpE (defs₀ (F := Bits)) Variants.none (c : Thread nD τ) none) E (k0_part3 (F := Bits) i arg2 w2 arg3 w3 arg4 w4 arg5 w5 arg6 w6 arg7 w7 arg8 w8 arg9 w9 arg10 w10 arg11 w11 arg12 w12 arg13 w13 arg14 w14 arg15 w15 arg16 w16 arg17 w17 arg18 w18 a b) (fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) := by
  simp only [k0_part3_eq_skeleton]; unfold k0_part3_skel
  unfold Own Any
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
  by_cases hc : k0_cond3 i = 1#1
  all_goals
    sl_exec
    sl_for (fun _ _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8) $$ [H2 H3 H4 H5 H6 H7 H8 H9 H10 H11 H12 H13 H14 H15 H16 H17 H18]
    case region =>
      intro k' acc
      exact step2 c i arg2 w2 arg3 w3 arg4 w4 arg5 w5 arg6 w6 arg7 w7 arg8 w8 arg9 w9 arg10 w10 arg11 w11 arg12 w12 arg13 w13 arg14 w14 arg15 w15 arg16 w16 arg17 w17 arg18 w18 a b x0 x1 x2 x3 x4 x5 x6 x7 x8 E k' acc
    · unfold Own Any
      iframe H2 H3 H4 H5 H6 H7 H8 H9 H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    iintro %acc2 HI
    unfold Own Any
    icases HI with ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    iframe H2 H3 H4 H5 H6 H7 H8 H9 H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

set_option maxHeartbeats 4000000 in
/-- The body runs from inputs at their contents and gives them back; the other buffers are given back at some contents. -/
theorem run (x0 : Vec Bits S512x2048 .f32) (x1 : Vec Bits S1x2048 .f32) (x2 : Vec Bits S2048x512 .bf16) (x3 : Vec Bits S2048x512 .bf16) (x4 : Vec Bits S3x512 .f32) (x5 : Vec Bits S3x512 .f32) (x6 : Vec Bits S1x512 .f32) (x7 : Vec Bits S1x512 .f32) (x8 : Vec Bits S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := Bits)) Variants.none c none) E (cc0_ffn_prompt i arg2 w2 arg3 w3 arg4 w4 arg5 w5 arg6 w6 arg7 w7 arg8 w8 arg9 w9 arg10 w10 arg11 w11 arg12 w12 arg13 w13 arg14 w14 arg15 w15 arg16 w16 arg17 w17 arg18 w18) K := by
  simp only [cc0_ffn_prompt_eq_skeleton]; unfold cc0_ffn_prompt_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8; obtain rfl := w9.eq_unread hf9; obtain rfl := w10.eq_unread hf10
  rw [wp_bind]
  iapply (wp_wand_r frame (wpE (defs₀ (F := Bits)) Variants.none (c : Thread nD τ) none) E (Q := fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8))
  isplitr [Hk]
  · iapply (part2_own c i arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8 E)
    unfold Own Any
    iframe H2 H3 H4 H5 H6 H7 H8 H9 H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  iintro %r HI
  rw [wp_bind]
  iapply (wp_wand_r frame (wpE (defs₀ (F := Bits)) Variants.none (c : Thread nD τ) none) E (Q := fun _ => Own c arg2 w2 arg3 w3 arg4 w4 arg5 w5 arg6 w6 arg7 w7 arg8 w8 arg9 w9 arg10 w10 arg11 w11 arg12 w12 arg13 w13 arg14 w14 arg15 w15 arg16 w16 arg17 w17 arg18 w18 x0 x1 x2 x3 x4 x5 x6 x7 x8))
  isplitr [Hk]
  · iapply (part3_own c i arg2 w2 arg3 w3 arg4 w4 arg5 w5 arg6 w6 arg7 w7 arg8 w8 arg9 w9 arg10 w10 arg11 w11 arg12 w12 arg13 w13 arg14 w14 arg15 w15 arg16 w16 arg17 w17 arg18 w18 _ _ x0 x1 x2 x3 x4 x5 x6 x7 x8 E)
    iexact HI
  iintro %r' HI
  unfold Own Any
  icases HI with ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; · ipureintro; exact w8.read_unread _
    iexact H8
  isplitl [H9]
  · iexists _; isplitr; · ipureintro; exact w9.read_unread _
    iexact H9
  isplitl [H10]
  · iexists _; isplitr; · ipureintro; exact w10.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  · iexists _, _; isplitr; swap; · iexact H18
    ipureintro; rfl

variable (m : (ℓ : Loc nD τ sig) → Buf (Elt Bits) ℓ) (ρ : Dev nD → PrngReg)

/-- The windows nothing is stated of: the outputs. -/
def forgets0 : Fin 12 → Bool := fun w => w.val == 9 || w.val == 10 || w.val == 11

/-- The proof data: the inputs' buffers hold their blocks, the outputs' are unnamed. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)

abbrev scM0_0 : Memref sig .tc .vmem S512x2048 .bf16 := Memref.whole cc0_scratch0
abbrev scM0_1 : Memref sig .tc .vmem S520x512 .f32 := Memref.whole cc0_scratch1
abbrev scM0_2 : Memref sig .tc .vmem S520x512 .f32 := Memref.whole cc0_scratch2
abbrev scM0_3 : Memref sig .tc .vmem S512x512 .bf16 := Memref.whole cc0_scratch3
abbrev scM0_4 : Memref sig .tc .vmem S11x2x8x512 .f32 := Memref.whole cc0_scratch4

/-- The region's own buffers at some contents, and the generator register. -/
theorem PhiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1600000 in
/-- The body at any grid point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  iframe H0 H1 H2 H3 H4 H5 H6 H7 H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  iframe H0 H1 H2 H3 H4 H5 H6 H7 H8 H9 H10
  iexact H11

theorem body_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets0 := fun t => by
  rw [bigSep_W0, bigSep_W0, body_row]
  exact triple_restated (sound_body m c t) rfl .rfl fun _ => .rfl

set_option backward.isDefEq.respectTransparency.types false in
/-- Every execution ends with the arguments unchanged and every counter at zero. -/
theorem run_quiescent : θ_run defs (onTc (τ := τ) (main (F := Bits))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Bits))) (s₀ m ρ) (Pipeline.RDat.FramePost (cfgs 0) (fun c => (dats m 0 c).toRForget forgets0) (V m)) :=
  (θ_run defs _ _).mono (fun _ h => h.1) (run_quiescent m ρ)

/-- The frame claim. -/
theorem quiescent : Cert.quiescent_Seq := fun m ρ _ =>
  θ_run_and ((θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)) ((θ_run defs _ _).mono (fun _ h => h.2) (run_quiescent m ρ))

end Cert.Seq.Body

end
-- ==== Proof.SeqRef.lean ====
module

public import proofs.«01_k».proof.Defs
public import proofs.«01_k».proof.Proof.Gen.SeqRefIdeal.Run

/-! The prompt's feed-forward reference's run. -/

@[expose] public section

noncomputable section

open Idealize.ShloMosaic Idealize.ShloMosaic.TcCoe Idealize.SL.Sem

/-- The reference runs to its end and leaves its arguments as they were. -/
theorem Cert.SeqRefIdeal.Ref.quiescent : Cert.quiescent_SeqRefIdeal := fun m ρ _ =>
  (θ_run Cert.SeqRefIdeal.defs _ _).mono (fun r h => ⟨fun c => (h c).2.2.2, sem_eq_zero_of_no_sems (by decide) r.2⟩)
    (Cert.SeqRefIdeal.Value.run (F := Ideal) m ρ)

end
-- ==== Proof.lean ====
module

public import proofs.«01_k».proof.Defs
public import proofs.«01_k».proof.Proof.MixFrame
public import proofs.«01_k».proof.Proof.MixClaim
public import proofs.«01_k».proof.Proof.FfnFrame
public import proofs.«01_k».proof.Proof.FfnClaim
public import proofs.«01_k».proof.Proof.FfnRef
public import proofs.«01_k».proof.Proof.PleClaim
public import proofs.«01_k».proof.Proof.PleFrame
public import proofs.«01_k».proof.Proof.PromptClaim
public import proofs.«01_k».proof.Proof.PromptFrame
public import proofs.«01_k».proof.Proof.SeqClaim
public import proofs.«01_k».proof.Proof.SeqFrame
public import proofs.«01_k».proof.Proof.SeqRef

/-! # The certificate

The three decoding calls of one layer (the mixer, the feed-forward block, and the per-layer embedding with the final
normalisation) and the last two calls for the prompt (`Seq` and `Prompt`).  `MixBody`, `FfnBody`, `SeqBody` and
`PleBody` say what one grid point does; `MixValue`, `FfnValue`, `SeqValue` and `PleValue` what a whole call leaves;
`MixRef`, `FfnRefValue`, `SeqRefValue` and the `Claim` modules that this is what the references compute. -/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Ple.Gen.facts, Cert.PleIdeal.Gen.facts, Cert.PleRefIdeal.Gen.facts,
    Cert.Prompt.Gen.facts, Cert.PromptIdeal.Gen.facts, Cert.PromptRefIdeal.Gen.facts,
    Cert.Seq.Gen.facts, Cert.SeqIdeal.Gen.facts, Cert.SeqRefIdeal.Gen.facts,
    Cert.Kernel.Body.quiescent, Cert.KernelIdeal.Body.quiescent, Cert.ReferenceIdeal.Ref.quiescent,
    Cert.Ffn.Body.quiescent, Cert.FfnIdeal.Body.quiescent, Cert.FfnRefIdeal.Ref.quiescent,
    Cert.Ple.Body.quiescent, Cert.PleIdeal.Body.quiescent, Cert.PleRefIdeal.Ref.quiescent,
    Cert.Prompt.Body.quiescent, Cert.PromptIdeal.Body.quiescent, Cert.PromptRefIdeal.Ref.quiescent,
    Cert.Seq.Body.quiescent, Cert.SeqIdeal.Body.quiescent, Cert.SeqRefIdeal.Ref.quiescent,
    trivial, Cert.KernelIdeal.Body.algebraic, trivial, Cert.FfnIdeal.Body.algebraic, trivial, Cert.PleIdeal.Body.algebraic,
    trivial, Cert.PromptIdeal.Body.algebraic, trivial, Cert.SeqIdeal.Body.algebraic⟩

end Cert.Proof

end
